-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))).2.2.2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))).2.2.2.2.2 = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3)
      ∧ r.2.mem ((c.tc : Thread Cert.Kernel3.nD Cert.Kernel3.τ).loc Cert.Kernel3.main_arg4) = m ((c.tc : Thread Cert.Kernel3.nD Cert.Kernel3.τ).loc Cert.Kernel3.main_arg4)
      ∧ r.2.mem ((c.tc : Thread Cert.Kernel3.nD Cert.Kernel3.τ).loc Cert.Kernel3.main_arg5) = m ((c.tc : Thread Cert.Kernel3.nD Cert.Kernel3.τ).loc Cert.Kernel3.main_arg5)
      ∧ r.2.mem ((c.tc : Thread Cert.Kernel3.nD Cert.Kernel3.τ).loc Cert.Kernel3.main_arg6) = m ((c.tc : Thread Cert.Kernel3.nD Cert.Kernel3.τ).loc Cert.Kernel3.main_arg6)
      ∧ r.2.mem ((c.tc : Thread Cert.Kernel3.nD Cert.Kernel3.τ).loc Cert.Kernel3.main_arg7) = m ((c.tc : Thread Cert.Kernel3.nD Cert.Kernel3.τ).loc Cert.Kernel3.main_arg7)
      ∧ r.2.mem ((c.tc : Thread Cert.Kernel3.nD Cert.Kernel3.τ).loc Cert.Kernel3.main_arg8) = m ((c.tc : Thread Cert.Kernel3.nD Cert.Kernel3.τ).loc Cert.Kernel3.main_arg8)
      ∧ r.2.mem ((c.tc : Thread Cert.Kernel3.nD Cert.Kernel3.τ).loc Cert.Kernel3.main_arg9) = m ((c.tc : Thread Cert.Kernel3.nD Cert.Kernel3.τ).loc Cert.Kernel3.main_arg9)
      ∧ r.2.mem ((c.tc : Thread Cert.Kernel3.nD Cert.Kernel3.τ).loc Cert.Kernel3.main_arg10) = m ((c.tc : Thread Cert.Kernel3.nD Cert.Kernel3.τ).loc Cert.Kernel3.main_arg10)
      ∧ r.2.mem ((c.tc : Thread Cert.Kernel3.nD Cert.Kernel3.τ).loc Cert.Kernel3.main_arg11) = m ((c.tc : Thread Cert.Kernel3.nD Cert.Kernel3.τ).loc Cert.Kernel3.main_arg11)
      ∧ r.2.mem ((c.tc : Thread Cert.Kernel3.nD Cert.Kernel3.τ).loc Cert.Kernel3.main_arg12) = m ((c.tc : Thread Cert.Kernel3.nD Cert.Kernel3.τ).loc Cert.Kernel3.main_arg12))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
      ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
      ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
      ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
      ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
      ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
      ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
      ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
      ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
      ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3)
      ∧ r.2.mem ((c.tc : Thread Cert.Reference3Ideal.nD Cert.Reference3Ideal.τ).loc Cert.Reference3Ideal.main_arg4) = m ((c.tc : Thread Cert.Reference3Ideal.nD Cert.Reference3Ideal.τ).loc Cert.Reference3Ideal.main_arg4)
      ∧ r.2.mem ((c.tc : Thread Cert.Reference3Ideal.nD Cert.Reference3Ideal.τ).loc Cert.Reference3Ideal.main_arg5) = m ((c.tc : Thread Cert.Reference3Ideal.nD Cert.Reference3Ideal.τ).loc Cert.Reference3Ideal.main_arg5)
      ∧ r.2.mem ((c.tc : Thread Cert.Reference3Ideal.nD Cert.Reference3Ideal.τ).loc Cert.Reference3Ideal.main_arg6) = m ((c.tc : Thread Cert.Reference3Ideal.nD Cert.Reference3Ideal.τ).loc Cert.Reference3Ideal.main_arg6)
      ∧ r.2.mem ((c.tc : Thread Cert.Reference3Ideal.nD Cert.Reference3Ideal.τ).loc Cert.Reference3Ideal.main_arg7) = m ((c.tc : Thread Cert.Reference3Ideal.nD Cert.Reference3Ideal.τ).loc Cert.Reference3Ideal.main_arg7)
      ∧ r.2.mem ((c.tc : Thread Cert.Reference3Ideal.nD Cert.Reference3Ideal.τ).loc Cert.Reference3Ideal.main_arg8) = m ((c.tc : Thread Cert.Reference3Ideal.nD Cert.Reference3Ideal.τ).loc Cert.Reference3Ideal.main_arg8)
      ∧ r.2.mem ((c.tc : Thread Cert.Reference3Ideal.nD Cert.Reference3Ideal.τ).loc Cert.Reference3Ideal.main_arg9) = m ((c.tc : Thread Cert.Reference3Ideal.nD Cert.Reference3Ideal.τ).loc Cert.Reference3Ideal.main_arg9)
      ∧ r.2.mem ((c.tc : Thread Cert.Reference3Ideal.nD Cert.Reference3Ideal.τ).loc Cert.Reference3Ideal.main_arg10) = m ((c.tc : Thread Cert.Reference3Ideal.nD Cert.Reference3Ideal.τ).loc Cert.Reference3Ideal.main_arg10)
      ∧ r.2.mem ((c.tc : Thread Cert.Reference3Ideal.nD Cert.Reference3Ideal.τ).loc Cert.Reference3Ideal.main_arg11) = m ((c.tc : Thread Cert.Reference3Ideal.nD Cert.Reference3Ideal.τ).loc Cert.Reference3Ideal.main_arg11)
      ∧ r.2.mem ((c.tc : Thread Cert.Reference3Ideal.nD Cert.Reference3Ideal.τ).loc Cert.Reference3Ideal.main_arg12) = m ((c.tc : Thread Cert.Reference3Ideal.nD Cert.Reference3Ideal.τ).loc Cert.Reference3Ideal.main_arg12))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1)
      ∧ r.2.mem ((c.tc : Thread Cert.Kernel4.nD Cert.Kernel4.τ).loc Cert.Kernel4.main_arg2) = m ((c.tc : Thread Cert.Kernel4.nD Cert.Kernel4.τ).loc Cert.Kernel4.main_arg2)
      ∧ r.2.mem ((c.tc : Thread Cert.Kernel4.nD Cert.Kernel4.τ).loc Cert.Kernel4.main_arg3) = m ((c.tc : Thread Cert.Kernel4.nD Cert.Kernel4.τ).loc Cert.Kernel4.main_arg3))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
      ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
      ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1)
      ∧ r.2.mem ((c.tc : Thread Cert.Reference4Ideal.nD Cert.Reference4Ideal.τ).loc Cert.Reference4Ideal.main_arg2) = m ((c.tc : Thread Cert.Reference4Ideal.nD Cert.Reference4Ideal.τ).loc Cert.Reference4Ideal.main_arg2)
      ∧ r.2.mem ((c.tc : Thread Cert.Reference4Ideal.nD Cert.Reference4Ideal.τ).loc Cert.Reference4Ideal.main_arg3) = m ((c.tc : Thread Cert.Reference4Ideal.nD Cert.Reference4Ideal.τ).loc Cert.Reference4Ideal.main_arg3))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1)
      ∧ r.2.mem ((c.tc : Thread Cert.Kernel5.nD Cert.Kernel5.τ).loc Cert.Kernel5.main_arg2) = m ((c.tc : Thread Cert.Kernel5.nD Cert.Kernel5.τ).loc Cert.Kernel5.main_arg2)
      ∧ r.2.mem ((c.tc : Thread Cert.Kernel5.nD Cert.Kernel5.τ).loc Cert.Kernel5.main_arg3) = m ((c.tc : Thread Cert.Kernel5.nD Cert.Kernel5.τ).loc Cert.Kernel5.main_arg3))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
      ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
      ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1)
      ∧ r.2.mem ((c.tc : Thread Cert.Reference5Ideal.nD Cert.Reference5Ideal.τ).loc Cert.Reference5Ideal.main_arg2) = m ((c.tc : Thread Cert.Reference5Ideal.nD Cert.Reference5Ideal.τ).loc Cert.Reference5Ideal.main_arg2)
      ∧ r.2.mem ((c.tc : Thread Cert.Reference5Ideal.nD Cert.Reference5Ideal.τ).loc Cert.Reference5Ideal.main_arg3) = m ((c.tc : Thread Cert.Reference5Ideal.nD Cert.Reference5Ideal.τ).loc Cert.Reference5Ideal.main_arg3))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4)
      ∧ r.2.mem ((c.tc : Thread Cert.Kernel6.nD Cert.Kernel6.τ).loc Cert.Kernel6.main_arg5) = m ((c.tc : Thread Cert.Kernel6.nD Cert.Kernel6.τ).loc Cert.Kernel6.main_arg5)
      ∧ r.2.mem ((c.tc : Thread Cert.Kernel6.nD Cert.Kernel6.τ).loc Cert.Kernel6.main_arg6) = m ((c.tc : Thread Cert.Kernel6.nD Cert.Kernel6.τ).loc Cert.Kernel6.main_arg6)
      ∧ r.2.mem ((c.tc : Thread Cert.Kernel6.nD Cert.Kernel6.τ).loc Cert.Kernel6.main_arg7) = m ((c.tc : Thread Cert.Kernel6.nD Cert.Kernel6.τ).loc Cert.Kernel6.main_arg7)
      ∧ r.2.mem ((c.tc : Thread Cert.Kernel6.nD Cert.Kernel6.τ).loc Cert.Kernel6.main_arg8) = m ((c.tc : Thread Cert.Kernel6.nD Cert.Kernel6.τ).loc Cert.Kernel6.main_arg8)
      ∧ r.2.mem ((c.tc : Thread Cert.Kernel6.nD Cert.Kernel6.τ).loc Cert.Kernel6.main_arg9) = m ((c.tc : Thread Cert.Kernel6.nD Cert.Kernel6.τ).loc Cert.Kernel6.main_arg9)
      ∧ r.2.mem ((c.tc : Thread Cert.Kernel6.nD Cert.Kernel6.τ).loc Cert.Kernel6.main_arg10) = m ((c.tc : Thread Cert.Kernel6.nD Cert.Kernel6.τ).loc Cert.Kernel6.main_arg10)
      ∧ r.2.mem ((c.tc : Thread Cert.Kernel6.nD Cert.Kernel6.τ).loc Cert.Kernel6.main_arg11) = m ((c.tc : Thread Cert.Kernel6.nD Cert.Kernel6.τ).loc Cert.Kernel6.main_arg11)
      ∧ r.2.mem ((c.tc : Thread Cert.Kernel6.nD Cert.Kernel6.τ).loc Cert.Kernel6.main_arg12) = m ((c.tc : Thread Cert.Kernel6.nD Cert.Kernel6.τ).loc Cert.Kernel6.main_arg12)
      ∧ r.2.mem ((c.tc : Thread Cert.Kernel6.nD Cert.Kernel6.τ).loc Cert.Kernel6.main_arg13) = m ((c.tc : Thread Cert.Kernel6.nD Cert.Kernel6.τ).loc Cert.Kernel6.main_arg13))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
      ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
      ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
      ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
      ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
      ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
      ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
      ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
      ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
      ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4)
      ∧ r.2.mem ((c.tc : Thread Cert.Reference6Ideal.nD Cert.Reference6Ideal.τ).loc Cert.Reference6Ideal.main_arg5) = m ((c.tc : Thread Cert.Reference6Ideal.nD Cert.Reference6Ideal.τ).loc Cert.Reference6Ideal.main_arg5)
      ∧ r.2.mem ((c.tc : Thread Cert.Reference6Ideal.nD Cert.Reference6Ideal.τ).loc Cert.Reference6Ideal.main_arg6) = m ((c.tc : Thread Cert.Reference6Ideal.nD Cert.Reference6Ideal.τ).loc Cert.Reference6Ideal.main_arg6)
      ∧ r.2.mem ((c.tc : Thread Cert.Reference6Ideal.nD Cert.Reference6Ideal.τ).loc Cert.Reference6Ideal.main_arg7) = m ((c.tc : Thread Cert.Reference6Ideal.nD Cert.Reference6Ideal.τ).loc Cert.Reference6Ideal.main_arg7)
      ∧ r.2.mem ((c.tc : Thread Cert.Reference6Ideal.nD Cert.Reference6Ideal.τ).loc Cert.Reference6Ideal.main_arg8) = m ((c.tc : Thread Cert.Reference6Ideal.nD Cert.Reference6Ideal.τ).loc Cert.Reference6Ideal.main_arg8)
      ∧ r.2.mem ((c.tc : Thread Cert.Reference6Ideal.nD Cert.Reference6Ideal.τ).loc Cert.Reference6Ideal.main_arg9) = m ((c.tc : Thread Cert.Reference6Ideal.nD Cert.Reference6Ideal.τ).loc Cert.Reference6Ideal.main_arg9)
      ∧ r.2.mem ((c.tc : Thread Cert.Reference6Ideal.nD Cert.Reference6Ideal.τ).loc Cert.Reference6Ideal.main_arg10) = m ((c.tc : Thread Cert.Reference6Ideal.nD Cert.Reference6Ideal.τ).loc Cert.Reference6Ideal.main_arg10)
      ∧ r.2.mem ((c.tc : Thread Cert.Reference6Ideal.nD Cert.Reference6Ideal.τ).loc Cert.Reference6Ideal.main_arg11) = m ((c.tc : Thread Cert.Reference6Ideal.nD Cert.Reference6Ideal.τ).loc Cert.Reference6Ideal.main_arg11)
      ∧ r.2.mem ((c.tc : Thread Cert.Reference6Ideal.nD Cert.Reference6Ideal.τ).loc Cert.Reference6Ideal.main_arg12) = m ((c.tc : Thread Cert.Reference6Ideal.nD Cert.Reference6Ideal.τ).loc Cert.Reference6Ideal.main_arg12)
      ∧ r.2.mem ((c.tc : Thread Cert.Reference6Ideal.nD Cert.Reference6Ideal.τ).loc Cert.Reference6Ideal.main_arg13) = m ((c.tc : Thread Cert.Reference6Ideal.nD Cert.Reference6Ideal.τ).loc Cert.Reference6Ideal.main_arg13))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v4_0)) (v1 : (c : Dev Cert.KernelIdeal.nD) → Buf (Elt Ideal) ((c.tc : Thread Cert.KernelIdeal.nD Cert.KernelIdeal.τ).loc Cert.KernelIdeal.main_v19)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v4_0) = v0 c
          ∧ r.2.mem ((c.tc : Thread Cert.KernelIdeal.nD Cert.KernelIdeal.τ).loc Cert.KernelIdeal.main_v19) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v14) = v0 c
          ∧ r.2.mem ((c.tc : Thread Cert.ReferenceIdeal.nD Cert.ReferenceIdeal.τ).loc Cert.ReferenceIdeal.main_v13_7) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)) →
    ∃ (v0 : (c : Dev Cert.Kernel2Ideal.nD) → Buf (Elt Ideal) ((c.tc : Thread Cert.Kernel2Ideal.nD Cert.Kernel2Ideal.τ).loc Cert.Kernel2Ideal.main_v27)) (v1 : (c : Dev Cert.Kernel2Ideal.nD) → Buf (Elt Ideal) ((c.tc : Thread Cert.Kernel2Ideal.nD Cert.Kernel2Ideal.τ).loc Cert.Kernel2Ideal.main_v28)) (v2 : (c : Dev Cert.Kernel2Ideal.nD) → Buf (Elt Ideal) ((c.tc : Thread Cert.Kernel2Ideal.nD Cert.Kernel2Ideal.τ).loc Cert.Kernel2Ideal.main_v29)) (v3 : (c : Dev Cert.Kernel2Ideal.nD) → Buf (Elt Ideal) ((c.tc : Thread Cert.Kernel2Ideal.nD Cert.Kernel2Ideal.τ).loc Cert.Kernel2Ideal.main_v30)) (v4 : (c : Dev Cert.Kernel2Ideal.nD) → Buf (Elt Ideal) ((c.tc : Thread Cert.Kernel2Ideal.nD Cert.Kernel2Ideal.τ).loc Cert.Kernel2Ideal.main_v21)) (v5 : (c : Dev Cert.Kernel2Ideal.nD) → Buf (Elt Ideal) ((c.tc : Thread Cert.Kernel2Ideal.nD Cert.Kernel2Ideal.τ).loc Cert.Kernel2Ideal.main_v24)) (v6 : (c : Dev Cert.Kernel2Ideal.nD) → Buf (Elt Ideal) ((c.tc : Thread Cert.Kernel2Ideal.nD Cert.Kernel2Ideal.τ).loc Cert.Kernel2Ideal.main_v20)) (v7 : (c : Dev Cert.Kernel2Ideal.nD) → Buf (Elt Ideal) ((c.tc : Thread Cert.Kernel2Ideal.nD Cert.Kernel2Ideal.τ).loc Cert.Kernel2Ideal.main_v12)) (v8 : (c : Dev Cert.Kernel2Ideal.nD) → Buf (Elt Ideal) ((c.tc : Thread Cert.Kernel2Ideal.nD Cert.Kernel2Ideal.τ).loc Cert.Kernel2Ideal.main_v14)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v27) = v0 c
          ∧ r.2.mem ((c.tc : Thread Cert.Kernel2Ideal.nD Cert.Kernel2Ideal.τ).loc Cert.Kernel2Ideal.main_v28) = v1 c
          ∧ r.2.mem ((c.tc : Thread Cert.Kernel2Ideal.nD Cert.Kernel2Ideal.τ).loc Cert.Kernel2Ideal.main_v29) = v2 c
          ∧ r.2.mem ((c.tc : Thread Cert.Kernel2Ideal.nD Cert.Kernel2Ideal.τ).loc Cert.Kernel2Ideal.main_v30) = v3 c
          ∧ r.2.mem ((c.tc : Thread Cert.Kernel2Ideal.nD Cert.Kernel2Ideal.τ).loc Cert.Kernel2Ideal.main_v21) = v4 c
          ∧ r.2.mem ((c.tc : Thread Cert.Kernel2Ideal.nD Cert.Kernel2Ideal.τ).loc Cert.Kernel2Ideal.main_v24) = v5 c
          ∧ r.2.mem ((c.tc : Thread Cert.Kernel2Ideal.nD Cert.Kernel2Ideal.τ).loc Cert.Kernel2Ideal.main_v20) = v6 c
          ∧ r.2.mem ((c.tc : Thread Cert.Kernel2Ideal.nD Cert.Kernel2Ideal.τ).loc Cert.Kernel2Ideal.main_v12) = v7 c
          ∧ r.2.mem ((c.tc : Thread Cert.Kernel2Ideal.nD Cert.Kernel2Ideal.τ).loc Cert.Kernel2Ideal.main_v14) = v8 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v23) = v0 c
          ∧ r.2.mem ((c.tc : Thread Cert.Reference2Ideal.nD Cert.Reference2Ideal.τ).loc Cert.Reference2Ideal.main_v24) = v1 c
          ∧ r.2.mem ((c.tc : Thread Cert.Reference2Ideal.nD Cert.Reference2Ideal.τ).loc Cert.Reference2Ideal.main_v25) = v2 c
          ∧ r.2.mem ((c.tc : Thread Cert.Reference2Ideal.nD Cert.Reference2Ideal.τ).loc Cert.Reference2Ideal.main_v26) = v3 c
          ∧ r.2.mem ((c.tc : Thread Cert.Reference2Ideal.nD Cert.Reference2Ideal.τ).loc Cert.Reference2Ideal.main_v17) = v4 c
          ∧ r.2.mem ((c.tc : Thread Cert.Reference2Ideal.nD Cert.Reference2Ideal.τ).loc Cert.Reference2Ideal.main_v20) = v5 c
          ∧ r.2.mem ((c.tc : Thread Cert.Reference2Ideal.nD Cert.Reference2Ideal.τ).loc Cert.Reference2Ideal.main_v16) = v6 c
          ∧ r.2.mem ((c.tc : Thread Cert.Reference2Ideal.nD Cert.Reference2Ideal.τ).loc Cert.Reference2Ideal.main_v8) = v7 c
          ∧ r.2.mem ((c.tc : Thread Cert.Reference2Ideal.nD Cert.Reference2Ideal.τ).loc Cert.Reference2Ideal.main_v10) = v8 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)
      ∧ m' ((c.tc : Thread Cert.Reference3Ideal.nD Cert.Reference3Ideal.τ).loc Cert.Reference3Ideal.main_arg4) = m ((c.tc : Thread Cert.Kernel3Ideal.nD Cert.Kernel3Ideal.τ).loc Cert.Kernel3Ideal.main_arg4)
      ∧ m' ((c.tc : Thread Cert.Reference3Ideal.nD Cert.Reference3Ideal.τ).loc Cert.Reference3Ideal.main_arg5) = m ((c.tc : Thread Cert.Kernel3Ideal.nD Cert.Kernel3Ideal.τ).loc Cert.Kernel3Ideal.main_arg5)
      ∧ m' ((c.tc : Thread Cert.Reference3Ideal.nD Cert.Reference3Ideal.τ).loc Cert.Reference3Ideal.main_arg6) = m ((c.tc : Thread Cert.Kernel3Ideal.nD Cert.Kernel3Ideal.τ).loc Cert.Kernel3Ideal.main_arg6)
      ∧ m' ((c.tc : Thread Cert.Reference3Ideal.nD Cert.Reference3Ideal.τ).loc Cert.Reference3Ideal.main_arg7) = m ((c.tc : Thread Cert.Kernel3Ideal.nD Cert.Kernel3Ideal.τ).loc Cert.Kernel3Ideal.main_arg7)
      ∧ m' ((c.tc : Thread Cert.Reference3Ideal.nD Cert.Reference3Ideal.τ).loc Cert.Reference3Ideal.main_arg8) = m ((c.tc : Thread Cert.Kernel3Ideal.nD Cert.Kernel3Ideal.τ).loc Cert.Kernel3Ideal.main_arg8)
      ∧ m' ((c.tc : Thread Cert.Reference3Ideal.nD Cert.Reference3Ideal.τ).loc Cert.Reference3Ideal.main_arg9) = m ((c.tc : Thread Cert.Kernel3Ideal.nD Cert.Kernel3Ideal.τ).loc Cert.Kernel3Ideal.main_arg9)
      ∧ m' ((c.tc : Thread Cert.Reference3Ideal.nD Cert.Reference3Ideal.τ).loc Cert.Reference3Ideal.main_arg10) = m ((c.tc : Thread Cert.Kernel3Ideal.nD Cert.Kernel3Ideal.τ).loc Cert.Kernel3Ideal.main_arg10)
      ∧ m' ((c.tc : Thread Cert.Reference3Ideal.nD Cert.Reference3Ideal.τ).loc Cert.Reference3Ideal.main_arg11) = m ((c.tc : Thread Cert.Kernel3Ideal.nD Cert.Kernel3Ideal.τ).loc Cert.Kernel3Ideal.main_arg11)
      ∧ m' ((c.tc : Thread Cert.Reference3Ideal.nD Cert.Reference3Ideal.τ).loc Cert.Reference3Ideal.main_arg12) = m ((c.tc : Thread Cert.Kernel3Ideal.nD Cert.Kernel3Ideal.τ).loc Cert.Kernel3Ideal.main_arg12)) →
    ∃ (v0 : (c : Dev Cert.Kernel3Ideal.nD) → Buf (Elt Ideal) ((c.tc : Thread Cert.Kernel3Ideal.nD Cert.Kernel3Ideal.τ).loc Cert.Kernel3Ideal.main_v59)) (v1 : (c : Dev Cert.Kernel3Ideal.nD) → Buf (Elt Ideal) ((c.tc : Thread Cert.Kernel3Ideal.nD Cert.Kernel3Ideal.τ).loc Cert.Kernel3Ideal.main_v70)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v59) = v0 c
          ∧ r.2.mem ((c.tc : Thread Cert.Kernel3Ideal.nD Cert.Kernel3Ideal.τ).loc Cert.Kernel3Ideal.main_v70) = v1 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3)
          ∧ r.2.mem ((c.tc : Thread Cert.Kernel3Ideal.nD Cert.Kernel3Ideal.τ).loc Cert.Kernel3Ideal.main_arg4) = m ((c.tc : Thread Cert.Kernel3Ideal.nD Cert.Kernel3Ideal.τ).loc Cert.Kernel3Ideal.main_arg4)
          ∧ r.2.mem ((c.tc : Thread Cert.Kernel3Ideal.nD Cert.Kernel3Ideal.τ).loc Cert.Kernel3Ideal.main_arg5) = m ((c.tc : Thread Cert.Kernel3Ideal.nD Cert.Kernel3Ideal.τ).loc Cert.Kernel3Ideal.main_arg5)
          ∧ r.2.mem ((c.tc : Thread Cert.Kernel3Ideal.nD Cert.Kernel3Ideal.τ).loc Cert.Kernel3Ideal.main_arg6) = m ((c.tc : Thread Cert.Kernel3Ideal.nD Cert.Kernel3Ideal.τ).loc Cert.Kernel3Ideal.main_arg6)
          ∧ r.2.mem ((c.tc : Thread Cert.Kernel3Ideal.nD Cert.Kernel3Ideal.τ).loc Cert.Kernel3Ideal.main_arg7) = m ((c.tc : Thread Cert.Kernel3Ideal.nD Cert.Kernel3Ideal.τ).loc Cert.Kernel3Ideal.main_arg7)
          ∧ r.2.mem ((c.tc : Thread Cert.Kernel3Ideal.nD Cert.Kernel3Ideal.τ).loc Cert.Kernel3Ideal.main_arg8) = m ((c.tc : Thread Cert.Kernel3Ideal.nD Cert.Kernel3Ideal.τ).loc Cert.Kernel3Ideal.main_arg8)
          ∧ r.2.mem ((c.tc : Thread Cert.Kernel3Ideal.nD Cert.Kernel3Ideal.τ).loc Cert.Kernel3Ideal.main_arg9) = m ((c.tc : Thread Cert.Kernel3Ideal.nD Cert.Kernel3Ideal.τ).loc Cert.Kernel3Ideal.main_arg9)
          ∧ r.2.mem ((c.tc : Thread Cert.Kernel3Ideal.nD Cert.Kernel3Ideal.τ).loc Cert.Kernel3Ideal.main_arg10) = m ((c.tc : Thread Cert.Kernel3Ideal.nD Cert.Kernel3Ideal.τ).loc Cert.Kernel3Ideal.main_arg10)
          ∧ r.2.mem ((c.tc : Thread Cert.Kernel3Ideal.nD Cert.Kernel3Ideal.τ).loc Cert.Kernel3Ideal.main_arg11) = m ((c.tc : Thread Cert.Kernel3Ideal.nD Cert.Kernel3Ideal.τ).loc Cert.Kernel3Ideal.main_arg11)
          ∧ r.2.mem ((c.tc : Thread Cert.Kernel3Ideal.nD Cert.Kernel3Ideal.τ).loc Cert.Kernel3Ideal.main_arg12) = m ((c.tc : Thread Cert.Kernel3Ideal.nD Cert.Kernel3Ideal.τ).loc Cert.Kernel3Ideal.main_arg12))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v47) = v0 c
          ∧ r.2.mem ((c.tc : Thread Cert.Reference3Ideal.nD Cert.Reference3Ideal.τ).loc Cert.Reference3Ideal.main_v56) = v1 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3)
          ∧ r.2.mem ((c.tc : Thread Cert.Reference3Ideal.nD Cert.Reference3Ideal.τ).loc Cert.Reference3Ideal.main_arg4) = m' ((c.tc : Thread Cert.Reference3Ideal.nD Cert.Reference3Ideal.τ).loc Cert.Reference3Ideal.main_arg4)
          ∧ r.2.mem ((c.tc : Thread Cert.Reference3Ideal.nD Cert.Reference3Ideal.τ).loc Cert.Reference3Ideal.main_arg5) = m' ((c.tc : Thread Cert.Reference3Ideal.nD Cert.Reference3Ideal.τ).loc Cert.Reference3Ideal.main_arg5)
          ∧ r.2.mem ((c.tc : Thread Cert.Reference3Ideal.nD Cert.Reference3Ideal.τ).loc Cert.Reference3Ideal.main_arg6) = m' ((c.tc : Thread Cert.Reference3Ideal.nD Cert.Reference3Ideal.τ).loc Cert.Reference3Ideal.main_arg6)
          ∧ r.2.mem ((c.tc : Thread Cert.Reference3Ideal.nD Cert.Reference3Ideal.τ).loc Cert.Reference3Ideal.main_arg7) = m' ((c.tc : Thread Cert.Reference3Ideal.nD Cert.Reference3Ideal.τ).loc Cert.Reference3Ideal.main_arg7)
          ∧ r.2.mem ((c.tc : Thread Cert.Reference3Ideal.nD Cert.Reference3Ideal.τ).loc Cert.Reference3Ideal.main_arg8) = m' ((c.tc : Thread Cert.Reference3Ideal.nD Cert.Reference3Ideal.τ).loc Cert.Reference3Ideal.main_arg8)
          ∧ r.2.mem ((c.tc : Thread Cert.Reference3Ideal.nD Cert.Reference3Ideal.τ).loc Cert.Reference3Ideal.main_arg9) = m' ((c.tc : Thread Cert.Reference3Ideal.nD Cert.Reference3Ideal.τ).loc Cert.Reference3Ideal.main_arg9)
          ∧ r.2.mem ((c.tc : Thread Cert.Reference3Ideal.nD Cert.Reference3Ideal.τ).loc Cert.Reference3Ideal.main_arg10) = m' ((c.tc : Thread Cert.Reference3Ideal.nD Cert.Reference3Ideal.τ).loc Cert.Reference3Ideal.main_arg10)
          ∧ r.2.mem ((c.tc : Thread Cert.Reference3Ideal.nD Cert.Reference3Ideal.τ).loc Cert.Reference3Ideal.main_arg11) = m' ((c.tc : Thread Cert.Reference3Ideal.nD Cert.Reference3Ideal.τ).loc Cert.Reference3Ideal.main_arg11)
          ∧ r.2.mem ((c.tc : Thread Cert.Reference3Ideal.nD Cert.Reference3Ideal.τ).loc Cert.Reference3Ideal.main_arg12) = m' ((c.tc : Thread Cert.Reference3Ideal.nD Cert.Reference3Ideal.τ).loc Cert.Reference3Ideal.main_arg12))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)
      ∧ m' ((c.tc : Thread Cert.Reference4Ideal.nD Cert.Reference4Ideal.τ).loc Cert.Reference4Ideal.main_arg2) = m ((c.tc : Thread Cert.Kernel4Ideal.nD Cert.Kernel4Ideal.τ).loc Cert.Kernel4Ideal.main_arg2)
      ∧ m' ((c.tc : Thread Cert.Reference4Ideal.nD Cert.Reference4Ideal.τ).loc Cert.Reference4Ideal.main_arg3) = m ((c.tc : Thread Cert.Kernel4Ideal.nD Cert.Kernel4Ideal.τ).loc Cert.Kernel4Ideal.main_arg3)) →
    ∃ (v0 : (c : Dev Cert.Kernel4Ideal.nD) → Buf (Elt Ideal) ((c.tc : Thread Cert.Kernel4Ideal.nD Cert.Kernel4Ideal.τ).loc Cert.Kernel4Ideal.main_v14)) (v1 : (c : Dev Cert.Kernel4Ideal.nD) → Buf (Elt Ideal) ((c.tc : Thread Cert.Kernel4Ideal.nD Cert.Kernel4Ideal.τ).loc Cert.Kernel4Ideal.main_v15)) (v2 : (c : Dev Cert.Kernel4Ideal.nD) → Buf (Elt Ideal) ((c.tc : Thread Cert.Kernel4Ideal.nD Cert.Kernel4Ideal.τ).loc Cert.Kernel4Ideal.main_v16)) (v3 : (c : Dev Cert.Kernel4Ideal.nD) → Buf (Elt Ideal) ((c.tc : Thread Cert.Kernel4Ideal.nD Cert.Kernel4Ideal.τ).loc Cert.Kernel4Ideal.main_v17)) (v4 : (c : Dev Cert.Kernel4Ideal.nD) → Buf (Elt Ideal) ((c.tc : Thread Cert.Kernel4Ideal.nD Cert.Kernel4Ideal.τ).loc Cert.Kernel4Ideal.main_v18)) (v5 : (c : Dev Cert.Kernel4Ideal.nD) → Buf (Elt Ideal) ((c.tc : Thread Cert.Kernel4Ideal.nD Cert.Kernel4Ideal.τ).loc Cert.Kernel4Ideal.main_v19)) (v6 : (c : Dev Cert.Kernel4Ideal.nD) → Buf (Elt Ideal) ((c.tc : Thread Cert.Kernel4Ideal.nD Cert.Kernel4Ideal.τ).loc Cert.Kernel4Ideal.main_v22)) (v7 : (c : Dev Cert.Kernel4Ideal.nD) → Buf (Elt Ideal) ((c.tc : Thread Cert.Kernel4Ideal.nD Cert.Kernel4Ideal.τ).loc Cert.Kernel4Ideal.main_v23)) (v8 : (c : Dev Cert.Kernel4Ideal.nD) → Buf (Elt Ideal) ((c.tc : Thread Cert.Kernel4Ideal.nD Cert.Kernel4Ideal.τ).loc Cert.Kernel4Ideal.main_v24)) (v9 : (c : Dev Cert.Kernel4Ideal.nD) → Buf (Elt Ideal) ((c.tc : Thread Cert.Kernel4Ideal.nD Cert.Kernel4Ideal.τ).loc Cert.Kernel4Ideal.main_v25)) (v10 : (c : Dev Cert.Kernel4Ideal.nD) → Buf (Elt Ideal) ((c.tc : Thread Cert.Kernel4Ideal.nD Cert.Kernel4Ideal.τ).loc Cert.Kernel4Ideal.main_v26)) (v11 : (c : Dev Cert.Kernel4Ideal.nD) → Buf (Elt Ideal) ((c.tc : Thread Cert.Kernel4Ideal.nD Cert.Kernel4Ideal.τ).loc Cert.Kernel4Ideal.main_v27)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v14) = v0 c
          ∧ r.2.mem ((c.tc : Thread Cert.Kernel4Ideal.nD Cert.Kernel4Ideal.τ).loc Cert.Kernel4Ideal.main_v15) = v1 c
          ∧ r.2.mem ((c.tc : Thread Cert.Kernel4Ideal.nD Cert.Kernel4Ideal.τ).loc Cert.Kernel4Ideal.main_v16) = v2 c
          ∧ r.2.mem ((c.tc : Thread Cert.Kernel4Ideal.nD Cert.Kernel4Ideal.τ).loc Cert.Kernel4Ideal.main_v17) = v3 c
          ∧ r.2.mem ((c.tc : Thread Cert.Kernel4Ideal.nD Cert.Kernel4Ideal.τ).loc Cert.Kernel4Ideal.main_v18) = v4 c
          ∧ r.2.mem ((c.tc : Thread Cert.Kernel4Ideal.nD Cert.Kernel4Ideal.τ).loc Cert.Kernel4Ideal.main_v19) = v5 c
          ∧ r.2.mem ((c.tc : Thread Cert.Kernel4Ideal.nD Cert.Kernel4Ideal.τ).loc Cert.Kernel4Ideal.main_v22) = v6 c
          ∧ r.2.mem ((c.tc : Thread Cert.Kernel4Ideal.nD Cert.Kernel4Ideal.τ).loc Cert.Kernel4Ideal.main_v23) = v7 c
          ∧ r.2.mem ((c.tc : Thread Cert.Kernel4Ideal.nD Cert.Kernel4Ideal.τ).loc Cert.Kernel4Ideal.main_v24) = v8 c
          ∧ r.2.mem ((c.tc : Thread Cert.Kernel4Ideal.nD Cert.Kernel4Ideal.τ).loc Cert.Kernel4Ideal.main_v25) = v9 c
          ∧ r.2.mem ((c.tc : Thread Cert.Kernel4Ideal.nD Cert.Kernel4Ideal.τ).loc Cert.Kernel4Ideal.main_v26) = v10 c
          ∧ r.2.mem ((c.tc : Thread Cert.Kernel4Ideal.nD Cert.Kernel4Ideal.τ).loc Cert.Kernel4Ideal.main_v27) = v11 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1)
          ∧ r.2.mem ((c.tc : Thread Cert.Kernel4Ideal.nD Cert.Kernel4Ideal.τ).loc Cert.Kernel4Ideal.main_arg2) = m ((c.tc : Thread Cert.Kernel4Ideal.nD Cert.Kernel4Ideal.τ).loc Cert.Kernel4Ideal.main_arg2)
          ∧ r.2.mem ((c.tc : Thread Cert.Kernel4Ideal.nD Cert.Kernel4Ideal.τ).loc Cert.Kernel4Ideal.main_arg3) = m ((c.tc : Thread Cert.Kernel4Ideal.nD Cert.Kernel4Ideal.τ).loc Cert.Kernel4Ideal.main_arg3))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v7) = v0 c
          ∧ r.2.mem ((c.tc : Thread Cert.Reference4Ideal.nD Cert.Reference4Ideal.τ).loc Cert.Reference4Ideal.main_v8) = v1 c
          ∧ r.2.mem ((c.tc : Thread Cert.Reference4Ideal.nD Cert.Reference4Ideal.τ).loc Cert.Reference4Ideal.main_v9) = v2 c
          ∧ r.2.mem ((c.tc : Thread Cert.Reference4Ideal.nD Cert.Reference4Ideal.τ).loc Cert.Reference4Ideal.main_v10) = v3 c
          ∧ r.2.mem ((c.tc : Thread Cert.Reference4Ideal.nD Cert.Reference4Ideal.τ).loc Cert.Reference4Ideal.main_v11) = v4 c
          ∧ r.2.mem ((c.tc : Thread Cert.Reference4Ideal.nD Cert.Reference4Ideal.τ).loc Cert.Reference4Ideal.main_v12) = v5 c
          ∧ r.2.mem ((c.tc : Thread Cert.Reference4Ideal.nD Cert.Reference4Ideal.τ).loc Cert.Reference4Ideal.main_v21) = v6 c
          ∧ r.2.mem ((c.tc : Thread Cert.Reference4Ideal.nD Cert.Reference4Ideal.τ).loc Cert.Reference4Ideal.main_v22) = v7 c
          ∧ r.2.mem ((c.tc : Thread Cert.Reference4Ideal.nD Cert.Reference4Ideal.τ).loc Cert.Reference4Ideal.main_v23) = v8 c
          ∧ r.2.mem ((c.tc : Thread Cert.Reference4Ideal.nD Cert.Reference4Ideal.τ).loc Cert.Reference4Ideal.main_v24) = v9 c
          ∧ r.2.mem ((c.tc : Thread Cert.Reference4Ideal.nD Cert.Reference4Ideal.τ).loc Cert.Reference4Ideal.main_v25) = v10 c
          ∧ r.2.mem ((c.tc : Thread Cert.Reference4Ideal.nD Cert.Reference4Ideal.τ).loc Cert.Reference4Ideal.main_v26) = v11 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1)
          ∧ r.2.mem ((c.tc : Thread Cert.Reference4Ideal.nD Cert.Reference4Ideal.τ).loc Cert.Reference4Ideal.main_arg2) = m' ((c.tc : Thread Cert.Reference4Ideal.nD Cert.Reference4Ideal.τ).loc Cert.Reference4Ideal.main_arg2)
          ∧ r.2.mem ((c.tc : Thread Cert.Reference4Ideal.nD Cert.Reference4Ideal.τ).loc Cert.Reference4Ideal.main_arg3) = m' ((c.tc : Thread Cert.Reference4Ideal.nD Cert.Reference4Ideal.τ).loc Cert.Reference4Ideal.main_arg3))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)
      ∧ m' ((c.tc : Thread Cert.Reference5Ideal.nD Cert.Reference5Ideal.τ).loc Cert.Reference5Ideal.main_arg2) = m ((c.tc : Thread Cert.Kernel5Ideal.nD Cert.Kernel5Ideal.τ).loc Cert.Kernel5Ideal.main_arg2)
      ∧ m' ((c.tc : Thread Cert.Reference5Ideal.nD Cert.Reference5Ideal.τ).loc Cert.Reference5Ideal.main_arg3) = m ((c.tc : Thread Cert.Kernel5Ideal.nD Cert.Kernel5Ideal.τ).loc Cert.Kernel5Ideal.main_arg3)) →
    ∃ (v0 : (c : Dev Cert.Kernel5Ideal.nD) → Buf (Elt Ideal) ((c.tc : Thread Cert.Kernel5Ideal.nD Cert.Kernel5Ideal.τ).loc Cert.Kernel5Ideal.main_v24)) (v1 : (c : Dev Cert.Kernel5Ideal.nD) → Buf (Elt Ideal) ((c.tc : Thread Cert.Kernel5Ideal.nD Cert.Kernel5Ideal.τ).loc Cert.Kernel5Ideal.main_v25)) (v2 : (c : Dev Cert.Kernel5Ideal.nD) → Buf (Elt Ideal) ((c.tc : Thread Cert.Kernel5Ideal.nD Cert.Kernel5Ideal.τ).loc Cert.Kernel5Ideal.main_v26)) (v3 : (c : Dev Cert.Kernel5Ideal.nD) → Buf (Elt Ideal) ((c.tc : Thread Cert.Kernel5Ideal.nD Cert.Kernel5Ideal.τ).loc Cert.Kernel5Ideal.main_v27)) (v4 : (c : Dev Cert.Kernel5Ideal.nD) → Buf (Elt Ideal) ((c.tc : Thread Cert.Kernel5Ideal.nD Cert.Kernel5Ideal.τ).loc Cert.Kernel5Ideal.main_v19)) (v5 : (c : Dev Cert.Kernel5Ideal.nD) → Buf (Elt Ideal) ((c.tc : Thread Cert.Kernel5Ideal.nD Cert.Kernel5Ideal.τ).loc Cert.Kernel5Ideal.main_v22)) (v6 : (c : Dev Cert.Kernel5Ideal.nD) → Buf (Elt Ideal) ((c.tc : Thread Cert.Kernel5Ideal.nD Cert.Kernel5Ideal.τ).loc Cert.Kernel5Ideal.main_v18)) (v7 : (c : Dev Cert.Kernel5Ideal.nD) → Buf (Elt Ideal) ((c.tc : Thread Cert.Kernel5Ideal.nD Cert.Kernel5Ideal.τ).loc Cert.Kernel5Ideal.main_v10)) (v8 : (c : Dev Cert.Kernel5Ideal.nD) → Buf (Elt Ideal) ((c.tc : Thread Cert.Kernel5Ideal.nD Cert.Kernel5Ideal.τ).loc Cert.Kernel5Ideal.main_v12)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v24) = v0 c
          ∧ r.2.mem ((c.tc : Thread Cert.Kernel5Ideal.nD Cert.Kernel5Ideal.τ).loc Cert.Kernel5Ideal.main_v25) = v1 c
          ∧ r.2.mem ((c.tc : Thread Cert.Kernel5Ideal.nD Cert.Kernel5Ideal.τ).loc Cert.Kernel5Ideal.main_v26) = v2 c
          ∧ r.2.mem ((c.tc : Thread Cert.Kernel5Ideal.nD Cert.Kernel5Ideal.τ).loc Cert.Kernel5Ideal.main_v27) = v3 c
          ∧ r.2.mem ((c.tc : Thread Cert.Kernel5Ideal.nD Cert.Kernel5Ideal.τ).loc Cert.Kernel5Ideal.main_v19) = v4 c
          ∧ r.2.mem ((c.tc : Thread Cert.Kernel5Ideal.nD Cert.Kernel5Ideal.τ).loc Cert.Kernel5Ideal.main_v22) = v5 c
          ∧ r.2.mem ((c.tc : Thread Cert.Kernel5Ideal.nD Cert.Kernel5Ideal.τ).loc Cert.Kernel5Ideal.main_v18) = v6 c
          ∧ r.2.mem ((c.tc : Thread Cert.Kernel5Ideal.nD Cert.Kernel5Ideal.τ).loc Cert.Kernel5Ideal.main_v10) = v7 c
          ∧ r.2.mem ((c.tc : Thread Cert.Kernel5Ideal.nD Cert.Kernel5Ideal.τ).loc Cert.Kernel5Ideal.main_v12) = v8 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1)
          ∧ r.2.mem ((c.tc : Thread Cert.Kernel5Ideal.nD Cert.Kernel5Ideal.τ).loc Cert.Kernel5Ideal.main_arg2) = m ((c.tc : Thread Cert.Kernel5Ideal.nD Cert.Kernel5Ideal.τ).loc Cert.Kernel5Ideal.main_arg2)
          ∧ r.2.mem ((c.tc : Thread Cert.Kernel5Ideal.nD Cert.Kernel5Ideal.τ).loc Cert.Kernel5Ideal.main_arg3) = m ((c.tc : Thread Cert.Kernel5Ideal.nD Cert.Kernel5Ideal.τ).loc Cert.Kernel5Ideal.main_arg3))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v20) = v0 c
          ∧ r.2.mem ((c.tc : Thread Cert.Reference5Ideal.nD Cert.Reference5Ideal.τ).loc Cert.Reference5Ideal.main_v21) = v1 c
          ∧ r.2.mem ((c.tc : Thread Cert.Reference5Ideal.nD Cert.Reference5Ideal.τ).loc Cert.Reference5Ideal.main_v22) = v2 c
          ∧ r.2.mem ((c.tc : Thread Cert.Reference5Ideal.nD Cert.Reference5Ideal.τ).loc Cert.Reference5Ideal.main_v23) = v3 c
          ∧ r.2.mem ((c.tc : Thread Cert.Reference5Ideal.nD Cert.Reference5Ideal.τ).loc Cert.Reference5Ideal.main_v15) = v4 c
          ∧ r.2.mem ((c.tc : Thread Cert.Reference5Ideal.nD Cert.Reference5Ideal.τ).loc Cert.Reference5Ideal.main_v18) = v5 c
          ∧ r.2.mem ((c.tc : Thread Cert.Reference5Ideal.nD Cert.Reference5Ideal.τ).loc Cert.Reference5Ideal.main_v14) = v6 c
          ∧ r.2.mem ((c.tc : Thread Cert.Reference5Ideal.nD Cert.Reference5Ideal.τ).loc Cert.Reference5Ideal.main_v6) = v7 c
          ∧ r.2.mem ((c.tc : Thread Cert.Reference5Ideal.nD Cert.Reference5Ideal.τ).loc Cert.Reference5Ideal.main_v8) = v8 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1)
          ∧ r.2.mem ((c.tc : Thread Cert.Reference5Ideal.nD Cert.Reference5Ideal.τ).loc Cert.Reference5Ideal.main_arg2) = m' ((c.tc : Thread Cert.Reference5Ideal.nD Cert.Reference5Ideal.τ).loc Cert.Reference5Ideal.main_arg2)
          ∧ r.2.mem ((c.tc : Thread Cert.Reference5Ideal.nD Cert.Reference5Ideal.τ).loc Cert.Reference5Ideal.main_arg3) = m' ((c.tc : Thread Cert.Reference5Ideal.nD Cert.Reference5Ideal.τ).loc Cert.Reference5Ideal.main_arg3))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)
      ∧ m' ((c.tc : Thread Cert.Reference6Ideal.nD Cert.Reference6Ideal.τ).loc Cert.Reference6Ideal.main_arg5) = m ((c.tc : Thread Cert.Kernel6Ideal.nD Cert.Kernel6Ideal.τ).loc Cert.Kernel6Ideal.main_arg5)
      ∧ m' ((c.tc : Thread Cert.Reference6Ideal.nD Cert.Reference6Ideal.τ).loc Cert.Reference6Ideal.main_arg6) = m ((c.tc : Thread Cert.Kernel6Ideal.nD Cert.Kernel6Ideal.τ).loc Cert.Kernel6Ideal.main_arg6)
      ∧ m' ((c.tc : Thread Cert.Reference6Ideal.nD Cert.Reference6Ideal.τ).loc Cert.Reference6Ideal.main_arg7) = m ((c.tc : Thread Cert.Kernel6Ideal.nD Cert.Kernel6Ideal.τ).loc Cert.Kernel6Ideal.main_arg7)
      ∧ m' ((c.tc : Thread Cert.Reference6Ideal.nD Cert.Reference6Ideal.τ).loc Cert.Reference6Ideal.main_arg8) = m ((c.tc : Thread Cert.Kernel6Ideal.nD Cert.Kernel6Ideal.τ).loc Cert.Kernel6Ideal.main_arg8)
      ∧ m' ((c.tc : Thread Cert.Reference6Ideal.nD Cert.Reference6Ideal.τ).loc Cert.Reference6Ideal.main_arg9) = m ((c.tc : Thread Cert.Kernel6Ideal.nD Cert.Kernel6Ideal.τ).loc Cert.Kernel6Ideal.main_arg9)
      ∧ m' ((c.tc : Thread Cert.Reference6Ideal.nD Cert.Reference6Ideal.τ).loc Cert.Reference6Ideal.main_arg10) = m ((c.tc : Thread Cert.Kernel6Ideal.nD Cert.Kernel6Ideal.τ).loc Cert.Kernel6Ideal.main_arg10)
      ∧ m' ((c.tc : Thread Cert.Reference6Ideal.nD Cert.Reference6Ideal.τ).loc Cert.Reference6Ideal.main_arg11) = m ((c.tc : Thread Cert.Kernel6Ideal.nD Cert.Kernel6Ideal.τ).loc Cert.Kernel6Ideal.main_arg11)
      ∧ m' ((c.tc : Thread Cert.Reference6Ideal.nD Cert.Reference6Ideal.τ).loc Cert.Reference6Ideal.main_arg12) = m ((c.tc : Thread Cert.Kernel6Ideal.nD Cert.Kernel6Ideal.τ).loc Cert.Kernel6Ideal.main_arg12)
      ∧ m' ((c.tc : Thread Cert.Reference6Ideal.nD Cert.Reference6Ideal.τ).loc Cert.Reference6Ideal.main_arg13) = m ((c.tc : Thread Cert.Kernel6Ideal.nD Cert.Kernel6Ideal.τ).loc Cert.Kernel6Ideal.main_arg13)) →
    ∃ (v0 : (c : Dev Cert.Kernel6Ideal.nD) → Buf (Elt Ideal) ((c.tc : Thread Cert.Kernel6Ideal.nD Cert.Kernel6Ideal.τ).loc Cert.Kernel6Ideal.main_v104)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v104) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4)
          ∧ r.2.mem ((c.tc : Thread Cert.Kernel6Ideal.nD Cert.Kernel6Ideal.τ).loc Cert.Kernel6Ideal.main_arg5) = m ((c.tc : Thread Cert.Kernel6Ideal.nD Cert.Kernel6Ideal.τ).loc Cert.Kernel6Ideal.main_arg5)
          ∧ r.2.mem ((c.tc : Thread Cert.Kernel6Ideal.nD Cert.Kernel6Ideal.τ).loc Cert.Kernel6Ideal.main_arg6) = m ((c.tc : Thread Cert.Kernel6Ideal.nD Cert.Kernel6Ideal.τ).loc Cert.Kernel6Ideal.main_arg6)
          ∧ r.2.mem ((c.tc : Thread Cert.Kernel6Ideal.nD Cert.Kernel6Ideal.τ).loc Cert.Kernel6Ideal.main_arg7) = m ((c.tc : Thread Cert.Kernel6Ideal.nD Cert.Kernel6Ideal.τ).loc Cert.Kernel6Ideal.main_arg7)
          ∧ r.2.mem ((c.tc : Thread Cert.Kernel6Ideal.nD Cert.Kernel6Ideal.τ).loc Cert.Kernel6Ideal.main_arg8) = m ((c.tc : Thread Cert.Kernel6Ideal.nD Cert.Kernel6Ideal.τ).loc Cert.Kernel6Ideal.main_arg8)
          ∧ r.2.mem ((c.tc : Thread Cert.Kernel6Ideal.nD Cert.Kernel6Ideal.τ).loc Cert.Kernel6Ideal.main_arg9) = m ((c.tc : Thread Cert.Kernel6Ideal.nD Cert.Kernel6Ideal.τ).loc Cert.Kernel6Ideal.main_arg9)
          ∧ r.2.mem ((c.tc : Thread Cert.Kernel6Ideal.nD Cert.Kernel6Ideal.τ).loc Cert.Kernel6Ideal.main_arg10) = m ((c.tc : Thread Cert.Kernel6Ideal.nD Cert.Kernel6Ideal.τ).loc Cert.Kernel6Ideal.main_arg10)
          ∧ r.2.mem ((c.tc : Thread Cert.Kernel6Ideal.nD Cert.Kernel6Ideal.τ).loc Cert.Kernel6Ideal.main_arg11) = m ((c.tc : Thread Cert.Kernel6Ideal.nD Cert.Kernel6Ideal.τ).loc Cert.Kernel6Ideal.main_arg11)
          ∧ r.2.mem ((c.tc : Thread Cert.Kernel6Ideal.nD Cert.Kernel6Ideal.τ).loc Cert.Kernel6Ideal.main_arg12) = m ((c.tc : Thread Cert.Kernel6Ideal.nD Cert.Kernel6Ideal.τ).loc Cert.Kernel6Ideal.main_arg12)
          ∧ r.2.mem ((c.tc : Thread Cert.Kernel6Ideal.nD Cert.Kernel6Ideal.τ).loc Cert.Kernel6Ideal.main_arg13) = m ((c.tc : Thread Cert.Kernel6Ideal.nD Cert.Kernel6Ideal.τ).loc Cert.Kernel6Ideal.main_arg13))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v111) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4)
          ∧ r.2.mem ((c.tc : Thread Cert.Reference6Ideal.nD Cert.Reference6Ideal.τ).loc Cert.Reference6Ideal.main_arg5) = m' ((c.tc : Thread Cert.Reference6Ideal.nD Cert.Reference6Ideal.τ).loc Cert.Reference6Ideal.main_arg5)
          ∧ r.2.mem ((c.tc : Thread Cert.Reference6Ideal.nD Cert.Reference6Ideal.τ).loc Cert.Reference6Ideal.main_arg6) = m' ((c.tc : Thread Cert.Reference6Ideal.nD Cert.Reference6Ideal.τ).loc Cert.Reference6Ideal.main_arg6)
          ∧ r.2.mem ((c.tc : Thread Cert.Reference6Ideal.nD Cert.Reference6Ideal.τ).loc Cert.Reference6Ideal.main_arg7) = m' ((c.tc : Thread Cert.Reference6Ideal.nD Cert.Reference6Ideal.τ).loc Cert.Reference6Ideal.main_arg7)
          ∧ r.2.mem ((c.tc : Thread Cert.Reference6Ideal.nD Cert.Reference6Ideal.τ).loc Cert.Reference6Ideal.main_arg8) = m' ((c.tc : Thread Cert.Reference6Ideal.nD Cert.Reference6Ideal.τ).loc Cert.Reference6Ideal.main_arg8)
          ∧ r.2.mem ((c.tc : Thread Cert.Reference6Ideal.nD Cert.Reference6Ideal.τ).loc Cert.Reference6Ideal.main_arg9) = m' ((c.tc : Thread Cert.Reference6Ideal.nD Cert.Reference6Ideal.τ).loc Cert.Reference6Ideal.main_arg9)
          ∧ r.2.mem ((c.tc : Thread Cert.Reference6Ideal.nD Cert.Reference6Ideal.τ).loc Cert.Reference6Ideal.main_arg10) = m' ((c.tc : Thread Cert.Reference6Ideal.nD Cert.Reference6Ideal.τ).loc Cert.Reference6Ideal.main_arg10)
          ∧ r.2.mem ((c.tc : Thread Cert.Reference6Ideal.nD Cert.Reference6Ideal.τ).loc Cert.Reference6Ideal.main_arg11) = m' ((c.tc : Thread Cert.Reference6Ideal.nD Cert.Reference6Ideal.τ).loc Cert.Reference6Ideal.main_arg11)
          ∧ r.2.mem ((c.tc : Thread Cert.Reference6Ideal.nD Cert.Reference6Ideal.τ).loc Cert.Reference6Ideal.main_arg12) = m' ((c.tc : Thread Cert.Reference6Ideal.nD Cert.Reference6Ideal.τ).loc Cert.Reference6Ideal.main_arg12)
          ∧ r.2.mem ((c.tc : Thread Cert.Reference6Ideal.nD Cert.Reference6Ideal.τ).loc Cert.Reference6Ideal.main_arg13) = m' ((c.tc : Thread Cert.Reference6Ideal.nD Cert.Reference6Ideal.τ).loc Cert.Reference6Ideal.main_arg13))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
-- ==== Pre_finite.lean ====
abbrev S8192x2048 : Shape := ⟨2, ![8192, 2048]⟩
abbrev S_ : Shape := ⟨0, ![]⟩

class Facts : Prop where
  bcast_S_S8192x2048 : S_.BroadcastsInDim S8192x2048 (![] : Fin 0 → Fin S8192x2048.rank)

variable [Facts]

def fn {F : FTy → Type} [FloatOps F] (main_arg0 : FVec F S8192x2048 .f32) (main_arg1 : FVec F S8192x2048 .f32) (main_arg2 : FVec F S8192x2048 .f32) (main_arg3 : FVec F S8192x2048 .f32) (main_arg4 : FVec F S8192x2048 .f32) (main_arg5 : FVec F S8192x2048 .f32) : IVec S8192x2048 1 × IVec S8192x2048 1 × IVec S8192x2048 1 × IVec S8192x2048 1 × IVec S8192x2048 1 × IVec S8192x2048 1 :=
  let main_v0 : FVec F S8192x2048 .f32 := Host.absf main_arg0
  let main_cst : FVec F S_ .f32 := constant S_ .f32 0x7F800000#32
  let main_v1 : FVec F S8192x2048 .f32 := broadcastInDim S8192x2048 ![] bcast_S_S8192x2048 main_cst
  let main_v2 : IVec S8192x2048 1 := cmpf .olt main_v0 main_v1
  let main_v3 : FVec F S8192x2048 .f32 := Host.absf main_arg1
  let main_cst_0 : FVec F S_ .f32 := constant S_ .f32 0x7F800000#32
  let main_v4 : FVec F S8192x2048 .f32 := broadcastInDim S8192x2048 ![] bcast_S_S8192x2048 main_cst_0
  let main_v5 : IVec S8192x2048 1 := cmpf .olt main_v3 main_v4
  let main_v6 : FVec F S8192x2048 .f32 := Host.absf main_arg2
  let main_cst_1 : FVec F S_ .f32 := constant S_ .f32 0x7F800000#32
  let main_v7 : FVec F S8192x2048 .f32 := broadcastInDim S8192x2048 ![] bcast_S_S8192x2048 main_cst_1
  let main_v8 : IVec S8192x2048 1 := cmpf .olt main_v6 main_v7
  let main_v9 : FVec F S8192x2048 .f32 := Host.absf main_arg3
  let main_cst_2 : FVec F S_ .f32 := constant S_ .f32 0x7F800000#32
  let main_v10 : FVec F S8192x2048 .f32 := broadcastInDim S8192x2048 ![] bcast_S_S8192x2048 main_cst_2
  let main_v11 : IVec S8192x2048 1 := cmpf .olt main_v9 main_v10
  let main_v12 : FVec F S8192x2048 .f32 := Host.absf main_arg4
  let main_cst_3 : FVec F S_ .f32 := constant S_ .f32 0x7F800000#32
  let main_v13 : FVec F S8192x2048 .f32 := broadcastInDim S8192x2048 ![] bcast_S_S8192x2048 main_cst_3
  let main_v14 : IVec S8192x2048 1 := cmpf .olt main_v12 main_v13
  let main_v15 : FVec F S8192x2048 .f32 := Host.absf main_arg5
  let main_cst_4 : FVec F S_ .f32 := constant S_ .f32 0x7F800000#32
  let main_v16 : FVec F S8192x2048 .f32 := broadcastInDim S8192x2048 ![] bcast_S_S8192x2048 main_cst_4
  let main_v17 : IVec S8192x2048 1 := cmpf .olt main_v15 main_v16
  (main_v2, main_v5, main_v8, main_v11, main_v14, main_v17)
-- ==== Kernel.lean ====
abbrev S8192x2048 : Shape := ⟨2, ![8192, 2048]⟩
abbrev S8x256x256 : Shape := ⟨3, ![8, 256, 256]⟩
abbrev S64x512 : Shape := ⟨2, ![64, 512]⟩
abbrev S2x256x256 : Shape := ⟨3, ![2, 256, 256]⟩
abbrev S64x256 : Shape := ⟨2, ![64, 256]⟩
abbrev S256x256 : Shape := ⟨2, ![256, 256]⟩
abbrev S64x64 : Shape := ⟨2, ![64, 64]⟩
abbrev S1x256x256 : Shape := ⟨3, ![1, 256, 256]⟩
abbrev S1x256 : Shape := ⟨2, ![1, 256]⟩
abbrev S8x4x64x4x64 : Shape := ⟨5, ![8, 4, 64, 4, 64]⟩
abbrev S8x1x64x1x64 : Shape := ⟨5, ![8, 1, 64, 1, 64]⟩
abbrev S8x64x64 : Shape := ⟨3, ![8, 64, 64]⟩
abbrev S8x1x64x64 : Shape := ⟨4, ![8, 1, 64, 64]⟩
abbrev S8x4x64x64 : Shape := ⟨4, ![8, 4, 64, 64]⟩
abbrev S32x64x64 : Shape := ⟨3, ![32, 64, 64]⟩

abbrev nBuf : Space → Nat
  | .hbm => 27
  | .vmem => 17
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x2048, .f32⟩
  | .hbm, ⟨10, _⟩ => ⟨S8192x2048, .f32⟩
  | .hbm, ⟨11, _⟩ => ⟨S8x256x256, .f32⟩
  | .hbm, ⟨12, _⟩ => ⟨S8x4x64x4x64, .f32⟩
  | .hbm, ⟨13, _⟩ => ⟨S8x1x64x1x64, .f32⟩
  | .hbm, ⟨14, _⟩ => ⟨S8x64x64, .f32⟩
  | .hbm, ⟨15, _⟩ => ⟨S8x1x64x1x64, .f32⟩
  | .hbm, ⟨16, _⟩ => ⟨S8x64x64, .f32⟩
  | .hbm, ⟨17, _⟩ => ⟨S8x1x64x1x64, .f32⟩
  | .hbm, ⟨18, _⟩ => ⟨S8x64x64, .f32⟩
  | .hbm, ⟨19, _⟩ => ⟨S8x1x64x1x64, .f32⟩
  | .hbm, ⟨20, _⟩ => ⟨S8x64x64, .f32⟩
  | .hbm, ⟨21, _⟩ => ⟨S8x1x64x64, .f32⟩
  | .hbm, ⟨22, _⟩ => ⟨S8x1x64x64, .f32⟩
  | .hbm, ⟨23, _⟩ => ⟨S8x1x64x64, .f32⟩
  | .hbm, ⟨24, _⟩ => ⟨S8x1x64x64, .f32⟩
  | .hbm, ⟨25, _⟩ => ⟨S8x4x64x64, .f32⟩
  | .hbm, ⟨26, _⟩ => ⟨S32x64x64, .f32⟩
  | .local _ .vmem, ⟨0, _⟩ => ⟨S64x512, .f32⟩
  | .local _ .vmem, ⟨1, _⟩ => ⟨S64x512, .f32⟩
  | .local _ .vmem, ⟨2, _⟩ => ⟨S64x512, .f32⟩
  | .local _ .vmem, ⟨3, _⟩ => ⟨S64x512, .f32⟩
  | .local _ .vmem, ⟨4, _⟩ => ⟨S64x512, .f32⟩
  | .local _ .vmem, ⟨5, _⟩ => ⟨S64x512, .f32⟩
  | .local _ .vmem, ⟨6, _⟩ => ⟨S64x512, .f32⟩
  | .local _ .vmem, ⟨7, _⟩ => ⟨S64x512, .f32⟩
  | .local _ .vmem, ⟨8, _⟩ => ⟨S64x512, .f32⟩
  | .local _ .vmem, ⟨9, _⟩ => ⟨S64x512, .f32⟩
  | .local _ .vmem, ⟨10, _⟩ => ⟨S64x512, .f32⟩
  | .local _ .vmem, ⟨11, _⟩ => ⟨S64x512, .f32⟩
  | .local _ .vmem, ⟨12, _⟩ => ⟨S64x512, .f32⟩
  | .local _ .vmem, ⟨13, _⟩ => ⟨S64x512, .f32⟩
  | .local _ .vmem, ⟨14, _⟩ => ⟨S2x256x256, .f32⟩
  | .local _ .vmem, ⟨15, _⟩ => ⟨S2x256x256, .f32⟩
  | .local _ .vmem, ⟨16, _⟩ => ⟨S2x256x256, .f32⟩
  | _, _ => ⟨S8192x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4_0 : Ref sig .tc := ⟨.hbm, 10, rfl⟩
abbrev main_v4_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15

abbrev nD : Nat := 1
abbrev τ : Topo := Topo.v7x

variable {F : FTy → Type} [FloatOps F]

abbrev grid0 : Pipeline.Grid := ⟨2, ![4, 128], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

def cc0_transform_7 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S64x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S64x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S64x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S64x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]

abbrev stage0_4 : Fin 2 → Memref sig .tc .vmem S64x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S64x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S64x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]

abbrev stage0_7 : Fin 2 → Memref sig .tc .vmem S2x256x256 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true, false]
-- ==== ReferenceIdeal.lean ====
abbrev S8192x2048 : Shape := ⟨2, ![8192, 2048]⟩
abbrev S8192x32x64 : Shape := ⟨3, ![8192, 32, 64]⟩
abbrev S_ : Shape := ⟨0, ![]⟩
abbrev S32x64x64 : Shape := ⟨3, ![32, 64, 64]⟩
abbrev S1x32x64 : Shape := ⟨3, ![1, 32, 64]⟩
abbrev S32x64 : Shape := ⟨2, ![32, 64]⟩
abbrev S32x1x64 : Shape := ⟨3, ![32, 1, 64]⟩
abbrev S32x64x1 : Shape := ⟨3, ![32, 64, 1]⟩

abbrev nBuf : Space → Nat
  | .hbm => 81
  | .vmem => 0
  | .smem => 0
  | _ => 0

abbrev bufTy : (tb : Table) → Fin (tcTables nBuf tb) → BufTy
  | .hbm, ⟨0, _⟩ => ⟨S8192x2048, .f32⟩
  | .hbm, ⟨1, _⟩ => ⟨S8192x2048, .f32⟩
  | .hbm, ⟨2, _⟩ => ⟨S8192x2048, .f32⟩
  | .hbm, ⟨3, _⟩ => ⟨S8192x2048, .f32⟩
  | .hbm, ⟨4, _⟩ => ⟨S8192x2048, .f32⟩
  | .hbm, ⟨5, _⟩ => ⟨S8192x2048, .f32⟩
  | .hbm, ⟨6, _⟩ => ⟨S8192x2048, .f32⟩
  | .hbm, ⟨7, _⟩ => ⟨S8192x2048, .f32⟩
  | .hbm, ⟨8, _⟩ => ⟨S8192x2048, .f32⟩
  | .hbm, ⟨9, _⟩ => ⟨S8192x32x64, .f32⟩
  | .hbm, ⟨10, _⟩ => ⟨S8192x32x64, .f32⟩
  | .hbm, ⟨11, _⟩ => ⟨S8192x32x64, .f32⟩
  | .hbm, ⟨12, _⟩ => ⟨S8192x32x64, .f32⟩
  | .hbm, ⟨13, _⟩ => ⟨S8192x2048, .f32⟩
  | .hbm, ⟨14, _⟩ => ⟨S8192x32x64, .f32⟩
  | .hbm, ⟨15, _⟩ => ⟨S8192x2048, .f32⟩
  | .hbm, ⟨16, _⟩ => ⟨S8192x32x64, .f32⟩
  | .hbm, ⟨17, _⟩ => ⟨S_, .f32⟩
  | .hbm, ⟨18, _⟩ => ⟨S32x64x64, .f32⟩
  | .hbm, ⟨19, _⟩ => ⟨S_, .f32⟩
  | .hbm, ⟨20, _⟩ => ⟨S8192x32x64, .f32⟩
  | .hbm, ⟨21, _⟩ => ⟨S_, .i32⟩
  | .hbm, ⟨22, _⟩ => ⟨S8192x32x64, .f32⟩
  | .hbm, ⟨23, _⟩ => ⟨S8192x32x64, .f32⟩
  | .hbm, ⟨24, _⟩ => ⟨S8192x32x64, .f32⟩
  | .hbm, ⟨25, _⟩ => ⟨S8192x32x64, .f32⟩
  | .hbm, ⟨26, _⟩ => ⟨S8192x32x64, .f32⟩
  | .hbm, ⟨27, _⟩ => ⟨S8192x32x64, .f32⟩
  | .hbm, ⟨28, _⟩ => ⟨S_, .i32⟩
  | .hbm, ⟨29, _⟩ => ⟨S32x64x64, .f32⟩
  | .hbm, ⟨30, _⟩ => ⟨S8192x32x64, .f32⟩
  | .hbm, ⟨31, _⟩ => ⟨S_, .i32⟩
  | .hbm, ⟨32, _⟩ => ⟨S_, .i1⟩
  | .hbm, ⟨33, _⟩ => ⟨S_, .i32⟩
  | .hbm, ⟨34, _⟩ => ⟨S_, .i32⟩
  | .hbm, ⟨35, _⟩ => ⟨S1x32x64, .f32⟩
  | .hbm, ⟨36, _⟩ => ⟨S32x64, .f32⟩
  | .hbm, ⟨37, _⟩ => ⟨S_, .i32⟩
  | .hbm, ⟨38, _⟩ => ⟨S_, .i32⟩
  | .hbm, ⟨39, _⟩ => ⟨S1x32x64, .f32⟩
  | .hbm, ⟨40, _⟩ => ⟨S32x64, .f32⟩
  | .hbm, ⟨41, _⟩ => ⟨S_, .i32⟩
  | .hbm, ⟨42, _⟩ => ⟨S_, .i32⟩
  | .hbm, ⟨43, _⟩ => ⟨S1x32x64, .f32⟩
  | .hbm, ⟨44, _⟩ => ⟨S32x64, .f32⟩
  | .hbm, ⟨45, _⟩ => ⟨S_, .i32⟩
  | .hbm, ⟨46, _⟩ => ⟨S_, .i32⟩
  | .hbm, ⟨47, _⟩ => ⟨S1x32x64, .f32⟩
  | .hbm, ⟨48, _⟩ => ⟨S32x64, .f32⟩
  | .hbm, ⟨49, _⟩ => ⟨S_, .i32⟩
  | .hbm, ⟨50, _⟩ => ⟨S_, .i32⟩
  | .hbm, ⟨51, _⟩ => ⟨S1x32x64, .f32⟩
  | .hbm, ⟨52, _⟩ => ⟨S32x64, .f32⟩
  | .hbm, ⟨53, _⟩ => ⟨S_, .i32⟩
  | .hbm, ⟨54, _⟩ => ⟨S_, .i32⟩
  | .hbm, ⟨55, _⟩ => ⟨S1x32x64, .f32⟩
  | .hbm, ⟨56, _⟩ => ⟨S32x64, .f32⟩
  | .hbm, ⟨57, _⟩ => ⟨S32x64, .f32⟩
  | .hbm, ⟨58, _⟩ => ⟨S32x1x64, .f32⟩
  | .hbm, ⟨59, _⟩ => ⟨S32x64x64, .f32⟩
  | .hbm, ⟨60, _⟩ => ⟨S32x64x64, .f32⟩
  | .hbm, ⟨61, _⟩ => ⟨S32x64x1, .f32⟩
  | .hbm, ⟨62, _⟩ => ⟨S32x1x64, .f32⟩
  | .hbm, ⟨63, _⟩ => ⟨S32x64x64, .f32⟩
  | .hbm, ⟨64, _⟩ => ⟨S32x64x64, .f32⟩
  | .hbm, ⟨65, _⟩ => ⟨S32x64x64, .f32⟩
  | .hbm, ⟨66, _⟩ => ⟨S32x64x64, .f32⟩
  | .hbm, ⟨67, _⟩ => ⟨S32x64x1, .f32⟩
  | .hbm, ⟨68, _⟩ => ⟨S32x1x64, .f32⟩
  | .hbm, ⟨69, _⟩ => ⟨S32x64x64, .f32⟩
  | .hbm, ⟨70, _⟩ => ⟨S32x64x64, .f32⟩
  | .hbm, ⟨71, _⟩ => ⟨S32x64x64, .f32⟩
  | .hbm, ⟨72, _⟩ => ⟨S32x64x64, .f32⟩
  | .hbm, ⟨73, _⟩ => ⟨S32x64, .f32⟩
  | .hbm, ⟨74, _⟩ => ⟨S1x32x64, .f32⟩
  | .hbm, ⟨75, _⟩ => ⟨S_, .i32⟩
  | .hbm, ⟨76, _⟩ => ⟨S_, .i32⟩
  | .hbm, ⟨77, _⟩ => ⟨S8192x32x64, .f32⟩
  | .hbm, ⟨78, _⟩ => ⟨S_, .i32⟩
  | .hbm, ⟨79, _⟩ => ⟨S_, .i32⟩
  | .hbm, ⟨80, _⟩ => ⟨S8192x2048, .f32⟩
  | _, _ => ⟨S8192x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_cst : Ref sig .tc := ⟨.hbm, 17, rfl⟩
abbrev main_v11 : Ref sig .tc := ⟨.hbm, 18, rfl⟩
abbrev main_cst_0 : Ref sig .tc := ⟨.hbm, 19, rfl⟩
abbrev main_v12 : Ref sig .tc := ⟨.hbm, 20, rfl⟩
abbrev main_c : Ref sig .tc := ⟨.hbm, 21, rfl⟩
abbrev main_v13_0 : Ref sig .tc := ⟨.hbm, 22, rfl⟩
abbrev main_v13_1 : Ref sig .tc := ⟨.hbm, 23, rfl⟩
abbrev main_v13_2 : Ref sig .tc := ⟨.hbm, 24, rfl⟩
abbrev main_v13_3 : Ref sig .tc := ⟨.hbm, 25, rfl⟩
abbrev main_v13_4 : Ref sig .tc := ⟨.hbm, 26, rfl⟩
abbrev main_v13_5 : Ref sig .tc := ⟨.hbm, 27, rfl⟩
abbrev main_v13_6 : Ref sig .tc := ⟨.hbm, 28, rfl⟩
abbrev main_v13_7 : Ref sig .tc := ⟨.hbm, 29, rfl⟩
abbrev main_v13_8 : Ref sig .tc := ⟨.hbm, 30, rfl⟩
abbrev main_while0c_c_9 : Ref sig .tc := ⟨.hbm, 31, rfl⟩
abbrev main_while0c_v15 : Ref sig .tc := ⟨.hbm, 32, rfl⟩
abbrev main_while0b_call0_c : Ref sig .tc := ⟨.hbm, 33, rfl⟩
abbrev main_while0b_call0_c_0 : Ref sig .tc := ⟨.hbm, 34, rfl⟩
abbrev main_while0b_call0_v0 : Ref sig .tc := ⟨.hbm, 35, rfl⟩
abbrev main_while0b_v15 : Ref sig .tc := ⟨.hbm, 36, rfl⟩
abbrev main_while0b_call1_c : Ref sig .tc := ⟨.hbm, 37, rfl⟩
abbrev main_while0b_call1_c_0 : Ref sig .tc := ⟨.hbm, 38, rfl⟩
abbrev main_while0b_call1_v0 : Ref sig .tc := ⟨.hbm, 39, rfl⟩
abbrev main_while0b_v16 : Ref sig .tc := ⟨.hbm, 40, rfl⟩
abbrev main_while0b_call2_c : Ref sig .tc := ⟨.hbm, 41, rfl⟩
abbrev main_while0b_call2_c_0 : Ref sig .tc := ⟨.hbm, 42, rfl⟩
abbrev main_while0b_call2_v0 : Ref sig .tc := ⟨.hbm, 43, rfl⟩
abbrev main_while0b_v17 : Ref sig .tc := ⟨.hbm, 44, rfl⟩
abbrev main_while0b_call3_c : Ref sig .tc := ⟨.hbm, 45, rfl⟩
abbrev main_while0b_call3_c_0 : Ref sig .tc := ⟨.hbm, 46, rfl⟩
abbrev main_while0b_call3_v0 : Ref sig .tc := ⟨.hbm, 47, rfl⟩
abbrev main_while0b_v18 : Ref sig .tc := ⟨.hbm, 48, rfl⟩
abbrev main_while0b_call4_c : Ref sig .tc := ⟨.hbm, 49, rfl⟩
abbrev main_while0b_call4_c_0 : Ref sig .tc := ⟨.hbm, 50, rfl⟩
abbrev main_while0b_call4_v0 : Ref sig .tc := ⟨.hbm, 51, rfl⟩
abbrev main_while0b_v19 : Ref sig .tc := ⟨.hbm, 52, rfl⟩
abbrev main_while0b_call5_c : Ref sig .tc := ⟨.hbm, 53, rfl⟩
abbrev main_while0b_call5_c_0 : Ref sig .tc := ⟨.hbm, 54, rfl⟩
abbrev main_while0b_call5_v0 : Ref sig .tc := ⟨.hbm, 55, rfl⟩
abbrev main_while0b_v20 : Ref sig .tc := ⟨.hbm, 56, rfl⟩
abbrev main_while0b_v21 : Ref sig .tc := ⟨.hbm, 57, rfl⟩
abbrev main_while0b_v22 : Ref sig .tc := ⟨.hbm, 58, rfl⟩
abbrev main_while0b_v23 : Ref sig .tc := ⟨.hbm, 59, rfl⟩
abbrev main_while0b_v24 : Ref sig .tc := ⟨.hbm, 60, rfl⟩
abbrev main_while0b_v25 : Ref sig .tc := ⟨.hbm, 61, rfl⟩
abbrev main_while0b_v26 : Ref sig .tc := ⟨.hbm, 62, rfl⟩
abbrev main_while0b_v27 : Ref sig .tc := ⟨.hbm, 63, rfl⟩
abbrev main_while0b_v28 : Ref sig .tc := ⟨.hbm, 64, rfl⟩
abbrev main_while0b_v29 : Ref sig .tc := ⟨.hbm, 65, rfl⟩
abbrev main_while0b_v30 : Ref sig .tc := ⟨.hbm, 66, rfl⟩
abbrev main_while0b_v31 : Ref sig .tc := ⟨.hbm, 67, rfl⟩
abbrev main_while0b_v32 : Ref sig .tc := ⟨.hbm, 68, rfl⟩
abbrev main_while0b_v33 : Ref sig .tc := ⟨.hbm, 69, rfl⟩
abbrev main_while0b_v34 : Ref sig .tc := ⟨.hbm, 70, rfl⟩
abbrev main_while0b_v35 : Ref sig .tc := ⟨.hbm, 71, rfl⟩
abbrev main_while0b_v36 : Ref sig .tc := ⟨.hbm, 72, rfl⟩
abbrev main_while0b_v37 : Ref sig .tc := ⟨.hbm, 73, rfl⟩
abbrev main_while0b_call6_v0 : Ref sig .tc := ⟨.hbm, 74, rfl⟩
abbrev main_while0b_call6_c : Ref sig .tc := ⟨.hbm, 75, rfl⟩
abbrev main_while0b_call6_c_0 : Ref sig .tc := ⟨.hbm, 76, rfl⟩
abbrev main_while0b_v38 : Ref sig .tc := ⟨.hbm, 77, rfl⟩
abbrev main_while0b_c_9 : Ref sig .tc := ⟨.hbm, 78, rfl⟩
abbrev main_while0b_v39 : Ref sig .tc := ⟨.hbm, 79, rfl⟩
abbrev main_v14 : Ref sig .tc := ⟨.hbm, 80, rfl⟩

abbrev nD : Nat := 1
abbrev τ : Topo := Topo.v7x

variable {F : FTy → Type} [FloatOps F]

abbrev main_while0_count : Scf.Loop 32 := ⟨0#32, 8192#32, 1#32⟩
-- ==== Kernel2.lean ====
abbrev S1x8192x4096 : Shape := ⟨3, ![1, 8192, 4096]⟩
abbrev S1x1x4096 : Shape := ⟨3, ![1, 1, 4096]⟩
abbrev S1x4096x25184 : Shape := ⟨3, ![1, 4096, 25184]⟩
abbrev S_ : Shape := ⟨0, ![]⟩
abbrev S4096x25184 : Shape := ⟨2, ![4096, 25184]⟩
abbrev S8192x4096 : Shape := ⟨2, ![8192, 4096]⟩
abbrev S8192x25184 : Shape := ⟨2, ![8192, 25184]⟩
abbrev S1024x4096 : Shape := ⟨2, ![1024, 4096]⟩
abbrev S4096x1024 : Shape := ⟨2, ![4096, 1024]⟩
abbrev S1024x1024 : Shape := ⟨2, ![1024, 1024]⟩
abbrev S1x8192x25184 : Shape := ⟨3, ![1, 8192, 25184]⟩
abbrev S1x8192x6592 : Shape := ⟨3, ![1, 8192, 6592]⟩
abbrev S1x8192x10400 : Shape := ⟨3, ![1, 8192, 10400]⟩
abbrev S1x8192x8192 : Shape := ⟨3, ![1, 8192, 8192]⟩
abbrev S1x8192x2048 : Shape := ⟨3, ![1, 8192, 2048]⟩
abbrev S1x8192x128 : Shape := ⟨3, ![1, 8192, 128]⟩
abbrev S1x8192x32 : Shape := ⟨3, ![1, 8192, 32]⟩
abbrev S1x8192x16x128 : Shape := ⟨4, ![1, 8192, 16, 128]⟩
abbrev S1x8192x32x128 : Shape := ⟨4, ![1, 8192, 32, 128]⟩
abbrev S1x1x6592 : Shape := ⟨3, ![1, 1, 6592]⟩
abbrev S1x6592 : Shape := ⟨2, ![1, 6592]⟩
abbrev S1x1x8192x16x128 : Shape := ⟨5, ![1, 1, 8192, 16, 128]⟩
abbrev S1x1x8192x128 : Shape := ⟨4, ![1, 1, 8192, 128]⟩

abbrev nBuf : Space → Nat
  | .hbm => 36
  | .vmem => 6
  | .smem => 0
  | _ => 0

abbrev bufTy : (tb : Table) → Fin (tcTables nBuf tb) → BufTy
  | .hbm, ⟨0, _⟩ => ⟨S1x8192x4096, .f32⟩
  | .hbm, ⟨1, _⟩ => ⟨S1x1x4096, .f32⟩
  | .hbm, ⟨2, _⟩ => ⟨S1x1x4096, .f32⟩
  | .hbm, ⟨3, _⟩ => ⟨S1x4096x25184, .f32⟩
  | .hbm, ⟨4, _⟩ => ⟨S_, .f32⟩
  | .hbm, ⟨5, _⟩ => ⟨S1x1x4096, .f32⟩
  | .hbm, ⟨6, _⟩ => ⟨S1x1x4096, .f32⟩
  | .hbm, ⟨7, _⟩ => ⟨S1x8192x4096, .f32⟩
  | .hbm, ⟨8, _⟩ => ⟨S1x8192x4096, .f32⟩
  | .hbm, ⟨9, _⟩ => ⟨S1x8192x4096, .f32⟩
  | .hbm, ⟨10, _⟩ => ⟨S1x8192x4096, .f32⟩
  | .hbm, ⟨11, _⟩ => ⟨S4096x25184, .f32⟩
  | .hbm, ⟨12, _⟩ => ⟨S8192x4096, .f32⟩
  | .hbm, ⟨13, _⟩ => ⟨S8192x4096, .bf16⟩
  | .hbm, ⟨14, _⟩ => ⟨S4096x25184, .bf16⟩
  | .hbm, ⟨15, _⟩ => ⟨S8192x25184, .f32⟩
  | .hbm, ⟨16, _⟩ => ⟨S1x8192x25184, .f32⟩
  | .hbm, ⟨17, _⟩ => ⟨S1x8192x6592, .f32⟩
  | .hbm, ⟨18, _⟩ => ⟨S1x8192x10400, .f32⟩
  | .hbm, ⟨19, _⟩ => ⟨S1x8192x8192, .f32⟩
  | .hbm, ⟨20, _⟩ => ⟨S1x8192x2048, .f32⟩
  | .hbm, ⟨21, _⟩ => ⟨S1x8192x2048, .f32⟩
  | .hbm, ⟨22, _⟩ => ⟨S1x8192x2048, .f32⟩
  | .hbm, ⟨23, _⟩ => ⟨S1x8192x4096, .f32⟩
  | .hbm, ⟨24, _⟩ => ⟨S1x8192x128, .f32⟩
  | .hbm, ⟨25, _⟩ => ⟨S1x8192x32, .f32⟩
  | .hbm, ⟨26, _⟩ => ⟨S1x8192x16x128, .f32⟩
  | .hbm, ⟨27, _⟩ => ⟨S1x8192x16x128, .f32⟩
  | .hbm, ⟨28, _⟩ => ⟨S1x8192x16x128, .f32⟩
  | .hbm, ⟨29, _⟩ => ⟨S1x8192x32x128, .f32⟩
  | .hbm, ⟨30, _⟩ => ⟨S1x1x6592, .f32⟩
  | .hbm, ⟨31, _⟩ => ⟨S1x6592, .f32⟩
  | .hbm, ⟨32, _⟩ => ⟨S1x1x8192x16x128, .f32⟩
  | .hbm, ⟨33, _⟩ => ⟨S1x1x8192x16x128, .f32⟩
  | .hbm, ⟨34, _⟩ => ⟨S1x1x8192x128, .f32⟩
  | .hbm, ⟨35, _⟩ => ⟨S1x1x6592, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S1x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 25], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Kernel2Ideal.lean ====
abbrev S1x8192x4096 : Shape := ⟨3, ![1, 8192, 4096]⟩
abbrev S1x1x4096 : Shape := ⟨3, ![1, 1, 4096]⟩
abbrev S1x4096x25184 : Shape := ⟨3, ![1, 4096, 25184]⟩
abbrev S_ : Shape := ⟨0, ![]⟩
abbrev S4096x25184 : Shape := ⟨2, ![4096, 25184]⟩
abbrev S8192x4096 : Shape := ⟨2, ![8192, 4096]⟩
abbrev S8192x25184 : Shape := ⟨2, ![8192, 25184]⟩
abbrev S1024x4096 : Shape := ⟨2, ![1024, 4096]⟩
abbrev S4096x1024 : Shape := ⟨2, ![4096, 1024]⟩
abbrev S1024x1024 : Shape := ⟨2, ![1024, 1024]⟩
abbrev S1x8192x25184 : Shape := ⟨3, ![1, 8192, 25184]⟩
abbrev S1x8192x6592 : Shape := ⟨3, ![1, 8192, 6592]⟩
abbrev S1x8192x10400 : Shape := ⟨3, ![1, 8192, 10400]⟩
abbrev S1x8192x8192 : Shape := ⟨3, ![1, 8192, 8192]⟩
abbrev S1x8192x2048 : Shape := ⟨3, ![1, 8192, 2048]⟩
abbrev S1x8192x128 : Shape := ⟨3, ![1, 8192, 128]⟩
abbrev S1x8192x32 : Shape := ⟨3, ![1, 8192, 32]⟩
abbrev S1x8192x16x128 : Shape := ⟨4, ![1, 8192, 16, 128]⟩
abbrev S1x8192x32x128 : Shape := ⟨4, ![1, 8192, 32, 128]⟩
abbrev S1x1x6592 : Shape := ⟨3, ![1, 1, 6592]⟩
abbrev S1x6592 : Shape := ⟨2, ![1, 6592]⟩
abbrev S1x1x8192x16x128 : Shape := ⟨5, ![1, 1, 8192, 16, 128]⟩
abbrev S1x1x8192x128 : Shape := ⟨4, ![1, 1, 8192, 128]⟩

abbrev nBuf : Space → Nat
  | .hbm => 36
  | .vmem => 6
  | .smem => 0
  | _ => 0

abbrev bufTy : (tb : Table) → Fin (tcTables nBuf tb) → BufTy
  | .hbm, ⟨0, _⟩ => ⟨S1x8192x4096, .f32⟩
  | .hbm, ⟨1, _⟩ => ⟨S1x1x4096, .f32⟩
  | .hbm, ⟨2, _⟩ => ⟨S1x1x4096, .f32⟩
  | .hbm, ⟨3, _⟩ => ⟨S1x4096x25184, .f32⟩
  | .hbm, ⟨4, _⟩ => ⟨S_, .f32⟩
  | .hbm, ⟨5, _⟩ => ⟨S1x1x4096, .f32⟩
  | .hbm, ⟨6, _⟩ => ⟨S1x1x4096, .f32⟩
  | .hbm, ⟨7, _⟩ => ⟨S1x8192x4096, .f32⟩
  | .hbm, ⟨8, _⟩ => ⟨S1x8192x4096, .f32⟩
  | .hbm, ⟨9, _⟩ => ⟨S1x8192x4096, .f32⟩
  | .hbm, ⟨10, _⟩ => ⟨S1x8192x4096, .f32⟩
  | .hbm, ⟨11, _⟩ => ⟨S4096x25184, .f32⟩
  | .hbm, ⟨12, _⟩ => ⟨S8192x4096, .f32⟩
  | .hbm, ⟨13, _⟩ => ⟨S8192x4096, .bf16⟩
  | .hbm, ⟨14, _⟩ => ⟨S4096x25184, .bf16⟩
  | .hbm, ⟨15, _⟩ => ⟨S8192x25184, .f32⟩
  | .hbm, ⟨16, _⟩ => ⟨S1x8192x25184, .f32⟩
  | .hbm, ⟨17, _⟩ => ⟨S1x8192x6592, .f32⟩
  | .hbm, ⟨18, _⟩ => ⟨S1x8192x10400, .f32⟩
  | .hbm, ⟨19, _⟩ => ⟨S1x8192x8192, .f32⟩
  | .hbm, ⟨20, _⟩ => ⟨S1x8192x2048, .f32⟩
  | .hbm, ⟨21, _⟩ => ⟨S1x8192x2048, .f32⟩
  | .hbm, ⟨22, _⟩ => ⟨S1x8192x2048, .f32⟩
  | .hbm, ⟨23, _⟩ => ⟨S1x8192x4096, .f32⟩
  | .hbm, ⟨24, _⟩ => ⟨S1x8192x128, .f32⟩
  | .hbm, ⟨25, _⟩ => ⟨S1x8192x32, .f32⟩
  | .hbm, ⟨26, _⟩ => ⟨S1x8192x16x128, .f32⟩
  | .hbm, ⟨27, _⟩ => ⟨S1x8192x16x128, .f32⟩
  | .hbm, ⟨28, _⟩ => ⟨S1x8192x16x128, .f32⟩
  | .hbm, ⟨29, _⟩ => ⟨S1x8192x32x128, .f32⟩
  | .hbm, ⟨30, _⟩ => ⟨S1x1x6592, .f32⟩
  | .hbm, ⟨31, _⟩ => ⟨S1x6592, .f32⟩
  | .hbm, ⟨32, _⟩ => ⟨S1x1x8192x16x128, .f32⟩
  | .hbm, ⟨33, _⟩ => ⟨S1x1x8192x16x128, .f32⟩
  | .hbm, ⟨34, _⟩ => ⟨S1x1x8192x128, .f32⟩
  | .hbm, ⟨35, _⟩ => ⟨S1x1x6592, .f32⟩
  | .local _ .vmem, ⟨0, _⟩ => ⟨S1024x4096, .bf16⟩
  | .local _ .vmem, ⟨1, _⟩ => ⟨S1024x4096, .bf16⟩
  | .local _ .vmem, ⟨2, _⟩ => ⟨S4096x1024, .bf16⟩
  | .local _ .vmem, ⟨3, _⟩ => ⟨S4096x1024, .bf16⟩
  | .local _ .vmem, ⟨4, _⟩ => ⟨S1024x1024, .f32⟩
  | .local _ .vmem, ⟨5, _⟩ => ⟨S1024x1024, .f32⟩
  | _, _ => ⟨S1x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev main_v28 : Ref sig .tc := ⟨.hbm, 33, rfl⟩
abbrev main_v29 : Ref sig .tc := ⟨.hbm, 34, rfl⟩
abbrev main_v30 : Ref sig .tc := ⟨.hbm, 35, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 25], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference2Ideal.lean ====
abbrev S1x8192x4096 : Shape := ⟨3, ![1, 8192, 4096]⟩
abbrev S1x1x4096 : Shape := ⟨3, ![1, 1, 4096]⟩
abbrev S1x4096x25184 : Shape := ⟨3, ![1, 4096, 25184]⟩
abbrev S_ : Shape := ⟨0, ![]⟩
abbrev S4096x25184 : Shape := ⟨2, ![4096, 25184]⟩
abbrev S1x8192x25184 : Shape := ⟨3, ![1, 8192, 25184]⟩
abbrev S1x8192x6592 : Shape := ⟨3, ![1, 8192, 6592]⟩
abbrev S1x8192x10400 : Shape := ⟨3, ![1, 8192, 10400]⟩
abbrev S1x8192x8192 : Shape := ⟨3, ![1, 8192, 8192]⟩
abbrev S1x8192x2048 : Shape := ⟨3, ![1, 8192, 2048]⟩
abbrev S1x8192x128 : Shape := ⟨3, ![1, 8192, 128]⟩
abbrev S1x8192x32 : Shape := ⟨3, ![1, 8192, 32]⟩
abbrev S1x8192x16x128 : Shape := ⟨4, ![1, 8192, 16, 128]⟩
abbrev S1x8192x32x128 : Shape := ⟨4, ![1, 8192, 32, 128]⟩
abbrev S1x1x6592 : Shape := ⟨3, ![1, 1, 6592]⟩
abbrev S1x6592 : Shape := ⟨2, ![1, 6592]⟩
abbrev S1x1x8192x16x128 : Shape := ⟨5, ![1, 1, 8192, 16, 128]⟩
abbrev S1x1x8192x128 : Shape := ⟨4, ![1, 1, 8192, 128]⟩

abbrev nBuf : Space → Nat
  | .hbm => 32
  | .vmem => 0
  | .smem => 0
  | _ => 0

abbrev bufTy : (tb : Table) → Fin (tcTables nBuf tb) → BufTy
  | .hbm, ⟨0, _⟩ => ⟨S1x8192x4096, .f32⟩
  | .hbm, ⟨1, _⟩ => ⟨S1x1x4096, .f32⟩
  | .hbm, ⟨2, _⟩ => ⟨S1x1x4096, .f32⟩
  | .hbm, ⟨3, _⟩ => ⟨S1x4096x25184, .f32⟩
  | .hbm, ⟨4, _⟩ => ⟨S_, .f32⟩
  | .hbm, ⟨5, _⟩ => ⟨S1x1x4096, .f32⟩
  | .hbm, ⟨6, _⟩ => ⟨S1x1x4096, .f32⟩
  | .hbm, ⟨7, _⟩ => ⟨S1x8192x4096, .f32⟩
  | .hbm, ⟨8, _⟩ => ⟨S1x8192x4096, .f32⟩
  | .hbm, ⟨9, _⟩ => ⟨S1x8192x4096, .f32⟩
  | .hbm, ⟨10, _⟩ => ⟨S1x8192x4096, .f32⟩
  | .hbm, ⟨11, _⟩ => ⟨S4096x25184, .f32⟩
  | .hbm, ⟨12, _⟩ => ⟨S1x8192x25184, .f32⟩
  | .hbm, ⟨13, _⟩ => ⟨S1x8192x6592, .f32⟩
  | .hbm, ⟨14, _⟩ => ⟨S1x8192x10400, .f32⟩
  | .hbm, ⟨15, _⟩ => ⟨S1x8192x8192, .f32⟩
  | .hbm, ⟨16, _⟩ => ⟨S1x8192x2048, .f32⟩
  | .hbm, ⟨17, _⟩ => ⟨S1x8192x2048, .f32⟩
  | .hbm, ⟨18, _⟩ => ⟨S1x8192x2048, .f32⟩
  | .hbm, ⟨19, _⟩ => ⟨S1x8192x4096, .f32⟩
  | .hbm, ⟨20, _⟩ => ⟨S1x8192x128, .f32⟩
  | .hbm, ⟨21, _⟩ => ⟨S1x8192x32, .f32⟩
  | .hbm, ⟨22, _⟩ => ⟨S1x8192x16x128, .f32⟩
  | .hbm, ⟨23, _⟩ => ⟨S1x8192x16x128, .f32⟩
  | .hbm, ⟨24, _⟩ => ⟨S1x8192x16x128, .f32⟩
  | .hbm, ⟨25, _⟩ => ⟨S1x8192x32x128, .f32⟩
  | .hbm, ⟨26, _⟩ => ⟨S1x1x6592, .f32⟩
  | .hbm, ⟨27, _⟩ => ⟨S1x6592, .f32⟩
  | .hbm, ⟨28, _⟩ => ⟨S1x1x8192x16x128, .f32⟩
  | .hbm, ⟨29, _⟩ => ⟨S1x1x8192x16x128, .f32⟩
  | .hbm, ⟨30, _⟩ => ⟨S1x1x8192x128, .f32⟩
  | .hbm, ⟨31, _⟩ => ⟨S1x1x6592, .f32⟩
  | _, _ => ⟨S1x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩

abbrev nD : Nat := 1
abbrev τ : Topo := Topo.v7x

variable {F : FTy → Type} [FloatOps F]
-- ==== Kernel3.lean ====
abbrev S1x8192x4096 : Shape := ⟨3, ![1, 8192, 4096]⟩
abbrev S1x1x4096 : Shape := ⟨3, ![1, 1, 4096]⟩
abbrev S1x8192x2048 : Shape := ⟨3, ![1, 8192, 2048]⟩
abbrev S1x8192x8192 : Shape := ⟨3, ![1, 8192, 8192]⟩
abbrev S1x2048x4096 : Shape := ⟨3, ![1, 2048, 4096]⟩
abbrev S1x4096x4096 : Shape := ⟨3, ![1, 4096, 4096]⟩
abbrev S1x4096 : Shape := ⟨2, ![1, 4096]⟩
abbrev S1x4096x2048 : Shape := ⟨3, ![1, 4096, 2048]⟩
abbrev S_ : Shape := ⟨0, ![]⟩
abbrev S2048x4096 : Shape := ⟨2, ![2048, 4096]⟩
abbrev S4096x4096 : Shape := ⟨2, ![4096, 4096]⟩
abbrev S8192x2048 : Shape := ⟨2, ![8192, 2048]⟩
abbrev S8192x4096 : Shape := ⟨2, ![8192, 4096]⟩
abbrev S512x2048 : Shape := ⟨2, ![512, 2048]⟩
abbrev S2048x512 : Shape := ⟨2, ![2048, 512]⟩
abbrev S512x512 : Shape := ⟨2, ![512, 512]⟩
abbrev S512x4096 : Shape := ⟨2, ![512, 4096]⟩
abbrev S4096x512 : Shape := ⟨2, ![4096, 512]⟩
abbrev S4096 : Shape := ⟨1, ![4096]⟩
abbrev S1x8192 : Shape := ⟨2, ![1, 8192]⟩
abbrev S1x8192x1 : Shape := ⟨3, ![1, 8192, 1]⟩
abbrev S4096x2048 : Shape := ⟨2, ![4096, 2048]⟩

abbrev nBuf : Space → Nat
  | .hbm => 93
  | .vmem => 24
  | .smem => 0
  | _ => 0

abbrev bufTy : (tb : Table) → Fin (tcTables nBuf tb) → BufTy
  | .hbm, ⟨0, _⟩ => ⟨S1x8192x4096, .f32⟩
  | .hbm, ⟨1, _⟩ => ⟨S1x1x4096, .f32⟩
  | .hbm, ⟨2, _⟩ => ⟨S1x1x4096, .f32⟩
  | .hbm, ⟨3, _⟩ => ⟨S1x1x4096, .f32⟩
  | .hbm, ⟨4, _⟩ => ⟨S1x8192x2048, .f32⟩
  | .hbm, ⟨5, _⟩ => ⟨S1x8192x2048, .f32⟩
  | .hbm, ⟨6, _⟩ => ⟨S1x8192x8192, .f32⟩
  | .hbm, ⟨7, _⟩ => ⟨S1x2048x4096, .f32⟩
  | .hbm, ⟨8, _⟩ => ⟨S1x2048x4096, .f32⟩
  | .hbm, ⟨9, _⟩ => ⟨S1x4096x4096, .f32⟩
  | .hbm, ⟨10, _⟩ => ⟨S1x4096, .f32⟩
  | .hbm, ⟨11, _⟩ => ⟨S1x4096, .f32⟩
  | .hbm, ⟨12, _⟩ => ⟨S1x4096x2048, .f32⟩
  | .hbm, ⟨13, _⟩ => ⟨S_, .f32⟩
  | .hbm, ⟨14, _⟩ => ⟨S1x8192x4096, .f32⟩
  | .hbm, ⟨15, _⟩ => ⟨S1x8192x4096, .f32⟩
  | .hbm, ⟨16, _⟩ => ⟨S2048x4096, .f32⟩
  | .hbm, ⟨17, _⟩ => ⟨S2048x4096, .f32⟩
  | .hbm, ⟨18, _⟩ => ⟨S4096x4096, .f32⟩
  | .hbm, ⟨19, _⟩ => ⟨S1x8192x8192, .f32⟩
  | .hbm, ⟨20, _⟩ => ⟨S1x8192x8192, .f32⟩
  | .hbm, ⟨21, _⟩ => ⟨S_, .f32⟩
  | .hbm, ⟨22, _⟩ => ⟨S1x8192x8192, .f32⟩
  | .hbm, ⟨23, _⟩ => ⟨S1x8192x8192, .f32⟩
  | .hbm, ⟨24, _⟩ => ⟨S_, .f32⟩
  | .hbm, ⟨25, _⟩ => ⟨S1x8192x8192, .f32⟩
  | .hbm, ⟨26, _⟩ => ⟨S1x8192x8192, .f32⟩
  | .hbm, ⟨27, _⟩ => ⟨S1x8192x4096, .f32⟩
  | .hbm, ⟨28, _⟩ => ⟨S1x8192x4096, .f32⟩
  | .hbm, ⟨29, _⟩ => ⟨S8192x2048, .f32⟩
  | .hbm, ⟨30, _⟩ => ⟨S8192x2048, .bf16⟩
  | .hbm, ⟨31, _⟩ => ⟨S2048x4096, .bf16⟩
  | .hbm, ⟨32, _⟩ => ⟨S8192x4096, .f32⟩
  | .hbm, ⟨33, _⟩ => ⟨S1x8192x4096, .f32⟩
  | .hbm, ⟨34, _⟩ => ⟨S1x8192x4096, .f32⟩
  | .hbm, ⟨35, _⟩ => ⟨S8192x2048, .f32⟩
  | .hbm, ⟨36, _⟩ => ⟨S8192x2048, .bf16⟩
  | .hbm, ⟨37, _⟩ => ⟨S2048x4096, .bf16⟩
  | .hbm, ⟨38, _⟩ => ⟨S8192x4096, .f32⟩
  | .hbm, ⟨39, _⟩ => ⟨S1x8192x4096, .f32⟩
  | .hbm, ⟨40, _⟩ => ⟨S1x8192x4096, .f32⟩
  | .hbm, ⟨41, _⟩ => ⟨S1x8192x4096, .f32⟩
  | .hbm, ⟨42, _⟩ => ⟨S8192x4096, .f32⟩
  | .hbm, ⟨43, _⟩ => ⟨S8192x4096, .bf16⟩
  | .hbm, ⟨44, _⟩ => ⟨S4096x4096, .bf16⟩
  | .hbm, ⟨45, _⟩ => ⟨S8192x4096, .f32⟩
  | .hbm, ⟨46, _⟩ => ⟨S1x8192x4096, .f32⟩
  | .hbm, ⟨47, _⟩ => ⟨S1x8192x4096, .f32⟩
  | .hbm, ⟨48, _⟩ => ⟨S1x8192x4096, .f32⟩
  | .hbm, ⟨49, _⟩ => ⟨S1x8192x4096, .f32⟩
  | .hbm, ⟨50, _⟩ => ⟨S4096, .f32⟩
  | .hbm, ⟨51, _⟩ => ⟨S4096, .f32⟩
  | .hbm, ⟨52, _⟩ => ⟨S_, .f32⟩
  | .hbm, ⟨53, _⟩ => ⟨S1x8192, .f32⟩
  | .hbm, ⟨54, _⟩ => ⟨S1x8192x1, .f32⟩
  | .hbm, ⟨55, _⟩ => ⟨S_, .f32⟩
  | .hbm, ⟨56, _⟩ => ⟨S1x8192x1, .f32⟩
  | .hbm, ⟨57, _⟩ => ⟨S1x8192x1, .f32⟩
  | .hbm, ⟨58, _⟩ => ⟨S1x8192x4096, .f32⟩
  | .hbm, ⟨59, _⟩ => ⟨S1x8192x4096, .f32⟩
  | .hbm, ⟨60, _⟩ => ⟨S1x8192x4096, .f32⟩
  | .hbm, ⟨61, _⟩ => ⟨S_, .f32⟩
  | .hbm, ⟨62, _⟩ => ⟨S1x8192, .f32⟩
  | .hbm, ⟨63, _⟩ => ⟨S1x8192x1, .f32⟩
  | .hbm, ⟨64, _⟩ => ⟨S_, .f32⟩
  | .hbm, ⟨65, _⟩ => ⟨S1x8192x1, .f32⟩
  | .hbm, ⟨66, _⟩ => ⟨S1x8192x1, .f32⟩
  | .hbm, ⟨67, _⟩ => ⟨S1x8192x4096, .f32⟩
  | .hbm, ⟨68, _⟩ => ⟨S1x8192x4096, .f32⟩
  | .hbm, ⟨69, _⟩ => ⟨S_, .f32⟩
  | .hbm, ⟨70, _⟩ => ⟨S1x8192x1, .f32⟩
  | .hbm, ⟨71, _⟩ => ⟨S1x8192x1, .f32⟩
  | .hbm, ⟨72, _⟩ => ⟨S1x8192x1, .f32⟩
  | .hbm, ⟨73, _⟩ => ⟨S1x8192x4096, .f32⟩
  | .hbm, ⟨74, _⟩ => ⟨S1x8192x4096, .f32⟩
  | .hbm, ⟨75, _⟩ => ⟨S1x1x4096, .f32⟩
  | .hbm, ⟨76, _⟩ => ⟨S1x8192x4096, .f32⟩
  | .hbm, ⟨77, _⟩ => ⟨S1x8192x4096, .f32⟩
  | .hbm, ⟨78, _⟩ => ⟨S1x1x4096, .f32⟩
  | .hbm, ⟨79, _⟩ => ⟨S1x8192x4096, .f32⟩
  | .hbm, ⟨80, _⟩ => ⟨S1x8192x4096, .f32⟩
  | .hbm, ⟨81, _⟩ => ⟨S_, .f32⟩
  | .hbm, ⟨82, _⟩ => ⟨S1x1x4096, .f32⟩
  | .hbm, ⟨83, _⟩ => ⟨S1x1x4096, .f32⟩
  | .hbm, ⟨84, _⟩ => ⟨S1x8192x4096, .f32⟩
  | .hbm, ⟨85, _⟩ => ⟨S1x8192x4096, .f32⟩
  | .hbm, ⟨86, _⟩ => ⟨S1x8192x4096, .f32⟩
  | .hbm, ⟨87, _⟩ => ⟨S1x8192x4096, .f32⟩
  | .hbm, ⟨88, _⟩ => ⟨S8192x4096, .f32⟩
  | .hbm, ⟨89, _⟩ => ⟨S4096x2048, .f32⟩
  | .hbm, ⟨90, _⟩ => ⟨S8192x4096, .bf16⟩
  | .hbm, ⟨91, _⟩ => ⟨S4096x2048, .bf16⟩
  | .hbm, ⟨92, _⟩ => ⟨S8192x2048, .f32⟩
  | .local _ .vmem, ⟨0, _⟩ => ⟨S512x2048, .bf16⟩
  | .local _ .vmem, ⟨1, _⟩ => ⟨S512x2048, .bf16⟩
  | .local _ .vmem, ⟨2, _⟩ => ⟨S2048x512, .bf16⟩
  | .local _ .vmem, ⟨3, _⟩ => ⟨S2048x512, .bf16⟩
  | .local _ .vmem, ⟨4, _⟩ => ⟨S512x512, .f32⟩
  | .local _ .vmem, ⟨5, _⟩ => ⟨S512x512, .f32⟩
  | .local _ .vmem, ⟨6, _⟩ => ⟨S512x2048, .bf16⟩
  | .local _ .vmem, ⟨7, _⟩ => ⟨S512x2048, .bf16⟩
  | .local _ .vmem, ⟨8, _⟩ => ⟨S2048x512, .bf16⟩
  | .local _ .vmem, ⟨9, _⟩ => ⟨S2048x512, .bf16⟩
  | .local _ .vmem, ⟨10, _⟩ => ⟨S512x512, .f32⟩
  | .local _ .vmem, ⟨11, _⟩ => ⟨S512x512, .f32⟩
  | .local _ .vmem, ⟨12, _⟩ => ⟨S512x4096, .bf16⟩
  | .local _ .vmem, ⟨13, _⟩ => ⟨S512x4096, .bf16⟩
  | .local _ .vmem, ⟨14, _⟩ => ⟨S4096x512, .bf16⟩
  | .local _ .vmem, ⟨15, _⟩ => ⟨S4096x512, .bf16⟩
  | .local _ .vmem, ⟨16, _⟩ => ⟨S512x512, .f32⟩
  | .local _ .vmem, ⟨17, _⟩ => ⟨S512x512, .f32⟩
  | .local _ .vmem, ⟨18, _⟩ => ⟨S512x4096, .bf16⟩
  | .local _ .vmem, ⟨19, _⟩ => ⟨S512x4096, .bf16⟩
  | .local _ .vmem, ⟨20, _⟩ => ⟨S4096x512, .bf16⟩
  | .local _ .vmem, ⟨21, _⟩ => ⟨S4096x512, .bf16⟩
  | .local _ .vmem, ⟨22, _⟩ => ⟨S512x512, .f32⟩
  | .local _ .vmem, ⟨23, _⟩ => ⟨S512x512, .f32⟩
  | _, _ => ⟨S1x8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | _, _ => false

abbrev semScoped : Fin 0 → Bool
  | ⟨_, h⟩ => absurd h (Nat.not_lt_zero _)

abbrev dmaSemScoped : Fin 24 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | _ => false

abbrev sig : RefSig :=
  ofTc nBuf bufTy 0 24 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_cst : Ref sig .tc := ⟨.hbm, 13, rfl⟩
abbrev main_v0 : Ref sig .tc := ⟨.hbm, 14, rfl⟩
abbrev main_v1 : Ref sig .tc := ⟨.hbm, 15, rfl⟩
abbrev main_v2 : Ref sig .tc := ⟨.hbm, 16, rfl⟩
abbrev main_v3 : Ref sig .tc := ⟨.hbm, 17, rfl⟩
abbrev main_v4 : Ref sig .tc := ⟨.hbm, 18, rfl⟩
abbrev main_v5 : Ref sig .tc := ⟨.hbm, 19, rfl⟩
abbrev main_v6 : Ref sig .tc := ⟨.hbm, 20, rfl⟩
abbrev main_cst_0 : Ref sig .tc := ⟨.hbm, 21, rfl⟩
abbrev main_v7 : Ref sig .tc := ⟨.hbm, 22, rfl⟩
abbrev main_v8 : Ref sig .tc := ⟨.hbm, 23, rfl⟩
abbrev main_cst_1 : Ref sig .tc := ⟨.hbm, 24, rfl⟩
abbrev main_v9 : Ref sig .tc := ⟨.hbm, 25, rfl⟩
abbrev main_v10 : Ref sig .tc := ⟨.hbm, 26, rfl⟩
abbrev main_v11 : Ref sig .tc := ⟨.hbm, 27, rfl⟩
abbrev main_v12 : Ref sig .tc := ⟨.hbm, 28, rfl⟩
abbrev main_v13 : Ref sig .tc := ⟨.hbm, 29, rfl⟩
abbrev main_v14 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_v24 : Ref sig .tc := ⟨.hbm, 40, rfl⟩
abbrev main_v25 : Ref sig .tc := ⟨.hbm, 41, rfl⟩
abbrev main_v26 : Ref sig .tc := ⟨.hbm, 42, rfl⟩
abbrev main_v27 : Ref sig .tc := ⟨.hbm, 43, rfl⟩
abbrev main_v28 : Ref sig .tc := ⟨.hbm, 44, rfl⟩
abbrev main_v29 : Ref sig .tc := ⟨.hbm, 45, rfl⟩
abbrev main_v30 : Ref sig .tc := ⟨.hbm, 46, rfl⟩
abbrev main_v31 : Ref sig .tc := ⟨.hbm, 47, rfl⟩
abbrev main_v32 : Ref sig .tc := ⟨.hbm, 48, rfl⟩
abbrev main_v33 : Ref sig .tc := ⟨.hbm, 49, rfl⟩
abbrev main_v34 : Ref sig .tc := ⟨.hbm, 50, rfl⟩
abbrev main_v35 : Ref sig .tc := ⟨.hbm, 51, rfl⟩
abbrev main_cst_2 : Ref sig .tc := ⟨.hbm, 52, rfl⟩
abbrev main_v36 : Ref sig .tc := ⟨.hbm, 53, rfl⟩
abbrev main_v37 : Ref sig .tc := ⟨.hbm, 54, rfl⟩
abbrev main_cst_3 : Ref sig .tc := ⟨.hbm, 55, rfl⟩
abbrev main_v38 : Ref sig .tc := ⟨.hbm, 56, rfl⟩
abbrev main_v39 : Ref sig .tc := ⟨.hbm, 57, rfl⟩
abbrev main_v40 : Ref sig .tc := ⟨.hbm, 58, rfl⟩
abbrev main_v41 : Ref sig .tc := ⟨.hbm, 59, rfl⟩
abbrev main_v42 : Ref sig .tc := ⟨.hbm, 60, rfl⟩
abbrev main_cst_4 : Ref sig .tc := ⟨.hbm, 61, rfl⟩
abbrev main_v43 : Ref sig .tc := ⟨.hbm, 62, rfl⟩
abbrev main_v44 : Ref sig .tc := ⟨.hbm, 63, rfl⟩
abbrev main_cst_5 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_cst_6 : Ref sig .tc := ⟨.hbm, 69, rfl⟩
abbrev main_v49 : Ref sig .tc := ⟨.hbm, 70, rfl⟩
abbrev main_v50 : Ref sig .tc := ⟨.hbm, 71, rfl⟩
abbrev main_v51 : Ref sig .tc := ⟨.hbm, 72, rfl⟩
abbrev main_v52 : Ref sig .tc := ⟨.hbm, 73, rfl⟩
abbrev main_v53 : Ref sig .tc := ⟨.hbm, 74, rfl⟩
abbrev main_v54 : Ref sig .tc := ⟨.hbm, 75, rfl⟩
abbrev main_v55 : Ref sig .tc := ⟨.hbm, 76, rfl⟩
abbrev main_v56 : Ref sig .tc := ⟨.hbm, 77, rfl⟩
abbrev main_v57 : Ref sig .tc := ⟨.hbm, 78, rfl⟩
abbrev main_v58 : Ref sig .tc := ⟨.hbm, 79, rfl⟩
abbrev main_v59 : Ref sig .tc := ⟨.hbm, 80, rfl⟩
abbrev main_cst_7 : Ref sig .tc := ⟨.hbm, 81, rfl⟩
abbrev main_v60 : Ref sig .tc := ⟨.hbm, 82, rfl⟩
abbrev main_v61 : Ref sig .tc := ⟨.hbm, 83, rfl⟩
abbrev main_v62 : Ref sig .tc := ⟨.hbm, 84, rfl⟩
abbrev main_v63 : Ref sig .tc := ⟨.hbm, 85, rfl⟩
abbrev main_v64 : Ref sig .tc := ⟨.hbm, 86, rfl⟩
abbrev main_v65 : Ref sig .tc := ⟨.hbm, 87, rfl⟩
abbrev main_v66 : Ref sig .tc := ⟨.hbm, 88, rfl⟩
abbrev main_v67 : Ref sig .tc := ⟨.hbm, 89, rfl⟩
abbrev main_v68 : Ref sig .tc := ⟨.hbm, 90, rfl⟩
abbrev main_v69 : Ref sig .tc := ⟨.hbm, 91, rfl⟩
abbrev main_v70 : Ref sig .tc := ⟨.hbm, 92, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc1_stg0_0 : Ref sig .tc := ⟨.vmem, 6, rfl⟩
abbrev cc1_stg0_1 : Ref sig .tc := ⟨.vmem, 7, rfl⟩
abbrev cc1_stg1_0 : Ref sig .tc := ⟨.vmem, 8, rfl⟩
abbrev cc1_stg1_1 : Ref sig .tc := ⟨.vmem, 9, rfl⟩
abbrev cc1_stg2_0 : Ref sig .tc := ⟨.vmem, 10, rfl⟩
abbrev cc1_stg2_1 : Ref sig .tc := ⟨.vmem, 11, rfl⟩
abbrev cc2_stg0_0 : Ref sig .tc := ⟨.vmem, 12, rfl⟩
abbrev cc2_stg0_1 : Ref sig .tc := ⟨.vmem, 13, rfl⟩
abbrev cc2_stg1_0 : Ref sig .tc := ⟨.vmem, 14, rfl⟩
abbrev cc2_stg1_1 : Ref sig .tc := ⟨.vmem, 15, rfl⟩
abbrev cc2_stg2_0 : Ref sig .tc := ⟨.vmem, 16, rfl⟩
abbrev cc2_stg2_1 : Ref sig .tc := ⟨.vmem, 17, rfl⟩
abbrev cc3_stg0_0 : Ref sig .tc := ⟨.vmem, 18, rfl⟩
abbrev cc3_stg0_1 : Ref sig .tc := ⟨.vmem, 19, rfl⟩
abbrev cc3_stg1_0 : Ref sig .tc := ⟨.vmem, 20, rfl⟩
abbrev cc3_stg1_1 : Ref sig .tc := ⟨.vmem, 21, rfl⟩
abbrev cc3_stg2_0 : Ref sig .tc := ⟨.vmem, 22, rfl⟩
abbrev cc3_stg2_1 : Ref sig .tc := ⟨.vmem, 23, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc1_sem0_0 : DmaSem sig := 6
abbrev cc1_sem0_1 : DmaSem sig := 7
abbrev cc1_sem1_0 : DmaSem sig := 8
abbrev cc1_sem1_1 : DmaSem sig := 9
abbrev cc1_sem2_0 : DmaSem sig := 10
abbrev cc1_sem2_1 : DmaSem sig := 11
abbrev cc2_sem0_0 : DmaSem sig := 12
abbrev cc2_sem0_1 : DmaSem sig := 13
abbrev cc2_sem1_0 : DmaSem sig := 14
abbrev cc2_sem1_1 : DmaSem sig := 15
abbrev cc2_sem2_0 : DmaSem sig := 16
abbrev cc2_sem2_1 : DmaSem sig := 17
abbrev cc3_sem0_0 : DmaSem sig := 18
abbrev cc3_sem0_1 : DmaSem sig := 19
abbrev cc3_sem1_0 : DmaSem sig := 20
abbrev cc3_sem1_1 : DmaSem sig := 21
abbrev cc3_sem2_0 : DmaSem sig := 22
abbrev cc3_sem2_1 : DmaSem sig := 23

abbrev nD : Nat := 1
abbrev τ : Topo := Topo.v7x

variable {F : FTy → Type} [FloatOps F]

abbrev grid0 : Pipeline.Grid := ⟨2, ![16, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S2048x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev grid1 : Pipeline.Grid := ⟨2, ![16, 8], ![false, false]⟩

def cc1_transform_0 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage1_0 : Fin 2 → Memref sig .tc .vmem S512x2048 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S2048x512 .bf16 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![false, true]

abbrev stage1_2 : Fin 2 → Memref sig .tc .vmem S512x512 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true]

abbrev grid2 : Pipeline.Grid := ⟨2, ![16, 8], ![false, false]⟩

def cc2_transform_0 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc2_transform_2 (i : grid2.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage2_0 : Fin 2 → Memref sig .tc .vmem S512x4096 .bf16 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true, false]

abbrev stage2_1 : Fin 2 → Memref sig .tc .vmem S4096x512 .bf16 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![false, true]

abbrev stage2_2 : Fin 2 → Memref sig .tc .vmem S512x512 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true, true]

abbrev grid3 : Pipeline.Grid := ⟨2, ![16, 4], ![false, false]⟩

def cc3_transform_0 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc3_transform_2 (i : grid3.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage3_0 : Fin 2 → Memref sig .tc .vmem S512x4096 .bf16 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true, false]

abbrev stage3_1 : Fin 2 → Memref sig .tc .vmem S4096x512 .bf16 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![false, true]

abbrev stage3_2 : Fin 2 → Memref sig .tc .vmem S512x512 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true, true]
-- ==== Reference3Ideal.lean ====
abbrev S1x8192x4096 : Shape := ⟨3, ![1, 8192, 4096]⟩
abbrev S1x1x4096 : Shape := ⟨3, ![1, 1, 4096]⟩
abbrev S1x8192x2048 : Shape := ⟨3, ![1, 8192, 2048]⟩
abbrev S1x8192x8192 : Shape := ⟨3, ![1, 8192, 8192]⟩
abbrev S1x2048x4096 : Shape := ⟨3, ![1, 2048, 4096]⟩
abbrev S1x4096x4096 : Shape := ⟨3, ![1, 4096, 4096]⟩
abbrev S1x4096 : Shape := ⟨2, ![1, 4096]⟩
abbrev S1x4096x2048 : Shape := ⟨3, ![1, 4096, 2048]⟩
abbrev S_ : Shape := ⟨0, ![]⟩
abbrev S2048x4096 : Shape := ⟨2, ![2048, 4096]⟩
abbrev S4096x4096 : Shape := ⟨2, ![4096, 4096]⟩
abbrev S4096 : Shape := ⟨1, ![4096]⟩
abbrev S1x8192 : Shape := ⟨2, ![1, 8192]⟩
abbrev S1x8192x1 : Shape := ⟨3, ![1, 8192, 1]⟩
abbrev S8192x4096 : Shape := ⟨2, ![8192, 4096]⟩
abbrev S4096x2048 : Shape := ⟨2, ![4096, 2048]⟩
abbrev S8192x2048 : Shape := ⟨2, ![8192, 2048]⟩

abbrev nBuf : Space → Nat
  | .hbm => 79
  | .vmem => 0
  | .smem => 0
  | _ => 0

abbrev bufTy : (tb : Table) → Fin (tcTables nBuf tb) → BufTy
  | .hbm, ⟨0, _⟩ => ⟨S1x8192x4096, .f32⟩
  | .hbm, ⟨1, _⟩ => ⟨S1x1x4096, .f32⟩
  | .hbm, ⟨2, _⟩ => ⟨S1x1x4096, .f32⟩
  | .hbm, ⟨3, _⟩ => ⟨S1x1x4096, .f32⟩
  | .hbm, ⟨4, _⟩ => ⟨S1x8192x2048, .f32⟩
  | .hbm, ⟨5, _⟩ => ⟨S1x8192x2048, .f32⟩
  | .hbm, ⟨6, _⟩ => ⟨S1x8192x8192, .f32⟩
  | .hbm, ⟨7, _⟩ => ⟨S1x2048x4096, .f32⟩
  | .hbm, ⟨8, _⟩ => ⟨S1x2048x4096, .f32⟩
  | .hbm, ⟨9, _⟩ => ⟨S1x4096x4096, .f32⟩
  | .hbm, ⟨10, _⟩ => ⟨S1x4096, .f32⟩
  | .hbm, ⟨11, _⟩ => ⟨S1x4096, .f32⟩
  | .hbm, ⟨12, _⟩ => ⟨S1x4096x2048, .f32⟩
  | .hbm, ⟨13, _⟩ => ⟨S1x8192x8192, .f32⟩
  | .hbm, ⟨14, _⟩ => ⟨S1x8192x8192, .f32⟩
  | .hbm, ⟨15, _⟩ => ⟨S_, .f32⟩
  | .hbm, ⟨16, _⟩ => ⟨S1x8192x8192, .f32⟩
  | .hbm, ⟨17, _⟩ => ⟨S1x8192x8192, .f32⟩
  | .hbm, ⟨18, _⟩ => ⟨S_, .f32⟩
  | .hbm, ⟨19, _⟩ => ⟨S1x8192x8192, .f32⟩
  | .hbm, ⟨20, _⟩ => ⟨S1x8192x8192, .f32⟩
  | .hbm, ⟨21, _⟩ => ⟨S1x8192x4096, .f32⟩
  | .hbm, ⟨22, _⟩ => ⟨S1x8192x4096, .f32⟩
  | .hbm, ⟨23, _⟩ => ⟨S2048x4096, .f32⟩
  | .hbm, ⟨24, _⟩ => ⟨S1x8192x4096, .f32⟩
  | .hbm, ⟨25, _⟩ => ⟨S1x8192x4096, .f32⟩
  | .hbm, ⟨26, _⟩ => ⟨S2048x4096, .f32⟩
  | .hbm, ⟨27, _⟩ => ⟨S1x8192x4096, .f32⟩
  | .hbm, ⟨28, _⟩ => ⟨S1x8192x4096, .f32⟩
  | .hbm, ⟨29, _⟩ => ⟨S1x8192x4096, .f32⟩
  | .hbm, ⟨30, _⟩ => ⟨S_, .f32⟩
  | .hbm, ⟨31, _⟩ => ⟨S1x8192x4096, .f32⟩
  | .hbm, ⟨32, _⟩ => ⟨S1x8192x4096, .f32⟩
  | .hbm, ⟨33, _⟩ => ⟨S4096x4096, .f32⟩
  | .hbm, ⟨34, _⟩ => ⟨S1x8192x4096, .f32⟩
  | .hbm, ⟨35, _⟩ => ⟨S1x8192x4096, .f32⟩
  | .hbm, ⟨36, _⟩ => ⟨S1x8192x4096, .f32⟩
  | .hbm, ⟨37, _⟩ => ⟨S1x8192x4096, .f32⟩
  | .hbm, ⟨38, _⟩ => ⟨S4096, .f32⟩
  | .hbm, ⟨39, _⟩ => ⟨S4096, .f32⟩
  | .hbm, ⟨40, _⟩ => ⟨S_, .f32⟩
  | .hbm, ⟨41, _⟩ => ⟨S1x8192, .f32⟩
  | .hbm, ⟨42, _⟩ => ⟨S1x8192x1, .f32⟩
  | .hbm, ⟨43, _⟩ => ⟨S_, .f32⟩
  | .hbm, ⟨44, _⟩ => ⟨S1x8192x1, .f32⟩
  | .hbm, ⟨45, _⟩ => ⟨S1x8192x1, .f32⟩
  | .hbm, ⟨46, _⟩ => ⟨S1x8192x4096, .f32⟩
  | .hbm, ⟨47, _⟩ => ⟨S1x8192x4096, .f32⟩
  | .hbm, ⟨48, _⟩ => ⟨S1x8192x4096, .f32⟩
  | .hbm, ⟨49, _⟩ => ⟨S_, .f32⟩
  | .hbm, ⟨50, _⟩ => ⟨S1x8192, .f32⟩
  | .hbm, ⟨51, _⟩ => ⟨S1x8192x1, .f32⟩
  | .hbm, ⟨52, _⟩ => ⟨S_, .f32⟩
  | .hbm, ⟨53, _⟩ => ⟨S1x8192x1, .f32⟩
  | .hbm, ⟨54, _⟩ => ⟨S1x8192x1, .f32⟩
  | .hbm, ⟨55, _⟩ => ⟨S1x8192x4096, .f32⟩
  | .hbm, ⟨56, _⟩ => ⟨S1x8192x4096, .f32⟩
  | .hbm, ⟨57, _⟩ => ⟨S_, .f32⟩
  | .hbm, ⟨58, _⟩ => ⟨S1x8192x1, .f32⟩
  | .hbm, ⟨59, _⟩ => ⟨S1x8192x1, .f32⟩
  | .hbm, ⟨60, _⟩ => ⟨S1x8192x1, .f32⟩
  | .hbm, ⟨61, _⟩ => ⟨S1x8192x4096, .f32⟩
  | .hbm, ⟨62, _⟩ => ⟨S1x8192x4096, .f32⟩
  | .hbm, ⟨63, _⟩ => ⟨S1x1x4096, .f32⟩
  | .hbm, ⟨64, _⟩ => ⟨S1x8192x4096, .f32⟩
  | .hbm, ⟨65, _⟩ => ⟨S1x8192x4096, .f32⟩
  | .hbm, ⟨66, _⟩ => ⟨S1x1x4096, .f32⟩
  | .hbm, ⟨67, _⟩ => ⟨S1x8192x4096, .f32⟩
  | .hbm, ⟨68, _⟩ => ⟨S1x8192x4096, .f32⟩
  | .hbm, ⟨69, _⟩ => ⟨S_, .f32⟩
  | .hbm, ⟨70, _⟩ => ⟨S1x1x4096, .f32⟩
  | .hbm, ⟨71, _⟩ => ⟨S1x1x4096, .f32⟩
  | .hbm, ⟨72, _⟩ => ⟨S1x8192x4096, .f32⟩
  | .hbm, ⟨73, _⟩ => ⟨S1x8192x4096, .f32⟩
  | .hbm, ⟨74, _⟩ => ⟨S1x8192x4096, .f32⟩
  | .hbm, ⟨75, _⟩ => ⟨S1x8192x4096, .f32⟩
  | .hbm, ⟨76, _⟩ => ⟨S8192x4096, .f32⟩
  | .hbm, ⟨77, _⟩ => ⟨S4096x2048, .f32⟩
  | .hbm, ⟨78, _⟩ => ⟨S8192x2048, .f32⟩
  | _, _ => ⟨S1x8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_v0 : Ref sig .tc := ⟨.hbm, 13, rfl⟩
abbrev main_v1 : Ref sig .tc := ⟨.hbm, 14, rfl⟩
abbrev main_cst : Ref sig .tc := ⟨.hbm, 15, rfl⟩
abbrev main_v2 : Ref sig .tc := ⟨.hbm, 16, rfl⟩
abbrev main_v3 : Ref sig .tc := ⟨.hbm, 17, rfl⟩
abbrev main_cst_0 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_cst_1 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_v20 : Ref sig .tc := ⟨.hbm, 36, rfl⟩
abbrev main_v21 : Ref sig .tc := ⟨.hbm, 37, rfl⟩
abbrev main_v22 : Ref sig .tc := ⟨.hbm, 38, rfl⟩
abbrev main_v23 : Ref sig .tc := ⟨.hbm, 39, rfl⟩
abbrev main_cst_2 : Ref sig .tc := ⟨.hbm, 40, rfl⟩
abbrev main_v24 : Ref sig .tc := ⟨.hbm, 41, rfl⟩
abbrev main_v25 : Ref sig .tc := ⟨.hbm, 42, rfl⟩
abbrev main_cst_3 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_cst_4 : Ref sig .tc := ⟨.hbm, 49, rfl⟩
abbrev main_v31 : Ref sig .tc := ⟨.hbm, 50, rfl⟩
abbrev main_v32 : Ref sig .tc := ⟨.hbm, 51, rfl⟩
abbrev main_cst_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_cst_6 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_v40 : Ref sig .tc := ⟨.hbm, 61, rfl⟩
abbrev main_v41 : Ref sig .tc := ⟨.hbm, 62, rfl⟩
abbrev main_v42 : Ref sig .tc := ⟨.hbm, 63, rfl⟩
abbrev main_v43 : Ref sig .tc := ⟨.hbm, 64, rfl⟩
abbrev main_v44 : Ref sig .tc := ⟨.hbm, 65, rfl⟩
abbrev main_v45 : Ref sig .tc := ⟨.hbm, 66, rfl⟩
abbrev main_v46 : Ref sig .tc := ⟨.hbm, 67, rfl⟩
abbrev main_v47 : Ref sig .tc := ⟨.hbm, 68, rfl⟩
abbrev main_cst_7 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩

abbrev nD : Nat := 1
abbrev τ : Topo := Topo.v7x

variable {F : FTy → Type} [FloatOps F]
-- ==== Kernel4.lean ====
abbrev S1x4096 : Shape := ⟨2, ![1, 4096]⟩
abbrev S128x4096 : Shape := ⟨2, ![128, 4096]⟩
abbrev S1x4096x24576 : Shape := ⟨3, ![1, 4096, 24576]⟩
abbrev S1x24576 : Shape := ⟨2, ![1, 24576]⟩
abbrev S4096x24576 : Shape := ⟨2, ![4096, 24576]⟩
abbrev S24576 : Shape := ⟨1, ![24576]⟩
abbrev S129x4096 : Shape := ⟨2, ![129, 4096]⟩
abbrev S_ : Shape := ⟨0, ![]⟩
abbrev S144x4096 : Shape := ⟨2, ![144, 4096]⟩
abbrev S144x24576 : Shape := ⟨2, ![144, 24576]⟩
abbrev S4096x1024 : Shape := ⟨2, ![4096, 1024]⟩
abbrev S144x1024 : Shape := ⟨2, ![144, 1024]⟩
abbrev S129x24576 : Shape := ⟨2, ![129, 24576]⟩
abbrev S1x1x24576 : Shape := ⟨3, ![1, 1, 24576]⟩
abbrev S1x1x4096 : Shape := ⟨3, ![1, 1, 4096]⟩
abbrev S128x24576 : Shape := ⟨2, ![128, 24576]⟩
abbrev S128x1x24576 : Shape := ⟨3, ![128, 1, 24576]⟩
abbrev S128x1x4096 : Shape := ⟨3, ![128, 1, 4096]⟩

abbrev nBuf : Space → Nat
  | .hbm => 42
  | .vmem => 5
  | .smem => 0
  | _ => 0

abbrev bufTy : (tb : Table) → Fin (tcTables nBuf tb) → BufTy
  | .hbm, ⟨0, _⟩ => ⟨S1x4096, .f32⟩
  | .hbm, ⟨1, _⟩ => ⟨S128x4096, .f32⟩
  | .hbm, ⟨2, _⟩ => ⟨S1x4096x24576, .f32⟩
  | .hbm, ⟨3, _⟩ => ⟨S1x24576, .f32⟩
  | .hbm, ⟨4, _⟩ => ⟨S4096x24576, .f32⟩
  | .hbm, ⟨5, _⟩ => ⟨S24576, .f32⟩
  | .hbm, ⟨6, _⟩ => ⟨S129x4096, .f32⟩
  | .hbm, ⟨7, _⟩ => ⟨S129x4096, .f32⟩
  | .hbm, ⟨8, _⟩ => ⟨S129x4096, .f32⟩
  | .hbm, ⟨9, _⟩ => ⟨S_, .f32⟩
  | .hbm, ⟨10, _⟩ => ⟨S129x4096, .f32⟩
  | .hbm, ⟨11, _⟩ => ⟨S129x4096, .f32⟩
  | .hbm, ⟨12, _⟩ => ⟨S_, .f32⟩
  | .hbm, ⟨13, _⟩ => ⟨S129x4096, .f32⟩
  | .hbm, ⟨14, _⟩ => ⟨S129x4096, .f32⟩
  | .hbm, ⟨15, _⟩ => ⟨S129x4096, .f32⟩
  | .hbm, ⟨16, _⟩ => ⟨S129x4096, .bf16⟩
  | .hbm, ⟨17, _⟩ => ⟨S4096x24576, .bf16⟩
  | .hbm, ⟨18, _⟩ => ⟨S_, .i32⟩
  | .hbm, ⟨19, _⟩ => ⟨S_, .bf16⟩
  | .hbm, ⟨20, _⟩ => ⟨S144x4096, .bf16⟩
  | .hbm, ⟨21, _⟩ => ⟨S144x24576, .f32⟩
  | .hbm, ⟨22, _⟩ => ⟨S129x24576, .f32⟩
  | .hbm, ⟨23, _⟩ => ⟨S1x24576, .f32⟩
  | .hbm, ⟨24, _⟩ => ⟨S129x24576, .f32⟩
  | .hbm, ⟨25, _⟩ => ⟨S129x24576, .f32⟩
  | .hbm, ⟨26, _⟩ => ⟨S1x24576, .f32⟩
  | .hbm, ⟨27, _⟩ => ⟨S1x1x24576, .f32⟩
  | .hbm, ⟨28, _⟩ => ⟨S1x1x4096, .f32⟩
  | .hbm, ⟨29, _⟩ => ⟨S1x1x4096, .f32⟩
  | .hbm, ⟨30, _⟩ => ⟨S1x1x4096, .f32⟩
  | .hbm, ⟨31, _⟩ => ⟨S1x1x4096, .f32⟩
  | .hbm, ⟨32, _⟩ => ⟨S1x1x4096, .f32⟩
  | .hbm, ⟨33, _⟩ => ⟨S1x1x4096, .f32⟩
  | .hbm, ⟨34, _⟩ => ⟨S128x24576, .f32⟩
  | .hbm, ⟨35, _⟩ => ⟨S128x1x24576, .f32⟩
  | .hbm, ⟨36, _⟩ => ⟨S128x1x4096, .f32⟩
  | .hbm, ⟨37, _⟩ => ⟨S128x1x4096, .f32⟩
  | .hbm, ⟨38, _⟩ => ⟨S128x1x4096, .f32⟩
  | .hbm, ⟨39, _⟩ => ⟨S128x1x4096, .f32⟩
  | .hbm, ⟨40, _⟩ => ⟨S128x1x4096, .f32⟩
  | .hbm, ⟨41, _⟩ => ⟨S128x1x4096, .f32⟩
  | .local _ .vmem, ⟨0, _⟩ => ⟨S144x4096, .bf16⟩
  | .local _ .vmem, ⟨1, _⟩ => ⟨S4096x1024, .bf16⟩
  | .local _ .vmem, ⟨2, _⟩ => ⟨S4096x1024, .bf16⟩
  | .local _ .vmem, ⟨3, _⟩ => ⟨S144x1024, .f32⟩
  | .local _ .vmem, ⟨4, _⟩ => ⟨S144x1024, .f32⟩
  | _, _ => ⟨S1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_call0_v0 : Ref sig .tc := ⟨.hbm, 7, rfl⟩
abbrev main_call0_v1 : Ref sig .tc := ⟨.hbm, 8, rfl⟩
abbrev main_call0_cst : Ref sig .tc := ⟨.hbm, 9, rfl⟩
abbrev main_call0_v2 : Ref sig .tc := ⟨.hbm, 10, rfl⟩
abbrev main_call0_v3 : Ref sig .tc := ⟨.hbm, 11, rfl⟩
abbrev main_call0_cst_0 : Ref sig .tc := ⟨.hbm, 12, rfl⟩
abbrev main_call0_v4 : Ref sig .tc := ⟨.hbm, 13, rfl⟩
abbrev main_call0_v5 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_c : Ref sig .tc := ⟨.hbm, 18, rfl⟩
abbrev main_call1_v0 : Ref sig .tc := ⟨.hbm, 19, rfl⟩
abbrev main_v6 : Ref sig .tc := ⟨.hbm, 20, rfl⟩
abbrev main_v7 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_v13 : Ref sig .tc := ⟨.hbm, 27, rfl⟩
abbrev main_v14 : Ref sig .tc := ⟨.hbm, 28, rfl⟩
abbrev main_v15 : Ref sig .tc := ⟨.hbm, 29, rfl⟩
abbrev main_v16 : Ref sig .tc := ⟨.hbm, 30, rfl⟩
abbrev main_v17 : Ref sig .tc := ⟨.hbm, 31, rfl⟩
abbrev main_v18 : Ref sig .tc := ⟨.hbm, 32, rfl⟩
abbrev main_v19 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_v24 : Ref sig .tc := ⟨.hbm, 38, rfl⟩
abbrev main_v25 : Ref sig .tc := ⟨.hbm, 39, rfl⟩
abbrev main_v26 : Ref sig .tc := ⟨.hbm, 40, rfl⟩
abbrev main_v27 : Ref sig .tc := ⟨.hbm, 41, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 24], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S144x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S144x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S1x4096 : Shape := ⟨2, ![1, 4096]⟩
abbrev S128x4096 : Shape := ⟨2, ![128, 4096]⟩
abbrev S1x4096x24576 : Shape := ⟨3, ![1, 4096, 24576]⟩
abbrev S1x24576 : Shape := ⟨2, ![1, 24576]⟩
abbrev S4096x24576 : Shape := ⟨2, ![4096, 24576]⟩
abbrev S24576 : Shape := ⟨1, ![24576]⟩
abbrev S_ : Shape := ⟨0, ![]⟩
abbrev S1x1x24576 : Shape := ⟨3, ![1, 1, 24576]⟩
abbrev S1x1x4096 : Shape := ⟨3, ![1, 1, 4096]⟩
abbrev S128x24576 : Shape := ⟨2, ![128, 24576]⟩
abbrev S128x1x24576 : Shape := ⟨3, ![128, 1, 24576]⟩
abbrev S128x1x4096 : Shape := ⟨3, ![128, 1, 4096]⟩

abbrev nBuf : Space → Nat
  | .hbm => 47
  | .vmem => 0
  | .smem => 0
  | _ => 0

abbrev bufTy : (tb : Table) → Fin (tcTables nBuf tb) → BufTy
  | .hbm, ⟨0, _⟩ => ⟨S1x4096, .f32⟩
  | .hbm, ⟨1, _⟩ => ⟨S128x4096, .f32⟩
  | .hbm, ⟨2, _⟩ => ⟨S1x4096x24576, .f32⟩
  | .hbm, ⟨3, _⟩ => ⟨S1x24576, .f32⟩
  | .hbm, ⟨4, _⟩ => ⟨S4096x24576, .f32⟩
  | .hbm, ⟨5, _⟩ => ⟨S24576, .f32⟩
  | .hbm, ⟨6, _⟩ => ⟨S1x4096, .f32⟩
  | .hbm, ⟨7, _⟩ => ⟨S1x4096, .f32⟩
  | .hbm, ⟨8, _⟩ => ⟨S_, .f32⟩
  | .hbm, ⟨9, _⟩ => ⟨S1x4096, .f32⟩
  | .hbm, ⟨10, _⟩ => ⟨S1x4096, .f32⟩
  | .hbm, ⟨11, _⟩ => ⟨S_, .f32⟩
  | .hbm, ⟨12, _⟩ => ⟨S1x4096, .f32⟩
  | .hbm, ⟨13, _⟩ => ⟨S1x4096, .f32⟩
  | .hbm, ⟨14, _⟩ => ⟨S1x4096, .f32⟩
  | .hbm, ⟨15, _⟩ => ⟨S1x24576, .f32⟩
  | .hbm, ⟨16, _⟩ => ⟨S1x24576, .f32⟩
  | .hbm, ⟨17, _⟩ => ⟨S1x24576, .f32⟩
  | .hbm, ⟨18, _⟩ => ⟨S1x1x24576, .f32⟩
  | .hbm, ⟨19, _⟩ => ⟨S1x1x4096, .f32⟩
  | .hbm, ⟨20, _⟩ => ⟨S1x1x4096, .f32⟩
  | .hbm, ⟨21, _⟩ => ⟨S1x1x4096, .f32⟩
  | .hbm, ⟨22, _⟩ => ⟨S1x1x4096, .f32⟩
  | .hbm, ⟨23, _⟩ => ⟨S1x1x4096, .f32⟩
  | .hbm, ⟨24, _⟩ => ⟨S1x1x4096, .f32⟩
  | .hbm, ⟨25, _⟩ => ⟨S4096x24576, .f32⟩
  | .hbm, ⟨26, _⟩ => ⟨S24576, .f32⟩
  | .hbm, ⟨27, _⟩ => ⟨S128x4096, .f32⟩
  | .hbm, ⟨28, _⟩ => ⟨S128x4096, .f32⟩
  | .hbm, ⟨29, _⟩ => ⟨S_, .f32⟩
  | .hbm, ⟨30, _⟩ => ⟨S128x4096, .f32⟩
  | .hbm, ⟨31, _⟩ => ⟨S128x4096, .f32⟩
  | .hbm, ⟨32, _⟩ => ⟨S_, .f32⟩
  | .hbm, ⟨33, _⟩ => ⟨S128x4096, .f32⟩
  | .hbm, ⟨34, _⟩ => ⟨S128x4096, .f32⟩
  | .hbm, ⟨35, _⟩ => ⟨S128x4096, .f32⟩
  | .hbm, ⟨36, _⟩ => ⟨S128x24576, .f32⟩
  | .hbm, ⟨37, _⟩ => ⟨S1x24576, .f32⟩
  | .hbm, ⟨38, _⟩ => ⟨S128x24576, .f32⟩
  | .hbm, ⟨39, _⟩ => ⟨S128x24576, .f32⟩
  | .hbm, ⟨40, _⟩ => ⟨S128x1x24576, .f32⟩
  | .hbm, ⟨41, _⟩ => ⟨S128x1x4096, .f32⟩
  | .hbm, ⟨42, _⟩ => ⟨S128x1x4096, .f32⟩
  | .hbm, ⟨43, _⟩ => ⟨S128x1x4096, .f32⟩
  | .hbm, ⟨44, _⟩ => ⟨S128x1x4096, .f32⟩
  | .hbm, ⟨45, _⟩ => ⟨S128x1x4096, .f32⟩
  | .hbm, ⟨46, _⟩ => ⟨S128x1x4096, .f32⟩
  | _, _ => ⟨S1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_call0_v0 : Ref sig .tc := ⟨.hbm, 6, rfl⟩
abbrev main_call0_v1 : Ref sig .tc := ⟨.hbm, 7, rfl⟩
abbrev main_call0_cst : Ref sig .tc := ⟨.hbm, 8, rfl⟩
abbrev main_call0_v2 : Ref sig .tc := ⟨.hbm, 9, rfl⟩
abbrev main_call0_v3 : Ref sig .tc := ⟨.hbm, 10, rfl⟩
abbrev main_call0_cst_0 : Ref sig .tc := ⟨.hbm, 11, rfl⟩
abbrev main_call0_v4 : Ref sig .tc := ⟨.hbm, 12, rfl⟩
abbrev main_call0_v5 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_v9 : Ref sig .tc := ⟨.hbm, 21, rfl⟩
abbrev main_v10 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_v14 : Ref sig .tc := ⟨.hbm, 26, rfl⟩
abbrev main_call1_v0 : Ref sig .tc := ⟨.hbm, 27, rfl⟩
abbrev main_call1_v1 : Ref sig .tc := ⟨.hbm, 28, rfl⟩
abbrev main_call1_cst : Ref sig .tc := ⟨.hbm, 29, rfl⟩
abbrev main_call1_v2 : Ref sig .tc := ⟨.hbm, 30, rfl⟩
abbrev main_call1_v3 : Ref sig .tc := ⟨.hbm, 31, rfl⟩
abbrev main_call1_cst_0 : Ref sig .tc := ⟨.hbm, 32, rfl⟩
abbrev main_call1_v4 : Ref sig .tc := ⟨.hbm, 33, rfl⟩
abbrev main_call1_v5 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_v22 : Ref sig .tc := ⟨.hbm, 42, rfl⟩
abbrev main_v23 : Ref sig .tc := ⟨.hbm, 43, rfl⟩
abbrev main_v24 : Ref sig .tc := ⟨.hbm, 44, rfl⟩
abbrev main_v25 : Ref sig .tc := ⟨.hbm, 45, rfl⟩
abbrev main_v26 : Ref sig .tc := ⟨.hbm, 46, rfl⟩

abbrev nD : Nat := 1
abbrev τ : Topo := Topo.v7x

variable {F : FTy → Type} [FloatOps F]
-- ==== Kernel5.lean ====
abbrev S128x1x4096 : Shape := ⟨3, ![128, 1, 4096]⟩
abbrev S1x4096x25184 : Shape := ⟨3, ![1, 4096, 25184]⟩
abbrev S_ : Shape := ⟨0, ![]⟩
abbrev S4096x25184 : Shape := ⟨2, ![4096, 25184]⟩
abbrev S128x4096 : Shape := ⟨2, ![128, 4096]⟩
abbrev S128x25184 : Shape := ⟨2, ![128, 25184]⟩
abbrev S4096x1024 : Shape := ⟨2, ![4096, 1024]⟩
abbrev S128x1024 : Shape := ⟨2, ![128, 1024]⟩
abbrev S128x1x25184 : Shape := ⟨3, ![128, 1, 25184]⟩
abbrev S128x1x6592 : Shape := ⟨3, ![128, 1, 6592]⟩
abbrev S128x1x10400 : Shape := ⟨3, ![128, 1, 10400]⟩
abbrev S128x1x8192 : Shape := ⟨3, ![128, 1, 8192]⟩
abbrev S128x1x2048 : Shape := ⟨3, ![128, 1, 2048]⟩
abbrev S128x1x128 : Shape := ⟨3, ![128, 1, 128]⟩
abbrev S128x1x32 : Shape := ⟨3, ![128, 1, 32]⟩
abbrev S128x1x16x128 : Shape := ⟨4, ![128, 1, 16, 128]⟩
abbrev S128x1x32x128 : Shape := ⟨4, ![128, 1, 32, 128]⟩
abbrev S128x6592 : Shape := ⟨2, ![128, 6592]⟩
abbrev S1x128x1x16x128 : Shape := ⟨5, ![1, 128, 1, 16, 128]⟩
abbrev S1x128x1x128 : Shape := ⟨4, ![1, 128, 1, 128]⟩
abbrev S1x128x6592 : Shape := ⟨3, ![1, 128, 6592]⟩

abbrev nBuf : Space → Nat
  | .hbm => 33
  | .vmem => 5
  | .smem => 0
  | _ => 0

abbrev bufTy : (tb : Table) → Fin (tcTables nBuf tb) → BufTy
  | .hbm, ⟨0, _⟩ => ⟨S128x1x4096, .f32⟩
  | .hbm, ⟨1, _⟩ => ⟨S128x1x4096, .f32⟩
  | .hbm, ⟨2, _⟩ => ⟨S128x1x4096, .f32⟩
  | .hbm, ⟨3, _⟩ => ⟨S1x4096x25184, .f32⟩
  | .hbm, ⟨4, _⟩ => ⟨S_, .f32⟩
  | .hbm, ⟨5, _⟩ => ⟨S128x1x4096, .f32⟩
  | .hbm, ⟨6, _⟩ => ⟨S128x1x4096, .f32⟩
  | .hbm, ⟨7, _⟩ => ⟨S128x1x4096, .f32⟩
  | .hbm, ⟨8, _⟩ => ⟨S128x1x4096, .f32⟩
  | .hbm, ⟨9, _⟩ => ⟨S4096x25184, .f32⟩
  | .hbm, ⟨10, _⟩ => ⟨S128x4096, .f32⟩
  | .hbm, ⟨11, _⟩ => ⟨S128x4096, .bf16⟩
  | .hbm, ⟨12, _⟩ => ⟨S4096x25184, .bf16⟩
  | .hbm, ⟨13, _⟩ => ⟨S128x25184, .f32⟩
  | .hbm, ⟨14, _⟩ => ⟨S128x1x25184, .f32⟩
  | .hbm, ⟨15, _⟩ => ⟨S128x1x6592, .f32⟩
  | .hbm, ⟨16, _⟩ => ⟨S128x1x10400, .f32⟩
  | .hbm, ⟨17, _⟩ => ⟨S128x1x8192, .f32⟩
  | .hbm, ⟨18, _⟩ => ⟨S128x1x2048, .f32⟩
  | .hbm, ⟨19, _⟩ => ⟨S128x1x2048, .f32⟩
  | .hbm, ⟨20, _⟩ => ⟨S128x1x2048, .f32⟩
  | .hbm, ⟨21, _⟩ => ⟨S128x1x4096, .f32⟩
  | .hbm, ⟨22, _⟩ => ⟨S128x1x128, .f32⟩
  | .hbm, ⟨23, _⟩ => ⟨S128x1x32, .f32⟩
  | .hbm, ⟨24, _⟩ => ⟨S128x1x16x128, .f32⟩
  | .hbm, ⟨25, _⟩ => ⟨S128x1x16x128, .f32⟩
  | .hbm, ⟨26, _⟩ => ⟨S128x1x16x128, .f32⟩
  | .hbm, ⟨27, _⟩ => ⟨S128x1x32x128, .f32⟩
  | .hbm, ⟨28, _⟩ => ⟨S128x6592, .f32⟩
  | .hbm, ⟨29, _⟩ => ⟨S1x128x1x16x128, .f32⟩
  | .hbm, ⟨30, _⟩ => ⟨S1x128x1x16x128, .f32⟩
  | .hbm, ⟨31, _⟩ => ⟨S1x128x1x128, .f32⟩
  | .hbm, ⟨32, _⟩ => ⟨S1x128x6592, .f32⟩
  | .local _ .vmem, ⟨0, _⟩ => ⟨S128x4096, .bf16⟩
  | .local _ .vmem, ⟨1, _⟩ => ⟨S4096x1024, .bf16⟩
  | .local _ .vmem, ⟨2, _⟩ => ⟨S4096x1024, .bf16⟩
  | .local _ .vmem, ⟨3, _⟩ => ⟨S128x1024, .f32⟩
  | .local _ .vmem, ⟨4, _⟩ => ⟨S128x1024, .f32⟩
  | _, _ => ⟨S128x1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩
abbrev main_v24 : Ref sig .tc := ⟨.hbm, 29, rfl⟩
abbrev main_v25 : Ref sig .tc := ⟨.hbm, 30, rfl⟩
abbrev main_v26 : Ref sig .tc := ⟨.hbm, 31, rfl⟩
abbrev main_v27 : Ref sig .tc := ⟨.hbm, 32, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 25], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S128x1x4096 : Shape := ⟨3, ![128, 1, 4096]⟩
abbrev S1x4096x25184 : Shape := ⟨3, ![1, 4096, 25184]⟩
abbrev S_ : Shape := ⟨0, ![]⟩
abbrev S4096x25184 : Shape := ⟨2, ![4096, 25184]⟩
abbrev S128x1x25184 : Shape := ⟨3, ![128, 1, 25184]⟩
abbrev S128x1x6592 : Shape := ⟨3, ![128, 1, 6592]⟩
abbrev S128x1x10400 : Shape := ⟨3, ![128, 1, 10400]⟩
abbrev S128x1x8192 : Shape := ⟨3, ![128, 1, 8192]⟩
abbrev S128x1x2048 : Shape := ⟨3, ![128, 1, 2048]⟩
abbrev S128x1x128 : Shape := ⟨3, ![128, 1, 128]⟩
abbrev S128x1x32 : Shape := ⟨3, ![128, 1, 32]⟩
abbrev S128x1x16x128 : Shape := ⟨4, ![128, 1, 16, 128]⟩
abbrev S128x1x32x128 : Shape := ⟨4, ![128, 1, 32, 128]⟩
abbrev S128x6592 : Shape := ⟨2, ![128, 6592]⟩
abbrev S1x128x1x16x128 : Shape := ⟨5, ![1, 128, 1, 16, 128]⟩
abbrev S1x128x1x128 : Shape := ⟨4, ![1, 128, 1, 128]⟩
abbrev S1x128x6592 : Shape := ⟨3, ![1, 128, 6592]⟩

abbrev nBuf : Space → Nat
  | .hbm => 29
  | .vmem => 0
  | .smem => 0
  | _ => 0

abbrev bufTy : (tb : Table) → Fin (tcTables nBuf tb) → BufTy
  | .hbm, ⟨0, _⟩ => ⟨S128x1x4096, .f32⟩
  | .hbm, ⟨1, _⟩ => ⟨S128x1x4096, .f32⟩
  | .hbm, ⟨2, _⟩ => ⟨S128x1x4096, .f32⟩
  | .hbm, ⟨3, _⟩ => ⟨S1x4096x25184, .f32⟩
  | .hbm, ⟨4, _⟩ => ⟨S_, .f32⟩
  | .hbm, ⟨5, _⟩ => ⟨S128x1x4096, .f32⟩
  | .hbm, ⟨6, _⟩ => ⟨S128x1x4096, .f32⟩
  | .hbm, ⟨7, _⟩ => ⟨S128x1x4096, .f32⟩
  | .hbm, ⟨8, _⟩ => ⟨S128x1x4096, .f32⟩
  | .hbm, ⟨9, _⟩ => ⟨S4096x25184, .f32⟩
  | .hbm, ⟨10, _⟩ => ⟨S128x1x25184, .f32⟩
  | .hbm, ⟨11, _⟩ => ⟨S128x1x6592, .f32⟩
  | .hbm, ⟨12, _⟩ => ⟨S128x1x10400, .f32⟩
  | .hbm, ⟨13, _⟩ => ⟨S128x1x8192, .f32⟩
  | .hbm, ⟨14, _⟩ => ⟨S128x1x2048, .f32⟩
  | .hbm, ⟨15, _⟩ => ⟨S128x1x2048, .f32⟩
  | .hbm, ⟨16, _⟩ => ⟨S128x1x2048, .f32⟩
  | .hbm, ⟨17, _⟩ => ⟨S128x1x4096, .f32⟩
  | .hbm, ⟨18, _⟩ => ⟨S128x1x128, .f32⟩
  | .hbm, ⟨19, _⟩ => ⟨S128x1x32, .f32⟩
  | .hbm, ⟨20, _⟩ => ⟨S128x1x16x128, .f32⟩
  | .hbm, ⟨21, _⟩ => ⟨S128x1x16x128, .f32⟩
  | .hbm, ⟨22, _⟩ => ⟨S128x1x16x128, .f32⟩
  | .hbm, ⟨23, _⟩ => ⟨S128x1x32x128, .f32⟩
  | .hbm, ⟨24, _⟩ => ⟨S128x6592, .f32⟩
  | .hbm, ⟨25, _⟩ => ⟨S1x128x1x16x128, .f32⟩
  | .hbm, ⟨26, _⟩ => ⟨S1x128x1x16x128, .f32⟩
  | .hbm, ⟨27, _⟩ => ⟨S1x128x1x128, .f32⟩
  | .hbm, ⟨28, _⟩ => ⟨S1x128x6592, .f32⟩
  | _, _ => ⟨S128x1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩
abbrev main_v15 : Ref sig .tc := ⟨.hbm, 20, rfl⟩
abbrev main_v16 : Ref sig .tc := ⟨.hbm, 21, rfl⟩
abbrev main_v17 : Ref sig .tc := ⟨.hbm, 22, rfl⟩
abbrev main_v18 : Ref sig .tc := ⟨.hbm, 23, rfl⟩
abbrev main_v19 : Ref sig .tc := ⟨.hbm, 24, rfl⟩
abbrev main_v20 : Ref sig .tc := ⟨.hbm, 25, rfl⟩
abbrev main_v21 : Ref sig .tc := ⟨.hbm, 26, rfl⟩
abbrev main_v22 : Ref sig .tc := ⟨.hbm, 27, rfl⟩
abbrev main_v23 : Ref sig .tc := ⟨.hbm, 28, rfl⟩

abbrev nD : Nat := 1
abbrev τ : Topo := Topo.v7x

variable {F : FTy → Type} [FloatOps F]
-- ==== Kernel6.lean ====
abbrev S128x1x4096 : Shape := ⟨3, ![128, 1, 4096]⟩
abbrev S1x128x6592 : Shape := ⟨3, ![1, 128, 6592]⟩
abbrev S1x128x32x64x64 : Shape := ⟨5, ![1, 128, 32, 64, 64]⟩
abbrev S1x4096x25184 : Shape := ⟨3, ![1, 4096, 25184]⟩
abbrev S1x6592 : Shape := ⟨2, ![1, 6592]⟩
abbrev S1x2048 : Shape := ⟨2, ![1, 2048]⟩
abbrev S1x96x2048 : Shape := ⟨3, ![1, 96, 2048]⟩
abbrev S1x32x64 : Shape := ⟨3, ![1, 32, 64]⟩
abbrev S_ : Shape := ⟨0, ![]⟩
abbrev S4096x25184 : Shape := ⟨2, ![4096, 25184]⟩
abbrev S128x4096 : Shape := ⟨2, ![128, 4096]⟩
abbrev S128x25184 : Shape := ⟨2, ![128, 25184]⟩
abbrev S4096x1024 : Shape := ⟨2, ![4096, 1024]⟩
abbrev S128x1024 : Shape := ⟨2, ![128, 1024]⟩
abbrev S128x1x25184 : Shape := ⟨3, ![128, 1, 25184]⟩
abbrev S128x1x6592 : Shape := ⟨3, ![128, 1, 6592]⟩
abbrev S128x1x10400 : Shape := ⟨3, ![128, 1, 10400]⟩
abbrev S128x1x8192 : Shape := ⟨3, ![128, 1, 8192]⟩
abbrev S128x1x2048 : Shape := ⟨3, ![128, 1, 2048]⟩
abbrev S128x1x128 : Shape := ⟨3, ![128, 1, 128]⟩
abbrev S128x1x32 : Shape := ⟨3, ![128, 1, 32]⟩
abbrev S128x1x16x128 : Shape := ⟨4, ![128, 1, 16, 128]⟩
abbrev S128x1x32x128 : Shape := ⟨4, ![128, 1, 32, 128]⟩
abbrev S128x6592 : Shape := ⟨2, ![128, 6592]⟩
abbrev S128x32x64x64 : Shape := ⟨4, ![128, 32, 64, 64]⟩
abbrev S6592 : Shape := ⟨1, ![6592]⟩
abbrev S2048 : Shape := ⟨1, ![2048]⟩
abbrev S96x2048 : Shape := ⟨2, ![96, 2048]⟩
abbrev S32x64 : Shape := ⟨2, ![32, 64]⟩
abbrev S128x0x6592 : Shape := ⟨3, ![128, 0, 6592]⟩
abbrev S1x1x6592 : Shape := ⟨3, ![1, 1, 6592]⟩
abbrev S128x1x96 : Shape := ⟨3, ![128, 1, 96]⟩
abbrev S128x1x256 : Shape := ⟨3, ![128, 1, 256]⟩
abbrev S1x1x2048 : Shape := ⟨3, ![1, 1, 2048]⟩
abbrev S128x1x32x64 : Shape := ⟨4, ![128, 1, 32, 64]⟩
abbrev S128x1x32x1 : Shape := ⟨4, ![128, 1, 32, 1]⟩
abbrev S1x128x32x64 : Shape := ⟨4, ![1, 128, 32, 64]⟩
abbrev S128x32x64 : Shape := ⟨3, ![128, 32, 64]⟩
abbrev S128x32x1x64 : Shape := ⟨4, ![128, 32, 1, 64]⟩
abbrev S128x32x64x1 : Shape := ⟨4, ![128, 32, 64, 1]⟩

abbrev nBuf : Space → Nat
  | .hbm => 209
  | .vmem => 5
  | .smem => 0
  | _ => 0

abbrev hbmTy0_0 (i : Nat) : BufTy := match i % 128 with
  | 0 => ⟨S128x1x4096, .f32⟩
  | 1 => ⟨S128x1x4096, .f32⟩
  | 2 => ⟨S128x1x4096, .f32⟩
  | 3 => ⟨S1x128x6592, .f32⟩
  | 4 => ⟨S1x128x32x64x64, .f32⟩
  | 5 => ⟨S1x4096x25184, .f32⟩
  | 6 => ⟨S1x6592, .f32⟩
  | 7 => ⟨S1x2048, .f32⟩
  | 8 => ⟨S1x96x2048, .f32⟩
  | 9 => ⟨S1x2048, .f32⟩
  | 10 => ⟨S1x96x2048, .f32⟩
  | 11 => ⟨S1x2048, .f32⟩
  | 12 => ⟨S1x2048, .f32⟩
  | 13 => ⟨S1x32x64, .f32⟩
  | 14 => ⟨S_, .f32⟩
  | 15 => ⟨S128x1x4096, .f32⟩
  | 16 => ⟨S128x1x4096, .f32⟩
  | 17 => ⟨S128x1x4096, .f32⟩
  | 18 => ⟨S128x1x4096, .f32⟩
  | 19 => ⟨S4096x25184, .f32⟩
  | 20 => ⟨S128x4096, .f32⟩
  | 21 => ⟨S128x4096, .bf16⟩
  | 22 => ⟨S4096x25184, .bf16⟩
  | 23 => ⟨S128x25184, .f32⟩
  | 24 => ⟨S128x1x25184, .f32⟩
  | 25 => ⟨S128x1x6592, .f32⟩
  | 26 => ⟨S128x1x10400, .f32⟩
  | 27 => ⟨S128x1x8192, .f32⟩
  | 28 => ⟨S128x1x2048, .f32⟩
  | 29 => ⟨S128x1x2048, .f32⟩
  | 30 => ⟨S128x1x2048, .f32⟩
  | 31 => ⟨S128x1x4096, .f32⟩
  | 32 => ⟨S128x1x128, .f32⟩
  | 33 => ⟨S128x1x32, .f32⟩
  | 34 => ⟨S128x1x16x128, .f32⟩
  | 35 => ⟨S128x1x16x128, .f32⟩
  | 36 => ⟨S128x1x16x128, .f32⟩
  | 37 => ⟨S128x1x32x128, .f32⟩
  | 38 => ⟨S128x6592, .f32⟩
  | 39 => ⟨S128x6592, .f32⟩
  | 40 => ⟨S128x32x64x64, .f32⟩
  | 41 => ⟨S6592, .f32⟩
  | 42 => ⟨S2048, .f32⟩
  | 43 => ⟨S96x2048, .f32⟩
  | 44 => ⟨S2048, .f32⟩
  | 45 => ⟨S96x2048, .f32⟩
  | 46 => ⟨S2048, .f32⟩
  | 47 => ⟨S2048, .f32⟩
  | 48 => ⟨S32x64, .f32⟩
  | 49 => ⟨S128x1x6592, .f32⟩
  | 50 => ⟨S128x0x6592, .f32⟩
  | 51 => ⟨S128x1x6592, .f32⟩
  | 52 => ⟨S128x1x6592, .f32⟩
  | 53 => ⟨S1x1x6592, .f32⟩
  | 54 => ⟨S128x1x6592, .f32⟩
  | 55 => ⟨S128x1x6592, .f32⟩
  | 56 => ⟨S128x1x6592, .f32⟩
  | 57 => ⟨S128x1x2048, .f32⟩
  | 58 => ⟨S128x1x2048, .f32⟩
  | 59 => ⟨S128x1x2048, .f32⟩
  | 60 => ⟨S128x1x96, .f32⟩
  | 61 => ⟨S128x1x96, .f32⟩
  | 62 => ⟨S128x1x256, .f32⟩
  | 63 => ⟨S128x1x96, .f32⟩
  | 64 => ⟨S128x1x2048, .f32⟩
  | 65 => ⟨S1x1x2048, .f32⟩
  | 66 => ⟨S128x1x2048, .f32⟩
  | 67 => ⟨S128x1x2048, .f32⟩
  | 68 => ⟨S128x1x2048, .f32⟩
  | 69 => ⟨S_, .f32⟩
  | 70 => ⟨S128x1x2048, .f32⟩
  | 71 => ⟨S128x1x2048, .f32⟩
  | 72 => ⟨S128x1x2048, .f32⟩
  | 73 => ⟨S128x1x2048, .f32⟩
  | 74 => ⟨S128x1x2048, .i1⟩
  | 75 => ⟨S128x1x2048, .f32⟩
  | 76 => ⟨S128x1x2048, .f32⟩
  | 77 => ⟨S128x1x2048, .f32⟩
  | 78 => ⟨S128x1x2048, .f32⟩
  | 79 => ⟨S128x1x2048, .f32⟩
  | 80 => ⟨S128x1x2048, .f32⟩
  | 81 => ⟨S128x1x2048, .f32⟩
  | 82 => ⟨S128x1x2048, .f32⟩
  | 83 => ⟨S128x1x2048, .f32⟩
  | 84 => ⟨S_, .f32⟩
  | 85 => ⟨S128x1x2048, .f32⟩
  | 86 => ⟨S128x1x2048, .f32⟩
  | 87 => ⟨S128x1x2048, .f32⟩
  | 88 => ⟨S128x1x2048, .f32⟩
  | 89 => ⟨S128x1x2048, .f32⟩
  | 90 => ⟨S1x1x2048, .f32⟩
  | 91 => ⟨S128x1x2048, .f32⟩
  | 92 => ⟨S128x1x2048, .f32⟩
  | 93 => ⟨S128x1x2048, .f32⟩
  | 94 => ⟨S128x1x2048, .f32⟩
  | 95 => ⟨S_, .f32⟩
  | 96 => ⟨S128x1x2048, .f32⟩
  | 97 => ⟨S128x1x2048, .f32⟩
  | 98 => ⟨S_, .f32⟩
  | 99 => ⟨S128x1x2048, .f32⟩
  | 100 => ⟨S128x1x2048, .f32⟩
  | 101 => ⟨S1x1x2048, .f32⟩
  | 102 => ⟨S128x1x2048, .f32⟩
  | 103 => ⟨S128x1x2048, .f32⟩
  | 104 => ⟨S128x1x32x64, .f32⟩
  | 105 => ⟨S128x1x32x64, .f32⟩
  | 106 => ⟨S_, .f32⟩
  | 107 => ⟨S128x1x32, .f32⟩
  | 108 => ⟨S128x1x32x1, .f32⟩
  | 109 => ⟨S128x1x32x1, .f32⟩
  | 110 => ⟨S_, .f32⟩
  | 111 => ⟨S128x1x32x1, .f32⟩
  | 112 => ⟨S128x1x32x1, .f32⟩
  | 113 => ⟨S128x1x32x64, .f32⟩
  | 114 => ⟨S128x1x32x64, .f32⟩
  | 115 => ⟨S_, .f32⟩
  | 116 => ⟨S128x1x2048, .f32⟩
  | 117 => ⟨S128x1x2048, .f32⟩
  | 118 => ⟨S1x1x2048, .f32⟩
  | 119 => ⟨S128x1x2048, .f32⟩
  | 120 => ⟨S128x1x2048, .f32⟩
  | 121 => ⟨S_, .f32⟩
  | 122 => ⟨S128x1x2048, .f32⟩
  | 123 => ⟨S128x1x2048, .f32⟩
  | 124 => ⟨S128x1x2048, .f32⟩
  | 125 => ⟨S128x1x32x64, .f32⟩
  | 126 => ⟨S128x1x2048, .f32⟩
  | 127 => ⟨S128x1x32x64, .f32⟩
  | _ => ⟨S128x1x4096, .f32⟩

abbrev hbmTy0_1 (i : Nat) : BufTy := match i % 128 with
  | 0 => ⟨S128x1x32x64, .f32⟩
  | 1 => ⟨S128x1x32x64, .f32⟩
  | 2 => ⟨S128x1x32x64, .f32⟩
  | 3 => ⟨S128x1x32x64, .f32⟩
  | 4 => ⟨S128x1x32x64, .f32⟩
  | 5 => ⟨S1x128x32x64, .f32⟩
  | 6 => ⟨S1x128x32x64, .f32⟩
  | 7 => ⟨S1x128x32x64, .f32⟩
  | 8 => ⟨S1x128x32x64, .f32⟩
  | 9 => ⟨S1x128x32x64, .f32⟩
  | 10 => ⟨S1x128x32x64, .f32⟩
  | 11 => ⟨S_, .f32⟩
  | 12 => ⟨S1x128x32x64, .f32⟩
  | 13 => ⟨S_, .i32⟩
  | 14 => ⟨S1x128x32x64, .f32⟩
  | 15 => ⟨S1x128x32x64, .f32⟩
  | 16 => ⟨S1x128x32x64, .f32⟩
  | 17 => ⟨S1x128x32x64, .f32⟩
  | 18 => ⟨S1x128x32x64, .f32⟩
  | 19 => ⟨S1x128x32x64, .f32⟩
  | 20 => ⟨S_, .i32⟩
  | 21 => ⟨S128x32x64x64, .f32⟩
  | 22 => ⟨S1x128x32x64, .f32⟩
  | 23 => ⟨S_, .i32⟩
  | 24 => ⟨S_, .i1⟩
  | 25 => ⟨S_, .i32⟩
  | 26 => ⟨S_, .i32⟩
  | 27 => ⟨S_, .i32⟩
  | 28 => ⟨S1x128x32x64, .f32⟩
  | 29 => ⟨S128x32x64, .f32⟩
  | 30 => ⟨S_, .i32⟩
  | 31 => ⟨S_, .i32⟩
  | 32 => ⟨S_, .i32⟩
  | 33 => ⟨S1x128x32x64, .f32⟩
  | 34 => ⟨S128x32x64, .f32⟩
  | 35 => ⟨S_, .i32⟩
  | 36 => ⟨S_, .i32⟩
  | 37 => ⟨S_, .i32⟩
  | 38 => ⟨S1x128x32x64, .f32⟩
  | 39 => ⟨S128x32x64, .f32⟩
  | 40 => ⟨S_, .i32⟩
  | 41 => ⟨S_, .i32⟩
  | 42 => ⟨S_, .i32⟩
  | 43 => ⟨S1x128x32x64, .f32⟩
  | 44 => ⟨S128x32x64, .f32⟩
  | 45 => ⟨S_, .i32⟩
  | 46 => ⟨S_, .i32⟩
  | 47 => ⟨S_, .i32⟩
  | 48 => ⟨S1x128x32x64, .f32⟩
  | 49 => ⟨S128x32x64, .f32⟩
  | 50 => ⟨S_, .i32⟩
  | 51 => ⟨S_, .i32⟩
  | 52 => ⟨S_, .i32⟩
  | 53 => ⟨S1x128x32x64, .f32⟩
  | 54 => ⟨S128x32x64, .f32⟩
  | 55 => ⟨S128x32x64, .f32⟩
  | 56 => ⟨S128x32x1x64, .f32⟩
  | 57 => ⟨S128x32x64x64, .f32⟩
  | 58 => ⟨S128x32x64x64, .f32⟩
  | 59 => ⟨S128x32x64x1, .f32⟩
  | 60 => ⟨S128x32x1x64, .f32⟩
  | 61 => ⟨S128x32x64x64, .f32⟩
  | 62 => ⟨S128x32x64x64, .f32⟩
  | 63 => ⟨S128x32x64x64, .f32⟩
  | 64 => ⟨S128x32x64x64, .f32⟩
  | 65 => ⟨S128x32x64x1, .f32⟩
  | 66 => ⟨S128x32x1x64, .f32⟩
  | 67 => ⟨S128x32x64x64, .f32⟩
  | 68 => ⟨S128x32x64x64, .f32⟩
  | 69 => ⟨S128x32x64x64, .f32⟩
  | 70 => ⟨S128x32x64x64, .f32⟩
  | 71 => ⟨S128x32x64, .f32⟩
  | 72 => ⟨S1x128x32x64, .f32⟩
  | 73 => ⟨S_, .i32⟩
  | 74 => ⟨S_, .i32⟩
  | 75 => ⟨S_, .i32⟩
  | 76 => ⟨S1x128x32x64, .f32⟩
  | 77 => ⟨S_, .i32⟩
  | 78 => ⟨S_, .i32⟩
  | 79 => ⟨S128x1x32x64, .f32⟩
  | 80 => ⟨S1x128x32x64x64, .f32⟩
  | _ => ⟨S128x1x4096, .f32⟩

abbrev hbmTy (i : Nat) : BufTy := match i / 128 with
  | 0 => hbmTy0_0 i
  | 1 => hbmTy0_1 i
  | _ => ⟨S128x1x4096, .f32⟩

abbrev bufTy : (tb : Table) → Fin (tcTables nBuf tb) → BufTy
  | .hbm, ⟨i, _⟩ => hbmTy i
  | .local _ .vmem, ⟨0, _⟩ => ⟨S128x4096, .bf16⟩
  | .local _ .vmem, ⟨1, _⟩ => ⟨S4096x1024, .bf16⟩
  | .local _ .vmem, ⟨2, _⟩ => ⟨S4096x1024, .bf16⟩
  | .local _ .vmem, ⟨3, _⟩ => ⟨S128x1024, .f32⟩
  | .local _ .vmem, ⟨4, _⟩ => ⟨S128x1024, .f32⟩
  | _, _ => ⟨S128x1x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_v50 : Ref sig .tc := ⟨.hbm, 65, rfl⟩
abbrev main_v51 : Ref sig .tc := ⟨.hbm, 66, rfl⟩
abbrev main_v52 : Ref sig .tc := ⟨.hbm, 67, rfl⟩
abbrev main_v53 : Ref sig .tc := ⟨.hbm, 68, rfl⟩
abbrev main_call0_cst : Ref sig .tc := ⟨.hbm, 69, rfl⟩
abbrev main_call0_v0 : Ref sig .tc := ⟨.hbm, 70, rfl⟩
abbrev main_call0_v1 : Ref sig .tc := ⟨.hbm, 71, rfl⟩
abbrev main_call0_v2 : Ref sig .tc := ⟨.hbm, 72, rfl⟩
abbrev main_call0_v3 : Ref sig .tc := ⟨.hbm, 73, rfl⟩
abbrev main_call0_v4 : Ref sig .tc := ⟨.hbm, 74, rfl⟩
abbrev main_call0_v5 : Ref sig .tc := ⟨.hbm, 75, rfl⟩
abbrev main_call0_v6 : Ref sig .tc := ⟨.hbm, 76, rfl⟩
abbrev main_call0_v7 : Ref sig .tc := ⟨.hbm, 77, rfl⟩
abbrev main_call0_v8 : Ref sig .tc := ⟨.hbm, 78, rfl⟩
abbrev main_call0_v9 : Ref sig .tc := ⟨.hbm, 79, rfl⟩
abbrev main_call0_v10 : Ref sig .tc := ⟨.hbm, 80, rfl⟩
abbrev main_call0_v11 : Ref sig .tc := ⟨.hbm, 81, rfl⟩
abbrev main_v54 : Ref sig .tc := ⟨.hbm, 82, rfl⟩
abbrev main_v55 : Ref sig .tc := ⟨.hbm, 83, rfl⟩
abbrev main_cst_0 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_v63 : Ref sig .tc := ⟨.hbm, 92, rfl⟩
abbrev main_v64 : Ref sig .tc := ⟨.hbm, 93, rfl⟩
abbrev main_v65 : Ref sig .tc := ⟨.hbm, 94, rfl⟩
abbrev main_cst_1 : Ref sig .tc := ⟨.hbm, 95, rfl⟩
abbrev main_v66 : Ref sig .tc := ⟨.hbm, 96, rfl⟩
abbrev main_v67 : Ref sig .tc := ⟨.hbm, 97, rfl⟩
abbrev main_cst_2 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_v71 : Ref sig .tc := ⟨.hbm, 102, rfl⟩
abbrev main_v72 : Ref sig .tc := ⟨.hbm, 103, rfl⟩
abbrev main_v73 : Ref sig .tc := ⟨.hbm, 104, rfl⟩
abbrev main_call1_v0 : Ref sig .tc := ⟨.hbm, 105, rfl⟩
abbrev main_call1_cst : Ref sig .tc := ⟨.hbm, 106, rfl⟩
abbrev main_call1_v1 : Ref sig .tc := ⟨.hbm, 107, rfl⟩
abbrev main_call1_v2 : Ref sig .tc := ⟨.hbm, 108, rfl⟩
abbrev main_v74 : Ref sig .tc := ⟨.hbm, 109, rfl⟩
abbrev main_cst_3 : Ref sig .tc := ⟨.hbm, 110, rfl⟩
abbrev main_v75 : Ref sig .tc := ⟨.hbm, 111, rfl⟩
abbrev main_v76 : Ref sig .tc := ⟨.hbm, 112, rfl⟩
abbrev main_v77 : Ref sig .tc := ⟨.hbm, 113, rfl⟩
abbrev main_v78 : Ref sig .tc := ⟨.hbm, 114, rfl⟩
abbrev main_cst_4 : Ref sig .tc := ⟨.hbm, 115, rfl⟩
abbrev main_v79 : Ref sig .tc := ⟨.hbm, 116, rfl⟩
abbrev main_v80 : Ref sig .tc := ⟨.hbm, 117, rfl⟩
abbrev main_v81 : Ref sig .tc := ⟨.hbm, 118, rfl⟩
abbrev main_v82 : Ref sig .tc := ⟨.hbm, 119, rfl⟩
abbrev main_v83 : Ref sig .tc := ⟨.hbm, 120, rfl⟩
abbrev main_cst_5 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_cst_6 : Ref sig .tc := ⟨.hbm, 139, rfl⟩
abbrev main_v101 : Ref sig .tc := ⟨.hbm, 140, rfl⟩
abbrev main_c : Ref sig .tc := ⟨.hbm, 141, rfl⟩
abbrev main_v102_0 : Ref sig .tc := ⟨.hbm, 142, rfl⟩
abbrev main_v102_1 : Ref sig .tc := ⟨.hbm, 143, rfl⟩
abbrev main_v102_2 : Ref sig .tc := ⟨.hbm, 144, rfl⟩
abbrev main_v102_3 : Ref sig .tc := ⟨.hbm, 145, rfl⟩
abbrev main_v102_4 : Ref sig .tc := ⟨.hbm, 146, rfl⟩
abbrev main_v102_5 : Ref sig .tc := ⟨.hbm, 147, rfl⟩
abbrev main_v102_6 : Ref sig .tc := ⟨.hbm, 148, rfl⟩
abbrev main_v102_7 : Ref sig .tc := ⟨.hbm, 149, rfl⟩
abbrev main_v102_8 : Ref sig .tc := ⟨.hbm, 150, rfl⟩
abbrev main_while0c_c_15 : Ref sig .tc := ⟨.hbm, 151, rfl⟩
abbrev main_while0c_v105 : Ref sig .tc := ⟨.hbm, 152, rfl⟩
abbrev main_while0b_call2_c : Ref sig .tc := ⟨.hbm, 153, rfl⟩
abbrev main_while0b_call2_c_0 : Ref sig .tc := ⟨.hbm, 154, rfl⟩
abbrev main_while0b_call2_c_1 : Ref sig .tc := ⟨.hbm, 155, rfl⟩
abbrev main_while0b_call2_v0 : Ref sig .tc := ⟨.hbm, 156, rfl⟩
abbrev main_while0b_v105 : Ref sig .tc := ⟨.hbm, 157, rfl⟩
abbrev main_while0b_call3_c : Ref sig .tc := ⟨.hbm, 158, rfl⟩
abbrev main_while0b_call3_c_0 : Ref sig .tc := ⟨.hbm, 159, rfl⟩
abbrev main_while0b_call3_c_1 : Ref sig .tc := ⟨.hbm, 160, rfl⟩
abbrev main_while0b_call3_v0 : Ref sig .tc := ⟨.hbm, 161, rfl⟩
abbrev main_while0b_v106 : Ref sig .tc := ⟨.hbm, 162, rfl⟩
abbrev main_while0b_call4_c : Ref sig .tc := ⟨.hbm, 163, rfl⟩
abbrev main_while0b_call4_c_0 : Ref sig .tc := ⟨.hbm, 164, rfl⟩
abbrev main_while0b_call4_c_1 : Ref sig .tc := ⟨.hbm, 165, rfl⟩
abbrev main_while0b_call4_v0 : Ref sig .tc := ⟨.hbm, 166, rfl⟩
abbrev main_while0b_v107 : Ref sig .tc := ⟨.hbm, 167, rfl⟩
abbrev main_while0b_call5_c : Ref sig .tc := ⟨.hbm, 168, rfl⟩
abbrev main_while0b_call5_c_0 : Ref sig .tc := ⟨.hbm, 169, rfl⟩
abbrev main_while0b_call5_c_1 : Ref sig .tc := ⟨.hbm, 170, rfl⟩
abbrev main_while0b_call5_v0 : Ref sig .tc := ⟨.hbm, 171, rfl⟩
abbrev main_while0b_v108 : Ref sig .tc := ⟨.hbm, 172, rfl⟩
abbrev main_while0b_call6_c : Ref sig .tc := ⟨.hbm, 173, rfl⟩
abbrev main_while0b_call6_c_0 : Ref sig .tc := ⟨.hbm, 174, rfl⟩
abbrev main_while0b_call6_c_1 : Ref sig .tc := ⟨.hbm, 175, rfl⟩
abbrev main_while0b_call6_v0 : Ref sig .tc := ⟨.hbm, 176, rfl⟩
abbrev main_while0b_v109 : Ref sig .tc := ⟨.hbm, 177, rfl⟩
abbrev main_while0b_call7_c : Ref sig .tc := ⟨.hbm, 178, rfl⟩
abbrev main_while0b_call7_c_0 : Ref sig .tc := ⟨.hbm, 179, rfl⟩
abbrev main_while0b_call7_c_1 : Ref sig .tc := ⟨.hbm, 180, rfl⟩
abbrev main_while0b_call7_v0 : Ref sig .tc := ⟨.hbm, 181, rfl⟩
abbrev main_while0b_v110 : Ref sig .tc := ⟨.hbm, 182, rfl⟩
abbrev main_while0b_v111 : Ref sig .tc := ⟨.hbm, 183, rfl⟩
abbrev main_while0b_v112 : Ref sig .tc := ⟨.hbm, 184, rfl⟩
abbrev main_while0b_v113 : Ref sig .tc := ⟨.hbm, 185, rfl⟩
abbrev main_while0b_v114 : Ref sig .tc := ⟨.hbm, 186, rfl⟩
abbrev main_while0b_v115 : Ref sig .tc := ⟨.hbm, 187, rfl⟩
abbrev main_while0b_v116 : Ref sig .tc := ⟨.hbm, 188, rfl⟩
abbrev main_while0b_v117 : Ref sig .tc := ⟨.hbm, 189, rfl⟩
abbrev main_while0b_v118 : Ref sig .tc := ⟨.hbm, 190, rfl⟩
abbrev main_while0b_v119 : Ref sig .tc := ⟨.hbm, 191, rfl⟩
abbrev main_while0b_v120 : Ref sig .tc := ⟨.hbm, 192, rfl⟩
abbrev main_while0b_v121 : Ref sig .tc := ⟨.hbm, 193, rfl⟩
abbrev main_while0b_v122 : Ref sig .tc := ⟨.hbm, 194, rfl⟩
abbrev main_while0b_v123 : Ref sig .tc := ⟨.hbm, 195, rfl⟩
abbrev main_while0b_v124 : Ref sig .tc := ⟨.hbm, 196, rfl⟩
abbrev main_while0b_v125 : Ref sig .tc := ⟨.hbm, 197, rfl⟩
abbrev main_while0b_v126 : Ref sig .tc := ⟨.hbm, 198, rfl⟩
abbrev main_while0b_v127 : Ref sig .tc := ⟨.hbm, 199, rfl⟩
abbrev main_while0b_call8_v0 : Ref sig .tc := ⟨.hbm, 200, rfl⟩
abbrev main_while0b_call8_c : Ref sig .tc := ⟨.hbm, 201, rfl⟩
abbrev main_while0b_call8_c_0 : Ref sig .tc := ⟨.hbm, 202, rfl⟩
abbrev main_while0b_call8_c_1 : Ref sig .tc := ⟨.hbm, 203, rfl⟩
abbrev main_while0b_v128 : Ref sig .tc := ⟨.hbm, 204, rfl⟩
abbrev main_while0b_c_15 : Ref sig .tc := ⟨.hbm, 205, rfl⟩
abbrev main_while0b_v129 : Ref sig .tc := ⟨.hbm, 206, rfl⟩
abbrev main_v103 : Ref sig .tc := ⟨.hbm, 207, rfl⟩
abbrev main_v104 : Ref sig .tc := ⟨.hbm, 208, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev main_while0_count : Scf.Loop 32 := ⟨0#32, 1#32, 1#32⟩

abbrev grid0 : Pipeline.Grid := ⟨2, ![1, 25], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S128x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S128x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference6Ideal.lean ====
abbrev S128x1x4096 : Shape := ⟨3, ![128, 1, 4096]⟩
abbrev S1x128x6592 : Shape := ⟨3, ![1, 128, 6592]⟩
abbrev S1x128x32x64x64 : Shape := ⟨5, ![1, 128, 32, 64, 64]⟩
abbrev S1x4096x25184 : Shape := ⟨3, ![1, 4096, 25184]⟩
abbrev S1x6592 : Shape := ⟨2, ![1, 6592]⟩
abbrev S1x2048 : Shape := ⟨2, ![1, 2048]⟩
abbrev S1x96x2048 : Shape := ⟨3, ![1, 96, 2048]⟩
abbrev S1x32x64 : Shape := ⟨3, ![1, 32, 64]⟩
abbrev S_ : Shape := ⟨0, ![]⟩
abbrev S4096x25184 : Shape := ⟨2, ![4096, 25184]⟩
abbrev S128x1x25184 : Shape := ⟨3, ![128, 1, 25184]⟩
abbrev S128x1x6592 : Shape := ⟨3, ![128, 1, 6592]⟩
abbrev S128x1x10400 : Shape := ⟨3, ![128, 1, 10400]⟩
abbrev S128x1x8192 : Shape := ⟨3, ![128, 1, 8192]⟩
abbrev S128x1x2048 : Shape := ⟨3, ![128, 1, 2048]⟩
abbrev S128x1x128 : Shape := ⟨3, ![128, 1, 128]⟩
abbrev S128x1x32 : Shape := ⟨3, ![128, 1, 32]⟩
abbrev S128x1x16x128 : Shape := ⟨4, ![128, 1, 16, 128]⟩
abbrev S128x1x32x128 : Shape := ⟨4, ![128, 1, 32, 128]⟩
abbrev S128x6592 : Shape := ⟨2, ![128, 6592]⟩
abbrev S128x32x64x64 : Shape := ⟨4, ![128, 32, 64, 64]⟩
abbrev S6592 : Shape := ⟨1, ![6592]⟩
abbrev S2048 : Shape := ⟨1, ![2048]⟩
abbrev S96x2048 : Shape := ⟨2, ![96, 2048]⟩
abbrev S32x64 : Shape := ⟨2, ![32, 64]⟩
abbrev S128x0x6592 : Shape := ⟨3, ![128, 0, 6592]⟩
abbrev S1x1x6592 : Shape := ⟨3, ![1, 1, 6592]⟩
abbrev S128x1x96 : Shape := ⟨3, ![128, 1, 96]⟩
abbrev S128x1x256 : Shape := ⟨3, ![128, 1, 256]⟩
abbrev S1x1x2048 : Shape := ⟨3, ![1, 1, 2048]⟩
abbrev S128x1x32x64 : Shape := ⟨4, ![128, 1, 32, 64]⟩
abbrev S128x1x32x1 : Shape := ⟨4, ![128, 1, 32, 1]⟩
abbrev S128x32x64 : Shape := ⟨3, ![128, 32, 64]⟩
abbrev S128x32x1x64 : Shape := ⟨4, ![128, 32, 1, 64]⟩
abbrev S128x32x64x1 : Shape := ⟨4, ![128, 32, 64, 1]⟩

abbrev nBuf : Space → Nat
  | .hbm => 150
  | .vmem => 0
  | .smem => 0
  | _ => 0

abbrev hbmTy0_0 (i : Nat) : BufTy := match i % 128 with
  | 0 => ⟨S128x1x4096, .f32⟩
  | 1 => ⟨S128x1x4096, .f32⟩
  | 2 => ⟨S128x1x4096, .f32⟩
  | 3 => ⟨S1x128x6592, .f32⟩
  | 4 => ⟨S1x128x32x64x64, .f32⟩
  | 5 => ⟨S1x4096x25184, .f32⟩
  | 6 => ⟨S1x6592, .f32⟩
  | 7 => ⟨S1x2048, .f32⟩
  | 8 => ⟨S1x96x2048, .f32⟩
  | 9 => ⟨S1x2048, .f32⟩
  | 10 => ⟨S1x96x2048, .f32⟩
  | 11 => ⟨S1x2048, .f32⟩
  | 12 => ⟨S1x2048, .f32⟩
  | 13 => ⟨S1x32x64, .f32⟩
  | 14 => ⟨S_, .f32⟩
  | 15 => ⟨S128x1x4096, .f32⟩
  | 16 => ⟨S128x1x4096, .f32⟩
  | 17 => ⟨S128x1x4096, .f32⟩
  | 18 => ⟨S128x1x4096, .f32⟩
  | 19 => ⟨S4096x25184, .f32⟩
  | 20 => ⟨S128x1x25184, .f32⟩
  | 21 => ⟨S128x1x6592, .f32⟩
  | 22 => ⟨S128x1x10400, .f32⟩
  | 23 => ⟨S128x1x8192, .f32⟩
  | 24 => ⟨S128x1x2048, .f32⟩
  | 25 => ⟨S128x1x2048, .f32⟩
  | 26 => ⟨S128x1x2048, .f32⟩
  | 27 => ⟨S128x1x4096, .f32⟩
  | 28 => ⟨S128x1x128, .f32⟩
  | 29 => ⟨S128x1x32, .f32⟩
  | 30 => ⟨S128x1x16x128, .f32⟩
  | 31 => ⟨S128x1x16x128, .f32⟩
  | 32 => ⟨S128x1x16x128, .f32⟩
  | 33 => ⟨S128x1x32x128, .f32⟩
  | 34 => ⟨S128x6592, .f32⟩
  | 35 => ⟨S128x6592, .f32⟩
  | 36 => ⟨S128x32x64x64, .f32⟩
  | 37 => ⟨S6592, .f32⟩
  | 38 => ⟨S2048, .f32⟩
  | 39 => ⟨S96x2048, .f32⟩
  | 40 => ⟨S2048, .f32⟩
  | 41 => ⟨S96x2048, .f32⟩
  | 42 => ⟨S2048, .f32⟩
  | 43 => ⟨S2048, .f32⟩
  | 44 => ⟨S32x64, .f32⟩
  | 45 => ⟨S128x1x6592, .f32⟩
  | 46 => ⟨S128x0x6592, .f32⟩
  | 47 => ⟨S128x1x6592, .f32⟩
  | 48 => ⟨S128x1x6592, .f32⟩
  | 49 => ⟨S1x1x6592, .f32⟩
  | 50 => ⟨S128x1x6592, .f32⟩
  | 51 => ⟨S128x1x6592, .f32⟩
  | 52 => ⟨S128x1x6592, .f32⟩
  | 53 => ⟨S128x1x2048, .f32⟩
  | 54 => ⟨S128x1x2048, .f32⟩
  | 55 => ⟨S128x1x2048, .f32⟩
  | 56 => ⟨S128x1x96, .f32⟩
  | 57 => ⟨S128x1x96, .f32⟩
  | 58 => ⟨S128x1x256, .f32⟩
  | 59 => ⟨S128x1x96, .f32⟩
  | 60 => ⟨S128x1x2048, .f32⟩
  | 61 => ⟨S1x1x2048, .f32⟩
  | 62 => ⟨S128x1x2048, .f32⟩
  | 63 => ⟨S128x1x2048, .f32⟩
  | 64 => ⟨S128x1x2048, .f32⟩
  | 65 => ⟨S_, .f32⟩
  | 66 => ⟨S128x1x2048, .f32⟩
  | 67 => ⟨S128x1x2048, .f32⟩
  | 68 => ⟨S128x1x2048, .f32⟩
  | 69 => ⟨S128x1x2048, .f32⟩
  | 70 => ⟨S128x1x2048, .i1⟩
  | 71 => ⟨S128x1x2048, .f32⟩
  | 72 => ⟨S128x1x2048, .f32⟩
  | 73 => ⟨S128x1x2048, .f32⟩
  | 74 => ⟨S128x1x2048, .f32⟩
  | 75 => ⟨S128x1x2048, .f32⟩
  | 76 => ⟨S128x1x2048, .f32⟩
  | 77 => ⟨S128x1x2048, .f32⟩
  | 78 => ⟨S128x1x2048, .f32⟩
  | 79 => ⟨S128x1x2048, .f32⟩
  | 80 => ⟨S_, .f32⟩
  | 81 => ⟨S128x1x2048, .f32⟩
  | 82 => ⟨S128x1x2048, .f32⟩
  | 83 => ⟨S128x1x2048, .f32⟩
  | 84 => ⟨S128x1x2048, .f32⟩
  | 85 => ⟨S128x1x2048, .f32⟩
  | 86 => ⟨S128x1x2048, .f32⟩
  | 87 => ⟨S1x1x2048, .f32⟩
  | 88 => ⟨S128x1x2048, .f32⟩
  | 89 => ⟨S128x1x2048, .f32⟩
  | 90 => ⟨S128x1x2048, .f32⟩
  | 91 => ⟨S128x1x2048, .f32⟩
  | 92 => ⟨S_, .f32⟩
  | 93 => ⟨S128x1x2048, .f32⟩
  | 94 => ⟨S128x1x2048, .f32⟩
  | 95 => ⟨S_, .f32⟩
  | 96 => ⟨S128x1x2048, .f32⟩
  | 97 => ⟨S128x1x2048, .f32⟩
  | 98 => ⟨S1x1x2048, .f32⟩
  | 99 => ⟨S128x1x2048, .f32⟩
  | 100 => ⟨S128x1x2048, .f32⟩
  | 101 => ⟨S128x1x32x64, .f32⟩
  | 102 => ⟨S128x1x32x64, .f32⟩
  | 103 => ⟨S_, .f32⟩
  | 104 => ⟨S128x1x32, .f32⟩
  | 105 => ⟨S128x1x32x1, .f32⟩
  | 106 => ⟨S128x1x32x1, .f32⟩
  | 107 => ⟨S_, .f32⟩
  | 108 => ⟨S128x1x32x1, .f32⟩
  | 109 => ⟨S128x1x32x1, .f32⟩
  | 110 => ⟨S128x1x32x64, .f32⟩
  | 111 => ⟨S128x1x32x64, .f32⟩
  | 112 => ⟨S_, .f32⟩
  | 113 => ⟨S128x1x2048, .f32⟩
  | 114 => ⟨S128x1x2048, .f32⟩
  | 115 => ⟨S1x1x2048, .f32⟩
  | 116 => ⟨S128x1x2048, .f32⟩
  | 117 => ⟨S128x1x2048, .f32⟩
  | 118 => ⟨S_, .f32⟩
  | 119 => ⟨S128x1x2048, .f32⟩
  | 120 => ⟨S128x1x2048, .f32⟩
  | 121 => ⟨S128x1x2048, .f32⟩
  | 122 => ⟨S128x1x32x64, .f32⟩
  | 123 => ⟨S128x1x32x64, .f32⟩
  | 124 => ⟨S128x1x32x64, .f32⟩
  | 125 => ⟨S128x1x32x64, .f32⟩
  | 126 => ⟨S128x1x32x64, .f32⟩
  | 127 => ⟨S128x1x32x64, .f32⟩
  | _ => ⟨S128x1x4096, .f32⟩

abbrev hbmTy0_1 (i : Nat) : BufTy := match i % 128 with
  | 0 => ⟨S128x32x64, .f32⟩
  | 1 => ⟨S128x32x64, .f32⟩
  | 2 => ⟨S128x32x64, .f32⟩
  | 3 => ⟨S128x32x64, .f32⟩
  | 4 => ⟨S128x32x64, .f32⟩
  | 5 => ⟨S128x32x64, .f32⟩
  | 6 => ⟨S128x32x1x64, .f32⟩
  | 7 => ⟨S128x32x64x64, .f32⟩
  | 8 => ⟨S128x32x64x64, .f32⟩
  | 9 => ⟨S128x32x64x1, .f32⟩
  | 10 => ⟨S128x32x1x64, .f32⟩
  | 11 => ⟨S128x32x64x64, .f32⟩
  | 12 => ⟨S128x32x64x64, .f32⟩
  | 13 => ⟨S128x32x64x64, .f32⟩
  | 14 => ⟨S128x32x64x64, .f32⟩
  | 15 => ⟨S128x32x64x1, .f32⟩
  | 16 => ⟨S128x32x1x64, .f32⟩
  | 17 => ⟨S128x32x64x64, .f32⟩
  | 18 => ⟨S128x32x64x64, .f32⟩
  | 19 => ⟨S128x32x64x64, .f32⟩
  | 20 => ⟨S128x32x64x64, .f32⟩
  | 21 => ⟨S1x128x32x64x64, .f32⟩
  | _ => ⟨S128x1x4096, .f32⟩

abbrev hbmTy (i : Nat) : BufTy := match i / 128 with
  | 0 => hbmTy0_0 i
  | 1 => hbmTy0_1 i
  | _ => ⟨S128x1x4096, .f32⟩

abbrev bufTy : (tb : Table) → Fin (tcTables nBuf tb) → BufTy
  | .hbm, ⟨i, _⟩ => hbmTy i
  | _, _ => ⟨S128x1x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_cst : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_v4 : Ref sig .tc := ⟨.hbm, 19, rfl⟩
abbrev main_v5 : Ref sig .tc := ⟨.hbm, 20, rfl⟩
abbrev main_v6 : Ref sig .tc := ⟨.hbm, 21, rfl⟩
abbrev main_v7 : Ref sig .tc := ⟨.hbm, 22, rfl⟩
abbrev main_v8 : Ref sig .tc := ⟨.hbm, 23, rfl⟩
abbrev main_v9 : Ref sig .tc := ⟨.hbm, 24, rfl⟩
abbrev main_v10 : Ref sig .tc := ⟨.hbm, 25, rfl⟩
abbrev main_v11 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_v18 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_v24 : Ref sig .tc := ⟨.hbm, 39, rfl⟩
abbrev main_v25 : Ref sig .tc := ⟨.hbm, 40, rfl⟩
abbrev main_v26 : Ref sig .tc := ⟨.hbm, 41, rfl⟩
abbrev main_v27 : Ref sig .tc := ⟨.hbm, 42, rfl⟩
abbrev main_v28 : Ref sig .tc := ⟨.hbm, 43, rfl⟩
abbrev main_v29 : Ref sig .tc := ⟨.hbm, 44, rfl⟩
abbrev main_v30 : Ref sig .tc := ⟨.hbm, 45, rfl⟩
abbrev main_v31 : Ref sig .tc := ⟨.hbm, 46, rfl⟩
abbrev main_v32 : Ref sig .tc := ⟨.hbm, 47, rfl⟩
abbrev main_v33 : Ref sig .tc := ⟨.hbm, 48, rfl⟩
abbrev main_v34 : Ref sig .tc := ⟨.hbm, 49, rfl⟩
abbrev main_v35 : Ref sig .tc := ⟨.hbm, 50, rfl⟩
abbrev main_v36 : Ref sig .tc := ⟨.hbm, 51, rfl⟩
abbrev main_v37 : Ref sig .tc := ⟨.hbm, 52, rfl⟩
abbrev main_v38 : Ref sig .tc := ⟨.hbm, 53, rfl⟩
abbrev main_v39 : Ref sig .tc := ⟨.hbm, 54, rfl⟩
abbrev main_v40 : Ref sig .tc := ⟨.hbm, 55, rfl⟩
abbrev main_v41 : Ref sig .tc := ⟨.hbm, 56, rfl⟩
abbrev main_v42 : Ref sig .tc := ⟨.hbm, 57, rfl⟩
abbrev main_v43 : Ref sig .tc := ⟨.hbm, 58, rfl⟩
abbrev main_v44 : Ref sig .tc := ⟨.hbm, 59, rfl⟩
abbrev main_v45 : Ref sig .tc := ⟨.hbm, 60, rfl⟩
abbrev main_v46 : Ref sig .tc := ⟨.hbm, 61, rfl⟩
abbrev main_v47 : Ref sig .tc := ⟨.hbm, 62, rfl⟩
abbrev main_v48 : Ref sig .tc := ⟨.hbm, 63, rfl⟩
abbrev main_v49 : Ref sig .tc := ⟨.hbm, 64, rfl⟩
abbrev main_call0_cst : Ref sig .tc := ⟨.hbm, 65, rfl⟩
abbrev main_call0_v0 : Ref sig .tc := ⟨.hbm, 66, rfl⟩
abbrev main_call0_v1 : Ref sig .tc := ⟨.hbm, 67, rfl⟩
abbrev main_call0_v2 : Ref sig .tc := ⟨.hbm, 68, rfl⟩
abbrev main_call0_v3 : Ref sig .tc := ⟨.hbm, 69, rfl⟩
abbrev main_call0_v4 : Ref sig .tc := ⟨.hbm, 70, rfl⟩
abbrev main_call0_v5 : Ref sig .tc := ⟨.hbm, 71, rfl⟩
abbrev main_call0_v6 : Ref sig .tc := ⟨.hbm, 72, rfl⟩
abbrev main_call0_v7 : Ref sig .tc := ⟨.hbm, 73, rfl⟩
abbrev main_call0_v8 : Ref sig .tc := ⟨.hbm, 74, rfl⟩
abbrev main_call0_v9 : Ref sig .tc := ⟨.hbm, 75, rfl⟩
abbrev main_call0_v10 : Ref sig .tc := ⟨.hbm, 76, rfl⟩
abbrev main_call0_v11 : Ref sig .tc := ⟨.hbm, 77, rfl⟩
abbrev main_v50 : Ref sig .tc := ⟨.hbm, 78, rfl⟩
abbrev main_v51 : Ref sig .tc := ⟨.hbm, 79, rfl⟩
abbrev main_cst_0 : Ref sig .tc := ⟨.hbm, 80, rfl⟩
abbrev main_v52 : Ref sig .tc := ⟨.hbm, 81, rfl⟩
abbrev main_v53 : Ref sig .tc := ⟨.hbm, 82, rfl⟩
abbrev main_v54 : Ref sig .tc := ⟨.hbm, 83, rfl⟩
abbrev main_v55 : Ref sig .tc := ⟨.hbm, 84, rfl⟩
abbrev main_v56 : Ref sig .tc := ⟨.hbm, 85, rfl⟩
abbrev main_v57 : Ref sig .tc := ⟨.hbm, 86, rfl⟩
abbrev main_v58 : Ref sig .tc := ⟨.hbm, 87, rfl⟩
abbrev main_v59 : Ref sig .tc := ⟨.hbm, 88, rfl⟩
abbrev main_v60 : Ref sig .tc := ⟨.hbm, 89, rfl⟩
abbrev main_v61 : Ref sig .tc := ⟨.hbm, 90, rfl⟩
abbrev main_v62 : Ref sig .tc := ⟨.hbm, 91, rfl⟩
abbrev main_cst_1 : Ref sig .tc := ⟨.hbm, 92, rfl⟩
abbrev main_v63 : Ref sig .tc := ⟨.hbm, 93, rfl⟩
abbrev main_v64 : Ref sig .tc := ⟨.hbm, 94, rfl⟩
abbrev main_cst_2 : Ref sig .tc := ⟨.hbm, 95, rfl⟩
abbrev main_v65 : Ref sig .tc := ⟨.hbm, 96, rfl⟩
abbrev main_v66 : Ref sig .tc := ⟨.hbm, 97, rfl⟩
abbrev main_v67 : Ref sig .tc := ⟨.hbm, 98, rfl⟩
abbrev main_v68 : Ref sig .tc := ⟨.hbm, 99, rfl⟩
abbrev main_v69 : Ref sig .tc := ⟨.hbm, 100, rfl⟩
abbrev main_v70 : Ref sig .tc := ⟨.hbm, 101, rfl⟩
abbrev main_call1_v0 : Ref sig .tc := ⟨.hbm, 102, rfl⟩
abbrev main_call1_cst : Ref sig .tc := ⟨.hbm, 103, rfl⟩
abbrev main_call1_v1 : Ref sig .tc := ⟨.hbm, 104, rfl⟩
abbrev main_call1_v2 : Ref sig .tc := ⟨.hbm, 105, rfl⟩
abbrev main_v71 : Ref sig .tc := ⟨.hbm, 106, rfl⟩
abbrev main_cst_3 : Ref sig .tc := ⟨.hbm, 107, rfl⟩
abbrev main_v72 : Ref sig .tc := ⟨.hbm, 108, rfl⟩
abbrev main_v73 : Ref sig .tc := ⟨.hbm, 109, rfl⟩
abbrev main_v74 : Ref sig .tc := ⟨.hbm, 110, rfl⟩
abbrev main_v75 : Ref sig .tc := ⟨.hbm, 111, rfl⟩
abbrev main_cst_4 : Ref sig .tc := ⟨.hbm, 112, rfl⟩
abbrev main_v76 : Ref sig .tc := ⟨.hbm, 113, rfl⟩
abbrev main_v77 : Ref sig .tc := ⟨.hbm, 114, rfl⟩
abbrev main_v78 : Ref sig .tc := ⟨.hbm, 115, rfl⟩
abbrev main_v79 : Ref sig .tc := ⟨.hbm, 116, rfl⟩
abbrev main_v80 : Ref sig .tc := ⟨.hbm, 117, rfl⟩
abbrev main_cst_5 : Ref sig .tc := ⟨.hbm, 118, rfl⟩
abbrev main_v81 : Ref sig .tc := ⟨.hbm, 119, rfl⟩
abbrev main_v82 : Ref sig .tc := ⟨.hbm, 120, rfl⟩
abbrev main_v83 : Ref sig .tc := ⟨.hbm, 121, rfl⟩
abbrev main_v84 : Ref sig .tc := ⟨.hbm, 122, rfl⟩
abbrev main_v85 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_v91 : Ref sig .tc := ⟨.hbm, 129, rfl⟩
abbrev main_v92 : Ref sig .tc := ⟨.hbm, 130, rfl⟩
abbrev main_v93 : Ref sig .tc := ⟨.hbm, 131, rfl⟩
abbrev main_v94 : Ref sig .tc := ⟨.hbm, 132, rfl⟩
abbrev main_v95 : Ref sig .tc := ⟨.hbm, 133, rfl⟩
abbrev main_v96 : Ref sig .tc := ⟨.hbm, 134, rfl⟩
abbrev main_v97 : Ref sig .tc := ⟨.hbm, 135, rfl⟩
abbrev main_v98 : Ref sig .tc := ⟨.hbm, 136, rfl⟩
abbrev main_v99 : Ref sig .tc := ⟨.hbm, 137, rfl⟩
abbrev main_v100 : Ref sig .tc := ⟨.hbm, 138, rfl⟩
abbrev main_v101 : Ref sig .tc := ⟨.hbm, 139, rfl⟩
abbrev main_v102 : Ref sig .tc := ⟨.hbm, 140, rfl⟩
abbrev main_v103 : Ref sig .tc := ⟨.hbm, 141, rfl⟩
abbrev main_v104 : Ref sig .tc := ⟨.hbm, 142, rfl⟩
abbrev main_v105 : Ref sig .tc := ⟨.hbm, 143, rfl⟩
abbrev main_v106 : Ref sig .tc := ⟨.hbm, 144, rfl⟩
abbrev main_v107 : Ref sig .tc := ⟨.hbm, 145, rfl⟩
abbrev main_v108 : Ref sig .tc := ⟨.hbm, 146, rfl⟩
abbrev main_v109 : Ref sig .tc := ⟨.hbm, 147, rfl⟩
abbrev main_v110 : Ref sig .tc := ⟨.hbm, 148, rfl⟩
abbrev main_v111 : Ref sig .tc := ⟨.hbm, 149, rfl⟩

abbrev nD : Nat := 1
abbrev τ : Topo := Topo.v7x

variable {F : FTy → Type} [FloatOps F]
-- ==== Proof.ChunkMath.lean ====
module

public import Mathlib.Data.Matrix.Mul
public import Mathlib.Analysis.SpecialFunctions.Exp
public import Mathlib.Tactic.NoncommRing
public import Mathlib.Tactic.Ring
public import Mathlib.Tactic.Abel

@[expose] public section

noncomputable section

/-! The mathematics of one chunk of the recurrence, over the real numbers: the recurrence read token by token equals the
    closed form in products of whole matrices. -/
namespace Cert.ChunkMath
open Matrix Finset

variable {C N : ℕ}

/-- The entries strictly below the diagonal. -/
def low (A : Matrix (Fin C) (Fin C) ℝ) : Matrix (Fin C) (Fin C) ℝ := fun i j => if j.val < i.val then A i j else 0
/-- The entries on and below the diagonal. -/
def lowEq (A : Matrix (Fin C) (Fin C) ℝ) : Matrix (Fin C) (Fin C) ℝ := fun i j => if j.val ≤ i.val then A i j else 0
/-- The matrix of ones on and below the diagonal. -/
def tri : Matrix (Fin C) (Fin C) ℝ := fun i j => if j.val ≤ i.val then 1 else 0

/-- A power of a strictly lower triangular matrix vanishes within as many diagonals as the exponent says. -/
theorem low_pow_zero (A : Matrix (Fin C) (Fin C) ℝ) : ∀ (n : ℕ) (i j : Fin C), i.val < j.val + n → (low A ^ n) i j = 0
  | 0, i, j, h => by
    rw [pow_zero, Matrix.one_apply_ne]; intro e; subst e; omega
  | n + 1, i, j, h => by
    rw [pow_succ', Matrix.mul_apply]
    refine Finset.sum_eq_zero fun l _ => ?_
    by_cases hl : l.val < i.val
    · rw [low_pow_zero A n l j (by omega), mul_zero]
    · simp [low, hl]

/-- The doubling product of a matrix: `(1 + L)(1 + L²)(1 + L⁴)…`, with the power reached beside it. -/
def dblT (L : Matrix (Fin C) (Fin C) ℝ) : ℕ → Matrix (Fin C) (Fin C) ℝ × Matrix (Fin C) (Fin C) ℝ
  | 0 => (1 + L, L)
  | n + 1 => let p := dblT L n; (p.1 + p.1 * (p.2 * p.2), p.2 * p.2)

theorem dblT_snd (L : Matrix (Fin C) (Fin C) ℝ) (n : ℕ) : (dblT L n).2 = L ^ 2 ^ n := by
  induction n with
  | zero => simp [dblT]
  | succ n ih => simp only [dblT, ih]; rw [← pow_add, pow_succ, mul_two]

theorem dblT_mul (L : Matrix (Fin C) (Fin C) ℝ) (n : ℕ) : (dblT L n).1 * (1 - L) = 1 - L ^ 2 ^ (n + 1) := by
  induction n with
  | zero => simp only [dblT]; rw [zero_add, pow_one, pow_two]; noncomm_ring
  | succ n ih =>
    have h2 : (dblT L n).2 * (dblT L n).2 = L ^ 2 ^ (n + 1) := by
      rw [dblT_snd, ← pow_add, pow_succ 2 n, mul_two]
    simp only [dblT, h2]
    have hc : L ^ 2 ^ (n + 1) * (1 - L) = (1 - L) * L ^ 2 ^ (n + 1) := by
      rw [mul_sub, sub_mul, mul_one, one_mul, ← pow_succ, ← pow_succ']
    rw [add_mul, mul_assoc, hc, ← mul_assoc, ih, sub_mul, one_mul, ← pow_add, pow_succ 2 (n + 1), mul_two]
    abel

/-- Over 64 tokens five doublings invert `1 - L` for a strictly lower triangular `L`. -/
theorem dblT_inv (A : Matrix (Fin 64) (Fin 64) ℝ) : (dblT (low A) 5).1 * (1 - low A) = 1 := by
  rw [dblT_mul]
  have : low A ^ 2 ^ (5 + 1) = 0 := by
    ext i j
    exact low_pow_zero A _ i j (by have := i.isLt; norm_num; omega)
  rw [this, sub_zero]

/-- A sum over the tokens before the next one is the sum before this one, and this one's term. -/
theorem sum_lt_succ (f : Fin C → ℝ) (i : Fin C) :
    (∑ j : Fin C, if j.val < i.val + 1 then f j else 0) = (∑ j : Fin C, if j.val < i.val then f j else 0) + f i := by
  have : ∀ j : Fin C, (if j.val < i.val + 1 then f j else 0) = (if j.val < i.val then f j else 0) + (if j = i then f j else 0) := by
    intro j
    by_cases h1 : j.val < i.val
    · have : j ≠ i := fun e => by subst e; omega
      simp [h1, this, Nat.lt_succ_of_lt h1]
    · by_cases h2 : j = i
      · subst h2; simp
      · have : ¬ j.val < i.val + 1 := fun h => h2 (Fin.ext (by omega))
        simp [h1, h2, this]
  simp only [this, Finset.sum_add_distrib, Finset.sum_ite_eq', Finset.mem_univ, if_true]

section chunk
variable (ld k v a b r : Matrix (Fin C) (Fin N) ℝ) (S : ℕ → Matrix (Fin N) (Fin N) ℝ)

/-- The decay of feature `q` over the tokens before the `i`-th. -/
def dec (i : ℕ) (q : Fin N) : ℝ := Real.exp (∑ j : Fin C, if j.val < i then ld j q else 0)

theorem dec_succ (i : Fin C) (q : Fin N) : dec ld (i.val + 1) q = dec ld i.val q * Real.exp (ld i q) := by
  unfold dec; rw [sum_lt_succ (fun j => ld j q), Real.exp_add]

theorem dec_pos (i : ℕ) (q : Fin N) : 0 < dec ld i q := Real.exp_pos _

/-- The running sums of the log decays, this token's included. -/
def cs : Matrix (Fin C) (Fin N) ℝ := tri * ld

theorem cs_apply (i : Fin C) (q : Fin N) : cs ld i q = ∑ j : Fin C, if j.val < i.val + 1 then ld j q else 0 := by
  unfold cs
  rw [Matrix.mul_apply]
  refine Finset.sum_congr rfl fun j _ => ?_
  simp [tri, Nat.lt_succ_iff]

theorem exp_cs (i : Fin C) (q : Fin N) : Real.exp (cs ld i q) = dec ld (i.val + 1) q := by rw [cs_apply]; rfl

theorem exp_cs_sub (i : Fin C) (q : Fin N) : Real.exp (cs ld i q - ld i q) = dec ld i.val q := by
  rw [Real.exp_sub, exp_cs, dec_succ, mul_div_assoc, div_self (Real.exp_pos _).ne', mul_one]

theorem exp_neg_cs (i : Fin C) (q : Fin N) : Real.exp (-cs ld i q) = (dec ld (i.val + 1) q)⁻¹ := by
  rw [Real.exp_neg, exp_cs]

/-- The vectors the state is read with, the decay before the token taken into them. -/
def at' : Matrix (Fin C) (Fin N) ℝ := fun i q => a i q * Real.exp (cs ld i q - ld i q)
/-- A vector with the decay up to the token taken out of it. -/
def un (b : Matrix (Fin C) (Fin N) ℝ) : Matrix (Fin C) (Fin N) ℝ := fun i q => b i q * Real.exp (-cs ld i q)
/-- A vector with the decay up to the token taken into it. -/
def dn (r : Matrix (Fin C) (Fin N) ℝ) : Matrix (Fin C) (Fin N) ℝ := fun i q => r i q * Real.exp (cs ld i q)

/-- What each token reads from the state before it. -/
def U : Matrix (Fin C) (Fin N) ℝ := fun i p => ∑ q, S i.val p q * a i q

/-- The recurrence: every token decays the state, adds what it reads of it along `b`, and its own `v kᵀ`. -/
def Steps : Prop := ∀ (i : Fin C) (p q : Fin N),
  S (i.val + 1) p q = S i.val p q * Real.exp (ld i q) + U a S i p * b i q + v i p * k i q

/-- The state before the `i`-th token, written out. -/
theorem state_eq (h : Steps ld k v a b S) : ∀ i : ℕ, i ≤ C → ∀ p q : Fin N,
    S i p q = dec ld i q * (S 0 p q + ∑ j : Fin C, if j.val < i then U a S j p * un ld b j q + v j p * un ld k j q else 0)
  | 0, _, p, q => by simp [dec]
  | i + 1, hi, p, q => by
    have ih := state_eq h i (by omega) p q
    have hs := h ⟨i, hi⟩ p q
    simp only at hs
    rw [hs, ih, sum_lt_succ (fun j => U a S j p * un ld b j q + v j p * un ld k j q) ⟨i, hi⟩]
    have hd := dec_succ ld ⟨i, hi⟩ q
    simp only at hd
    have hb : ∀ b : Matrix (Fin C) (Fin N) ℝ, b ⟨i, hi⟩ q = dec ld (i + 1) q * un ld b ⟨i, hi⟩ q := by
      intro b
      unfold un
      rw [exp_neg_cs, mul_comm (b _ _), ← mul_assoc, mul_inv_cancel₀ (dec_pos ld _ q).ne', one_mul]
    rw [hb b, hb k, hd]
    ring

/-- A row read against a state written as start plus updates. -/
theorem read_eq (c : Fin N → ℝ) (S0 : Fin N → ℝ) (d : Fin C → Prop) [DecidablePred d] (u w : Fin C → ℝ)
    (B K : Matrix (Fin C) (Fin N) ℝ) :
    ∑ q, c q * (S0 q + ∑ j : Fin C, if d j then u j * B j q + w j * K j q else 0)
      = ∑ q, c q * S0 q + ∑ j : Fin C, (if d j then ∑ q, c q * B j q else 0) * u j
        + ∑ j : Fin C, (if d j then ∑ q, c q * K j q else 0) * w j := by
  simp only [mul_add, Finset.sum_add_distrib, add_assoc]
  congr 1
  simp only [Finset.mul_sum]
  rw [Finset.sum_comm, ← Finset.sum_add_distrib]
  refine Finset.sum_congr rfl fun j _ => ?_
  by_cases hj : d j
  · simp only [hj, if_true, Finset.sum_mul, ← Finset.sum_add_distrib]
    refine Finset.sum_congr rfl fun q _ => ?_
    ring
  · simp [hj]

/-- What the tokens read solves a triangular system. -/
theorem U_eq (h : Steps ld k v a b S) : U a S = at' ld a * (S 0)ᵀ + low (at' ld a * (un ld b)ᵀ) * U a S
    + low (at' ld a * (un ld k)ᵀ) * v := by
  ext i p
  have e := read_eq (fun q => at' ld a i q) (fun q => S 0 p q) (fun j : Fin C => j.val < i.val)
    (fun j => U a S j p) (fun j => v j p) (un ld b) (un ld k)
  simp only [Matrix.add_apply, Matrix.mul_apply, low, Matrix.transpose_apply]
  rw [← e]
  show ∑ q, S i.val p q * a i q = _
  refine Finset.sum_congr rfl fun q _ => ?_
  rw [state_eq ld k v a b S h i.val (le_of_lt i.isLt) p q]
  unfold at'
  rw [exp_cs_sub]
  ring

/-- The tokens' outputs, in what they read. -/
theorem Y_eq (h : Steps ld k v a b S) (i : Fin C) (p : Fin N) : ∑ q, S (i.val + 1) p q * r i q
    = (dn ld r * (S 0)ᵀ + lowEq (dn ld r * (un ld b)ᵀ) * U a S + lowEq (dn ld r * (un ld k)ᵀ) * v) i p := by
  have e := read_eq (fun q => dn ld r i q) (fun q => S 0 p q) (fun j : Fin C => j.val < i.val + 1)
    (fun j => U a S j p) (fun j => v j p) (un ld b) (un ld k)
  simp only [Matrix.add_apply, Matrix.mul_apply, lowEq, Matrix.transpose_apply]
  simp only [Nat.lt_succ_iff] at e
  rw [← e]
  refine Finset.sum_congr rfl fun q _ => ?_
  rw [state_eq ld k v a b S h (i.val + 1) i.isLt p q]
  unfold dn
  rw [exp_cs]
  simp only [Nat.lt_succ_iff]
  ring

variable (T : Matrix (Fin C) (Fin C) ℝ)

/-- The part of the tokens' reads that the starting state makes. -/
def w1 : Matrix (Fin C) (Fin N) ℝ := T * at' ld a
/-- The part of the tokens' reads that the chunk itself makes. -/
def xx : Matrix (Fin C) (Fin N) ℝ := T * (low (at' ld a * (un ld k)ᵀ) * v)

theorem U_solve (h : Steps ld k v a b S) (hT : T * (1 - low (at' ld a * (un ld b)ᵀ)) = 1) :
    U a S = w1 ld a T * (S 0)ᵀ + xx ld k v a T := by
  have e := U_eq ld k v a b S h
  have e2 : (1 - low (at' ld a * (un ld b)ᵀ)) * U a S = at' ld a * (S 0)ᵀ + low (at' ld a * (un ld k)ᵀ) * v := by
    rw [Matrix.sub_mul, Matrix.one_mul]
    refine sub_eq_of_eq_add ?_
    rw [add_right_comm]
    exact e
  have e3 := congrArg (fun M => T * M) e2
  simp only [← mul_assoc, ← Matrix.mul_assoc, hT, Matrix.one_mul] at e3
  rw [e3]
  simp only [w1, xx, Matrix.mul_add, Matrix.mul_assoc]

/-- The chunk's outputs, as the product form has them. -/
def Yf (S0 : Matrix (Fin N) (Fin N) ℝ) : Matrix (Fin C) (Fin N) ℝ :=
  (dn ld r + lowEq (dn ld r * (un ld b)ᵀ) * w1 ld a T) * S0ᵀ
    + (lowEq (dn ld r * (un ld b)ᵀ) * xx ld k v a T + lowEq (dn ld r * (un ld k)ᵀ) * v)

/-- A matrix with its columns scaled. -/
def scale {A B : Type} (e : B → ℝ) (M : Matrix A B ℝ) : Matrix A B ℝ := fun p q => M p q * e q

/-- The state after the chunk, as the product form has it; `e` is the decay over the whole chunk. -/
def Sf (e : Fin N → ℝ) (S0 : Matrix (Fin N) (Fin N) ℝ) : Matrix (Fin N) (Fin N) ℝ :=
  S0 * scale e (1 + (w1 ld a T)ᵀ * un ld b) + scale e ((xx ld k v a T)ᵀ * un ld b + vᵀ * un ld k)

/-- THE CHUNK'S OUTPUTS: token by token and in product form they are the same. -/
theorem Y_chunk (h : Steps ld k v a b S) (hT : T * (1 - low (at' ld a * (un ld b)ᵀ)) = 1) (i : Fin C) (p : Fin N) :
    ∑ q, S (i.val + 1) p q * r i q = Yf ld k v a b r T (S 0) i p := by
  have e : dn ld r * (S 0)ᵀ + lowEq (dn ld r * (un ld b)ᵀ) * U a S + lowEq (dn ld r * (un ld k)ᵀ) * v
      = Yf ld k v a b r T (S 0) := by
    rw [U_solve ld k v a b S T h hT]
    unfold Yf
    simp only [Matrix.mul_add, Matrix.add_mul, Matrix.mul_assoc, add_assoc]
  rw [Y_eq ld k v a b r S h, e]

/-- THE CHUNK'S FINAL STATE: token by token and in product form it is the same. -/
theorem S_chunk (h : Steps ld k v a b S) (hT : T * (1 - low (at' ld a * (un ld b)ᵀ)) = 1) (p q : Fin N) :
    S C p q = Sf ld k v a b T (fun q => dec ld C q) (S 0) p q := by
  rw [state_eq ld k v a b S h C le_rfl p q]
  have e : (∑ j : Fin C, if j.val < C then U a S j p * un ld b j q + v j p * un ld k j q else 0)
      = ((U a S)ᵀ * un ld b + vᵀ * un ld k) p q := by
    simp only [Fin.is_lt, if_true, Matrix.add_apply, Matrix.mul_apply, Matrix.transpose_apply, Finset.sum_add_distrib]
  have e2 : Sf ld k v a b T (fun q => dec ld C q) (S 0) p q
      = (S 0 * (1 + (w1 ld a T)ᵀ * un ld b) + ((xx ld k v a T)ᵀ * un ld b + vᵀ * un ld k) : Matrix (Fin N) (Fin N) ℝ) p q
        * dec ld C q := by
    unfold Sf
    rw [Matrix.add_apply, Matrix.add_apply, add_mul, Matrix.mul_apply, Matrix.mul_apply, Finset.sum_mul]
    simp only [scale, mul_assoc]
  rw [e, e2, U_solve ld k v a b S T h hT]
  simp only [Matrix.transpose_add, Matrix.transpose_mul, Matrix.transpose_transpose, Matrix.mul_add, Matrix.add_mul,
    Matrix.mul_one, Matrix.add_apply, Matrix.mul_assoc]
  ring
end chunk

end Cert.ChunkMath
end

end
-- ==== Proof.Heads.lean ====
/-
  Families of heads. Four heads lie side by side in the kernel's arrays: a 64×256 matrix is four 64×64 matrices next to
  each other (`side`), and a 256×256 matrix may be four 64×64 matrices on the diagonal (`diag`). Products of such matrices
  are the products head by head.
-/
module

public import proofs.«01_k».proof.Proof.ChunkMath

@[expose] public section

noncomputable section

namespace Cert.Wide

open scoped Matrix

/-- Four square matrices, one for each head. -/
abbrev Fam := Fin 4 → Matrix (Fin 64) (Fin 64) ℝ

/-- The head a column of a wide array belongs to. -/
def hd (c : Fin 256) : Fin 4 := ⟨c.val / 64, by omega⟩
/-- The column's number inside its head. -/
def lo (c : Fin 256) : Fin 64 := ⟨c.val % 64, by omega⟩
/-- The column of a head and a number. -/
def col (h : Fin 4) (n : Fin 64) : Fin 256 := ⟨h.val * 64 + n.val, by omega⟩

theorem hd_col_val (h : Fin 4) (n : Fin 64) : (hd (col h n)).val = h.val := by
  show (h.val * 64 + n.val) / 64 = h.val
  have := n.isLt; omega
theorem hd_col (h : Fin 4) (n : Fin 64) : hd (col h n) = h := Fin.ext (hd_col_val h n)
theorem lo_col (h : Fin 4) (n : Fin 64) : lo (col h n) = n :=
  Fin.ext (show (h.val * 64 + n.val) % 64 = n.val by have := n.isLt; omega)
theorem col_hd_lo (c : Fin 256) : col (hd c) (lo c) = c :=
  Fin.ext (show (c.val / 64) * 64 + c.val % 64 = c.val by omega)

/-- Columns are pairs of a head and a number inside the head. -/
def colEquiv : Fin 4 × Fin 64 ≃ Fin 256 where
  toFun x := col x.1 x.2
  invFun c := (hd c, lo c)
  left_inv x := Prod.ext (hd_col x.1 x.2) (lo_col x.1 x.2)
  right_inv c := col_hd_lo c

/-- A sum over the columns is the sum over the heads of the sums inside each. -/
theorem sum_col {M : Type} [AddCommMonoid M] (f : Fin 256 → M) : ∑ c, f c = ∑ h : Fin 4, ∑ n : Fin 64, f (col h n) := by
  rw [← colEquiv.sum_comp f, Fintype.sum_prod_type]
  rfl

/-- Four matrices side by side, as one matrix. -/
def side (A : Fam) : Matrix (Fin 64) (Fin 256) ℝ := fun i c => A (hd c) i (lo c)
/-- Four matrices on the diagonal, as one matrix. -/
def diag (A : Fam) : Matrix (Fin 256) (Fin 256) ℝ := fun p c => if hd p = hd c then A (hd c) (lo p) (lo c) else 0

theorem side_mul_diag (A B : Fam) : side A * diag B = side (A * B) := by
  ext i c
  rw [Matrix.mul_apply, sum_col, Finset.sum_eq_single (hd c)]
  · simp only [side, diag, hd_col, lo_col, if_true, Pi.mul_apply, Matrix.mul_apply]
  · intro h _ hh
    exact Finset.sum_eq_zero fun n _ => by simp only [diag, hd_col, if_neg hh, mul_zero]
  · simp

theorem side_mul_diagT (A B : Fam) : side A * (diag B)ᵀ = side (fun h => A h * (B h)ᵀ) := by
  ext i c
  rw [Matrix.mul_apply, sum_col, Finset.sum_eq_single (hd c)]
  · simp only [side, diag, hd_col, lo_col, if_true, Matrix.transpose_apply, Matrix.mul_apply]
  · intro h _ hh
    exact Finset.sum_eq_zero fun n _ => by simp only [Matrix.transpose_apply, diag, hd_col, if_neg (Ne.symm hh), mul_zero]
  · simp

theorem diag_mul_diag (A B : Fam) : diag A * diag B = diag (A * B) := by
  ext p c
  rw [Matrix.mul_apply, sum_col, Finset.sum_eq_single (hd c)]
  · simp only [diag, hd_col, lo_col, if_true, Pi.mul_apply, Matrix.mul_apply]
    split
    · rfl
    · simp
  · intro h _ hh
    exact Finset.sum_eq_zero fun n _ => by simp only [diag, hd_col, if_neg hh, mul_zero]
  · simp

theorem mul_side (M : Matrix (Fin 64) (Fin 64) ℝ) (A : Fam) : M * side A = side (fun h => M * A h) := by
  ext i c
  simp only [Matrix.mul_apply, side]

/-- The diagonal matrices of a 256×256 matrix. -/
def dg (M : Matrix (Fin 256) (Fin 256) ℝ) : Fam := fun h i j => M (col h i) (col h j)

theorem dg_add (M N : Matrix (Fin 256) (Fin 256) ℝ) : dg (M + N) = dg M + dg N := rfl
theorem dg_tn (A B : Fam) : dg ((side A)ᵀ * side B) = fun h => (A h)ᵀ * B h := by
  funext h; ext i j
  simp only [dg, side, Matrix.mul_apply, Matrix.transpose_apply, hd_col, lo_col]

theorem side_add (A B : Fam) : side A + side B = side (A + B) := rfl
theorem side_zero : side 0 = 0 := rfl
theorem diag_add (A B : Fam) : diag A + diag B = diag (A + B) := by
  ext p c; simp only [diag, Matrix.add_apply, Pi.add_apply]; split <;> simp
theorem diag_zero : diag 0 = 0 := by
  ext p c; simp [diag]

end Cert.Wide
end

end
-- ==== Proof.Wide.lean ====
/-
  The kernel's operations on arrays of real entries. An array of the ideal instance all of whose entries are real is
  `up M` for a real matrix `M`; every operation the kernel applies to such arrays gives `up` of the same operation on the
  matrices, and for arrays that hold four heads side by side or on the diagonal it gives the operation head by head.
-/
module

public import proofs.«01_k».proof.Proof.Gen.KernelIdeal.Skeleton
public import proofs.«01_k».proof.Proof.Heads
public import Idealize.ShloMosaic.Lib.Pointwise

@[expose] public section

set_option maxRecDepth 16384

noncomputable section

namespace Cert.Wide

open Idealize.ShloMosaic Cert.KernelIdeal Cert.KernelIdeal.Gen
open scoped Matrix

/-- Real entries as an array of the ideal instance. -/
def up {p q : ℕ} (φ : FTy) (M : Matrix (Fin p) (Fin q) ℝ) : FVec Ideal ⟨2, ![p, q]⟩ φ := fun i => ((M (i 0) (i 1) : ℝ) : EReal)

/-! ## The operations -/

theorem coe_sum {ι : Type} (s : Finset ι) (f : ι → ℝ) : ∑ i ∈ s, ((f i : ℝ) : EReal) = ((∑ i ∈ s, f i : ℝ) : EReal) := by
  induction s using Finset.cons_induction with
  | empty => simp
  | cons a s h ih => rw [Finset.sum_cons, Finset.sum_cons, ih, EReal.coe_add]

/-- Four heads side by side, as an array of the ideal instance. -/
def wd (φ : FTy) (A : Fam) : FVec Ideal S64x256 φ := fun i => ((side A (i 0) (i 1) : ℝ) : EReal)
/-- Four heads on the diagonal, as an array of the ideal instance. -/
def bd (φ : FTy) (A : Fam) : FVec Ideal S256x256 φ := fun i => ((diag A (i 0) (i 1) : ℝ) : EReal)
/-- Any real 256×256 matrix, as an array of the ideal instance. -/
def fm (φ : FTy) (M : Matrix (Fin 256) (Fin 256) ℝ) : FVec Ideal S256x256 φ := fun i => ((M (i 0) (i 1) : ℝ) : EReal)
/-- A real 64×64 matrix, as an array of the ideal instance. -/
def sq (φ : FTy) (M : Matrix (Fin 64) (Fin 64) ℝ) : FVec Ideal S64x64 φ := fun i => ((M (i 0) (i 1) : ℝ) : EReal)
/-- A row over the four heads, as an array of the ideal instance. -/
def rw1 (φ : FTy) (e : Fin 4 → Fin 64 → ℝ) : FVec Ideal S1x256 φ := fun i => ((e (hd (i 1)) (lo (i 1)) : ℝ) : EReal)
/-- One head of four side by side, the other three zero, as an array of the ideal instance. -/
def part (φ : FTy) (h : Fin 4) (A : Fam) : FVec Ideal S64x256 φ :=
  fun i => if hd (i 1) = h then ((side A (i 0) (i 1) : ℝ) : EReal) else 0

/-- The entrywise product, head by head. -/
def had (A B : Fam) : Fam := fun h i j => A h i j * B h i j
/-- The entrywise exponential, head by head. -/
def ex (A : Fam) : Fam := fun h i j => Real.exp (A h i j)
/-- The product with the transpose of the second factor, head by head. -/
def nt (A B : Fam) : Fam := fun h => A h * (B h)ᵀ
/-- The product with the transpose of the first factor, head by head. -/
def tn (A B : Fam) : Fam := fun h => (A h)ᵀ * B h
/-- The columns scaled, head by head. -/
def scl (e : Fin 4 → Fin 64 → ℝ) (A : Fam) : Fam := fun h => ChunkMath.scale (e h) (A h)
/-- The entries below the diagonal, head by head. -/
def lowF (A : Fam) : Fam := fun h => ChunkMath.low (A h)
/-- The entries on and below the diagonal, head by head. -/
def lowEqF (A : Fam) : Fam := fun h => ChunkMath.lowEq (A h)
/-- One matrix times every head. -/
def lmul (M : Matrix (Fin 64) (Fin 64) ℝ) (A : Fam) : Fam := fun h => M * A h

section ops
variable {φ ψ : FTy}

theorem truncf_wd (A : Fam) (h) : truncf (F := Ideal) ψ (wd φ A) h = wd ψ A := rfl
theorem extf_wd (A : Fam) (h) : extf (F := Ideal) ψ (wd φ A) h = wd ψ A := rfl
theorem truncf_bd (A : Fam) (h) : truncf (F := Ideal) ψ (bd φ A) h = bd ψ A := rfl
theorem extf_bd (A : Fam) (h) : extf (F := Ideal) ψ (bd φ A) h = bd ψ A := rfl
theorem truncf_sq (A : Matrix (Fin 64) (Fin 64) ℝ) (h) : truncf (F := Ideal) ψ (sq φ A) h = sq ψ A := rfl
theorem extf_sq (A : Matrix (Fin 64) (Fin 64) ℝ) (h) : extf (F := Ideal) ψ (sq φ A) h = sq ψ A := rfl
theorem addf_wd (A B : Fam) : addf (wd φ A) (wd φ B) = wd φ (A + B) := by
  funext i; exact (EReal.coe_add _ _).symm
theorem subf_wd (A B : Fam) : subf (wd φ A) (wd φ B) = wd φ (A - B) := by
  funext i; exact (EReal.coe_sub _ _).symm
theorem mulf_wd (A B : Fam) : mulf (wd φ A) (wd φ B) = wd φ (had A B) := by
  funext i; exact (EReal.coe_mul _ _).symm
theorem exp_wd (A : Fam) : exp (wd φ A) = wd φ (ex A) := by
  funext i; rfl
theorem addf_bd (A B : Fam) : addf (bd φ A) (bd φ B) = bd φ (A + B) := by
  funext i; simp only [bd, ← diag_add]; exact (EReal.coe_add _ _).symm
theorem subf_bd (A B : Fam) : subf (bd φ A) (bd φ B) = bd φ (A - B) := by
  funext j; idx_vars j
  pointwise [bd]
  rw [← EReal.coe_sub]
  simp only [diag]
  split <;> simp

theorem subf_sq (A B : Matrix (Fin 64) (Fin 64) ℝ) : subf (sq φ A) (sq φ B) = sq φ (A - B) := by
  funext i; exact (EReal.coe_sub _ _).symm
theorem addf_fm (A B : Matrix (Fin 256) (Fin 256) ℝ) : addf (fm φ A) (fm φ B) = fm φ (A + B) := by
  funext i; exact (EReal.coe_add _ _).symm

theorem zero_wd : constant (F := Ideal) S64x256 .f32 0x00000000#32 = wd .f32 0 := by
  funext i
  simp only [wd, side_zero, Matrix.zero_apply, EReal.coe_zero]
  exact Ideal.ofBits_zero_f32
theorem bzero_wd : broadcast S64x256 (Scalar.ofBits (F := Ideal) .f32 0x00000000#32) = wd .f32 0 := zero_wd
theorem bzero_wd' : broadcast S64x256 (FloatOps.ofBits (F := Ideal) .f32 0x00000000#32) = wd .f32 0 := zero_wd
theorem zero_bd : constant (F := Ideal) S256x256 .f32 0x00000000#32 = bd .f32 0 := by
  funext i
  simp only [bd, diag_zero, Matrix.zero_apply, EReal.coe_zero]
  exact Ideal.ofBits_zero_f32
theorem bzero_bd : broadcast S256x256 (Scalar.ofBits (F := Ideal) .f32 0x00000000#32) = bd .f32 0 := zero_bd
theorem bzero_bd' : broadcast S256x256 (FloatOps.ofBits (F := Ideal) .f32 0x00000000#32) = bd .f32 0 := zero_bd

theorem wd_zero : wd φ 0 = fun _ => 0 := by
  funext j; idx_vars j
  pointwise [wd]
  rw [side_zero]; simp

theorem bd_zero : bd φ 0 = fun _ => 0 := by
  funext j; idx_vars j
  pointwise [bd]
  rw [diag_zero]; simp

/-! ### The products -/

theorem matmul_nn (A B : Fam) :
    matmul (F := Ideal) dot_S64x256_S256x256_S64x256_1_0_0_1_n_n none (wd φ A) (bd ψ B) (wd .f32 0) = wd .f32 (A * B) := by
  rw [wd_zero]
  funext j; idx_vars j
  pointwise [wd, bd]
  simp only [zero_add, ← EReal.coe_mul, coe_sum]
  rw [← side_mul_diag, Matrix.mul_apply]
theorem matmul_nt (A B : Fam) :
    matmul (F := Ideal) dot_S64x256_S256x256_S64x256_1_1_0_0_n_n none (wd φ A) (bd ψ B) (wd .f32 0) = wd .f32 (nt A B) := by
  rw [wd_zero]
  funext j; idx_vars j
  pointwise [wd, bd]
  simp only [zero_add, ← EReal.coe_mul, coe_sum]
  unfold nt
  rw [← side_mul_diagT, Matrix.mul_apply]
  rfl
theorem matmul_dd (A B : Fam) :
    matmul (F := Ideal) dot_S256x256_S256x256_S256x256_1_0_0_1_n_n none (bd φ A) (bd ψ B) (bd .f32 0) = bd .f32 (A * B) := by
  rw [bd_zero]
  funext j; idx_vars j
  pointwise [bd]
  simp only [zero_add, ← EReal.coe_mul, coe_sum]
  rw [← diag_mul_diag, Matrix.mul_apply]
theorem matmul_sq (M : Matrix (Fin 64) (Fin 64) ℝ) (A : Fam) :
    matmul (F := Ideal) dot_S64x64_S64x256_S64x256_1_0_0_1_n_n none (sq φ M) (wd ψ A) (wd .f32 0) = wd .f32 (lmul M A) := by
  rw [wd_zero]
  funext j; idx_vars j
  pointwise [wd, sq]
  simp only [zero_add, ← EReal.coe_mul, coe_sum]
  unfold lmul
  rw [← mul_side, Matrix.mul_apply]
theorem matmul_tn (A B : Fam) :
    matmul (F := Ideal) dot_S64x256_S64x256_S256x256_0_0_1_1_n_n none (wd φ A) (wd ψ B) (bd .f32 0)
      = fm .f32 ((side A)ᵀ * side B) := by
  rw [bd_zero]
  funext j; idx_vars j
  pointwise [wd, fm]
  simp only [zero_add, ← EReal.coe_mul, coe_sum]
  rw [Matrix.mul_apply]
  rfl

theorem dg_tn' (A B : Fam) : dg ((side A)ᵀ * side B) = tn A B := dg_tn A B

theorem nt_zero (A : Fam) : nt A 0 = 0 := by funext h; simp [nt]
theorem zero_nt (A : Fam) : nt 0 A = 0 := by funext h; simp [nt]
theorem tn_zero (A : Fam) : tn A 0 = 0 := by funext h; simp [tn]
theorem zero_tn (A : Fam) : tn 0 A = 0 := by funext h; simp [tn]
theorem lmul_zero (M : Matrix (Fin 64) (Fin 64) ℝ) : lmul M 0 = 0 := by funext h; simp [lmul]
theorem zero_lmul (A : Fam) : lmul 0 A = 0 := by funext h; simp [lmul]

/-! ### The masks -/

/-- The mask of one head's columns. -/
def mHead (h : Fin 4) : IVec S64x256 1 := fun i => if hd (i 1) = h then 1#1 else 0#1
/-- The mask of the entries below the diagonal, head by head. -/
def mLow : IVec S64x256 1 := fun i => if (lo (i 1)).val < (i 0).val then 1#1 else 0#1
/-- The mask of the entries on and below the diagonal, head by head. -/
def mLowEq : IVec S64x256 1 := fun i => if (lo (i 1)).val ≤ (i 0).val then 1#1 else 0#1
/-- The mask of the diagonal blocks. -/
def mSame : IVec S256x256 1 := fun i => if hd (i 0) = hd (i 1) then 1#1 else 0#1

theorem mask_head : k0_pay4 = fun i : S64x256.Idx => BitVec.ofNat 32 (hd (i 1)).val := by
  funext j
  pointwise [k0_pay4]
  generalize j 1 = b; clear j; revert b
  show ∀ b : Fin 256, _
  decide +kernel
theorem mask_lo : k0_pay7 64#32 k0_pay5 k0_pay6 = fun i : S64x256.Idx => BitVec.ofNat 32 (lo (i 1)).val := by
  funext j
  pointwise [k0_pay7, k0_pay5, k0_pay6]
  generalize j 1 = b; clear j; revert b
  show ∀ b : Fin 256, _
  decide +kernel
theorem mask_same0 : k0_pay11 = fun i : S256x256.Idx => BitVec.ofNat 32 (hd (i 0)).val := by
  funext j
  pointwise [k0_pay11]
  generalize j 0 = b; clear j; revert b
  show ∀ b : Fin 256, _
  decide +kernel

theorem cmp_lt : ∀ a b : Fin 64, IntOp.cmpi .slt (BitVec.ofNat 32 a.val) (BitVec.ofNat 32 b.val) = if a.val < b.val then 1#1 else 0#1 := by
  decide +kernel
theorem cmp_le : ∀ a b : Fin 64, IntOp.cmpi .sle (BitVec.ofNat 32 a.val) (BitVec.ofNat 32 b.val) = if a.val ≤ b.val then 1#1 else 0#1 := by
  decide +kernel
theorem cmp_eq : ∀ a b : Fin 64, IntOp.cmpi .eq (BitVec.ofNat 32 a.val) (BitVec.ofNat 32 b.val) = if a = b then 1#1 else 0#1 := by
  decide +kernel
theorem cmp_eq4 : ∀ a b : Fin 4, IntOp.cmpi .eq (BitVec.ofNat 32 a.val) (BitVec.ofNat 32 b.val) = if a = b then 1#1 else 0#1 := by
  decide +kernel
theorem cmp_eqW : ∀ a b : Fin 256, IntOp.cmpi .eq (BitVec.ofNat 32 a.val) (BitVec.ofNat 32 b.val) = if a = b then 1#1 else 0#1 := by
  intro a b
  have e : (BitVec.ofNat 32 a.val == BitVec.ofNat 32 b.val) = decide (a = b) := by
    rw [Bool.beq_eq_decide_eq]
    refine decide_eq_decide.mpr ⟨fun h => ?_, fun h => by rw [h]⟩
    have h := congrArg BitVec.toNat h
    simp only [BitVec.toNat_ofNat] at h
    exact Fin.ext (by omega)
  simp only [IntOp.cmpi, e]
  by_cases h : a = b <;> simp [h]

theorem head0 : cmpi .eq k0_pay4 (broadcast S64x256 0#32) = mHead 0 := by
  rw [mask_head]; funext j; exact cmp_eq4 (hd (j 1)) 0
theorem head1 : cmpi .eq k0_pay4 (broadcast S64x256 1#32) = mHead 1 := by
  rw [mask_head]; funext j; exact cmp_eq4 (hd (j 1)) 1
theorem head2 : cmpi .eq k0_pay4 (broadcast S64x256 2#32) = mHead 2 := by
  rw [mask_head]; funext j; exact cmp_eq4 (hd (j 1)) 2
theorem head3 : cmpi .eq k0_pay4 (broadcast S64x256 3#32) = mHead 3 := by
  rw [mask_head]; funext j; exact cmp_eq4 (hd (j 1)) 3
theorem mask_low (z) (hz : z = 64#32) : k0_pay9 (iota Kind.tc S64x256 32 [0] iota_S64x256_d0_w32) z k0_pay5 k0_pay6 = mLow := by
  subst hz
  unfold k0_pay9; rw [mask_lo]; funext j
  pointwise
  exact cmp_lt (lo (j 1)) (j 0)
theorem mask_lowEq (z) (hz : z = 64#32) : k0_pay10 (iota Kind.tc S64x256 32 [0] iota_S64x256_d0_w32) z k0_pay5 k0_pay6 = mLowEq := by
  subst hz
  unfold k0_pay10; rw [mask_lo]; funext j
  pointwise
  exact cmp_le (lo (j 1)) (j 0)
theorem tril_eq : k0_pay16 (F := Ideal) = sq .f32 ChunkMath.tri := by
  funext j; idx_vars j
  pointwise [k0_pay16, sq, ChunkMath.tri]
  rw [cmp_le j1 j0]
  by_cases h : j1.val ≤ j0.val <;> simp [Scalar.select, h]

theorem mask_same (x y z) (hz : z = 64#32) (hx : x = 1#32) (hy : y = 0#32) :
    k0_pay14 (iota Kind.tc S256x256 32 [1] iota_S256x256_d1_w32) k0_pay11 z k0_pay12 k0_pay13 x y = mSame := by
  subst hx hy hz
  unfold k0_pay14; rw [mask_same0]; funext j; idx_vars j
  pointwise [k0_pay12, k0_pay13, mSame]
  refine Eq.trans ?_ (cmp_eq4 (hd j0) (hd j1))
  congr 1
  clear j0; revert j1
  decide +kernel

theorem select_head (h : Fin 4) (A : Fam) : select (mHead h) (wd φ A) (wd φ 0) = part φ h A := by
  rw [wd_zero]
  funext j; idx_vars j
  pointwise [mHead, part, wd]
  by_cases e : hd j1 = h <;> simp [Scalar.select, e]

theorem select_low (A : Fam) : select mLow (wd φ A) (wd φ 0) = wd φ (lowF A) := by
  rw [wd_zero]
  funext j; idx_vars j
  pointwise [mLow, wd, lowF, side, ChunkMath.low]
  by_cases e : (lo j1).val < j0.val <;> simp [Scalar.select, e]
theorem select_lowEq (A : Fam) : select mLowEq (wd φ A) (wd φ 0) = wd φ (lowEqF A) := by
  rw [wd_zero]
  funext j; idx_vars j
  pointwise [mLowEq, wd, lowEqF, side, ChunkMath.lowEq]
  by_cases e : (lo j1).val ≤ j0.val <;> simp [Scalar.select, e]

theorem select_same (M : Matrix (Fin 256) (Fin 256) ℝ) : select mSame (fm φ M) (bd φ 0) = bd φ (dg M) := by
  rw [bd_zero]
  funext j; idx_vars j
  pointwise [mSame, fm, bd, dg, diag]
  by_cases e : hd j0 = hd j1
  · have e0 : col (hd j1) (lo j0) = j0 := by rw [← e, col_hd_lo]
    simp [Scalar.select, e, e0, col_hd_lo]
  · simp [Scalar.select, e]

theorem stack (A : Fam) :
    concatenate S256x256 0 [⟨S64x256, part .f32 0 A⟩, ⟨S64x256, part .f32 1 A⟩, ⟨S64x256, part .f32 2 A⟩, ⟨S64x256, part .f32 3 A⟩]
      concatenates_S64x256_S64x256_S64x256_S64x256_S256x256_d0 = bd .f32 A := by
  have key : ∀ (h : Fin 4) (p : Fin 256) (q : Fin 64) (c : Fin 256), h.val * 64 + q.val = p.val →
      (if hd c = h then ((side A q c : ℝ) : EReal) else 0) = ((diag A p c : ℝ) : EReal) := by
    intro h p q c e
    have e : p = col h q := Fin.ext e.symm
    subst e
    simp only [diag, hd_col, lo_col, side]
    by_cases e : hd c = h
    · rw [if_pos e, if_pos e.symm]
    · rw [if_neg e, if_neg (Ne.symm e), EReal.coe_zero]
  funext j; idx_vars j
  pointwise [part, bd]
  split
  · exact key 0 j0 _ j1 (by simp)
  · split
    · exact key 1 j0 _ j1 (by show 1 * 64 + (j0.val - 64) = j0.val; omega)
    · split
      · exact key 2 j0 _ j1 (by show 2 * 64 + (j0.val - 64 - 64) = j0.val; omega)
      · exact key 3 j0 _ j1 (by show 3 * 64 + (j0.val - 64 - 64 - 64) = j0.val; omega)

/-- Four arrays one above the other. -/
def stack4 {α : Type} (a b c d : S64x256.Idx → α) : S256x256.Idx → α :=
  concatenate S256x256 0 [⟨S64x256, a⟩, ⟨S64x256, b⟩, ⟨S64x256, c⟩, ⟨S64x256, d⟩]
    concatenates_S64x256_S64x256_S64x256_S64x256_S256x256_d0
theorem stack_fold {α : Type} (a b c d : S64x256.Idx → α) :
    concatenate S256x256 0 [⟨S64x256, a⟩, ⟨S64x256, b⟩, ⟨S64x256, c⟩, ⟨S64x256, d⟩]
      concatenates_S64x256_S64x256_S64x256_S64x256_S256x256_d0 = stack4 a b c d := rfl
theorem stack4_bd (A : Fam) : stack4 (part .f32 0 A) (part .f32 1 A) (part .f32 2 A) (part .f32 3 A) = bd .f32 A := stack A
theorem stack4_bd' (A : Fam) :
    stack4 (α := Elt Ideal .f32) (part .f32 0 A) (part .f32 1 A) (part .f32 2 A) (part .f32 3 A) = bd .f32 A := stack A

theorem end_row (A : Fam) : extractStridedSlice S1x256 ![63, 0] (wd φ A) slices_S64x256_o63_0_S1x256 = rw1 φ fun h n => A h 63 n := by
  funext j; idx_vars j
  pointwise [wd, rw1, side]

theorem scale_bd (A : Fam) (e : Fin 4 → Fin 64 → ℝ) :
    mulf (bd φ A) (broadcastTo S256x256 (rw1 φ e) broadcasts_S1x256_S256x256) = bd φ (scl e A) := by
  funext j; idx_vars j
  pointwise [bd, rw1]
  rw [← EReal.coe_mul]
  simp only [diag, scl, ChunkMath.scale]
  split <;> simp

theorem cast_wd {α : Type} (x : S64x256.Idx → α) : shapeCast S64x256 x shapeCasts_S64x256_S64x256 = x := by
  funext j; idx_vars j
  pointwise
/-- The same as `select_head`, for an array as it is loaded. -/
theorem select_head' (h : Fin 4) (A : Fam) :
    select (α := Elt Ideal .f32) (mHead h) (wd .f32 A) (wd .f32 0) = part .f32 h A := select_head h A
theorem eye_wide (z) (hz : z = 64#32) : k0_pay8 (F := Ideal) (iota Kind.tc S64x256 32 [0] iota_S64x256_d0_w32) z k0_pay5 k0_pay6 = wd .f32 1 := by
  subst hz
  unfold k0_pay8; rw [mask_lo]; funext j; idx_vars j
  pointwise [wd]
  rw [cmp_eq (lo j1) j0, show side 1 j0 j1 = if j0 = lo j1 then 1 else 0 from Matrix.one_apply]
  by_cases e : lo j1 = j0
  · simp [Scalar.select, e]
  · simp [Scalar.select, e, Ne.symm e]

theorem eye_sq : k0_pay15 (F := Ideal) (iota Kind.tc S256x256 32 [0] iota_S256x256_d0_w32) (iota Kind.tc S256x256 32 [1] iota_S256x256_d1_w32) = bd .f32 1 := by
  unfold k0_pay15; funext j; idx_vars j
  pointwise [bd, diag]
  rw [cmp_eqW j0 j1, Pi.one_apply, Matrix.one_apply]
  by_cases e : j0 = j1
  · simp [Scalar.select, e]
  · have e2 : hd j0 = hd j1 → lo j0 ≠ lo j1 := fun h1 h2 => e (by rw [← col_hd_lo j0, ← col_hd_lo j1, h1, h2])
    by_cases e3 : hd j0 = hd j1
    · simp [Scalar.select, e, e3, e2 e3]
    · simp [Scalar.select, e, e3]

/-! The same three masks and the two identities, with the literals in the form the simplifier leaves them in. -/
theorem mask_low' (z) (hz : z = 64#32) : k0_pay9 (iota Kind.tc S64x256 32 (@List.cons (Fin 2) (0 : Fin S64x256.rank) (@List.nil (Fin 2))) iota_S64x256_d0_w32) z k0_pay5 k0_pay6 = mLow := mask_low z hz
theorem mask_lowEq' (z) (hz : z = 64#32) : k0_pay10 (iota Kind.tc S64x256 32 (@List.cons (Fin 2) (0 : Fin S64x256.rank) (@List.nil (Fin 2))) iota_S64x256_d0_w32) z k0_pay5 k0_pay6 = mLowEq := mask_lowEq z hz
theorem eye_wide' (z) (hz : z = 64#32) : k0_pay8 (F := Ideal) (iota Kind.tc S64x256 32 (@List.cons (Fin 2) (0 : Fin S64x256.rank) (@List.nil (Fin 2))) iota_S64x256_d0_w32) z k0_pay5 k0_pay6 = wd .f32 1 := eye_wide z hz
theorem mask_same' (x y z) (hz : z = 64#32) (hx : x = 1#32) (hy : y = 0#32) :
    k0_pay14 (iota Kind.tc S256x256 32 (@List.cons (Fin 2) (1 : Fin S256x256.rank) (@List.nil (Fin 2))) iota_S256x256_d1_w32) k0_pay11 z k0_pay12 k0_pay13 x y = mSame := mask_same x y z hz hx hy
theorem eye_sq' : k0_pay15 (F := Ideal) (iota Kind.tc S256x256 32 (@List.cons (Fin 2) (0 : Fin S256x256.rank) (@List.nil (Fin 2))) iota_S256x256_d0_w32) (iota Kind.tc S256x256 32 (@List.cons (Fin 2) (1 : Fin S256x256.rank) (@List.nil (Fin 2))) iota_S256x256_d1_w32) = bd .f32 1 := eye_sq

end ops

/-! ## The two groups of heads a grid point holds -/

/-- Two groups of four heads, side by side, as an array of the ideal instance. -/
def two (G : Fin 2 → Fam) : FVec Ideal S64x512 .f32 :=
  fun i => ((side (G ⟨(i 1).val / 256, by have := (i 1).isLt; simp only [Matrix.cons_val_one, Matrix.cons_val_fin_one] at this; omega⟩) (i 0) ⟨(i 1).val % 256, by omega⟩ : ℝ) : EReal)
/-- Two groups of four heads, each on the diagonal, as an array of the ideal instance. -/
def st (S : Fin 2 → Fam) : FVec Ideal S2x256x256 .f32 := fun i => ((diag (S (i 0)) (i 1) (i 2) : ℝ) : EReal)

theorem ld_two0 (G : Fin 2 → Fam) : (show Vec Ideal S64x256 .f32 from View.ld (Val := Elt Ideal) (e' := .f32) (two G) (Rect.unit (s := S64x512) ![0, 0] ![64, 256] inb_S64x512_S64x256_0_0)) = wd .f32 (G 0) := by
  funext j; idx_vars j
  pointwise [two, wd]
  have e0 : (⟨j1.val / 256, by omega⟩ : Fin 2) = 0 := Fin.ext (by show j1.val / 256 = 0; omega)
  have e1 : (⟨j1.val % 256, by omega⟩ : Fin 256) = j1 := Fin.ext (by show j1.val % 256 = j1.val; omega)
  rw [e0, e1]
theorem ld_two1 (G : Fin 2 → Fam) : (show Vec Ideal S64x256 .f32 from View.ld (Val := Elt Ideal) (e' := .f32) (two G) (Rect.unit (s := S64x512) ![0, 256] ![64, 256] inb_S64x512_S64x256_0_256)) = wd .f32 (G 1) := by
  funext j; idx_vars j
  pointwise [two, wd]
  have e0 : (⟨(256 + j1.val) / 256, by omega⟩ : Fin 2) = 1 := Fin.ext (by show (256 + j1.val) / 256 = 1; omega)
  have e1 : (⟨(256 + j1.val) % 256, by omega⟩ : Fin 256) = j1 := Fin.ext (by show (256 + j1.val) % 256 = j1.val; omega)
  rw [e0, e1]
theorem ld_st0 (S : Fin 2 → Fam) : k0_pay72 (F := Ideal) (View.ld (st S) (Rect.unit (s := S2x256x256) ![0, 0, 0] ![1, 256, 256] inb_S2x256x256_S1x256x256_0_0_0)) = bd .f32 (S 0) := by
  funext j; idx_vars j
  pointwise [k0_pay72, st, bd]
theorem ld_st1 (S : Fin 2 → Fam) : k0_pay138 (F := Ideal) (View.ld (st S) (Rect.unit (s := S2x256x256) ![1, 0, 0] ![1, 256, 256] inb_S2x256x256_S1x256x256_1_0_0)) = bd .f32 (S 1) := by
  funext j; idx_vars j
  pointwise [k0_pay138, st, bd]

/-- The zeroed state. -/
theorem zero_st : k0_pay3 (F := Ideal) = st fun _ => 0 := by
  funext j; idx_vars j
  pointwise [k0_pay3, st]
  rw [diag_zero, Matrix.zero_apply, EReal.coe_zero]

/-- An entry of two groups side by side, in the left group. -/
theorem two_at0 (G : Fin 2 → Fam) (x : S64x256.Idx) (y : S64x512.Idx) (h0 : (y 0).val = (x 0).val) (h1 : (y 1).val = (x 1).val)
    (hx : (x 1).val < 256) : two G y = wd .f32 (G 0) x := by
  have e0 : (y 0 : Fin 64) = x 0 := Fin.ext h0
  have e1 : (⟨(y 1).val % 256, by omega⟩ : Fin 256) = x 1 := Fin.ext (by show (y 1).val % 256 = (x 1).val; omega)
  have e2 : ∀ h, (⟨(y 1).val / 256, h⟩ : Fin 2) = 0 := fun h => Fin.ext (by show (y 1).val / 256 = 0; omega)
  show ((side (G ⟨(y 1).val / 256, _⟩) (y 0) ⟨(y 1).val % 256, _⟩ : ℝ) : EReal) = ((side (G 0) (x 0) (x 1) : ℝ) : EReal)
  rw [e2, e0, e1]
/-- An entry of two groups side by side, in the right group. -/
theorem two_at1 (G : Fin 2 → Fam) (x : S64x256.Idx) (y : S64x512.Idx) (h0 : (y 0).val = (x 0).val) (h1 : (y 1).val = 256 + (x 1).val)
    (hx : (x 1).val < 256) : two G y = wd .f32 (G 1) x := by
  have e0 : (y 0 : Fin 64) = x 0 := Fin.ext h0
  have e1 : (⟨(y 1).val % 256, by omega⟩ : Fin 256) = x 1 := Fin.ext (by show (y 1).val % 256 = (x 1).val; omega)
  have e2 : ∀ h, (⟨(y 1).val / 256, h⟩ : Fin 2) = 1 := fun h => Fin.ext (by show (y 1).val / 256 = 1; omega)
  show ((side (G ⟨(y 1).val / 256, _⟩) (y 0) ⟨(y 1).val % 256, _⟩ : ℝ) : EReal) = ((side (G 1) (x 0) (x 1) : ℝ) : EReal)
  rw [e2, e0, e1]
/-- An entry of the two states, in the first group. -/
theorem st_at0 (S : Fin 2 → Fam) (x : S1x256x256.Idx) (y : S2x256x256.Idx) (h0 : (y 0).val = (x 0).val) (hx : (x 0).val < 1)
    (h1 : (y 1).val = (x 1).val) (h2 : (y 2).val = (x 2).val) :
    st S y = shapeCast S1x256x256 (bd .f32 (S 0)) shapeCasts_S256x256_S1x256x256 x := by
  have e0 : (show Fin 2 from y 0) = 0 := Fin.ext (by show (y 0).val = 0; omega)
  have e1 : (y 1 : Fin 256) = x 1 := Fin.ext h1
  have e2 : (y 2 : Fin 256) = x 2 := Fin.ext h2
  show ((diag (S (show Fin 2 from y 0)) (y 1) (y 2) : ℝ) : EReal) = _
  rw [e0, e1, e2]
  clear h0 hx h1 h2 e0 e1 e2
  idx_vars x
  pointwise [bd]
/-- An entry of the two states, in the second group. -/
theorem st_at1 (S : Fin 2 → Fam) (x : S1x256x256.Idx) (y : S2x256x256.Idx) (h0 : (y 0).val = 1 + (x 0).val) (hx : (x 0).val < 1)
    (h1 : (y 1).val = (x 1).val) (h2 : (y 2).val = (x 2).val) :
    st S y = shapeCast S1x256x256 (bd .f32 (S 1)) shapeCasts_S256x256_S1x256x256 x := by
  have e0 : (show Fin 2 from y 0) = 1 := Fin.ext (by show (y 0).val = 1; omega)
  have e1 : (y 1 : Fin 256) = x 1 := Fin.ext h1
  have e2 : (y 2 : Fin 256) = x 2 := Fin.ext h2
  show ((diag (S (show Fin 2 from y 0)) (y 1) (y 2) : ℝ) : EReal) = _
  rw [e0, e1, e2]
  clear h0 hx h1 h2 e0 e1 e2
  idx_vars x
  pointwise [bd]

end Cert.Wide
end

end
-- ==== Proof.GroupDefs.lean ====
/-
  The chunk form of the recurrence for a group of four heads.
-/
module

public import proofs.«01_k».proof.Proof.Wide
public import Idealize.ShloMosaic.Lib.Pointwise

@[expose] public section
set_option maxRecDepth 16384
noncomputable section
namespace Cert.Group
open Idealize.ShloMosaic Cert.KernelIdeal Cert.KernelIdeal.Gen Cert.Wide

/-- The inverse the doublings give, head by head. -/
def Tf (L A B : Fam) : Fam := fun h => (ChunkMath.dblT (ChunkMath.low (ChunkMath.at' (L h) (A h) * (ChunkMath.un (L h) (B h)).transpose)) 5).1
/-- The outputs of one chunk for one group of heads. -/
def Yg (R L K V A B S : Fam) : Fam := fun h => ChunkMath.Yf (L h) (K h) (V h) (A h) (B h) (R h) (Tf L A B h) (S h)
/-- The state after one chunk for one group of heads. -/
def Sg (L K V A B S : Fam) : Fam :=
  fun h => ChunkMath.Sf (L h) (K h) (V h) (A h) (B h) (Tf L A B h) (fun q => Real.exp (ChunkMath.cs (L h) 63 q)) (S h)

end Cert.Group
end
end
-- ==== Proof.Tokens.lean ====
/-
  The recurrence token by token over the whole sequence, and the chunk form as 64 of its steps.
-/
module

public import proofs.«01_k».proof.Proof.GroupDefs

@[expose] public section
noncomputable section
namespace Cert.Tokens
open Cert.Wide

/-- A head's state before token `t`: the six arrays are read at the token and at the columns from `64 * n` on. -/
def state (ld k v a b : ℕ → ℕ → ℝ) (n : ℕ) : ℕ → Matrix (Fin 64) (Fin 64) ℝ
  | 0 => fun _ _ => 0
  | t + 1 => fun p q => state ld k v a b n t p q * Real.exp (ld t (64 * n + q.val))
      + (∑ q' : Fin 64, state ld k v a b n t p q' * a t (64 * n + q'.val)) * b t (64 * n + q.val)
      + v t (64 * n + p.val) * k t (64 * n + q.val)

/-- A head's output at token `t`: the state after the token, read by the token's own vector. -/
def out (r ld k v a b : ℕ → ℕ → ℝ) (n t : ℕ) (p : Fin 64) : ℝ :=
  ∑ q : Fin 64, state ld k v a b n (t + 1) p q * r t (64 * n + q.val)

/-- Head `n`'s 64 by 64 block of an array at chunk `c`. -/
def blk (X : ℕ → ℕ → ℝ) (n c : ℕ) : Matrix (Fin 64) (Fin 64) ℝ := fun i q => X (64 * c + i.val) (64 * n + q.val)

/-- The blocks of the eight heads of one grid step. -/
def fam (X : ℕ → ℕ → ℝ) (g c : ℕ) : Fin 2 → Fam := fun e h => blk X (8 * g + 4 * e.val + h.val) c

/-- The states of the eight heads of one grid step before chunk `c`. -/
def states (ld k v a b : ℕ → ℕ → ℝ) (g c : ℕ) : Fin 2 → Fam :=
  fun e h => state ld k v a b (8 * g + 4 * e.val + h.val) (64 * c)

/-- The outputs of the eight heads of one grid step in chunk `c`. -/
def outs (r ld k v a b : ℕ → ℕ → ℝ) (g c : ℕ) : Fin 2 → Fam :=
  fun e h i p => out r ld k v a b (8 * g + 4 * e.val + h.val) (64 * c + i.val) p

variable (r ld k v a b : ℕ → ℕ → ℝ)

/-- The 64 states of a chunk follow the recurrence of its blocks. -/
theorem steps (n c : ℕ) : ChunkMath.Steps (blk ld n c) (blk k n c) (blk v n c) (blk a n c) (blk b n c)
    fun i => state ld k v a b n (64 * c + i) := fun _ _ _ => rfl

/-- The outputs in product form are the outputs token by token. -/
theorem outs_eq (g c : ℕ) : (fun e => Group.Yg (fam r g c e) (fam ld g c e) (fam k g c e) (fam v g c e) (fam a g c e)
    (fam b g c e) (states ld k v a b g c e)) = outs r ld k v a b g c := by
  funext e h i p
  exact (ChunkMath.Y_chunk _ _ _ _ _ (blk r (8 * g + 4 * e.val + h.val) c) _ _ (steps ld k v a b _ c)
    (ChunkMath.dblT_inv _) i p).symm

/-- The states after a chunk in product form are the states token by token. -/
theorem states_succ (g c : ℕ) : (fun e => Group.Sg (fam ld g c e) (fam k g c e) (fam v g c e) (fam a g c e)
    (fam b g c e) (states ld k v a b g c e)) = states ld k v a b g (c + 1) := by
  funext e h p q
  have s := ChunkMath.S_chunk _ _ _ _ _ _ _ (steps ld k v a b (8 * g + 4 * e.val + h.val) c) (ChunkMath.dblT_inv _) p q
  show _ = state ld k v a b (8 * g + 4 * e.val + h.val) (64 * (c + 1)) p q
  rw [Nat.mul_succ, s]
  simp only [Group.Sg]
  rw [show (fun q => Real.exp (ChunkMath.cs (fam ld g c e h) 63 q)) = _ from funext fun q => ChunkMath.exp_cs _ 63 q]
  rfl

/-- Before the first chunk the states are zero. -/
theorem states_zero (g : ℕ) : states ld k v a b g 0 = fun _ _ _ _ => 0 := rfl

end Cert.Tokens
end
end
-- ==== Proof.GroupYFirst.lean ====
/-
  One grid point of the kernel: over two groups of four heads, what the point writes is the chunk form of the recurrence,
  head by head.
-/
module

public import proofs.«01_k».proof.Proof.Gen.KernelIdeal.Frame
public import proofs.«01_k».proof.Proof.GroupDefs
public import Idealize.ShloMosaic.Lib.Pipeline.ValueKit
public import Idealize.ShloMosaic.Lib.Pipeline.ReadBack
public import Idealize.ShloMosaic.Lib.Pointwise

@[expose] public section
set_option maxRecDepth 16384
noncomputable section
namespace Cert.Group
open Idealize.ShloMosaic Cert.KernelIdeal Cert.KernelIdeal.Gen Cert.Wide

/-- THE FIRST CHUNK'S OUTPUTS, the state before it zero. -/
theorem outs_y_first (m : (ℓ : Loc nD τ sig) → Buf (Elt Ideal) ℓ) (c : Dev nD) (t : Fin cfg0.N) (h0 : t.val % 128 = 0)
    (R LD K V A B S : Fin 2 → Fam) (hr : iblk m c 0 t = two R) (hl : iblk m c 1 t = two LD) (hk : iblk m c 2 t = two K)
    (hv : iblk m c 3 t = two V) (ha : iblk m c 4 t = two A) (hb : iblk m c 5 t = two B)
    (hs : S = fun _ => 0) :
    (outsAt0 m c t.val t.isLt).1 = two fun g => Yg (R g) (LD g) (K g) (V g) (A g) (B g) (S g) := by
  rw [outsAt0_A m c t h0]
  frame_open
  simp (disch := decide) only [↓View.readCov_skip, ↓View.readCov_cons_toLoadRect, ↓View.readCov_fill]
  frame_out
  have hz : k0_pay3 (F := Ideal) = st S := by rw [hs]; exact zero_st
  rw [hr, hl, hk, hv, ha, hb]
  funext y
  canon_tiles x h
  all_goals simp only [ld_two0, ld_two1, read_unread_whole, hz, ld_st0, ld_st1]
  all_goals simp only [k0_pay1, k0_pay2, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay139, k0_pay140, k0_pay141, k0_pay142, k0_pay143, k0_pay144, k0_pay145, k0_pay146, k0_pay147, k0_pay148, k0_pay149, k0_pay150, k0_pay151, k0_pay152, mask_low', mask_lowEq', tril_eq, mask_same', eye_wide', eye_sq', truncf_wd, extf_wd, truncf_bd, extf_bd, truncf_sq, extf_sq,
    addf_wd, subf_wd, mulf_wd, exp_wd, addf_bd, subf_bd, subf_sq, addf_fm, zero_wd, bzero_wd, bzero_wd', zero_bd, bzero_bd, bzero_bd',
    matmul_nn, matmul_nt, matmul_dd, matmul_sq, matmul_tn, dg_tn', head0, head1, head2, head3, select_head, select_head', select_low, select_lowEq,
    select_same, dg_add, ↓stack_fold, stack4_bd, stack4_bd', end_row, scale_bd, cast_wd, nt_zero, zero_nt, tn_zero, zero_tn, lmul_zero, zero_lmul,
    sub_self, zero_add, add_zero, mul_zero, zero_mul, zero_sub]
  · refine Eq.trans (congrFun (congrArg (wd .f32) ?_) x) (two_at1 _ x y h0 h1 x1_lt).symm
    funext h; rfl
  · refine Eq.trans (congrFun (congrArg (wd .f32) ?_) x) (two_at0 _ x y h0 h1 x1_lt).symm
    funext h; rfl

end Cert.Group
end
end
-- ==== Proof.GroupYNext.lean ====
/-
  One grid point of the kernel: over two groups of four heads, what the point writes is the chunk form of the recurrence,
  head by head.
-/
module

public import proofs.«01_k».proof.Proof.Gen.KernelIdeal.Frame
public import proofs.«01_k».proof.Proof.GroupDefs
public import Idealize.ShloMosaic.Lib.Pipeline.ValueKit
public import Idealize.ShloMosaic.Lib.Pipeline.ReadBack
public import Idealize.ShloMosaic.Lib.Pointwise

@[expose] public section
set_option maxRecDepth 16384
noncomputable section
namespace Cert.Group
open Idealize.ShloMosaic Cert.KernelIdeal Cert.KernelIdeal.Gen Cert.Wide

/-- A LATER CHUNK'S OUTPUTS, over the state the chunk before left. -/
theorem outs_y_next (m : (ℓ : Loc nD τ sig) → Buf (Elt Ideal) ℓ) (c : Dev nD) (t : Fin cfg0.N) (h0 : ¬ t.val % 128 = 0)
    (R LD K V A B S : Fin 2 → Fam) (hr : iblk m c 0 t = two R) (hl : iblk m c 1 t = two LD) (hk : iblk m c 2 t = two K)
    (hv : iblk m c 3 t = two V) (ha : iblk m c 4 t = two A) (hb : iblk m c 5 t = two B)
    (hs : (outsAt0 m c (t.val - 1) (Nat.lt_of_le_of_lt (Nat.sub_le _ _) t.isLt)).2.2 = st S) :
    (outsAt0 m c t.val t.isLt).1 = two fun g => Yg (R g) (LD g) (K g) (V g) (A g) (B g) (S g) := by
  rw [outsAt0_B m c t h0]
  frame_out
  rw [hr, hl, hk, hv, ha, hb, hs]
  funext y
  canon_tiles x h
  all_goals simp only [ld_two0, ld_two1, read_unread_whole, zero_st, ld_st0, ld_st1]
  all_goals simp only [k0_pay1, k0_pay2, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay139, k0_pay140, k0_pay141, k0_pay142, k0_pay143, k0_pay144, k0_pay145, k0_pay146, k0_pay147, k0_pay148, k0_pay149, k0_pay150, k0_pay151, k0_pay152, mask_low', mask_lowEq', tril_eq, mask_same', eye_wide', eye_sq', truncf_wd, extf_wd, truncf_bd, extf_bd, truncf_sq, extf_sq,
    addf_wd, subf_wd, mulf_wd, exp_wd, addf_bd, subf_bd, subf_sq, addf_fm, zero_wd, bzero_wd, bzero_wd', zero_bd, bzero_bd, bzero_bd',
    matmul_nn, matmul_nt, matmul_dd, matmul_sq, matmul_tn, dg_tn', head0, head1, head2, head3, select_head, select_head', select_low, select_lowEq,
    select_same, dg_add, ↓stack_fold, stack4_bd, stack4_bd', end_row, scale_bd, cast_wd, nt_zero, zero_nt, tn_zero, zero_tn, lmul_zero, zero_lmul,
    sub_self, zero_add, add_zero, mul_zero, zero_mul, zero_sub]
  · refine Eq.trans (congrFun (congrArg (wd .f32) ?_) x) (two_at1 _ x y h0 h1 x1_lt).symm
    funext h; rfl
  · refine Eq.trans (congrFun (congrArg (wd .f32) ?_) x) (two_at0 _ x y h0 h1 x1_lt).symm
    funext h; rfl

end Cert.Group
end
end
-- ==== Proof.GroupSFirst.lean ====
/-
  One grid point of the kernel: over two groups of four heads, what the point writes is the chunk form of the recurrence,
  head by head.
-/
module

public import proofs.«01_k».proof.Proof.Gen.KernelIdeal.Frame
public import proofs.«01_k».proof.Proof.GroupDefs
public import Idealize.ShloMosaic.Lib.Pipeline.ValueKit
public import Idealize.ShloMosaic.Lib.Pipeline.ReadBack
public import Idealize.ShloMosaic.Lib.Pointwise

@[expose] public section
set_option maxRecDepth 16384
noncomputable section
namespace Cert.Group
open Idealize.ShloMosaic Cert.KernelIdeal Cert.KernelIdeal.Gen Cert.Wide

/-- The state carried on after the first chunk. -/
theorem outs_s_first (m : (ℓ : Loc nD τ sig) → Buf (Elt Ideal) ℓ) (c : Dev nD) (t : Fin cfg0.N) (h0 : t.val % 128 = 0)
    (R LD K V A B S : Fin 2 → Fam) (hr : iblk m c 0 t = two R) (hl : iblk m c 1 t = two LD) (hk : iblk m c 2 t = two K)
    (hv : iblk m c 3 t = two V) (ha : iblk m c 4 t = two A) (hb : iblk m c 5 t = two B)
    (hs : S = fun _ => 0) :
    (outsAt0 m c t.val t.isLt).2.2 = st fun g => Sg (LD g) (K g) (V g) (A g) (B g) (S g) := by
  rw [outsAt0_A m c t h0]
  frame_open
  simp (disch := decide) only [↓View.readCov_skip, ↓View.readCov_cons_toLoadRect, ↓View.readCov_fill]
  frame_out
  have hz : k0_pay3 (F := Ideal) = st S := by rw [hs]; exact zero_st
  rw [hl, hk, hv, ha, hb]
  funext y
  refine View.canon_append_of_piecesOf _ [_] [_, _] ⟨fun x => ?_, fun x => ?_, trivial⟩ y ?_
  case refine_3 =>
    have b0 : (y 0).val < 2 := (y 0).isLt
    have b1 : (y 1).val < 256 := (y 1).isLt
    have b2 : (y 2).val < 256 := (y 2).isLt
    by_cases hy : (y 0).val = 0
    · refine ⟨_, List.mem_cons_of_mem _ (List.mem_singleton.mpr rfl), ?_⟩
      refine (Rect.mem_set_unit (inb := inb_S2x256x256_S1x256x256_0_0_0)).mpr fun a => ?_
      match a with
      | 0 => exact ⟨Nat.zero_le _, by show (y 0).val < 0 + 1; omega⟩
      | 1 => exact ⟨Nat.zero_le _, by show (y 1).val < 0 + 256; omega⟩
      | 2 => exact ⟨Nat.zero_le _, by show (y 2).val < 0 + 256; omega⟩
    · refine ⟨_, List.mem_cons_self, ?_⟩
      refine (Rect.mem_set_unit (inb := inb_S2x256x256_S1x256x256_1_0_0)).mpr fun a => ?_
      match a with
      | 0 => exact ⟨by show 1 ≤ (y 0).val; omega, by show (y 0).val < 1 + 1; omega⟩
      | 1 => exact ⟨Nat.zero_le _, by show (y 1).val < 0 + 256; omega⟩
      | 2 => exact ⟨Nat.zero_le _, by show (y 2).val < 0 + 256; omega⟩
  all_goals simp only [ld_two0, ld_two1, read_unread_whole, hz, ld_st0, ld_st1]
  all_goals simp only [k0_pay1, k0_pay2, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay139, k0_pay140, k0_pay141, k0_pay142, k0_pay143, k0_pay144, k0_pay145, k0_pay146, k0_pay147, k0_pay148, k0_pay149, k0_pay150, k0_pay151, k0_pay152, mask_low', mask_lowEq', tril_eq, mask_same', eye_wide', eye_sq', truncf_wd, extf_wd, truncf_bd, extf_bd, truncf_sq, extf_sq,
    addf_wd, subf_wd, mulf_wd, exp_wd, addf_bd, subf_bd, subf_sq, addf_fm, zero_wd, bzero_wd, bzero_wd', zero_bd, bzero_bd, bzero_bd',
    matmul_nn, matmul_nt, matmul_dd, matmul_sq, matmul_tn, dg_tn', head0, head1, head2, head3, select_head, select_head', select_low, select_lowEq,
    select_same, dg_add, ↓stack_fold, stack4_bd, stack4_bd', end_row, scale_bd, cast_wd, nt_zero, zero_nt, tn_zero, zero_tn, lmul_zero, zero_lmul,
    sub_self, zero_add, add_zero, mul_zero, zero_mul, zero_sub]
  · refine Eq.trans (congrFun (congrArg (fun b => shapeCast S1x256x256 (bd .f32 b) shapeCasts_S256x256_S1x256x256) ?_) x) (st_at1 _ x _ (by simp) (x 0).isLt (by simp) (by simp)).symm
    funext h; rfl
  · refine Eq.trans (congrFun (congrArg (fun b => shapeCast S1x256x256 (bd .f32 b) shapeCasts_S256x256_S1x256x256) ?_) x) (st_at0 _ x _ (by simp) (x 0).isLt (by simp) (by simp)).symm
    funext h; rfl

end Cert.Group
end
end
-- ==== Proof.GroupSNext.lean ====
/-
  One grid point of the kernel: over two groups of four heads, what the point writes is the chunk form of the recurrence,
  head by head.
-/
module

public import proofs.«01_k».proof.Proof.Gen.KernelIdeal.Frame
public import proofs.«01_k».proof.Proof.GroupDefs
public import Idealize.ShloMosaic.Lib.Pipeline.ValueKit
public import Idealize.ShloMosaic.Lib.Pipeline.ReadBack
public import Idealize.ShloMosaic.Lib.Pointwise

@[expose] public section
set_option maxRecDepth 16384
noncomputable section
namespace Cert.Group
open Idealize.ShloMosaic Cert.KernelIdeal Cert.KernelIdeal.Gen Cert.Wide

/-- The state carried on after a later chunk. -/
theorem outs_s_next (m : (ℓ : Loc nD τ sig) → Buf (Elt Ideal) ℓ) (c : Dev nD) (t : Fin cfg0.N) (h0 : ¬ t.val % 128 = 0)
    (R LD K V A B S : Fin 2 → Fam) (hr : iblk m c 0 t = two R) (hl : iblk m c 1 t = two LD) (hk : iblk m c 2 t = two K)
    (hv : iblk m c 3 t = two V) (ha : iblk m c 4 t = two A) (hb : iblk m c 5 t = two B)
    (hs : (outsAt0 m c (t.val - 1) (Nat.lt_of_le_of_lt (Nat.sub_le _ _) t.isLt)).2.2 = st S) :
    (outsAt0 m c t.val t.isLt).2.2 = st fun g => Sg (LD g) (K g) (V g) (A g) (B g) (S g) := by
  rw [outsAt0_B m c t h0]
  frame_out
  rw [hl, hk, hv, ha, hb, hs]
  funext y
  canon_tiles x h
  all_goals simp only [ld_two0, ld_two1, read_unread_whole, zero_st, ld_st0, ld_st1]
  all_goals simp only [k0_pay1, k0_pay2, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay139, k0_pay140, k0_pay141, k0_pay142, k0_pay143, k0_pay144, k0_pay145, k0_pay146, k0_pay147, k0_pay148, k0_pay149, k0_pay150, k0_pay151, k0_pay152, mask_low', mask_lowEq', tril_eq, mask_same', eye_wide', eye_sq', truncf_wd, extf_wd, truncf_bd, extf_bd, truncf_sq, extf_sq,
    addf_wd, subf_wd, mulf_wd, exp_wd, addf_bd, subf_bd, subf_sq, addf_fm, zero_wd, bzero_wd, bzero_wd', zero_bd, bzero_bd, bzero_bd',
    matmul_nn, matmul_nt, matmul_dd, matmul_sq, matmul_tn, dg_tn', head0, head1, head2, head3, select_head, select_head', select_low, select_lowEq,
    select_same, dg_add, ↓stack_fold, stack4_bd, stack4_bd', end_row, scale_bd, cast_wd, nt_zero, zero_nt, tn_zero, zero_tn, lmul_zero, zero_lmul,
    sub_self, zero_add, add_zero, mul_zero, zero_mul, zero_sub]
  · refine Eq.trans (congrFun (congrArg (fun b => shapeCast S1x256x256 (bd .f32 b) shapeCasts_S256x256_S1x256x256) ?_) x) (st_at1 _ x y h0 x0_lt h1 h2).symm
    funext h; rfl
  · refine Eq.trans (congrFun (congrArg (fun b => shapeCast S1x256x256 (bd .f32 b) shapeCasts_S256x256_S1x256x256) ?_) x) (st_at0 _ x y h0 x0_lt h1 h2).symm
    funext h; rfl

end Cert.Group
end
end
-- ==== Proof.GroupWFirst.lean ====
/-
  One grid point of the kernel: over two groups of four heads, what the point writes is the chunk form of the recurrence,
  head by head.
-/
module

public import proofs.«01_k».proof.Proof.Gen.KernelIdeal.Frame
public import proofs.«01_k».proof.Proof.GroupDefs
public import Idealize.ShloMosaic.Lib.Pipeline.ValueKit
public import Idealize.ShloMosaic.Lib.Pipeline.ReadBack
public import Idealize.ShloMosaic.Lib.Pointwise

@[expose] public section
set_option maxRecDepth 16384
noncomputable section
namespace Cert.Group
open Idealize.ShloMosaic Cert.KernelIdeal Cert.KernelIdeal.Gen Cert.Wide

/-- The state the first chunk writes. -/
theorem outs_w_first (m : (ℓ : Loc nD τ sig) → Buf (Elt Ideal) ℓ) (c : Dev nD) (t : Fin cfg0.N) (h0 : t.val % 128 = 0)
    (R LD K V A B S : Fin 2 → Fam) (hr : iblk m c 0 t = two R) (hl : iblk m c 1 t = two LD) (hk : iblk m c 2 t = two K)
    (hv : iblk m c 3 t = two V) (ha : iblk m c 4 t = two A) (hb : iblk m c 5 t = two B)
    (hs : S = fun _ => 0) :
    (outsAt0 m c t.val t.isLt).2.1 = st fun g => Sg (LD g) (K g) (V g) (A g) (B g) (S g) := by
  rw [outsAt0_A m c t h0]
  frame_open
  simp (disch := decide) only [↓View.readCov_skip, ↓View.readCov_cons_toLoadRect, ↓View.readCov_fill]
  frame_out
  have hz : k0_pay3 (F := Ideal) = st S := by rw [hs]; exact zero_st
  rw [hl, hk, hv, ha, hb]
  funext y
  canon_tiles x h
  all_goals simp only [ld_two0, ld_two1, read_unread_whole, hz, ld_st0, ld_st1]
  all_goals simp only [k0_pay1, k0_pay2, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay139, k0_pay140, k0_pay141, k0_pay142, k0_pay143, k0_pay144, k0_pay145, k0_pay146, k0_pay147, k0_pay148, k0_pay149, k0_pay150, k0_pay151, k0_pay152, mask_low', mask_lowEq', tril_eq, mask_same', eye_wide', eye_sq', truncf_wd, extf_wd, truncf_bd, extf_bd, truncf_sq, extf_sq,
    addf_wd, subf_wd, mulf_wd, exp_wd, addf_bd, subf_bd, subf_sq, addf_fm, zero_wd, bzero_wd, bzero_wd', zero_bd, bzero_bd, bzero_bd',
    matmul_nn, matmul_nt, matmul_dd, matmul_sq, matmul_tn, dg_tn', head0, head1, head2, head3, select_head, select_head', select_low, select_lowEq,
    select_same, dg_add, ↓stack_fold, stack4_bd, stack4_bd', end_row, scale_bd, cast_wd, nt_zero, zero_nt, tn_zero, zero_tn, lmul_zero, zero_lmul,
    sub_self, zero_add, add_zero, mul_zero, zero_mul, zero_sub]
  · refine Eq.trans (congrFun (congrArg (fun b => shapeCast S1x256x256 (bd .f32 b) shapeCasts_S256x256_S1x256x256) ?_) x) (st_at1 _ x y h0 x0_lt h1 h2).symm
    funext h; rfl
  · refine Eq.trans (congrFun (congrArg (fun b => shapeCast S1x256x256 (bd .f32 b) shapeCasts_S256x256_S1x256x256) ?_) x) (st_at0 _ x y h0 x0_lt h1 h2).symm
    funext h; rfl

end Cert.Group
end
end
-- ==== Proof.GroupWNext.lean ====
/-
  One grid point of the kernel: over two groups of four heads, what the point writes is the chunk form of the recurrence,
  head by head.
-/
module

public import proofs.«01_k».proof.Proof.Gen.KernelIdeal.Frame
public import proofs.«01_k».proof.Proof.GroupDefs
public import Idealize.ShloMosaic.Lib.Pipeline.ValueKit
public import Idealize.ShloMosaic.Lib.Pipeline.ReadBack
public import Idealize.ShloMosaic.Lib.Pointwise

@[expose] public section
set_option maxRecDepth 16384
noncomputable section
namespace Cert.Group
open Idealize.ShloMosaic Cert.KernelIdeal Cert.KernelIdeal.Gen Cert.Wide

/-- The state a later chunk writes. -/
theorem outs_w_next (m : (ℓ : Loc nD τ sig) → Buf (Elt Ideal) ℓ) (c : Dev nD) (t : Fin cfg0.N) (h0 : ¬ t.val % 128 = 0)
    (R LD K V A B S : Fin 2 → Fam) (hr : iblk m c 0 t = two R) (hl : iblk m c 1 t = two LD) (hk : iblk m c 2 t = two K)
    (hv : iblk m c 3 t = two V) (ha : iblk m c 4 t = two A) (hb : iblk m c 5 t = two B)
    (hs : (outsAt0 m c (t.val - 1) (Nat.lt_of_le_of_lt (Nat.sub_le _ _) t.isLt)).2.2 = st S) :
    (outsAt0 m c t.val t.isLt).2.1 = st fun g => Sg (LD g) (K g) (V g) (A g) (B g) (S g) := by
  rw [outsAt0_B m c t h0]
  frame_out
  rw [hl, hk, hv, ha, hb, hs]
  funext y
  canon_tiles x h
  all_goals simp only [ld_two0, ld_two1, read_unread_whole, zero_st, ld_st0, ld_st1]
  all_goals simp only [k0_pay1, k0_pay2, k0_pay17, k0_pay18, k0_pay19, k0_pay20, k0_pay21, k0_pay22, k0_pay23, k0_pay24, k0_pay25, k0_pay26, k0_pay27, k0_pay28, k0_pay29, k0_pay30, k0_pay31, k0_pay32, k0_pay33, k0_pay34, k0_pay35, k0_pay36, k0_pay37, k0_pay38, k0_pay39, k0_pay40, k0_pay41, k0_pay42, k0_pay43, k0_pay44, k0_pay45, k0_pay46, k0_pay47, k0_pay48, k0_pay49, k0_pay50, k0_pay51, k0_pay52, k0_pay53, k0_pay54, k0_pay55, k0_pay56, k0_pay57, k0_pay58, k0_pay59, k0_pay60, k0_pay61, k0_pay62, k0_pay63, k0_pay64, k0_pay65, k0_pay66, k0_pay67, k0_pay68, k0_pay69, k0_pay70, k0_pay71, k0_pay73, k0_pay74, k0_pay75, k0_pay76, k0_pay77, k0_pay78, k0_pay79, k0_pay80, k0_pay81, k0_pay82, k0_pay83, k0_pay84, k0_pay85, k0_pay86, k0_pay87, k0_pay88, k0_pay89, k0_pay90, k0_pay91, k0_pay92, k0_pay93, k0_pay94, k0_pay95, k0_pay96, k0_pay97, k0_pay98, k0_pay99, k0_pay100, k0_pay101, k0_pay102, k0_pay103, k0_pay104, k0_pay105, k0_pay106, k0_pay107, k0_pay108, k0_pay109, k0_pay110, k0_pay111, k0_pay112, k0_pay113, k0_pay114, k0_pay115, k0_pay116, k0_pay117, k0_pay118, k0_pay119, k0_pay120, k0_pay121, k0_pay122, k0_pay123, k0_pay124, k0_pay125, k0_pay126, k0_pay127, k0_pay128, k0_pay129, k0_pay130, k0_pay131, k0_pay132, k0_pay133, k0_pay134, k0_pay135, k0_pay136, k0_pay137, k0_pay139, k0_pay140, k0_pay141, k0_pay142, k0_pay143, k0_pay144, k0_pay145, k0_pay146, k0_pay147, k0_pay148, k0_pay149, k0_pay150, k0_pay151, k0_pay152, mask_low', mask_lowEq', tril_eq, mask_same', eye_wide', eye_sq', truncf_wd, extf_wd, truncf_bd, extf_bd, truncf_sq, extf_sq,
    addf_wd, subf_wd, mulf_wd, exp_wd, addf_bd, subf_bd, subf_sq, addf_fm, zero_wd, bzero_wd, bzero_wd', zero_bd, bzero_bd, bzero_bd',
    matmul_nn, matmul_nt, matmul_dd, matmul_sq, matmul_tn, dg_tn', head0, head1, head2, head3, select_head, select_head', select_low, select_lowEq,
    select_same, dg_add, ↓stack_fold, stack4_bd, stack4_bd', end_row, scale_bd, cast_wd, nt_zero, zero_nt, tn_zero, zero_tn, lmul_zero, zero_lmul,
    sub_self, zero_add, add_zero, mul_zero, zero_mul, zero_sub]
  · refine Eq.trans (congrFun (congrArg (fun b => shapeCast S1x256x256 (bd .f32 b) shapeCasts_S256x256_S1x256x256) ?_) x) (st_at1 _ x y h0 x0_lt h1 h2).symm
    funext h; rfl
  · refine Eq.trans (congrFun (congrArg (fun b => shapeCast S1x256x256 (bd .f32 b) shapeCasts_S256x256_S1x256x256) ?_) x) (st_at0 _ x y h0 x0_lt h1 h2).symm
    funext h; rfl

end Cert.Group
end
end
-- ==== Proof.Chunks.lean ====
/-
  The kernel's grid: what each point leaves is the outputs and states token by token, and so are its two arrays after
  the run.
-/
module

public import proofs.«01_k».proof.Proof.Tokens
public import proofs.«01_k».proof.Proof.GroupYFirst
public import proofs.«01_k».proof.Proof.GroupYNext
public import proofs.«01_k».proof.Proof.GroupSFirst
public import proofs.«01_k».proof.Proof.GroupSNext
public import proofs.«01_k».proof.Proof.GroupWFirst
public import proofs.«01_k».proof.Proof.GroupWNext
public import Idealize.ShloMosaic.Lib.Pipeline.ValueKit

@[expose] public section
set_option maxRecDepth 16384
noncomputable section
namespace Cert.Chunks
open Idealize.ShloMosaic Idealize.ShloMosaic.TcCoe Idealize.SL.Sem Cert.KernelIdeal Cert.KernelIdeal.Gen Cert.Tokens Cert.Wide

variable (m : (ℓ : Loc nD τ sig) → Buf (Elt Ideal) ℓ) (c : Dev nD) (r ld k v a b : ℕ → ℕ → ℝ)

/-- A real array by columns, as an array of the kernel. -/
def cols (X : ℕ → ℕ → ℝ) : FVec Ideal S8192x2048 .f32 := fun i => ((X (i 0).val (i 1).val : ℝ) : EReal)

/-- The kernel's six arrays at the start of the grid are real arrays. -/
structure Arrays : Prop where
  h0 : V m c main_arg0 = cols r
  h1 : V m c main_v1 = cols ld
  h2 : V m c main_arg2 = cols k
  h3 : V m c main_arg3 = cols v
  h4 : V m c main_v2 = cols a
  h5 : V m c main_v3 = cols b

/-- Where each window's block lies. -/
theorem idx : ∀ t : Fin cfg0.N, win0_0.index t = ![t.val % 128, t.val / 128] ∧ win0_1.index t = ![t.val % 128, t.val / 128] ∧ win0_2.index t = ![t.val % 128, t.val / 128] ∧ win0_3.index t = ![t.val % 128, t.val / 128] ∧ win0_4.index t = ![t.val % 128, t.val / 128] ∧ win0_5.index t = ![t.val % 128, t.val / 128] ∧ win0_6.index t = ![t.val % 128, t.val / 128] ∧ win0_7.index t = ![t.val / 128, 0, 0] :=
  (by decide +kernel : ∀ t : Fin grid0.N, _)

/-- The heads of a block, side by side, are its columns. -/
theorem two_fam (X : ℕ → ℕ → ℝ) (g n : ℕ) :
    two (fam X g n) = fun i => ((X (64 * n + (i 0).val) (512 * g + (i 1).val) : ℝ) : EReal) := by
  funext i
  unfold two side fam blk
  congr 2
  simp only [hd, lo]
  have := (i 1).isLt
  omega

/-- A cell of the outputs of a grid step. -/
theorem two_outs (g n : ℕ) (i : S64x512.Idx) : two (outs r ld k v a b g n) i
    = ((out r ld k v a b ((512 * g + (i 1).val) / 64) (64 * n + (i 0).val) ⟨(512 * g + (i 1).val) % 64, Nat.mod_lt _ (by decide)⟩ : ℝ) : EReal) := by
  unfold two side outs
  have h1 := (i 1).isLt
  congr 2
  · simp only [hd]; omega
  · simp only [lo]; ext; simp only []; omega

variable {m c r ld k v a b}

theorem blk0 (h : Arrays m c r ld k v a b) (t : Fin cfg0.N) : iblk m c 0 t = two (fam r (t.val / 128) (t.val % 128)) := by
  rw [two_fam]
  funext y
  show V m c main_arg0 (((cfg0.win 0).blk t).view.emb y) = _
  rw [h.h0]
  unfold cols
  blk_simp [idx t]
  congr 3 <;> omega

theorem blk1 (h : Arrays m c r ld k v a b) (t : Fin cfg0.N) : iblk m c 1 t = two (fam ld (t.val / 128) (t.val % 128)) := by
  rw [two_fam]
  funext y
  show V m c main_v1 (((cfg0.win 1).blk t).view.emb y) = _
  rw [h.h1]
  unfold cols
  blk_simp [idx t]
  congr 3 <;> omega

theorem blk2 (h : Arrays m c r ld k v a b) (t : Fin cfg0.N) : iblk m c 2 t = two (fam k (t.val / 128) (t.val % 128)) := by
  rw [two_fam]
  funext y
  show V m c main_arg2 (((cfg0.win 2).blk t).view.emb y) = _
  rw [h.h2]
  unfold cols
  blk_simp [idx t]
  congr 3 <;> omega

theorem blk3 (h : Arrays m c r ld k v a b) (t : Fin cfg0.N) : iblk m c 3 t = two (fam v (t.val / 128) (t.val % 128)) := by
  rw [two_fam]
  funext y
  show V m c main_arg3 (((cfg0.win 3).blk t).view.emb y) = _
  rw [h.h3]
  unfold cols
  blk_simp [idx t]
  congr 3 <;> omega

theorem blk4 (h : Arrays m c r ld k v a b) (t : Fin cfg0.N) : iblk m c 4 t = two (fam a (t.val / 128) (t.val % 128)) := by
  rw [two_fam]
  funext y
  show V m c main_v2 (((cfg0.win 4).blk t).view.emb y) = _
  rw [h.h4]
  unfold cols
  blk_simp [idx t]
  congr 3 <;> omega

theorem blk5 (h : Arrays m c r ld k v a b) (t : Fin cfg0.N) : iblk m c 5 t = two (fam b (t.val / 128) (t.val % 128)) := by
  rw [two_fam]
  funext y
  show V m c main_v3 (((cfg0.win 5).blk t).view.emb y) = _
  rw [h.h5]
  unfold cols
  blk_simp [idx t]
  congr 3 <;> omega

/-- What the first grid point of a pair of groups leaves. -/
theorem first_at (h : Arrays m c r ld k v a b) (t : Fin cfg0.N) (h0 : t.val % 128 = 0) :
    (outsAt0 m c t.val t.isLt).1 = two (outs r ld k v a b (t.val / 128) (t.val % 128))
    ∧ (outsAt0 m c t.val t.isLt).2.1 = st (states ld k v a b (t.val / 128) (t.val % 128 + 1))
    ∧ (outsAt0 m c t.val t.isLt).2.2 = st (states ld k v a b (t.val / 128) (t.val % 128 + 1)) := by
  have z : states ld k v a b (t.val / 128) (t.val % 128) = fun _ => 0 := by rw [h0]; exact states_zero ld k v a b _
  exact ⟨
    (Group.outs_y_first m c t h0 _ _ _ _ _ _ _ (blk0 h _) (blk1 h _) (blk2 h _) (blk3 h _) (blk4 h _) (blk5 h _) z).trans (congrArg two (outs_eq r ld k v a b _ _)),
    (Group.outs_w_first m c t h0 _ _ _ _ _ _ _ (blk0 h _) (blk1 h _) (blk2 h _) (blk3 h _) (blk4 h _) (blk5 h _) z).trans (congrArg st (states_succ ld k v a b _ _)),
    (Group.outs_s_first m c t h0 _ _ _ _ _ _ _ (blk0 h _) (blk1 h _) (blk2 h _) (blk3 h _) (blk4 h _) (blk5 h _) z).trans (congrArg st (states_succ ld k v a b _ _))⟩

/-- What a later grid point leaves, over the states the point before it left. -/
theorem next_at (h : Arrays m c r ld k v a b) (t : Fin cfg0.N) (h0 : ¬t.val % 128 = 0)
    (z : (outsAt0 m c (t.val - 1) (Nat.lt_of_le_of_lt (Nat.sub_le _ _) t.isLt)).2.2
      = st (states ld k v a b (t.val / 128) (t.val % 128))) :
    (outsAt0 m c t.val t.isLt).1 = two (outs r ld k v a b (t.val / 128) (t.val % 128))
    ∧ (outsAt0 m c t.val t.isLt).2.1 = st (states ld k v a b (t.val / 128) (t.val % 128 + 1))
    ∧ (outsAt0 m c t.val t.isLt).2.2 = st (states ld k v a b (t.val / 128) (t.val % 128 + 1)) := ⟨
    (Group.outs_y_next m c t h0 _ _ _ _ _ _ _ (blk0 h _) (blk1 h _) (blk2 h _) (blk3 h _) (blk4 h _) (blk5 h _) z).trans (congrArg two (outs_eq r ld k v a b _ _)),
    (Group.outs_w_next m c t h0 _ _ _ _ _ _ _ (blk0 h _) (blk1 h _) (blk2 h _) (blk3 h _) (blk4 h _) (blk5 h _) z).trans (congrArg st (states_succ ld k v a b _ _)),
    (Group.outs_s_next m c t h0 _ _ _ _ _ _ _ (blk0 h _) (blk1 h _) (blk2 h _) (blk3 h _) (blk4 h _) (blk5 h _) z).trans (congrArg st (states_succ ld k v a b _ _))⟩

/-- What each grid point leaves: its outputs, and the states after its chunk. -/
theorem outs_at (h : Arrays m c r ld k v a b) (n : ℕ) : ∀ hn : n < cfg0.N,
    (outsAt0 m c n hn).1 = two (outs r ld k v a b (n / 128) (n % 128))
    ∧ (outsAt0 m c n hn).2.1 = st (states ld k v a b (n / 128) (n % 128 + 1))
    ∧ (outsAt0 m c n hn).2.2 = st (states ld k v a b (n / 128) (n % 128 + 1)) := by
  induction n using Nat.strong_induction_on with
  | _ n ih =>
    intro hn
    by_cases h0 : n % 128 = 0
    · exact first_at h ⟨n, hn⟩ h0
    · have z := (ih (n - 1) (by omega) (Nat.lt_of_le_of_lt (Nat.sub_le _ _) hn)).2.2
      rw [show (n - 1) / 128 = n / 128 by omega, show (n - 1) % 128 + 1 = n % 128 by omega] at z
      exact next_at h ⟨n, hn⟩ h0 z

/-- The outputs of the whole sequence, as the kernel's first array. -/
def outArr (r ld k v a b : ℕ → ℕ → ℝ) : FVec Ideal S8192x2048 .f32 := fun i =>
  ((out r ld k v a b ((i 1).val / 64) (i 0).val ⟨(i 1).val % 64, Nat.mod_lt _ (by decide)⟩ : ℝ) : EReal)

/-- The final states, four heads on a diagonal, as the kernel's second array. -/
def stateArr (ld k v a b : ℕ → ℕ → ℝ) : FVec Ideal S8x256x256 .f32 := fun i =>
  ((diag (fun h => state ld k v a b (4 * (i 0).val + h.val) 8192) (i 1) (i 2) : ℝ) : EReal)

/-- The kernel's first array after the run. -/
theorem final_y (h : Arrays m c r ld k v a b) : (dats m 0 c).arrAt 6 cfg0.N = outArr r ld k v a b := by
  refine (dats m 0 c).arrAt_eq_of_covers 6 _ (by decide +kernel) fun t hf y => ?_
  blk_simp
  rw [after0_6, (outs_at h t.val t.isLt).1]
  refine (two_outs r ld k v a b _ _ y).trans ?_
  unfold outArr
  blk_simp [idx t]
  simp only [Nat.mul_comm 512, Nat.mul_comm 64]

/-- The kernel's second array after the run. -/
theorem final_s (h : Arrays m c r ld k v a b) : (dats m 0 c).arrAt 7 cfg0.N = stateArr ld k v a b := by
  refine (dats m 0 c).arrAt_eq_of_covers 7 _ (by decide +kernel) fun t hf y => ?_
  have hl := (flush0_7 t).mp hf
  blk_simp
  rw [after0_7, (outs_at h t.val t.isLt).2.1]
  unfold stateArr st states
  blk_simp [idx t]
  have e1 : (show Fin 256 from ((cfg0.win 7).blk t).view.emb y 1) = y 1 := Fin.ext (by blk_simp [idx t]; try omega)
  have e2 : (show Fin 256 from ((cfg0.win 7).blk t).view.emb y 2) = y 2 := Fin.ext (by blk_simp [idx t]; try omega)
  congr 1
  refine congr (congr (congrArg diag (funext fun e => ?_)) e1.symm) e2.symm
  congr 1 <;> omega

end Cert.Chunks
end
end
-- ==== Proof.Reals.lean ====
/-
  Arrays whose entries pass the precondition's test are real arrays.
-/
module

public import proofs.«01_k».proof.Proof.Chunks
public import proofs.«01_k».proof.Pre_finite
public import Idealize.ShloMosaic.Lib.Pointwise

@[expose] public section
set_option maxRecDepth 16384
noncomputable section
namespace Cert.Reals
open Idealize.ShloMosaic Idealize.ShloMosaic.TcCoe Cert.KernelIdeal Cert.Chunks

/-- The precondition's program is well formed. -/
theorem preFacts : Cert.Pre_finite.Facts := ⟨by decide⟩

/-- The real numbers of an array, by row and column. -/
def realOf (x : FVec Ideal S8192x2048 .f32) : ℕ → ℕ → ℝ := fun t q =>
  if h : t < 8192 ∧ q < 2048 then EReal.toReal (x (ix2 ⟨t, h.1⟩ ⟨q, h.2⟩)) else 0

/-- A value whose magnitude is below infinity is a real number. -/
theorem finite_of_test (x : Ideal .f32)
    (h : FloatOps.cmpf .olt (FloatOps.hostAbsf x) (FloatOps.ofBits (F := Ideal) .f32 0x7F800000#32) = 1#1) :
    (x : EReal) ≠ ⊤ ∧ (x : EReal) ≠ ⊥ := by
  have top : Ideal.ofBits .f32 0x7F800000#32 = ⊤ := by simp [Ideal.ofBits, Ideal.ieee]
  replace h : Ideal.cmp .olt (max (x : EReal) (-(x : EReal))) (Ideal.ofBits .f32 0x7F800000#32) = 1#1 := h
  rw [top] at h
  unfold Ideal.cmp at h
  constructor <;> intro e <;> rw [e] at h <;> simp at h

/-- An array that passes the test is its real numbers. -/
theorem cols_of_test (x : FVec Ideal S8192x2048 .f32)
    (h : ∀ i, FloatOps.cmpf .olt (FloatOps.hostAbsf (x i)) (FloatOps.ofBits (F := Ideal) .f32 0x7F800000#32) = 1#1) :
    x = cols (realOf x) := by
  funext i
  have e : (ix2 ⟨(i 0).val, (i 0).isLt⟩ ⟨(i 1).val, (i 1).isLt⟩ : S8192x2048.Idx) = i := by
    funext j; fin_cases j <;> rfl
  unfold cols realOf
  rw [dif_pos ⟨(i 0).isLt, (i 1).isLt⟩, e]
  exact (EReal.coe_toReal (finite_of_test _ (h i)).1 (finite_of_test _ (h i)).2).symm

end Cert.Reals
end
end
-- ==== Proof.KernelRun.lean ====
/-
  The kernel's run at real arguments: its two results.
-/
module

public import proofs.«01_k».proof.Proof.Chunks
public import Idealize.ShloMosaic.Lib.Pointwise

@[expose] public section
set_option maxRecDepth 16384
noncomputable section
namespace Cert.KernelRun
open Idealize.ShloMosaic Idealize.ShloMosaic.TcCoe Idealize.SL.Sem Cert.KernelIdeal Cert.KernelIdeal.Gen Cert.Tokens Cert.Wide Cert.Chunks

variable (m : (ℓ : Loc nD τ sig) → Buf (Elt Ideal) ℓ) (ρ : Dev nD → PrngReg) (c : Dev nD) (r lw k v kk a : ℕ → ℕ → ℝ)

/-- The arguments are real arrays. -/
structure Args : Prop where
  h0 : m ((c.tc : Thread nD τ).loc main_arg0) = cols r
  h1 : m ((c.tc : Thread nD τ).loc main_arg1) = cols lw
  h2 : m ((c.tc : Thread nD τ).loc main_arg2) = cols k
  h3 : m ((c.tc : Thread nD τ).loc main_arg3) = cols v
  h4 : m ((c.tc : Thread nD τ).loc main_arg4) = cols kk
  h5 : m ((c.tc : Thread nD τ).loc main_arg5) = cols a

variable {m c r lw k v kk a}

/-- The log decay, from the layer's parameter. -/
abbrev decay (lw : ℕ → ℕ → ℝ) : ℕ → ℕ → ℝ := fun t q => -Real.exp (lw t q)

/-- The kernel's arrays at the start of the grid. -/
theorem arrays (h : Args m c r lw k v kk a) :
    Arrays m c r (decay lw) k v (fun t q => -kk t q) (fun t q => kk t q * a t q) := by
  refine ⟨(V_main_arg0 m c).trans h.h0, ?_, (V_main_arg2 m c).trans h.h2, (V_main_arg3 m c).trans h.h3, ?_, ?_⟩
  · show StableHlo.after (List.flatten [hostOps0]) _ _ = _
    simp only [List.flatten_cons, List.flatten_nil, List.append_nil]
    after_results
    refine (congrArg (fun x => Host.negf (Host.exp x)) h.h1).trans ?_
    funext i; idx_vars i
    pointwise [cols]
    rfl
  · show StableHlo.after (List.flatten [hostOps0]) _ _ = _
    simp only [List.flatten_cons, List.flatten_nil, List.append_nil]
    after_results
    refine (congrArg (fun x => Host.negf x) h.h4).trans ?_
    funext i; idx_vars i
    pointwise [cols]
    rfl
  · show StableHlo.after (List.flatten [hostOps0]) _ _ = _
    simp only [List.flatten_cons, List.flatten_nil, List.append_nil]
    after_results
    refine (congrArg₂ (fun x y => mulf x y) h.h4 h.h5).trans ?_
    funext i; idx_vars i
    pointwise [cols]
    exact (EReal.coe_mul _ _).symm

/-- The states of all heads at the end. -/
def final (ld k v a b : ℕ → ℕ → ℝ) : FVec Ideal S32x64x64 .f32 :=
  fun i => ((state ld k v a b (i 0).val 8192 (i 1) (i 2) : ℝ) : EReal)

/-- The groups' states by rows and columns of heads. -/
abbrev split (X : FVec Ideal S8x256x256 .f32) : FVec Ideal S8x4x64x4x64 .f32 :=
  shapeCast S8x4x64x4x64 X shapeCasts_S8x256x256_S8x4x64x4x64

/-- The heads' states, taken out of their groups' block diagonals. -/
abbrev taken (X : FVec Ideal S8x256x256 .f32) : FVec Ideal S32x64x64 .f32 :=
  shapeCast S32x64x64 (concatenate S8x4x64x64 1 [
    ⟨S8x1x64x64, (broadcastInDim S8x1x64x64 ![0, 2, 3] bcast_S8x64x64_S8x1x64x64_0_2_3 (shapeCast S8x64x64 (extractStridedSlice S8x1x64x1x64 ![0, 0, 0, 0, 0] (split X) slices_S8x4x64x4x64_S8x1x64x1x64_0_0_0_0_0) shapeCasts_S8x1x64x1x64_S8x64x64) : FVec Ideal S8x1x64x64 .f32)⟩,
    ⟨S8x1x64x64, (broadcastInDim S8x1x64x64 ![0, 2, 3] bcast_S8x64x64_S8x1x64x64_0_2_3 (shapeCast S8x64x64 (extractStridedSlice S8x1x64x1x64 ![0, 1, 0, 1, 0] (split X) slices_S8x4x64x4x64_S8x1x64x1x64_0_1_0_1_0) shapeCasts_S8x1x64x1x64_S8x64x64) : FVec Ideal S8x1x64x64 .f32)⟩,
    ⟨S8x1x64x64, (broadcastInDim S8x1x64x64 ![0, 2, 3] bcast_S8x64x64_S8x1x64x64_0_2_3 (shapeCast S8x64x64 (extractStridedSlice S8x1x64x1x64 ![0, 2, 0, 2, 0] (split X) slices_S8x4x64x4x64_S8x1x64x1x64_0_2_0_2_0) shapeCasts_S8x1x64x1x64_S8x64x64) : FVec Ideal S8x1x64x64 .f32)⟩,
    ⟨S8x1x64x64, (broadcastInDim S8x1x64x64 ![0, 2, 3] bcast_S8x64x64_S8x1x64x64_0_2_3 (shapeCast S8x64x64 (extractStridedSlice S8x1x64x1x64 ![0, 3, 0, 3, 0] (split X) slices_S8x4x64x4x64_S8x1x64x1x64_0_3_0_3_0) shapeCasts_S8x1x64x1x64_S8x64x64) : FVec Ideal S8x1x64x64 .f32)⟩]
    concatenates_S8x1x64x64_S8x1x64x64_S8x1x64x64_S8x1x64x64_S8x4x64x64_d1) shapeCasts_S8x4x64x64_S32x64x64

/-- A cell of a group's state, inside a diagonal block, is the head's. -/
theorem block_state (ld k v a b : ℕ → ℕ → ℝ) (n g : ℕ) (h : Fin 4) (hn : n = 4 * g + h.val) (p q : Fin 64) (P Q : Fin 256)
    (hP : P.val = 64 * h.val + p.val) (hQ : Q.val = 64 * h.val + q.val) :
    diag (fun h => state ld k v a b (4 * g + h.val) 8192) P Q = state ld k v a b n 8192 p q := by
  have := p.isLt
  have := q.isLt
  have e1 : hd P = h := by ext; show P.val / 64 = h.val; omega
  have e2 : hd Q = h := by ext; show Q.val / 64 = h.val; omega
  have e3 : lo P = p := by ext; show P.val % 64 = p.val; omega
  have e4 : lo Q = q := by ext; show Q.val % 64 = q.val; omega
  unfold diag
  rw [e1, e2, e3, e4, if_pos rfl, hn]

/-- A head's state is its block of its group's. -/
theorem taken_eq (ld k v a b : ℕ → ℕ → ℝ) : taken (stateArr ld k v a b) = final ld k v a b := by
  funext i; idx_vars i
  pointwise [stateArr, final]
  have := i0.isLt
  split_ifs
  · exact congrArg _ (block_state ld k v a b i0.val (i0.val / 4) 0 (by show _ = _ + 0; omega) _ _ _ _ (by show i1.val = 64 * 0 + i1.val; omega) (by show i2.val = 64 * 0 + i2.val; omega))
  · exact congrArg _ (block_state ld k v a b i0.val (i0.val / 4) 1 (by show _ = _ + 1; omega) _ _ _ _ rfl rfl)
  · exact congrArg _ (block_state ld k v a b i0.val (i0.val / 4) 2 (by show _ = _ + 2; omega) _ _ _ _ rfl rfl)
  · exact congrArg _ (block_state ld k v a b i0.val (i0.val / 4) 3 (by show _ = _ + 3; omega) _ _ _ _ rfl rfl)

/-- The second result's host lines, after the grid. -/
theorem suffix_eq (ld k v a b : ℕ → ℕ → ℝ) (W : Valuation τ sig (Elt Ideal))
    (hW : W (Proc.devRef .tc main_v4_1) = stateArr ld k v a b) :
    StableHlo.after (List.flatten [hostOps1]) W (Proc.devRef .tc main_v19) = final ld k v a b := by
  simp only [List.flatten_cons, List.flatten_nil, List.append_nil]
  after_region_results
  exact (congrArg taken hW).trans (taken_eq ld k v a b)

variable (m) in
/-- The kernel's run at real arguments: its two results are the outputs and the final states. -/
theorem run :
    θ_run defs (onTc (τ := τ) (main (F := Ideal))) ⟨m, fun _ => 0, ρ⟩ (fun s => ∀ c : Dev nD,
      (∀ r lw k v kk a, Args m c r lw k v kk a →
        s.2.mem ((c.tc : Thread nD τ).loc main_v4_0) = outArr r (decay lw) k v (fun t q => -kk t q) (fun t q => kk t q * a t q)
        ∧ s.2.mem ((c.tc : Thread nD τ).loc main_v19) = final (decay lw) k v (fun t q => -kk t q) (fun t q => kk t q * a t q))) :=
  (θ_run defs _ _).mono (fun s hs c r lw k v kk a hA => by
    refine ⟨((hs c).1 6).trans (final_y (arrays hA)), ?_⟩
    refine ((hs c).2 main_v19 (Pipeline.mem_restRefs_of main_v19 (by decide) (by decide))).trans ?_
    refine suffix_eq _ _ _ _ _ _ ?_
    refine (Pipeline.withArrays_arr (cfgs 0).spec launch0.win.arr_inj c (V0 m c) _ 7).trans ?_
    exact final_s (arrays hA)) (run_main m ρ)

end Cert.KernelRun
end
end
-- ==== Proof.Steps.lean ====
/-
  The reference's loop: after `n` trips it holds the states and outputs of the first `n` tokens.
-/
module

public import proofs.«01_k».proof.Proof.Tokens
public import proofs.«01_k».proof.Proof.Gen.ReferenceIdeal.Run
public import Idealize.ShloMosaic.Lib.Pointwise
public import Idealize.ShloMosaic.Lib.WordCmp
public import Idealize.ShloMosaic.Lib.DynamicIndex

@[expose] public section
set_option maxRecDepth 16384
noncomputable section
namespace Cert.Steps
open Idealize.ShloMosaic Idealize.ShloMosaic.TcCoe Cert.ReferenceIdeal Cert.ReferenceIdeal.Gen Cert.ReferenceIdeal.Value Cert.Tokens

/-- The loop's counter after `n` trips. -/
def ctr (n : ℕ) : (⟨S_, .i32⟩ : BufTy).Contents (Elt Ideal) := fun _ => BitVec.ofNat 32 n

/-- An array by heads, of a real array by columns. -/
def heads (X : ℕ → ℕ → ℝ) : FVec Ideal S8192x32x64 .f32 :=
  fun i => ((X (i 0).val (64 * (i 1).val + (i 2).val) : ℝ) : EReal)

/-- A token's row, by heads. -/
def row (X : ℕ → ℕ → ℝ) (n : ℕ) : FVec Ideal S32x64 .f32 :=
  fun i => ((X n (64 * (i 0).val + (i 1).val) : ℝ) : EReal)

/-- Where a trip reads and writes: at its own token. -/
theorem start_eq (n : ℕ) (hn : n < 8192) (a : Fin 3) :
    (((![ctr n, constantI S_ 32 0#32, constantI S_ 32 0#32] : Fin 3 → (⟨S_, .i32⟩ : BufTy).Contents (Elt Ideal)) a
      (Shape.Idx.first h_S_) : BitVec 32)).toInt = ((![n, 0, 0] : Fin 3 → ℕ) a : ℤ) := by
  fin_cases a
  · exact toInt_ofNat_of_lt (by omega)
  · rfl
  · rfl

/-- A token's row of an array by heads. -/
theorem row_eq (X : ℕ → ℕ → ℝ) (n : ℕ) (hn : n < 8192) :
    shapeCast S32x64 (Host.dynamicSlice S1x32x64 (heads X) (fun k => (((![ctr n, constantI S_ 32 0#32, constantI S_ 32 0#32] : Fin 3 → (⟨S_, .i32⟩ : BufTy).Contents (Elt Ideal))) k (Shape.Idx.first h_S_)).toInt) sliceFits_S8192x32x64_S1x32x64) shapeCasts_S1x32x64_S32x64
      = row X n := by
  rw [WordCmp.dynamicSlice_eq_extract S1x32x64 (heads X) _ _ ![n, 0, 0] (by
    refine ⟨rfl, fun a => ?_⟩
    fin_cases a <;> simp <;> omega) (start_eq n hn)]
  funext i; idx_vars i
  pointwise [heads, row]

variable (r ld k v a b : ℕ → ℕ → ℝ)

/-- The states of all heads before token `n`. -/
def held (n : ℕ) : FVec Ideal S32x64x64 .f32 :=
  fun i => ((state ld k v a b (i 0).val n (i 1) (i 2) : ℝ) : EReal)

/-- What the loop holds after `n` trips. -/
structure Inv (n : ℕ) (V : Valuation τ sig (Elt Ideal)) : Prop where
  h0 : V (Proc.devRef .tc main_v13_0) = heads r
  h1 : V (Proc.devRef .tc main_v13_1) = heads fun t q => Real.exp (ld t q)
  h2 : V (Proc.devRef .tc main_v13_2) = heads k
  h3 : V (Proc.devRef .tc main_v13_3) = heads v
  h4 : V (Proc.devRef .tc main_v13_4) = heads a
  h5 : V (Proc.devRef .tc main_v13_5) = heads b
  h6 : V (Proc.devRef .tc main_v13_6) = ctr n
  h7 : V (Proc.devRef .tc main_v13_7) = held ld k v a b n
  h8 : ∀ i : S8192x32x64.Idx, (i 0).val < n →
    V (Proc.devRef .tc main_v13_8) i = ((out r ld k v a b (i 1).val (i 0).val (i 2) : ℝ) : EReal)

/-- One trip's state, at real arrays. -/
theorem state_step (n : ℕ) :
    addf (addf (mulf (held ld k v a b n) (broadcastInDim S32x64x64 ![0, 1, 2] bcast_S32x1x64_S32x64x64_0_1_2 (broadcastInDim S32x1x64 ![0, 2] bcast_S32x64_S32x1x64_0_2 (row (fun t q => Real.exp (ld t q)) n)))) (mulf (broadcastInDim S32x64x64 ![0, 1, 2] bcast_S32x64x1_S32x64x64_0_1_2 (broadcastInDim S32x64x1 ![0, 1] bcast_S32x64_S32x64x1_0_1 (Host.dotGeneral dot_S32x64x64_S32x64_S32x64_2_1_1_n_0_0 none (held ld k v a b n) (row a n) : FVec Ideal S32x64 .f32))) (broadcastInDim S32x64x64 ![0, 1, 2] bcast_S32x1x64_S32x64x64_0_1_2 (broadcastInDim S32x1x64 ![0, 2] bcast_S32x64_S32x1x64_0_2 (row b n))))) (mulf (broadcastInDim S32x64x64 ![0, 1, 2] bcast_S32x64x1_S32x64x64_0_1_2 (broadcastInDim S32x64x1 ![0, 1] bcast_S32x64_S32x64x1_0_1 (row v n))) (broadcastInDim S32x64x64 ![0, 1, 2] bcast_S32x1x64_S32x64x64_0_1_2 (broadcastInDim S32x1x64 ![0, 2] bcast_S32x64_S32x1x64_0_2 (row k n))))
      = held ld k v a b (n + 1) := by
  funext i; idx_vars i
  pointwise [held, row]
  simp only [← EReal.coe_mul, Wide.coe_sum, ← EReal.coe_add]
  rfl

/-- One trip's output, at real arrays. -/
theorem out_step (n : ℕ) :
    (Host.dotGeneral dot_S32x64x64_S32x64_S32x64_2_1_1_n_0_0 none (held ld k v a b (n + 1)) (row r n) : FVec Ideal S32x64 .f32)
      = fun i => ((out r ld k v a b (i 0).val n (i 1) : ℝ) : EReal) := by
  funext i; idx_vars i
  pointwise [held, row]
  simp only [← EReal.coe_mul, Wide.coe_sum]
  rfl

/-- The state after a trip. -/
theorem v36_eq (n : ℕ) (hn : n < 8192) (V : Valuation τ sig (Elt Ideal)) (h : Inv r ld k v a b n V) :
    res_main_while0b_v36 V = held ld k v a b (n + 1) := by
  unfold res_main_while0b_v36
  rw [h.h1, h.h2, h.h3, h.h4, h.h5, h.h6, h.h7]
  erw [row_eq _ n hn, row_eq _ n hn, row_eq _ n hn, row_eq _ n hn, row_eq _ n hn]
  exact state_step ld k v a b n

/-- The outputs held after a trip: the trip's own token is written, the others are kept. -/
theorem update_eq (n : ℕ) (hn : n < 8192) (X : (⟨S8192x32x64, .f32⟩ : BufTy).Contents (Elt Ideal))
    (u : (⟨S32x64, .f32⟩ : BufTy).Contents (Elt Ideal)) (i : S8192x32x64.Idx) :
    Host.dynamicUpdateSlice X (broadcastInDim S1x32x64 ![1, 2] bcast_S32x64_S1x32x64_1_2 u) (fun k => (((![ctr n, constantI S_ 32 0#32, constantI S_ 32 0#32] : Fin 3 → (⟨S_, .i32⟩ : BufTy).Contents (Elt Ideal))) k (Shape.Idx.first h_S_)).toInt) updateFits_S8192x32x64_S1x32x64 i
      = if (i 0).val = n then u (ix2 (i 1) (i 2)) else X i := by
  rw [WordCmp.dynamicUpdateSlice_eq_update X _ _ _ ![n, 0, 0] (by
    refine ⟨rfl, fun a => ?_⟩
    fin_cases a <;> simp <;> omega) (start_eq n hn)]
  unfold updateSlice
  by_cases e : (i 0).val = n
  · rw [if_pos e, dif_pos (by
      intro a
      fin_cases a
      · exact ⟨e.ge, by show (i 0).val < n + 1; omega⟩
      · exact ⟨Nat.zero_le _, by show (i 1).val < 0 + 32; have := (i 1).isLt; exact (Nat.zero_add 32).symm ▸ this⟩
      · exact ⟨Nat.zero_le _, by show (i 2).val < 0 + 64; have := (i 2).isLt; exact (Nat.zero_add 64).symm ▸ this⟩)]
    pointwise
  · rw [if_neg e, dif_neg (fun h => e (by have h1 := (h 0).1; have h2 : (i 0).val < n + 1 := (h 0).2; exact Nat.le_antisymm (Nat.lt_succ_iff.mp h2) h1))]

/-- One trip keeps the invariant. -/
theorem step (n : ℕ) (hn : n < 8192) (V : Valuation τ sig (Elt Ideal)) (h : Inv r ld k v a b n V) :
    Inv r ld k v a b (n + 1) (STEP V) where
  h0 := (STEP_main_v13_0 V).trans h.h0
  h1 := (STEP_main_v13_1 V).trans h.h1
  h2 := (STEP_main_v13_2 V).trans h.h2
  h3 := (STEP_main_v13_3 V).trans h.h3
  h4 := (STEP_main_v13_4 V).trans h.h4
  h5 := (STEP_main_v13_5 V).trans h.h5
  h6 := by
    rw [STEP_main_v13_6]; unfold step_main_v13_6; rw [h.h6]
    funext i
    show BitVec.ofNat 32 n + 1#32 = BitVec.ofNat 32 (n + 1)
    rw [BitVec.ofNat_add]
  h7 := by
    rw [STEP_main_v13_7]; unfold step_main_v13_7; rw [v36_eq r ld k v a b n hn V h]; rfl
  h8 i hi := by
    rw [STEP_main_v13_8]; unfold step_main_v13_8
    rw [v36_eq r ld k v a b n hn V h, h.h6, h.h0]
    erw [row_eq _ n hn, out_step r ld k v a b n]
    refine (update_eq n hn _ _ i).trans ?_
    split
    · next e => subst e; rfl
    · exact h.h8 i (by omega)

/-- The invariant after any number of trips. -/
theorem iter (V : Valuation τ sig (Elt Ideal)) (h : Inv r ld k v a b 0 V) : ∀ n ≤ 8192, Inv r ld k v a b n (STEP^[n] V)
  | 0, _ => h
  | n + 1, hn => by
    rw [Function.iterate_succ_apply']
    exact step r ld k v a b n (by omega) _ (iter V h n (by omega))

end Cert.Steps
end
end
-- ==== Proof.ReferenceRun.lean ====
/-
  The reference's run at real arguments: its two results.
-/
module

public import proofs.«01_k».proof.Proof.Steps
public import proofs.«01_k».proof.Proof.KernelRun
public import Idealize.ShloMosaic.Lib.Pointwise

@[expose] public section
set_option maxRecDepth 16384
noncomputable section
namespace Cert.ReferenceRun
open Idealize.ShloMosaic Idealize.ShloMosaic.TcCoe Idealize.SL.Sem Cert.ReferenceIdeal Cert.ReferenceIdeal.Gen Cert.ReferenceIdeal.Value
open Cert.Tokens Cert.Steps Cert.Chunks Cert.KernelRun

variable (m : (ℓ : Loc nD τ sig) → Buf (Elt Ideal) ℓ) (ρ : Dev nD → PrngReg) (c : Dev nD) (r lw k v kk a : ℕ → ℕ → ℝ)

/-- The arguments are real arrays. -/
structure Args : Prop where
  h0 : m ((c.tc : Thread nD τ).loc main_arg0) = cols r
  h1 : m ((c.tc : Thread nD τ).loc main_arg1) = cols lw
  h2 : m ((c.tc : Thread nD τ).loc main_arg2) = cols k
  h3 : m ((c.tc : Thread nD τ).loc main_arg3) = cols v
  h4 : m ((c.tc : Thread nD τ).loc main_arg4) = cols kk
  h5 : m ((c.tc : Thread nD τ).loc main_arg5) = cols a

/-- An array by heads. -/
theorem heads_eq (X : ℕ → ℕ → ℝ) : (shapeCast S8192x32x64 (cols X) shapeCasts_S8192x2048_S8192x32x64 : FVec Ideal S8192x32x64 .f32) = heads X := by
  funext i; idx_vars i
  pointwise [cols, heads]
  rw [Nat.mul_comm i1.val 64]

theorem exp_eq (X : ℕ → ℕ → ℝ) : (Host.exp (Host.negf (Host.exp (cols X))) : FVec Ideal S8192x2048 .f32) = cols fun t q => Real.exp (decay X t q) := by
  funext i; idx_vars i
  pointwise [cols]
  rfl

theorem neg_eq (X : ℕ → ℕ → ℝ) : (Host.negf (cols X) : FVec Ideal S8192x2048 .f32) = cols fun t q => -X t q := by
  funext i; idx_vars i
  pointwise [cols]
  rfl

theorem mul_eq (X Y : ℕ → ℕ → ℝ) : (mulf (cols X) (cols Y) : FVec Ideal S8192x2048 .f32) = cols fun t q => X t q * Y t q := by
  funext i; idx_vars i
  pointwise [cols]
  exact (EReal.coe_mul _ _).symm

variable {m c r lw k v kk a}

/-- What the loop starts from. -/
theorem start (h : Args m c r lw k v kk a) :
    Cert.Steps.Inv r (decay lw) k v (fun t q => -kk t q) (fun t q => kk t q * a t q) 0 (StableHlo.entryContents preI m c) := by
  have entry : StableHlo.entryContents preI m c = StableHlo.after hostOps0 (fun b => m (c, b)) := rfl
  rw [entry]
  constructor
  · after_results
    exact (congrArg (fun x => shapeCast S8192x32x64 x shapeCasts_S8192x2048_S8192x32x64) h.h0).trans (heads_eq _)
  · after_results
    exact (congrArg (fun x => shapeCast S8192x32x64 (Host.exp (Host.negf (Host.exp x))) shapeCasts_S8192x2048_S8192x32x64) h.h1).trans
      ((congrArg (fun x => shapeCast S8192x32x64 x shapeCasts_S8192x2048_S8192x32x64) (exp_eq lw)).trans (heads_eq _))
  · after_results
    exact (congrArg (fun x => shapeCast S8192x32x64 x shapeCasts_S8192x2048_S8192x32x64) h.h2).trans (heads_eq _)
  · after_results
    exact (congrArg (fun x => shapeCast S8192x32x64 x shapeCasts_S8192x2048_S8192x32x64) h.h3).trans (heads_eq _)
  · after_results
    exact (congrArg (fun x => shapeCast S8192x32x64 (Host.negf x) shapeCasts_S8192x2048_S8192x32x64) h.h4).trans
      ((congrArg (fun x => shapeCast S8192x32x64 x shapeCasts_S8192x2048_S8192x32x64) (neg_eq kk)).trans (heads_eq _))
  · after_results
    exact (congrArg₂ (fun x y => shapeCast S8192x32x64 (mulf x y) shapeCasts_S8192x2048_S8192x32x64) h.h4 h.h5).trans
      ((congrArg (fun x => shapeCast S8192x32x64 x shapeCasts_S8192x2048_S8192x32x64) (mul_eq kk a)).trans (heads_eq _))
  · after_results
    rfl
  · after_results
    funext i; idx_vars i
    exact Ideal.ofBits_zero_f32
  · intro i hi
    exact absurd hi (Nat.not_lt_zero _)

/-- The outputs by columns. -/
theorem outputs_eq (ld b' c' : ℕ → ℕ → ℝ) (V : Valuation τ sig (Elt Ideal)) (h : Cert.Steps.Inv r ld k v b' c' 8192 V) :
    out_main_v14 V = outArr r ld k v b' c' := by
  unfold out_main_v14
  funext i; idx_vars i
  pointwise [outArr]
  exact h.h8 (ix3 i0 ⟨i1.val / 64, _⟩ ⟨i1.val % 64, _⟩) i0.isLt

variable (m) in
/-- The reference's run at real arguments: its two results are the outputs and the final states. -/
theorem run' :
    θ_run (defs (F := Ideal)) (onTc (τ := τ) (main (F := Ideal))) ⟨m, fun _ => 0, ρ⟩ (fun s => ∀ c : Dev nD,
      (∀ r lw k v kk a, Args m c r lw k v kk a →
        s.2.mem ((c.tc : Thread nD τ).loc main_v14) = outArr r (decay lw) k v (fun t q => -kk t q) (fun t q => kk t q * a t q)
        ∧ s.2.mem ((c.tc : Thread nD τ).loc main_v13_7) = final (decay lw) k v (fun t q => -kk t q) (fun t q => kk t q * a t q))) :=
  (θ_run defs _ _).mono (fun s hs c r lw k v kk a hA => by
    have e := iter r (decay lw) k v (fun t q => -kk t q) (fun t q => kk t q * a t q) _ (start hA) 8192 le_rfl
    exact ⟨((hs c).1).trans (outputs_eq _ _ _ _ e), ((hs c).2.1).trans e.h7⟩) (Cert.ReferenceIdeal.Value.run m ρ)

end Cert.ReferenceRun
end
end
-- ==== Proof.ProjFrame.lean ====
/-
  The input projection's run over any float values: it ends, its arguments are unchanged, every counter is zero.
  The product's last column block is cut at the array's end, and what the body finds past that end is unknown; so the
  product's array is left unnamed here.
-/
module

public import proofs.«01_k».proof.Proof.Gen.Kernel2.Frame
public import proofs.«01_k».proof.Proof.Gen.Kernel2.Skeleton

@[expose] public section
set_option maxRecDepth 16384
noncomputable section
namespace Cert.ProjFrame
open Cert.Kernel2 Cert.Kernel2.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body reads its two blocks, and leaves them as they were and the third buffer at something. -/
theorem body_runs (c : Dev nD) (E : Set ℕ) (i : grid0.Coords) (a : Memref sig .tc .vmem S1024x4096 .bf16) (ha : a.IsWhole)
    (b : Memref sig .tc .vmem S4096x1024 .bf16) (hb : b.IsWhole) (o : Memref sig .tc .vmem S1024x1024 .f32) (ho : o.IsWhole)
    (x : Vec F S1024x4096 .bf16) (y : Vec F S4096x1024 .bf16) (K : PUnit → sProp 𝕄) :
    iprop(owns (c : Thread nD τ) a fullShare x ∗ owns (c : Thread nD τ) b fullShare y ∗ (∃ d, owns (c : Thread nD τ) o fullShare d)
        ∗ (iprop(owns (c : Thread nD τ) a fullShare x ∗ owns (c : Thread nD τ) b fullShare y ∗ (∃ d, owns (c : Thread nD τ) o fullShare d)) -∗ K ⟨⟩))
      ⊢ wp frame (wpE (defs₀ (F := F)) Variants.none c none) E (cc0_matmul i a ha b hb o ho) K := by
  simp only [cc0_matmul_eq_skeleton]; unfold cc0_matmul_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; iexists _; isplitr
  swap; · iexact H2
  ipureintro; rfl

/-- Something to fill a block out with past its array's end. -/
def zeros : S4096x1024.Idx → Elt F .bf16 := fun _ => Scalar.ofBits .bf16 0#16

/-- The proof data: each operand's buffer keeps its block; nothing is said of the product's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) zeros (iblk m c 1 t)
    | ⟨2, _⟩ => fun _ => Scalar.ofBits .f32 0#32
  Φ _ := Pipeline.ΦA spec0 c
  q _ := fullShare
  owed _ := 0

/-- The arrays at the region's entry. -/
theorem A_eq (c : Dev nD) (w : Fin cfg0.W) : (dats m 0 c).A w = V m c (Pipeline.arrRef spec0 w) := by
  dsimp only [dats]

/-- The first operand's buffer holds its block at every point. -/
theorem before_a (c : Dev nD) (t : Fin cfg0.N) (d) : (dats m 0 c).before 0 t d = iblk m c 0 t :=
  before0_0_of m (dats m 0 c) (A_eq m c 0) (fun t => by dsimp only [dats]) t d

/-- The second operand's buffer, just fetched: its block inside the array, anything past it. -/
theorem before_b (c : Dev nD) (t : Fin cfg0.N) (d) :
    (dats m 0 c).before 1 t d = win0_1.fill (grid0.coords t) d (iblk m c 1 t) := by
  unfold Dat.before; rw [if_pos (fetch0_1 t)]; rfl

/-- The window whose buffer is left unnamed. -/
def fgt : Fin cfg0.W → Bool := fun w => match w with | ⟨0, _⟩ => false | ⟨1, _⟩ => false | ⟨2, _⟩ => true

/-- What the body leaves of the second operand's block is that block. -/
theorem cut_b (c : Dev nD) (t : Fin cfg0.N) :
    win0_1.cut (grid0.coords t) ((dats m 0 c).after 1 t) = iblk m c 1 t := by
  have e : (dats m 0 c).after 1 t = win0_1.fill (grid0.coords t) zeros (iblk m c 1 t) := by dsimp only [dats]
  rw [e]
  exact win0_1.cut_fill (grid0.coords t) zeros (iblk m c 1 t)

/-- The body table's row at a point. -/
theorem row (t : Fin cfg0.N) : defs₀ (F := F) .tc cfg0.body (cfg0.bodyArgs t (cfg0.slots t)) = bodyAt0 t := by
  unfold defs₀; rw [Defs.onTc_tc]

/-- The body at every point. -/
theorem obligation (c : Dev nD) : BodyObligationLoose (dats (F := F) m 0 c) (defs₀ (F := F)) Variants.none () Set.univ fgt := fun t => by
  rw [bigSep_W0, bigSep_W0, row]
  simp only [fgt]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_a m c t d0, before_b m c t d1]
  iapply (body_runs c Set.univ (grid0.coords t) _ _ _ _ _ _ (iblk m c 0 t) (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]
  · iexists d1
    change _ ⊢ owns (c : Thread nD τ) (st0_1 t) fullShare (win0_1.fill (grid0.coords t) d1 (win0_1.cut (grid0.coords t) ((dats m 0 c).after 1 t)))
    rw [cut_b]
  iexact H2

/-- The buffers the host lines after the product write. -/
def T : Finset (Ref sig .tc) := {main_v11, main_v12, main_v13, main_v14, main_v15, main_v16, main_v17, main_v18, main_v19, main_v20,
  main_v21, main_v22, main_v23, main_v24, main_v25, main_v26, main_v27, main_v28, main_v29, main_v30}

/-- They write no other. -/
theorem writes_T : ∀ ops ∈ ([hostOps1] : List (List (HloOp τ sig (Elt F)))), ∀ op ∈ ops,
    ∀ b : Ref sig .tc, Proc.devRef .tc b ∈ op.writes → b ∈ T := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl | rfl | rfl | rfl | rfl | rfl | rfl | rfl | rfl
  all_goals
    intro b hb
    simp only [StableHlo.unary_writes, StableHlo.reshape_writes, Finset.mem_singleton] at hb
    have := Proc.devRef_injective _ hb
    subst this
    decide

set_option backward.isDefEq.respectTransparency.types false in
set_option maxHeartbeats 800000 in
/-- The run: every buffer that no window stages and no later line writes is as the region found it. -/
theorem run_main : θ_run defs (onTc (τ := τ) (main (F := F))) (s₀ m ρ)
    (fun r => Pipeline.RDat.FramePostR cfg0 (fun c => (dats m 0 c).toRForget fgt) T (V m) r ∧ r.2.sem = fun _ => 0) :=
  Pipeline.θ_run_frame_around_T_forget (Q' := _) cfgs (dats m) (0 : Fin 1) launch0 defs₀ Variants.none fgt T m ρ main
    (hbody := obligation m) (hshare := fun c => (dats m 0 c).share_full fun _ => rfl)
    (howed := fun _ _ => rfl) (V₀ := V0 m) (opss := [hostOps1]) (hsub := sfx_sub) (hfresh := sfx_fresh) (hkeep := sfx_keeps)
    (hT := writes_T) (hmain := hmain m Variants.none) (hA := A_eq m) (hΦ := fun _ _ => rfl)

/-- The frame: the arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => by
    have k : ∀ b : Ref sig .tc, b ∈ Pipeline.restRefs sig spec0 → b ∉ T → _ := fun b h1 h2 =>
      (h.1 c).2 b (Finset.mem_sdiff.mpr ⟨h1, h2⟩)
    exact ⟨(k main_arg0 (Pipeline.mem_restRefs_of main_arg0 (by decide) (by decide)) (by decide)).trans (V_main_arg0 m c),
      (k main_arg1 (Pipeline.mem_restRefs_of main_arg1 (by decide) (by decide)) (by decide)).trans (V_main_arg1 m c),
      (k main_arg2 (Pipeline.mem_restRefs_of main_arg2 (by decide) (by decide)) (by decide)).trans (V_main_arg2 m c),
      (k main_arg3 (Pipeline.mem_restRefs_of main_arg3 (by decide) (by decide)) (by decide)).trans (V_main_arg3 m c)⟩, h.2⟩) (run_main m ρ)

end Cert.ProjFrame
end
end
-- ==== Proof.ProjRun.lean ====
/-
  The input projection's run at the ideal values: the product's array ends at the matrix product, its last column
  block cut at the array's end.
-/
module

public import proofs.«01_k».proof.Proof.Gen.Kernel2Ideal.Frame
public import proofs.«01_k».proof.Proof.Gen.Kernel2Ideal.Skeleton
public import Idealize.ShloMosaic.Lib.Pointwise
public import Idealize.ShloMosaic.Lib.Pipeline.Covers
public import Idealize.ShloMosaic.Lib.Pipeline.ValueKit

@[expose] public section
set_option maxRecDepth 16384
noncomputable section
namespace Cert.ProjRun
open Cert.Kernel2Ideal Cert.Kernel2Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

local notation "𝕄" => MT nD τ sig Unit (Elt Ideal) ℕ (UR sig nD τ) ℕ

variable (m : (ℓ : Loc nD τ sig) → Buf (Elt Ideal) ℓ) (ρ : Dev nD → PrngReg)

/-- Offsets zero. -/
theorem zero2 : (![0, 0] : Fin 2 → Nat) = fun _ => 0 := funext fun a => by fin_cases a <;> rfl

set_option maxHeartbeats 1000000 in
/-- The body reads its two blocks, leaves them as they were, and the third buffer at their product. -/
theorem body_runs (c : Dev nD) (E : Set ℕ) (i : grid0.Coords) (a : Memref sig .tc .vmem S1024x4096 .bf16) (ha : a.IsWhole)
    (b : Memref sig .tc .vmem S4096x1024 .bf16) (hb : b.IsWhole) (o : Memref sig .tc .vmem S1024x1024 .f32) (ho : o.IsWhole)
    (x : Vec Ideal S1024x4096 .bf16) (y : Vec Ideal S4096x1024 .bf16) (K : PUnit → sProp 𝕄) :
    iprop(owns (c : Thread nD τ) a fullShare x ∗ owns (c : Thread nD τ) b fullShare y ∗ (∃ d, owns (c : Thread nD τ) o fullShare d)
        ∗ (iprop(owns (c : Thread nD τ) a fullShare x ∗ owns (c : Thread nD τ) b fullShare y ∗ owns (c : Thread nD τ) o fullShare (k0_pay1 x y)) -∗ K ⟨⟩))
      ⊢ wp frame (wpE (defs₀ (F := Ideal)) Variants.none c none) E (cc0_matmul i a ha b hb o ho) K := by
  simp only [cc0_matmul_eq_skeleton]; unfold cc0_matmul_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (fun y => View.cover_of_tiled [⟨Rect.unit (s := S1024x1024) ![0, 0] S1024x1024.size inb_S1024x1024_S1024x1024_0_0, _⟩] S1024x1024.size (by rfl) y)).trans ?_
  refine (View.canon_unit_zero (zero2) _ _).trans ?_
  refine congrArg₂ k0_pay1 ?_ ?_
  · exact View.ld_unit_zero zero2 _ _
  · exact View.ld_unit_zero zero2 _ _

/-- The left operand's array. -/
def lhs (c : Dev nD) : FVec Ideal S8192x4096 .bf16 := V m c main_v8
/-- The right operand's array. -/
def rhs (c : Dev nD) : FVec Ideal S4096x25184 .bf16 := V m c main_v9
/-- Their product. -/
def prod (A : FVec Ideal S8192x4096 .bf16) (B : FVec Ideal S4096x25184 .bf16) : FVec Ideal S8192x25184 .f32 :=
  fun i => ∑ k : Fin 4096, A (ValueIdx.ix2 (i 0) k) * B (ValueIdx.ix2 k (i 1))

/-- No row of the right operand's block is cut. -/
theorem rows_whole (t : Fin cfg0.N) : win0_1.xsize (grid0.coords t) 0 = 4096 := by rfl

/-- An index of the right operand's moved block from an index of the product's. -/
def col (t : Fin cfg0.N) (k : Fin 4096) (y : (win0_2.xblock (grid0.coords t)).Idx) : (win0_1.xblock (grid0.coords t)).Idx :=
  fun a => match a with
    | ⟨0, _⟩ => ⟨k.val, lt_of_lt_of_eq k.isLt (rows_whole t).symm⟩
    | ⟨1, _⟩ => ⟨(y 1).val, by
        have h1 : (y 1).val < win0_2.xsize (grid0.coords t) 1 := (y 1).isLt
        exact h1⟩

/-- Where an element of the left operand's block lies. -/
theorem place_a (t : Fin cfg0.N) (y : (win0_2.xblock (grid0.coords t)).Idx) (k : Fin 4096) :
    (win0_0.blk t).view.emb (ix2 (win0_2.xinj (grid0.coords t) y 0) k : S1024x4096.Idx) = ix2 ((win0_2.blk t).view.emb y 0) k := by
  funext a
  refine Fin.ext ?_
  fin_cases a
  · refine (win0_0.rect_emb_val t _ 0).trans ?_
    exact (win0_2.rect_emb_val t y 0).symm
  · exact win0_0.rect_emb_val_of_index_zero t 1 (by rfl) _

/-- Where an element of the right operand's block lies. -/
theorem place_b (t : Fin cfg0.N) (y : (win0_2.xblock (grid0.coords t)).Idx) (k : Fin 4096) :
    (win0_1.blk t).view.emb (col t k y) = ix2 k ((win0_2.blk t).view.emb y 1) := by
  funext a
  refine Fin.ext ?_
  fin_cases a
  · exact win0_1.rect_emb_val_of_index_zero t 0 (by rfl) _
  · refine (win0_1.rect_emb_val t _ 1).trans ?_
    exact (win0_2.rect_emb_val t y 1).symm

/-- A block of the product, inside the array: the product of the operands' blocks. -/
theorem block_prod (c : Dev nD) (t : Fin cfg0.N) (d : S4096x1024.Idx → Elt Ideal .bf16) (y : (win0_2.xblock (grid0.coords t)).Idx) :
    k0_pay1 (iblk m c 0 t) (win0_1.fill (grid0.coords t) d (iblk m c 1 t)) (win0_2.xinj (grid0.coords t) y)
      = prod (lhs m c) (rhs m c) ((win0_2.blk t).view.emb y) := by
  unfold k0_pay1 prod
  pointwise
  refine Finset.sum_congr rfl fun k _ => ?_
  refine congrArg₂ (· * ·) (congrArg (lhs m c) (place_a t y k)) ?_
  have hj : (ix2 k (win0_2.xinj (grid0.coords t) y 1) : S4096x1024.Idx) = win0_1.xinj (grid0.coords t) (col t k y) := by
    funext a
    fin_cases a <;> rfl
  refine (congrArg (win0_1.fill (grid0.coords t) d (iblk m c 1 t)) hj).trans ?_
  refine (win0_1.fill_xinj (grid0.coords t) d (iblk m c 1 t) (col t k y)).trans ?_
  exact congrArg (rhs m c) (place_b t y k)

/-- Past the array's end a block may hold anything. -/
def zerosB : S4096x1024.Idx → Elt Ideal .bf16 := fun _ => (0 : EReal)
def zerosO : S1024x1024.Idx → Elt Ideal .f32 := fun _ => (0 : EReal)

/-- A block of the product at a point, as far as it lies inside the array. -/
def oblk (c : Dev nD) (t : Fin cfg0.N) : (win0_2.xblock (grid0.coords t)).Idx → Elt Ideal .f32 :=
  fun y => prod (lhs m c) (rhs m c) ((win0_2.blk t).view.emb y)

/-- The body's product, cut at the array's end. -/
theorem cut_prod (c : Dev nD) (t : Fin cfg0.N) (d : S4096x1024.Idx → Elt Ideal .bf16) :
    win0_2.cut (grid0.coords t) (k0_pay1 (iblk m c 0 t) (win0_1.fill (grid0.coords t) d (iblk m c 1 t))) = oblk m c t :=
  funext fun y => block_prod m c t d y

/-- The run's data: the operands' blocks where they are, the product's block where the body has written it. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (grid0.coords t) zerosB (iblk m c 1 t)
    | ⟨2, _⟩ => win0_2.fill (grid0.coords t) zerosO (oblk m c t)
  Φ _ := Pipeline.ΦA spec0 c
  q _ := fullShare
  owed _ := 0

/-- The arrays at the region's entry. -/
theorem A_eq (c : Dev nD) (w : Fin cfg0.W) : (dats m 0 c).A w = V m c (Pipeline.arrRef spec0 w) := by
  dsimp only [dats]

/-- The first operand's buffer holds its block at every point. -/
theorem before_a (c : Dev nD) (t : Fin cfg0.N) (d) : (dats m 0 c).before 0 t d = iblk m c 0 t :=
  before0_0_of m (dats m 0 c) (A_eq m c 0) (fun t => by dsimp only [dats]) t d

/-- The second operand's buffer, just fetched: its block inside the array, anything past it. -/
theorem before_b (c : Dev nD) (t : Fin cfg0.N) (d) :
    (dats m 0 c).before 1 t d = win0_1.fill (grid0.coords t) d (iblk m c 1 t) := by
  unfold Dat.before; rw [if_pos (fetch0_1 t)]; rfl

/-- What the body leaves of the second operand's block is that block. -/
theorem cut_b (c : Dev nD) (t : Fin cfg0.N) :
    win0_1.cut (grid0.coords t) ((dats m 0 c).after 1 t) = iblk m c 1 t := by
  have e : (dats m 0 c).after 1 t = win0_1.fill (grid0.coords t) zerosB (iblk m c 1 t) := by dsimp only [dats]
  rw [e]
  exact win0_1.cut_fill (grid0.coords t) zerosB (iblk m c 1 t)

/-- What it leaves of the product's block is the product's. -/
theorem cut_o (c : Dev nD) (t : Fin cfg0.N) :
    win0_2.cut (grid0.coords t) ((dats m 0 c).after 2 t) = oblk m c t := by
  have e : (dats m 0 c).after 2 t = win0_2.fill (grid0.coords t) zerosO (oblk m c t) := by dsimp only [dats]
  rw [e]
  exact win0_2.cut_fill (grid0.coords t) zerosO (oblk m c t)

/-- The body table's row at a point. -/
theorem row (t : Fin cfg0.N) : defs₀ (F := Ideal) .tc cfg0.body (cfg0.bodyArgs t (cfg0.slots t)) = bodyAt0 t := by
  unfold defs₀; rw [Defs.onTc_tc]

/-- The body at every point. -/
theorem obligation (c : Dev nD) : BodyObligationLoose (dats m 0 c) (defs₀ (F := Ideal)) Variants.none () Set.univ := fun t => by
  rw [bigSep_W0, bigSep_W0, row]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_a m c t d0, before_b m c t d1]
  iapply (body_runs c Set.univ (grid0.coords t) _ _ _ _ _ _ (iblk m c 0 t) (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]
  · iexists d1
    change _ ⊢ owns (c : Thread nD τ) (st0_1 t) fullShare (win0_1.fill (grid0.coords t) d1 (win0_1.cut (grid0.coords t) ((dats m 0 c).after 1 t)))
    rw [cut_b]
  iexists (k0_pay1 (iblk m c 0 t) (win0_1.fill (grid0.coords t) d1 (iblk m c 1 t)))
  change _ ⊢ owns (c : Thread nD τ) (st0_2 t) fullShare (win0_2.fill (grid0.coords t)
    (k0_pay1 (iblk m c 0 t) (win0_1.fill (grid0.coords t) d1 (iblk m c 1 t))) (win0_2.cut (grid0.coords t) ((dats m 0 c).after 2 t)))
  rw [cut_o, ← cut_prod m c t d1, win0_2.fill_cut]

set_option backward.isDefEq.respectTransparency.types false in
set_option maxHeartbeats 800000 in
/-- The run: the windows' arrays as the grid leaves them, then the host's lines. -/
theorem run_main : θ_run defs (onTc (τ := τ) (main (F := Ideal))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := obligation m) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The product's blocks cover its array. -/
theorem covers : (cfg0.win 2).Covers := by decide +kernel

/-- The product's array after the grid is the matrix product. -/
theorem arr_prod (c : Dev nD) : (dats m 0 c).arrAt 2 cfg0.N = prod (lhs m c) (rhs m c) :=
  Dat.arrAt_eq_of_covers (dats m 0 c) 2 (prod (lhs m c) (rhs m c)) covers fun t _ y => congrFun (cut_o m c t) y

end Cert.ProjRun
end
end
-- ==== Proof.ProjValue.lean ====
/-
  The input projection's results: the kernel's and the reference's, as functions of one product.
-/
module

public import proofs.«01_k».proof.Proof.ProjRun
public import proofs.«01_k».proof.Proof.Gen.Reference2Ideal.Run

@[expose] public section
set_option maxRecDepth 16384
noncomputable section
namespace Cert.ProjValue
open Cert.Kernel2Ideal Cert.Kernel2Ideal.Gen Cert.ProjRun
open Idealize.ShloMosaic Idealize.ShloMosaic.TcCoe Idealize.SL.Sem

variable (m : (ℓ : Loc nD τ sig) → Buf (Elt Ideal) ℓ) (ρ : Dev nD → PrngReg)

/-- The tokens, modulated. -/
abbrev modulated (x : FVec Ideal S1x8192x4096 .f32) (shift scale : FVec Ideal S1x1x4096 .f32) : FVec Ideal S1x8192x4096 .f32 :=
  addf (mulf x (broadcastInDim S1x8192x4096 ![0, 1, 2] bcast_S1x1x4096_S1x8192x4096_0_1_2
      (addf (broadcastInDim S1x1x4096 ![] bcast_S_S1x1x4096 (constant S_ .f32 0x3F800000#32)) scale)))
    (broadcastInDim S1x8192x4096 ![0, 1, 2] bcast_S1x1x4096_S1x8192x4096_0_1_2 shift)

/-- The weights, without their leading axis. -/
abbrev weights (w : FVec Ideal S1x4096x25184 .f32) : FVec Ideal S4096x25184 .f32 :=
  shapeCast S4096x25184 w shapeCasts_S1x4096x25184_S4096x25184

/-- The projected tokens: the kernel's product, by tokens. -/
def projected (h : FVec Ideal S1x8192x4096 .f32) (w : FVec Ideal S4096x25184 .f32) : FVec Ideal S1x8192x25184 .f32 :=
  shapeCast S1x8192x25184 (prod (truncf .bf16 (shapeCast S8192x4096 h shapeCasts_S1x8192x4096_S8192x4096 : FVec Ideal S8192x4096 .f32) bitsLt_bf16_f32)
    (truncf .bf16 w bitsLt_bf16_f32)) shapeCasts_S8192x25184_S1x8192x25184

/-- The reference's product is the kernel's. -/
theorem dot_eq (h : FVec Ideal S1x8192x4096 .f32) (w : FVec Ideal S4096x25184 .f32) :
    Host.dotGeneral Cert.Reference2Ideal.dot_S1x8192x4096_S4096x25184_S1x8192x25184_2_0_01_1_n_n none h w = projected h w := by
  funext i; idx_vars i
  pointwise [projected, prod]
  obtain rfl : i0 = 0 := Subsingleton.elim _ _
  rfl

/-- The keys of the projected tokens, -/
abbrev keys (P : FVec Ideal S1x8192x25184 .f32) : FVec Ideal S1x1x8192x16x128 .f32 :=
  broadcastInDim S1x1x8192x16x128 ![1, 2, 3, 4] bcast_S1x8192x16x128_S1x1x8192x16x128_1_2_3_4
    (shapeCast S1x8192x16x128 (extractStridedSlice S1x8192x2048 ![0, 0, 2048] (extractStridedSlice S1x8192x10400 ![0, 0, 6592] P
      slices_S1x8192x25184_S1x8192x10400_0_0_6592) slices_S1x8192x10400_S1x8192x2048_0_0_2048) shapeCasts_S1x8192x2048_S1x8192x16x128)
/-- their values, -/
abbrev values (P : FVec Ideal S1x8192x25184 .f32) : FVec Ideal S1x1x8192x16x128 .f32 :=
  broadcastInDim S1x1x8192x16x128 ![1, 2, 3, 4] bcast_S1x8192x16x128_S1x1x8192x16x128_1_2_3_4
    (shapeCast S1x8192x16x128 (extractStridedSlice S1x8192x2048 ![0, 0, 4096] (extractStridedSlice S1x8192x10400 ![0, 0, 6592] P
      slices_S1x8192x25184_S1x8192x10400_0_0_6592) slices_S1x8192x10400_S1x8192x2048_0_0_4096) shapeCasts_S1x8192x2048_S1x8192x16x128)
/-- their index keys, -/
abbrev indexKeys (P : FVec Ideal S1x8192x25184 .f32) : FVec Ideal S1x1x8192x128 .f32 :=
  broadcastInDim S1x1x8192x128 ![1, 2, 3] bcast_S1x8192x128_S1x1x8192x128_1_2_3
    (extractStridedSlice S1x8192x128 ![0, 0, 10240] (extractStridedSlice S1x8192x10400 ![0, 0, 6592] P
      slices_S1x8192x25184_S1x8192x10400_0_0_6592) slices_S1x8192x10400_S1x8192x128_0_0_10240)
/-- and the last token's part for the token shift. -/
abbrev lastToken (P : FVec Ideal S1x8192x25184 .f32) : FVec Ideal S1x1x6592 .f32 :=
  broadcastInDim S1x1x6592 ![1, 2] bcast_S1x6592_S1x1x6592_1_2
    (shapeCast S1x6592 (extractStridedSlice S1x1x6592 ![0, 8191, 0] (extractStridedSlice S1x8192x6592 ![0, 0, 0] P
      slices_S1x8192x25184_S1x8192x6592_0_0_0) slices_S1x8192x6592_S1x1x6592_0_8191_0) shapeCasts_S1x1x6592_S1x6592)

/-- Their queries, -/
abbrev queries (P : FVec Ideal S1x8192x25184 .f32) : FVec Ideal S1x8192x16x128 .f32 :=
  shapeCast S1x8192x16x128 (extractStridedSlice S1x8192x2048 ![0, 0, 0] (extractStridedSlice S1x8192x10400 ![0, 0, 6592] P
    slices_S1x8192x25184_S1x8192x10400_0_0_6592) slices_S1x8192x10400_S1x8192x2048_0_0_0) shapeCasts_S1x8192x2048_S1x8192x16x128
/-- their index queries, -/
abbrev indexQueries (P : FVec Ideal S1x8192x25184 .f32) : FVec Ideal S1x8192x32x128 .f32 :=
  shapeCast S1x8192x32x128 (extractStridedSlice S1x8192x4096 ![0, 0, 6144] (extractStridedSlice S1x8192x10400 ![0, 0, 6592] P
    slices_S1x8192x25184_S1x8192x10400_0_0_6592) slices_S1x8192x10400_S1x8192x4096_0_0_6144) shapeCasts_S1x8192x4096_S1x8192x32x128
/-- the index heads' weights, -/
abbrev indexWeights (P : FVec Ideal S1x8192x25184 .f32) : FVec Ideal S1x8192x32 .f32 :=
  extractStridedSlice S1x8192x32 ![0, 0, 10368] (extractStridedSlice S1x8192x10400 ![0, 0, 6592] P
    slices_S1x8192x25184_S1x8192x10400_0_0_6592) slices_S1x8192x10400_S1x8192x32_0_0_10368
/-- the recurrence's columns, -/
abbrev recurrence (P : FVec Ideal S1x8192x25184 .f32) : FVec Ideal S1x8192x6592 .f32 :=
  extractStridedSlice S1x8192x6592 ![0, 0, 0] P slices_S1x8192x25184_S1x8192x6592_0_0_0
/-- and the branches' gates. -/
abbrev gates (P : FVec Ideal S1x8192x25184 .f32) : FVec Ideal S1x8192x8192 .f32 :=
  extractStridedSlice S1x8192x8192 ![0, 0, 16992] P slices_S1x8192x25184_S1x8192x8192_0_0_16992

/-- The left operand: the modulated tokens, rounded. -/
theorem lhs_eq (c : Dev nD) : lhs m c = truncf .bf16 (shapeCast S8192x4096 (modulated (m ((c.tc : Thread nD τ).loc main_arg0))
    (m ((c.tc : Thread nD τ).loc main_arg1)) (m ((c.tc : Thread nD τ).loc main_arg2))) shapeCasts_S1x8192x4096_S8192x4096 : FVec Ideal S8192x4096 .f32) bitsLt_bf16_f32 := by
  show StableHlo.after (List.flatten [hostOps0]) _ _ = _
  simp only [List.flatten_cons, List.flatten_nil, List.append_nil]
  after_results
  rfl

/-- The right operand: the weights, rounded. -/
theorem rhs_eq (c : Dev nD) : rhs m c = truncf .bf16 (weights (m ((c.tc : Thread nD τ).loc main_arg3))) bitsLt_bf16_f32 := by
  show StableHlo.after (List.flatten [hostOps0]) _ _ = _
  simp only [List.flatten_cons, List.flatten_nil, List.append_nil]
  after_results
  rfl

/-- The host's lines after the product read their results off it. -/
theorem suffix_eq (W : Valuation τ sig (Elt Ideal)) (X : FVec Ideal S8192x25184 .f32) (hW : W (Proc.devRef .tc main_v10) = X) :
    StableHlo.after (List.flatten [hostOps1]) W (Proc.devRef .tc main_v27) = keys (shapeCast S1x8192x25184 X shapeCasts_S8192x25184_S1x8192x25184)
    ∧ StableHlo.after (List.flatten [hostOps1]) W (Proc.devRef .tc main_v28) = values (shapeCast S1x8192x25184 X shapeCasts_S8192x25184_S1x8192x25184)
    ∧ StableHlo.after (List.flatten [hostOps1]) W (Proc.devRef .tc main_v29) = indexKeys (shapeCast S1x8192x25184 X shapeCasts_S8192x25184_S1x8192x25184)
    ∧ StableHlo.after (List.flatten [hostOps1]) W (Proc.devRef .tc main_v30) = lastToken (shapeCast S1x8192x25184 X shapeCasts_S8192x25184_S1x8192x25184)
    ∧ StableHlo.after (List.flatten [hostOps1]) W (Proc.devRef .tc main_v21) = queries (shapeCast S1x8192x25184 X shapeCasts_S8192x25184_S1x8192x25184)
    ∧ StableHlo.after (List.flatten [hostOps1]) W (Proc.devRef .tc main_v24) = indexQueries (shapeCast S1x8192x25184 X shapeCasts_S8192x25184_S1x8192x25184)
    ∧ StableHlo.after (List.flatten [hostOps1]) W (Proc.devRef .tc main_v20) = indexWeights (shapeCast S1x8192x25184 X shapeCasts_S8192x25184_S1x8192x25184)
    ∧ StableHlo.after (List.flatten [hostOps1]) W (Proc.devRef .tc main_v12) = recurrence (shapeCast S1x8192x25184 X shapeCasts_S8192x25184_S1x8192x25184)
    ∧ StableHlo.after (List.flatten [hostOps1]) W (Proc.devRef .tc main_v14) = gates (shapeCast S1x8192x25184 X shapeCasts_S8192x25184_S1x8192x25184) := by
  simp only [List.flatten_cons, List.flatten_nil, List.append_nil]
  refine ⟨?_, ?_, ?_, ?_, ?_, ?_, ?_, ?_, ?_⟩
  all_goals after_results
  · exact congrArg (fun Y => keys (shapeCast S1x8192x25184 Y shapeCasts_S8192x25184_S1x8192x25184)) hW
  · exact congrArg (fun Y => values (shapeCast S1x8192x25184 Y shapeCasts_S8192x25184_S1x8192x25184)) hW
  · exact congrArg (fun Y => indexKeys (shapeCast S1x8192x25184 Y shapeCasts_S8192x25184_S1x8192x25184)) hW
  · exact congrArg (fun Y => lastToken (shapeCast S1x8192x25184 Y shapeCasts_S8192x25184_S1x8192x25184)) hW
  · exact congrArg (fun Y => queries (shapeCast S1x8192x25184 Y shapeCasts_S8192x25184_S1x8192x25184)) hW
  · exact congrArg (fun Y => indexQueries (shapeCast S1x8192x25184 Y shapeCasts_S8192x25184_S1x8192x25184)) hW
  · exact congrArg (fun Y => indexWeights (shapeCast S1x8192x25184 Y shapeCasts_S8192x25184_S1x8192x25184)) hW
  · exact congrArg (fun Y => recurrence (shapeCast S1x8192x25184 Y shapeCasts_S8192x25184_S1x8192x25184)) hW
  · exact congrArg (fun Y => gates (shapeCast S1x8192x25184 Y shapeCasts_S8192x25184_S1x8192x25184)) hW

/-- The product a core's arguments give. -/
abbrev product (c : Dev nD) : FVec Ideal S1x8192x25184 .f32 :=
  projected (modulated (m ((c.tc : Thread nD τ).loc main_arg0)) (m ((c.tc : Thread nD τ).loc main_arg1)) (m ((c.tc : Thread nD τ).loc main_arg2)))
    (weights (m ((c.tc : Thread nD τ).loc main_arg3)))

/-- The kernel's run: its four results, its arguments unchanged, its counters at zero. -/
theorem run : θ_run defs (onTc (τ := τ) (main (F := Ideal))) ⟨m, fun _ => 0, ρ⟩ (fun s => (∀ c : Dev nD,
      s.2.mem ((c.tc : Thread nD τ).loc main_v27) = keys (product m c)
      ∧ s.2.mem ((c.tc : Thread nD τ).loc main_v28) = values (product m c)
      ∧ s.2.mem ((c.tc : Thread nD τ).loc main_v29) = indexKeys (product m c)
      ∧ s.2.mem ((c.tc : Thread nD τ).loc main_v30) = lastToken (product m c)
      ∧ s.2.mem ((c.tc : Thread nD τ).loc main_v21) = queries (product m c)
      ∧ s.2.mem ((c.tc : Thread nD τ).loc main_v24) = indexQueries (product m c)
      ∧ s.2.mem ((c.tc : Thread nD τ).loc main_v20) = indexWeights (product m c)
      ∧ s.2.mem ((c.tc : Thread nD τ).loc main_v12) = recurrence (product m c)
      ∧ s.2.mem ((c.tc : Thread nD τ).loc main_v14) = gates (product m c)
      ∧ s.2.mem ((c.tc : Thread nD τ).loc main_arg0) = m ((c.tc : Thread nD τ).loc main_arg0)
      ∧ s.2.mem ((c.tc : Thread nD τ).loc main_arg1) = m ((c.tc : Thread nD τ).loc main_arg1)
      ∧ s.2.mem ((c.tc : Thread nD τ).loc main_arg2) = m ((c.tc : Thread nD τ).loc main_arg2)
      ∧ s.2.mem ((c.tc : Thread nD τ).loc main_arg3) = m ((c.tc : Thread nD τ).loc main_arg3)) ∧ s.2.sem = fun _ => 0) :=
  (θ_run defs _ _).mono (fun s hs => ⟨fun c => by
    have e := suffix_eq (Pipeline.withArrays (cfgs 0).spec c (V0 m c) fun w => (dats m 0 c).arrAt w (cfgs 0).N) (prod (lhs m c) (rhs m c))
      ((Pipeline.withArrays_arr (cfgs 0).spec launch0.win.arr_inj c (V0 m c) _ 2).trans (arr_prod m c))
    rw [lhs_eq, rhs_eq] at e
    have k := (hs.1.1 c).2
    exact ⟨(k main_v27 (Pipeline.mem_restRefs_of main_v27 (by decide) (by decide))).trans e.1,
      (k main_v28 (Pipeline.mem_restRefs_of main_v28 (by decide) (by decide))).trans e.2.1,
      (k main_v29 (Pipeline.mem_restRefs_of main_v29 (by decide) (by decide))).trans e.2.2.1,
      (k main_v30 (Pipeline.mem_restRefs_of main_v30 (by decide) (by decide))).trans e.2.2.2.1,
      (k main_v21 (Pipeline.mem_restRefs_of main_v21 (by decide) (by decide))).trans e.2.2.2.2.1,
      (k main_v24 (Pipeline.mem_restRefs_of main_v24 (by decide) (by decide))).trans e.2.2.2.2.2.1,
      (k main_v20 (Pipeline.mem_restRefs_of main_v20 (by decide) (by decide))).trans e.2.2.2.2.2.2.1,
      (k main_v12 (Pipeline.mem_restRefs_of main_v12 (by decide) (by decide))).trans e.2.2.2.2.2.2.2.1,
      (k main_v14 (Pipeline.mem_restRefs_of main_v14 (by decide) (by decide))).trans e.2.2.2.2.2.2.2.2, hs.2 c⟩, hs.1.2⟩)
    (θ_run_and (run_main m ρ) (frame_of m ρ (dats m) (A_eq m) ((θ_run defs _ _).mono (fun _ h => h.1) (run_main m ρ))))

end Cert.ProjValue
end
end
-- ==== Proof.MatProd.lean ====
/-
  The matrix product of two arrays of ideal values.
-/
module

public import Idealize.ShloMosaic.Lib.Pointwise

@[expose] public section
noncomputable section
namespace Cert.MatProd
open Idealize.ShloMosaic

/-- The product of an `n × k` and a `k × p` array. -/
def mul {n k p : Nat} (A : FVec Ideal ⟨2, ![n, k]⟩ .bf16) (B : FVec Ideal ⟨2, ![k, p]⟩ .bf16) : FVec Ideal ⟨2, ![n, p]⟩ .f32 :=
  fun i => ∑ x : Fin k, A (ValueIdx.ix2 (i 0) x) * B (ValueIdx.ix2 x (i 1))

/-- A block of a product is the product of the blocks: a block's rows are those of the left array's block, and its
    columns those of the right one's. -/
theorem mul_block {n k p r s : Nat} (A : FVec Ideal ⟨2, ![n, k]⟩ .bf16) (B : FVec Ideal ⟨2, ![k, p]⟩ .bf16)
    (f : Shape.Idx ⟨2, ![r, k]⟩ → Shape.Idx ⟨2, ![n, k]⟩) (g : Shape.Idx ⟨2, ![k, s]⟩ → Shape.Idx ⟨2, ![k, p]⟩)
    (h : Shape.Idx ⟨2, ![r, s]⟩ → Shape.Idx ⟨2, ![n, p]⟩) (y : Shape.Idx ⟨2, ![r, s]⟩)
    (hf : ∀ x, f (ValueIdx.ix2 (y 0) x) = ValueIdx.ix2 (h y 0) x) (hg : ∀ x, g (ValueIdx.ix2 x (y 1)) = ValueIdx.ix2 x (h y 1)) :
    mul (fun i => A (f i)) (fun i => B (g i)) y = mul A B (h y) :=
  Finset.sum_congr rfl fun x _ => congrArg₂ (· * ·) (congrArg A (hf x)) (congrArg B (hg x))

end Cert.MatProd
end
end
-- ==== Proof.MixRun.lean ====
/-
  The run of the branches' merge at the ideal values: its four products' arrays end at the matrix products.
-/
module

public import proofs.«01_k».proof.Proof.Gen.Kernel3Ideal.Frame
public import proofs.«01_k».proof.Proof.Gen.Kernel3Ideal.Skeleton
public import proofs.«01_k».proof.Proof.MatProd
public import Idealize.ShloMosaic.Lib.Pipeline.Covers
public import Idealize.ShloMosaic.Lib.Pipeline.ValueKit

@[expose] public section
set_option maxRecDepth 16384
noncomputable section
namespace Cert.MixRun
open Cert.Kernel3Ideal Cert.Kernel3Ideal.Gen Cert.MatProd
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window cellOf)

local notation "𝕄" => MT nD τ sig Unit (Elt Ideal) ℕ (UR sig nD τ) ℕ

/-- Offsets zero. -/
theorem zero2 : (![0, 0] : Fin 2 → Nat) = fun _ => 0 := funext fun a => by fin_cases a <;> rfl

section Products
variable (V : (c : Dev nD) → (b : Ref sig .tc) → Buf (Elt Ideal) ((c : Thread nD τ).loc b))

/-- One body's product, over 2048 columns. -/
theorem pay_narrow (x : Vec Ideal S512x2048 .bf16) (y : Vec Ideal S2048x512 .bf16) : k0_pay1 x y = mul x y := by
  funext i; idx_vars i
  pointwise [k0_pay1, mul]
  rfl

/-- One body's product, over 4096 columns. -/
theorem pay_wide (x : Vec Ideal S512x4096 .bf16) (y : Vec Ideal S4096x512 .bf16) : k2_pay1 x y = mul x y := by
  funext i; idx_vars i
  pointwise [k2_pay1, mul]
  rfl

/-- What a body writes over 2048 columns is its blocks' product. -/
theorem out_narrow (x : Vec Ideal S512x2048 .bf16) (y : Vec Ideal S2048x512 .bf16) : out0_2 x y = mul x y := by
  unfold out0_2
  refine (View.canon_unit_zero zero2 _ _).trans ((congrArg₂ k0_pay1 ?_ ?_).trans (pay_narrow x y))
  · exact View.ld_unit_zero zero2 _ _
  · exact View.ld_unit_zero zero2 _ _

/-- What a body writes over 4096 columns is its blocks' product. -/
theorem out_wide (x : Vec Ideal S512x4096 .bf16) (y : Vec Ideal S4096x512 .bf16) : out2_2 x y = mul x y := by
  unfold out2_2
  refine (View.canon_unit_zero zero2 _ _).trans ((congrArg₂ k2_pay1 ?_ ?_).trans (pay_wide x y))
  · exact View.ld_unit_zero zero2 _ _
  · exact View.ld_unit_zero zero2 _ _

theorem covers0 : (cfg0.win 2).Covers := by decide +kernel
theorem covers1 : (cfg1.win 2).Covers := by decide +kernel
theorem covers2 : (cfg2.win 2).Covers := by decide +kernel
theorem covers3 : (cfg3.win 2).Covers := by decide +kernel

/-- The first product's array after its grid. -/
theorem arr0 (c : Dev nD) : (dat0 V c).arrAt 2 cfg0.N = mul (V c main_v14 : FVec Ideal S8192x2048 .bf16) (V c main_v15 : FVec Ideal S2048x4096 .bf16) :=
  Dat.arrAt_eq_of_covers (dat0 V c) 2 _ covers0 fun t _ y => by
    refine (congrFun ((after0_2 V c t).trans (out_narrow _ _)) y).trans
      (mul_block (V c main_v14) (V c main_v15) (win0_0.blk t).view.emb (win0_1.blk t).view.emb (win0_2.blk t).view.emb y (fun x => ?_) fun x => ?_)
    · funext a
      refine Fin.ext ?_
      fin_cases a
      · exact (win0_0.rect_emb_val t _ 0).trans (win0_2.rect_emb_val t y 0).symm
      · exact win0_0.rect_emb_val_of_index_zero t 1 (by rfl) _
    · funext a
      refine Fin.ext ?_
      fin_cases a
      · exact win0_1.rect_emb_val_of_index_zero t 0 (by rfl) _
      · exact (win0_1.rect_emb_val t _ 1).trans (win0_2.rect_emb_val t y 1).symm

/-- The second product's array after its grid. -/
theorem arr1 (c : Dev nD) : (dat1 V c).arrAt 2 cfg1.N = mul (V c main_v20 : FVec Ideal S8192x2048 .bf16) (V c main_v21 : FVec Ideal S2048x4096 .bf16) :=
  Dat.arrAt_eq_of_covers (dat1 V c) 2 _ covers1 fun t _ y => by
    refine (congrFun ((after1_2 V c t).trans (out_narrow _ _)) y).trans
      (mul_block (V c main_v20) (V c main_v21) (win1_0.blk t).view.emb (win1_1.blk t).view.emb (win1_2.blk t).view.emb y (fun x => ?_) fun x => ?_)
    · funext a
      refine Fin.ext ?_
      fin_cases a
      · exact (win1_0.rect_emb_val t _ 0).trans (win1_2.rect_emb_val t y 0).symm
      · exact win1_0.rect_emb_val_of_index_zero t 1 (by rfl) _
    · funext a
      refine Fin.ext ?_
      fin_cases a
      · exact win1_1.rect_emb_val_of_index_zero t 0 (by rfl) _
      · exact (win1_1.rect_emb_val t _ 1).trans (win1_2.rect_emb_val t y 1).symm

/-- The third product's array after its grid. -/
theorem arr2 (c : Dev nD) : (dat2 V c).arrAt 2 cfg2.N = mul (V c main_v27 : FVec Ideal S8192x4096 .bf16) (V c main_v28 : FVec Ideal S4096x4096 .bf16) :=
  Dat.arrAt_eq_of_covers (dat2 V c) 2 _ covers2 fun t _ y => by
    refine (congrFun ((after2_2 V c t).trans (out_wide _ _)) y).trans
      (mul_block (V c main_v27) (V c main_v28) (win2_0.blk t).view.emb (win2_1.blk t).view.emb (win2_2.blk t).view.emb y (fun x => ?_) fun x => ?_)
    · funext a
      refine Fin.ext ?_
      fin_cases a
      · exact (win2_0.rect_emb_val t _ 0).trans (win2_2.rect_emb_val t y 0).symm
      · exact win2_0.rect_emb_val_of_index_zero t 1 (by rfl) _
    · funext a
      refine Fin.ext ?_
      fin_cases a
      · exact win2_1.rect_emb_val_of_index_zero t 0 (by rfl) _
      · exact (win2_1.rect_emb_val t _ 1).trans (win2_2.rect_emb_val t y 1).symm

/-- The fourth product's array after its grid. -/
theorem arr3 (c : Dev nD) : (dat3 V c).arrAt 2 cfg3.N = mul (V c main_v68 : FVec Ideal S8192x4096 .bf16) (V c main_v69 : FVec Ideal S4096x2048 .bf16) :=
  Dat.arrAt_eq_of_covers (dat3 V c) 2 _ covers3 fun t _ y => by
    refine (congrFun ((after3_2 V c t).trans (out_wide _ _)) y).trans
      (mul_block (V c main_v68) (V c main_v69) (win3_0.blk t).view.emb (win3_1.blk t).view.emb (win3_2.blk t).view.emb y (fun x => ?_) fun x => ?_)
    · funext a
      refine Fin.ext ?_
      fin_cases a
      · exact (win3_0.rect_emb_val t _ 0).trans (win3_2.rect_emb_val t y 0).symm
      · exact win3_0.rect_emb_val_of_index_zero t 1 (by rfl) _
    · funext a
      refine Fin.ext ?_
      fin_cases a
      · exact win3_1.rect_emb_val_of_index_zero t 0 (by rfl) _
      · exact (win3_1.rect_emb_val t _ 1).trans (win3_2.rect_emb_val t y 1).symm

end Products

variable (m : (ℓ : Loc nD τ sig) → Buf (Elt Ideal) ℓ) (ρ : Dev nD → PrngReg)

-- the launch's implicit arguments come from the statement, through definitions in a metavariable's type
set_option backward.isDefEq.respectTransparency.types false in
/-- The whole run: every array ends as the segments leave it, every counter at zero. -/
theorem run_main : θ_run defs (onTc (τ := τ) (main (F := Ideal))) ⟨m, fun _ => 0, ρ⟩ (fun r =>
    (∀ c : Dev nD, ∀ b ∈ Pipeline.ucRefs τ sig, r.2.mem ((c : Thread nD τ).1, b) = W8 m ρ c b) ∧ r.2.sem = fun _ => 0) :=
  Pipeline.θ_run_regions_kit_sems (pcfgs (F := Ideal)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W8 m ρ c b)
    (hfin := fun c s' => by
      iintro ⟨⟨Hh, -⟩, HSI⟩
      unfold StableHlo.held
      imodintro
      iapply (pointsTo_read_all (Pipeline.ucRefs τ sig) (fun b => (((c : Thread nD τ)).1, b)) (W8 m ρ c) s')
      isplitl [Hh] <;> iassumption)
    (hQ := fun s h hz => ⟨h, funext fun g => hz g (.inr (no_unscoped g.2))⟩)

end Cert.MixRun
end
end
-- ==== Proof.MixValue.lean ====
/-
  The merge of the two branches and what follows it, as functions of the arguments: the kernel's results and the
  reference's.
-/
module

public import proofs.«01_k».proof.Proof.MixRun
public import proofs.«01_k».proof.Proof.Gen.Reference3Ideal.Run

@[expose] public section
set_option maxRecDepth 16384
noncomputable section
namespace Cert.MixValue
open Cert.Kernel3Ideal Cert.Kernel3Ideal.Gen Cert.MatProd Cert.MixRun
open Idealize.ShloMosaic Idealize.ShloMosaic.TcCoe Idealize.SL.Sem

/-- The gates: the logistic function of their columns. -/
abbrev gates (z : FVec Ideal S1x8192x8192 .f32) : FVec Ideal S1x8192x8192 .f32 :=
  Host.divf (broadcastInDim S1x8192x8192 ![] bcast_S_S1x8192x8192 (constant S_ .f32 0x3F800000#32))
    (addf (broadcastInDim S1x8192x8192 ![] bcast_S_S1x8192x8192 (constant S_ .f32 0x3F800000#32)) (Host.exp (Host.negf z)))
/-- The recurrence's gate, -/
abbrev gateLeft (z : FVec Ideal S1x8192x8192 .f32) : FVec Ideal S1x8192x4096 .f32 :=
  extractStridedSlice S1x8192x4096 ![0, 0, 0] (gates z) slices_S1x8192x8192_S1x8192x4096_0_0_0
/-- and the attention's. -/
abbrev gateRight (z : FVec Ideal S1x8192x8192 .f32) : FVec Ideal S1x8192x4096 .f32 :=
  extractStridedSlice S1x8192x4096 ![0, 0, 4096] (gates z) slices_S1x8192x8192_S1x8192x4096_0_0_4096

/-- Weights without their leading axis. -/
abbrev upWeights (w : FVec Ideal S1x2048x4096 .f32) : FVec Ideal S2048x4096 .f32 :=
  shapeCast S2048x4096 w shapeCasts_S1x2048x4096_S2048x4096
abbrev outWeights (w : FVec Ideal S1x4096x4096 .f32) : FVec Ideal S4096x4096 .f32 :=
  shapeCast S4096x4096 w shapeCasts_S1x4096x4096_S4096x4096
abbrev queryWeights (w : FVec Ideal S1x4096x2048 .f32) : FVec Ideal S4096x2048 .f32 :=
  shapeCast S4096x2048 w shapeCasts_S1x4096x2048_S4096x2048
/-- Tokens by rows. -/
abbrev narrowRows (o : FVec Ideal S1x8192x2048 .f32) : FVec Ideal S8192x2048 .f32 :=
  shapeCast S8192x2048 o shapeCasts_S1x8192x2048_S8192x2048
abbrev wideRows (o : FVec Ideal S1x8192x4096 .f32) : FVec Ideal S8192x4096 .f32 :=
  shapeCast S8192x4096 o shapeCasts_S1x8192x4096_S8192x4096
/-- Rows by tokens. -/
abbrev tokensOf (o : FVec Ideal S8192x4096 .f32) : FVec Ideal S1x8192x4096 .f32 :=
  shapeCast S1x8192x4096 o shapeCasts_S8192x4096_S1x8192x4096

/-- A branch brought to the model's width. -/
def up (o : FVec Ideal S1x8192x2048 .f32) (w : FVec Ideal S2048x4096 .f32) : FVec Ideal S1x8192x4096 .f32 :=
  tokensOf (mul (truncf .bf16 (narrowRows o) bitsLt_bf16_f32) (truncf .bf16 w bitsLt_bf16_f32))
/-- The merged branches projected out. -/
def out (o : FVec Ideal S1x8192x4096 .f32) (w : FVec Ideal S4096x4096 .f32) : FVec Ideal S1x8192x4096 .f32 :=
  tokensOf (mul (truncf .bf16 (wideRows o) bitsLt_bf16_f32) (truncf .bf16 w bitsLt_bf16_f32))
/-- The query rows. -/
def query (h : FVec Ideal S8192x4096 .f32) (w : FVec Ideal S4096x2048 .f32) : FVec Ideal S8192x2048 .f32 :=
  mul (truncf .bf16 h bitsLt_bf16_f32) (truncf .bf16 w bitsLt_bf16_f32)

/-- The reference's products are the kernel's. -/
theorem dot_up (o : FVec Ideal S1x8192x2048 .f32) (w : FVec Ideal S2048x4096 .f32) :
    Host.dotGeneral Cert.Reference3Ideal.dot_S1x8192x2048_S2048x4096_S1x8192x4096_2_0_01_1_n_n none o w = up o w := by
  funext i; idx_vars i
  pointwise [up, mul]
  obtain rfl : i0 = 0 := Subsingleton.elim _ _
  rfl
theorem dot_out (o : FVec Ideal S1x8192x4096 .f32) (w : FVec Ideal S4096x4096 .f32) :
    Host.dotGeneral Cert.Reference3Ideal.dot_S1x8192x4096_S4096x4096_S1x8192x4096_2_0_01_1_n_n none o w = out o w := by
  funext i; idx_vars i
  pointwise [out, mul]
  obtain rfl : i0 = 0 := Subsingleton.elim _ _
  rfl
theorem dot_query (h : FVec Ideal S8192x4096 .f32) (w : FVec Ideal S4096x2048 .f32) :
    Host.dotGeneral Cert.Reference3Ideal.dot_S8192x4096_S4096x2048_S8192x2048_1_0_0_1_n_n none h w = query h w := by
  funext i; idx_vars i
  pointwise [query, mul]
  rfl

/-- The scaled input with the gated branch added. -/
abbrev residual (x : FVec Ideal S1x8192x4096 .f32) (gate : FVec Ideal S1x1x4096 .f32) (v : FVec Ideal S1x8192x4096 .f32) : FVec Ideal S1x8192x4096 .f32 :=
  addf (mulf (broadcastInDim S1x8192x4096 ![] bcast_S_S1x8192x4096 (constant S_ .f32 0x3F9837F0#32)) x)
    (mulf (broadcastInDim S1x8192x4096 ![0, 1, 2] bcast_S1x1x4096_S1x8192x4096_0_1_2 gate) v)
/-- A token's mean. -/
abbrev mean (s : FVec Ideal S1x8192x4096 .f32) : FVec Ideal S1x8192x1 .f32 :=
  Host.divf (broadcastInDim S1x8192x1 ![0, 1] bcast_S1x8192_S1x8192x1_0_1
      (Host.reduceAdd s (constant S_ .f32 0x00000000#32) reducesTo_S1x8192x4096_S1x8192_d2 h_S_))
    (broadcastInDim S1x8192x1 ![] bcast_S_S1x8192x1 (constant S_ .f32 0x45800000#32))
/-- The tokens less their means. -/
abbrev centred (s : FVec Ideal S1x8192x4096 .f32) : FVec Ideal S1x8192x4096 .f32 :=
  subf s (broadcastInDim S1x8192x4096 ![0, 1, 2] bcast_S1x8192x1_S1x8192x4096_0_1_2 (mean s))
/-- A row of weights at every token. -/
abbrev everywhere (g : FVec Ideal S1x4096 .f32) : FVec Ideal S1x8192x4096 .f32 :=
  broadcastInDim S1x8192x4096 ![0, 1, 2] bcast_S1x1x4096_S1x8192x4096_0_1_2
    (broadcastInDim S1x1x4096 ![2] bcast_S4096_S1x1x4096_2 (shapeCast S4096 g shapeCasts_S1x4096_S4096))
/-- The layer norm. -/
abbrev normed (s : FVec Ideal S1x8192x4096 .f32) (g b : FVec Ideal S1x4096 .f32) : FVec Ideal S1x8192x4096 .f32 :=
  addf (mulf (mulf (centred s) (broadcastInDim S1x8192x4096 ![0, 1, 2] bcast_S1x8192x1_S1x8192x4096_0_1_2
    (Host.rsqrt (addf (mean (mulf (centred s) (centred s)))
      (broadcastInDim S1x8192x1 ![] bcast_S_S1x8192x1 (constant S_ .f32 0x3727C5AC#32)))))) (everywhere g)) (everywhere b)
/-- The tokens modulated. -/
abbrev modulated (x : FVec Ideal S1x8192x4096 .f32) (shift scale : FVec Ideal S1x1x4096 .f32) : FVec Ideal S1x8192x4096 .f32 :=
  addf (mulf x (broadcastInDim S1x8192x4096 ![0, 1, 2] bcast_S1x1x4096_S1x8192x4096_0_1_2
      (addf (broadcastInDim S1x1x4096 ![] bcast_S_S1x1x4096 (constant S_ .f32 0x3F800000#32)) scale)))
    (broadcastInDim S1x8192x4096 ![0, 1, 2] bcast_S1x1x4096_S1x8192x4096_0_1_2 shift)

section Segments
variable (W : Valuation τ sig (Elt Ideal))

/-- The host's lines before the first product. -/
theorem seg0 :
    StableHlo.after hostOps0 W (Proc.devRef .tc main_v1) = mulf (broadcastInDim S1x8192x4096 ![] bcast_S_S1x8192x4096 (constant S_ .f32 0x3F9837F0#32) : FVec Ideal S1x8192x4096 .f32) (W (Proc.devRef .tc main_arg0))
    ∧ StableHlo.after hostOps0 W (Proc.devRef .tc main_v3) = upWeights (W (Proc.devRef .tc main_arg8))
    ∧ StableHlo.after hostOps0 W (Proc.devRef .tc main_v4) = outWeights (W (Proc.devRef .tc main_arg9))
    ∧ StableHlo.after hostOps0 W (Proc.devRef .tc main_v11) = gateLeft (W (Proc.devRef .tc main_arg6))
    ∧ StableHlo.after hostOps0 W (Proc.devRef .tc main_v12) = gateRight (W (Proc.devRef .tc main_arg6))
    ∧ StableHlo.after hostOps0 W (Proc.devRef .tc main_v14) = truncf .bf16 (narrowRows (W (Proc.devRef .tc main_arg4))) bitsLt_bf16_f32
    ∧ StableHlo.after hostOps0 W (Proc.devRef .tc main_v15) = truncf .bf16 (upWeights (W (Proc.devRef .tc main_arg7))) bitsLt_bf16_f32 := by
  refine ⟨?_, ?_, ?_, ?_, ?_, ?_, ?_⟩
  all_goals after_results
  all_goals rfl

/-- The host's lines between the first two products. -/
theorem seg1 :
    StableHlo.after hostOps1 W (Proc.devRef .tc main_v18) = mulf (W (Proc.devRef .tc main_v11) : FVec Ideal S1x8192x4096 .f32) (tokensOf (W (Proc.devRef .tc main_v16)))
    ∧ StableHlo.after hostOps1 W (Proc.devRef .tc main_v20) = truncf .bf16 (narrowRows (W (Proc.devRef .tc main_arg5))) bitsLt_bf16_f32
    ∧ StableHlo.after hostOps1 W (Proc.devRef .tc main_v21) = (truncf .bf16 (W (Proc.devRef .tc main_v3) : FVec Ideal S2048x4096 .f32) bitsLt_bf16_f32 : FVec Ideal S2048x4096 .bf16) := by
  refine ⟨?_, ?_, ?_⟩
  all_goals after_results
  all_goals rfl

/-- The host's lines between the second product and the third. -/
theorem seg2 :
    StableHlo.after hostOps2 W (Proc.devRef .tc main_v27) = truncf .bf16 (wideRows (addf (W (Proc.devRef .tc main_v18) : FVec Ideal S1x8192x4096 .f32)
        (mulf (W (Proc.devRef .tc main_v12) : FVec Ideal S1x8192x4096 .f32) (tokensOf (W (Proc.devRef .tc main_v22)))))) bitsLt_bf16_f32
    ∧ StableHlo.after hostOps2 W (Proc.devRef .tc main_v28) = (truncf .bf16 (W (Proc.devRef .tc main_v4) : FVec Ideal S4096x4096 .f32) bitsLt_bf16_f32 : FVec Ideal S4096x4096 .bf16) := by
  refine ⟨?_, ?_⟩
  all_goals after_results
  all_goals rfl

/-- The host's lines between the third product and the fourth, from the sum before the layer norm. -/
theorem seg3 (s : FVec Ideal S1x8192x4096 .f32)
    (hs : addf (W (Proc.devRef .tc main_v1) : FVec Ideal S1x8192x4096 .f32) (mulf (broadcastInDim S1x8192x4096 ![0, 1, 2] bcast_S1x1x4096_S1x8192x4096_0_1_2
      (W (Proc.devRef .tc main_arg1) : FVec Ideal S1x1x4096 .f32)) (tokensOf (W (Proc.devRef .tc main_v29)))) = s) :
    StableHlo.after hostOps3 W (Proc.devRef .tc main_v59) = normed s (W (Proc.devRef .tc main_arg10)) (W (Proc.devRef .tc main_arg11))
    ∧ StableHlo.after hostOps3 W (Proc.devRef .tc main_v68) = truncf .bf16 (wideRows (modulated (normed s (W (Proc.devRef .tc main_arg10)) (W (Proc.devRef .tc main_arg11)))
        (W (Proc.devRef .tc main_arg2)) (W (Proc.devRef .tc main_arg3)))) bitsLt_bf16_f32
    ∧ StableHlo.after hostOps3 W (Proc.devRef .tc main_v69) = truncf .bf16 (queryWeights (W (Proc.devRef .tc main_arg12))) bitsLt_bf16_f32 := by
  subst hs
  refine ⟨?_, ?_, ?_⟩
  all_goals after_results
  all_goals rfl

end Segments

variable (m : (ℓ : Loc nD τ sig) → Buf (Elt Ideal) ℓ) (ρ : Dev nD → PrngReg)

/-- The merged branches, projected out. -/
def merged (z : FVec Ideal S1x8192x8192 .f32) (o a : FVec Ideal S1x8192x2048 .f32) (u v : FVec Ideal S1x2048x4096 .f32)
    (w : FVec Ideal S1x4096x4096 .f32) : FVec Ideal S1x8192x4096 .f32 :=
  out (addf (mulf (gateLeft z) (up o (upWeights u))) (mulf (gateRight z) (up a (upWeights v)))) (outWeights w)

/-- A core's sum before the layer norm. -/
abbrev sums (c : Dev nD) : FVec Ideal S1x8192x4096 .f32 :=
  residual (m ((c.tc : Thread nD τ).loc main_arg0)) (m ((c.tc : Thread nD τ).loc main_arg1))
    (merged (m ((c.tc : Thread nD τ).loc main_arg6)) (m ((c.tc : Thread nD τ).loc main_arg4)) (m ((c.tc : Thread nD τ).loc main_arg5))
      (m ((c.tc : Thread nD τ).loc main_arg7)) (m ((c.tc : Thread nD τ).loc main_arg8)) (m ((c.tc : Thread nD τ).loc main_arg9)))
/-- Its tokens after the layer norm, -/
abbrev tokens (c : Dev nD) : FVec Ideal S1x8192x4096 .f32 :=
  normed (sums m c) (m ((c.tc : Thread nD τ).loc main_arg10)) (m ((c.tc : Thread nD τ).loc main_arg11))
/-- and their queries. -/
abbrev queries (c : Dev nD) : FVec Ideal S8192x2048 .f32 :=
  query (wideRows (modulated (tokens m c) (m ((c.tc : Thread nD τ).loc main_arg2)) (m ((c.tc : Thread nD τ).loc main_arg3))))
    (queryWeights (m ((c.tc : Thread nD τ).loc main_arg12)))

/-- The first branch, after its product. -/
theorem first (c : Dev nD) : tokensOf (W2 m ρ c (Proc.devRef .tc main_v16))
    = up (m ((c.tc : Thread nD τ).loc main_arg4)) (upWeights (m ((c.tc : Thread nD τ).loc main_arg7))) := by
  obtain ⟨-, -, -, -, -, e5, e6⟩ := seg0 (W0 m ρ c)
  exact congrArg tokensOf (((W2_arr m ρ c 2).trans (arr0 (V1 m ρ) c)).trans (congrArg₂ mul e5 e6))

/-- The second branch, after its product. -/
theorem second (c : Dev nD) : tokensOf (W4 m ρ c (Proc.devRef .tc main_v22))
    = up (m ((c.tc : Thread nD τ).loc main_arg5)) (upWeights (m ((c.tc : Thread nD τ).loc main_arg8))) := by
  obtain ⟨-, e1, e2⟩ := seg1 (W2 m ρ c)
  obtain ⟨-, s1, -⟩ := seg0 (W0 m ρ c)
  refine congrArg tokensOf (((W4_arr m ρ c 2).trans (arr1 (V3 m ρ) c)).trans (congrArg₂ mul
    (e1.trans (congrArg (fun o => truncf .bf16 (narrowRows o) bitsLt_bf16_f32) (W2_args m ρ c main_arg5 (by decide))))
    (e2.trans (congrArg (fun w : FVec Ideal S2048x4096 .f32 => (truncf .bf16 w bitsLt_bf16_f32 : FVec Ideal S2048x4096 .bf16))
      ((W2_of m ρ c main_v3 (by decide)).trans s1)))))

/-- The merged branches, after the third product. -/
theorem third (c : Dev nD) : tokensOf (W6 m ρ c (Proc.devRef .tc main_v29))
    = merged (m ((c.tc : Thread nD τ).loc main_arg6)) (m ((c.tc : Thread nD τ).loc main_arg4)) (m ((c.tc : Thread nD τ).loc main_arg5))
      (m ((c.tc : Thread nD τ).loc main_arg7)) (m ((c.tc : Thread nD τ).loc main_arg8)) (m ((c.tc : Thread nD τ).loc main_arg9)) := by
  obtain ⟨e0, e1⟩ := seg2 (W4 m ρ c)
  obtain ⟨f0, -, -⟩ := seg1 (W2 m ρ c)
  obtain ⟨-, -, s4, s11, s12, -, -⟩ := seg0 (W0 m ρ c)
  have h18 : W4 m ρ c (Proc.devRef .tc main_v18) = mulf (gateLeft (m ((c.tc : Thread nD τ).loc main_arg6)))
      (up (m ((c.tc : Thread nD τ).loc main_arg4)) (upWeights (m ((c.tc : Thread nD τ).loc main_arg7)))) :=
    (W4_of m ρ c main_v18 (by decide)).trans (f0.trans (congrArg₂ mulf ((W2_of m ρ c main_v11 (by decide)).trans s11) (first m ρ c)))
  have h12 : W4 m ρ c (Proc.devRef .tc main_v12) = gateRight (m ((c.tc : Thread nD τ).loc main_arg6)) :=
    (W4_of m ρ c main_v12 (by decide)).trans ((W3_of m ρ c main_v12 (by decide)).trans ((W2_of m ρ c main_v12 (by decide)).trans s12))
  have h4 : W4 m ρ c (Proc.devRef .tc main_v4) = outWeights (m ((c.tc : Thread nD τ).loc main_arg9)) :=
    (W4_of m ρ c main_v4 (by decide)).trans ((W3_of m ρ c main_v4 (by decide)).trans ((W2_of m ρ c main_v4 (by decide)).trans s4))
  refine congrArg tokensOf (((W6_arr m ρ c 2).trans (arr2 (V5 m ρ) c)).trans (congrArg₂ mul (e0.trans ?_)
    (e1.trans (congrArg (fun w : FVec Ideal S4096x4096 .f32 => (truncf .bf16 w bitsLt_bf16_f32 : FVec Ideal S4096x4096 .bf16)) h4))))
  exact congrArg (fun o => truncf .bf16 (wideRows o) bitsLt_bf16_f32) (congrArg₂ addf h18 (congrArg₂ mulf h12 (second m ρ c)))

/-- What the lines after the third product read. -/
theorem before_norm (c : Dev nD) : addf (W6 m ρ c (Proc.devRef .tc main_v1) : FVec Ideal S1x8192x4096 .f32)
    (mulf (broadcastInDim S1x8192x4096 ![0, 1, 2] bcast_S1x1x4096_S1x8192x4096_0_1_2 (W6 m ρ c (Proc.devRef .tc main_arg1) : FVec Ideal S1x1x4096 .f32))
      (tokensOf (W6 m ρ c (Proc.devRef .tc main_v29)))) = sums m c := by
  obtain ⟨s1, -⟩ := seg0 (W0 m ρ c)
  have h1 : W6 m ρ c (Proc.devRef .tc main_v1) = mulf (broadcastInDim S1x8192x4096 ![] bcast_S_S1x8192x4096 (constant S_ .f32 0x3F9837F0#32) : FVec Ideal S1x8192x4096 .f32)
      (m ((c.tc : Thread nD τ).loc main_arg0)) :=
    (W6_of m ρ c main_v1 (by decide)).trans ((W5_of m ρ c main_v1 (by decide)).trans ((W4_of m ρ c main_v1 (by decide)).trans
      ((W3_of m ρ c main_v1 (by decide)).trans ((W2_of m ρ c main_v1 (by decide)).trans s1))))
  exact congrArg₂ addf h1 (congrArg₂ mulf (congrArg (broadcastInDim S1x8192x4096 ![0, 1, 2] bcast_S1x1x4096_S1x8192x4096_0_1_2)
    (W6_args m ρ c main_arg1 (by decide))) (third m ρ c))

/-- The lines after the third product, of the arguments. -/
theorem norm_lines (c : Dev nD) : W7 m ρ c (Proc.devRef .tc main_v59) = tokens m c
    ∧ W7 m ρ c (Proc.devRef .tc main_v68) = truncf .bf16 (wideRows (modulated (tokens m c) (m ((c.tc : Thread nD τ).loc main_arg2))
        (m ((c.tc : Thread nD τ).loc main_arg3)))) bitsLt_bf16_f32
    ∧ W7 m ρ c (Proc.devRef .tc main_v69) = truncf .bf16 (queryWeights (m ((c.tc : Thread nD τ).loc main_arg12))) bitsLt_bf16_f32 := by
  have e := seg3 (W6 m ρ c) _ (before_norm m ρ c)
  have h := W6_args m ρ c
  rw [h main_arg2 (by decide), h main_arg3 (by decide), h main_arg10 (by decide), h main_arg11 (by decide), h main_arg12 (by decide)] at e
  exact e

/-- The kernel's results. -/
theorem results (c : Dev nD) : W8 m ρ c (Proc.devRef .tc main_v59) = tokens m c ∧ W8 m ρ c (Proc.devRef .tc main_v70) = queries m c := by
  obtain ⟨e0, e1, e2⟩ := norm_lines m ρ c
  exact ⟨(W8_of m ρ c main_v59 (by decide)).trans e0, ((W8_arr m ρ c 2).trans (arr3 (V7 m ρ) c)).trans (congrArg₂ mul e1 e2)⟩

/-- The merged branches in the reference's products. -/
theorem merged_dots (z : FVec Ideal S1x8192x8192 .f32) (o a : FVec Ideal S1x8192x2048 .f32) (u v : FVec Ideal S1x2048x4096 .f32)
    (w : FVec Ideal S1x4096x4096 .f32) :
    Host.dotGeneral Cert.Reference3Ideal.dot_S1x8192x4096_S4096x4096_S1x8192x4096_2_0_01_1_n_n none
      (addf (mulf (gateLeft z) (Host.dotGeneral Cert.Reference3Ideal.dot_S1x8192x2048_S2048x4096_S1x8192x4096_2_0_01_1_n_n none o (upWeights u)))
        (mulf (gateRight z) (Host.dotGeneral Cert.Reference3Ideal.dot_S1x8192x2048_S2048x4096_S1x8192x4096_2_0_01_1_n_n none a (upWeights v)))) (outWeights w)
      = merged z o a u v w :=
  (dot_out _ _).trans (congrArg (fun s => out s (outWeights w)) (congrArg₂ addf (congrArg (mulf (gateLeft z)) (dot_up o _))
    (congrArg (mulf (gateRight z)) (dot_up a _))))

section Reference
variable (n : (ℓ : Loc Cert.Reference3Ideal.nD Cert.Reference3Ideal.τ Cert.Reference3Ideal.sig) → Buf (Elt Ideal) ℓ) (c : Dev Cert.Reference3Ideal.nD)

/-- The reference's tokens. -/
theorem reference_tokens : Cert.Reference3Ideal.Value.res_main_v47 n c
    = normed (residual (n ((c.tc : Thread Cert.Reference3Ideal.nD Cert.Reference3Ideal.τ).loc Cert.Reference3Ideal.main_arg0)) (n ((c.tc : Thread Cert.Reference3Ideal.nD Cert.Reference3Ideal.τ).loc Cert.Reference3Ideal.main_arg1))
        (merged (n ((c.tc : Thread Cert.Reference3Ideal.nD Cert.Reference3Ideal.τ).loc Cert.Reference3Ideal.main_arg6)) (n ((c.tc : Thread Cert.Reference3Ideal.nD Cert.Reference3Ideal.τ).loc Cert.Reference3Ideal.main_arg4)) (n ((c.tc : Thread Cert.Reference3Ideal.nD Cert.Reference3Ideal.τ).loc Cert.Reference3Ideal.main_arg5))
          (n ((c.tc : Thread Cert.Reference3Ideal.nD Cert.Reference3Ideal.τ).loc Cert.Reference3Ideal.main_arg7)) (n ((c.tc : Thread Cert.Reference3Ideal.nD Cert.Reference3Ideal.τ).loc Cert.Reference3Ideal.main_arg8)) (n ((c.tc : Thread Cert.Reference3Ideal.nD Cert.Reference3Ideal.τ).loc Cert.Reference3Ideal.main_arg9))))
      (n ((c.tc : Thread Cert.Reference3Ideal.nD Cert.Reference3Ideal.τ).loc Cert.Reference3Ideal.main_arg10)) (n ((c.tc : Thread Cert.Reference3Ideal.nD Cert.Reference3Ideal.τ).loc Cert.Reference3Ideal.main_arg11)) := by
  rw [← merged_dots]
  unfold Cert.Reference3Ideal.Value.res_main_v47
  rfl

/-- The reference's queries. -/
theorem reference_queries : Cert.Reference3Ideal.Value.res_main_v56 n c
    = query (wideRows (modulated (Cert.Reference3Ideal.Value.res_main_v47 n c) (n ((c.tc : Thread Cert.Reference3Ideal.nD Cert.Reference3Ideal.τ).loc Cert.Reference3Ideal.main_arg2)) (n ((c.tc : Thread Cert.Reference3Ideal.nD Cert.Reference3Ideal.τ).loc Cert.Reference3Ideal.main_arg3))))
      (queryWeights (n ((c.tc : Thread Cert.Reference3Ideal.nD Cert.Reference3Ideal.τ).loc Cert.Reference3Ideal.main_arg12))) := by
  rw [← dot_query]
  unfold Cert.Reference3Ideal.Value.res_main_v56 Cert.Reference3Ideal.Value.res_main_v47
  rfl

end Reference

end Cert.MixValue
end
end
-- ==== Proof.AdaValue.lean ====
/-
  The adaptive modulation at the ideal values: one product over both groups' conditions, stacked and padded, gives each group
  the rows its own product has.
-/
module

public import proofs.«01_k».proof.Proof.Gen.Kernel4Ideal.Frame
public import proofs.«01_k».proof.Proof.Gen.Reference4Ideal.Run
public import proofs.«01_k».proof.Proof.MatProd
public import Idealize.ShloMosaic.Lib.KernelVsHost
public import Idealize.ShloMosaic.Lib.Pipeline.Covers
public import Idealize.ShloMosaic.Lib.Pipeline.ValueKit

@[expose] public section
set_option maxRecDepth 16384
noncomputable section
namespace Cert.AdaValue
open Cert.Kernel4Ideal Cert.Kernel4Ideal.Gen Cert.MatProd
open Idealize.ShloMosaic Idealize.ShloMosaic.TcCoe Idealize.ShloMosaic.Tactic Idealize.SL.Sem
open Idealize.ShloMosaic.Pipeline (Dat)

variable (m : (ℓ : Loc nD τ sig) → Buf (Elt Ideal) ℓ) (ρ : Dev nD → PrngReg)

/-- Offsets zero. -/
theorem zero2 : (![0, 0] : Fin 2 → Nat) = fun _ => 0 := funext fun a => by fin_cases a <;> rfl

/-- One body's product. -/
theorem pay (x : Vec Ideal S144x4096 .bf16) (y : Vec Ideal S4096x1024 .bf16) : k0_pay1 x y = mul x y := by
  funext i; idx_vars i
  pointwise [k0_pay1, mul]
  rfl

/-- What a body writes is its blocks' product. -/
theorem out_eq (x : Vec Ideal S144x4096 .bf16) (y : Vec Ideal S4096x1024 .bf16) : out0_2 x y = mul x y := by
  unfold out0_2
  refine (View.canon_unit_zero zero2 _ _).trans ((congrArg₂ k0_pay1 ?_ ?_).trans (pay x y))
  · exact View.ld_unit_zero zero2 _ _
  · exact View.ld_unit_zero zero2 _ _

theorem covers : (cfg0.win 2).Covers := by decide +kernel

/-- The product's array after its grid. -/
theorem arr_prod (c : Dev nD) : (dats m 0 c).arrAt 2 cfg0.N = mul (V m c main_v6 : FVec Ideal S144x4096 .bf16) (V m c main_v5 : FVec Ideal S4096x24576 .bf16) :=
  Dat.arrAt_eq_of_covers (dats m 0 c) 2 _ covers fun t _ y => by
    refine (congrFun ((after0_2 m c t).trans (out_eq _ _)) y).trans
      (mul_block (V m c main_v6) (V m c main_v5) (win0_0.blk t).view.emb (win0_1.blk t).view.emb (win0_2.blk t).view.emb y (fun x => ?_) fun x => ?_)
    · funext a
      refine Fin.ext ?_
      fin_cases a
      · exact (win0_0.rect_emb_val t _ 0).trans (win0_2.rect_emb_val t y 0).symm
      · exact win0_0.rect_emb_val_of_index_zero t 1 (by rfl) _
    · funext a
      refine Fin.ext ?_
      fin_cases a
      · exact win0_1.rect_emb_val_of_index_zero t 0 (by rfl) _
      · exact (win0_1.rect_emb_val t _ 1).trans (win0_2.rect_emb_val t y 1).symm

/-- `x · 1/(1 + exp(-x))`, of an array of any shape. -/
abbrev silu {s : Shape} (h : S_.BroadcastsInDim s (![] : Fin 0 → Fin s.rank)) (x : FVec Ideal s .f32) : FVec Ideal s .f32 :=
  mulf x (Host.divf (broadcastInDim s ![] h (constant S_ .f32 0x3F800000#32))
    (addf (broadcastInDim s ![] h (constant S_ .f32 0x3F800000#32)) (Host.exp (Host.negf x))))

/-- The weights, without their leading axis. -/
abbrev weights (w : FVec Ideal S1x4096x24576 .f32) : FVec Ideal S4096x24576 .f32 := shapeCast S4096x24576 w shapeCasts_S1x4096x24576_S4096x24576
/-- The bias, without its leading axis, -/
abbrev bias (d : FVec Ideal S1x24576 .f32) : FVec Ideal S24576 .f32 := shapeCast S24576 d shapeCasts_S1x24576_S24576
/-- and as one row. -/
abbrev biasRow (d : FVec Ideal S24576 .f32) : FVec Ideal S1x24576 .f32 := broadcastInDim S1x24576 ![1] bcast_S24576_S1x24576_1 d

/-- Both groups' conditions, stacked. -/
def stacked (a : FVec Ideal S1x4096 .f32) (b : FVec Ideal S128x4096 .f32) : FVec Ideal S129x4096 .f32 :=
  concatenate S129x4096 0 [⟨S1x4096, a⟩, ⟨S128x4096, b⟩] concatenates_S1x4096_S128x4096_S129x4096_d0

/-- The left operand: the stacked conditions' activations, rounded, padded by fifteen rows. -/
def padded (a : FVec Ideal S1x4096 .f32) (b : FVec Ideal S128x4096 .f32) : FVec Ideal S144x4096 .bf16 :=
  pad S144x4096 ![0, 0] ![15, 0] ![0, 0] (truncf .bf16 (silu bcast_S_S129x4096 (stacked a b)) bitsLt_bf16_f32 : FVec Ideal S129x4096 .bf16)
    (sitofp .bf16 (constantI S_ 32 0#32) : FVec Ideal S_ .bf16) pads_S129x4096_S144x4096_0150_000 h_S_

/-- The stacked groups' vectors of the product's rows: its first 129, the bias added. -/
abbrev biased (X : FVec Ideal S144x24576 .f32) (d : FVec Ideal S24576 .f32) : FVec Ideal S129x24576 .f32 :=
  addf (extractStridedSlice S129x24576 ![0, 0] X slices_S144x24576_S129x24576_0_0)
    (broadcastInDim S129x24576 ![0, 1] bcast_S1x24576_S129x24576_0_1 (biasRow d))
/-- The prompt's row of them, -/
abbrev promptRow (X : FVec Ideal S144x24576 .f32) (d : FVec Ideal S24576 .f32) : FVec Ideal S1x24576 .f32 :=
  extractStridedSlice S1x24576 ![0, 0] (biased X d) slices_S129x24576_S1x24576_0_0
/-- and the samples' rows. -/
abbrev sampleRows (X : FVec Ideal S144x24576 .f32) (d : FVec Ideal S24576 .f32) : FVec Ideal S128x24576 .f32 :=
  extractStridedSlice S128x24576 ![1, 0] (biased X d) slices_S129x24576_S128x24576_1_0

/-- One of the prompt's six vectors, at its offset. -/
abbrev promptPart (o : Nat) (h : S1x1x24576.Slices ![0, 0, o] S1x1x4096) (Y : FVec Ideal S1x24576 .f32) : FVec Ideal S1x1x4096 .f32 :=
  extractStridedSlice S1x1x4096 ![0, 0, o] (broadcastInDim S1x1x24576 ![0, 2] bcast_S1x24576_S1x1x24576_0_2 Y) h
/-- One of the samples' six, at its offset. -/
abbrev samplePart (o : Nat) (h : S128x1x24576.Slices ![0, 0, o] S128x1x4096) (Y : FVec Ideal S128x24576 .f32) : FVec Ideal S128x1x4096 .f32 :=
  extractStridedSlice S128x1x4096 ![0, 0, o] (broadcastInDim S128x1x24576 ![0, 2] bcast_S128x24576_S128x1x24576_0_2 Y) h

/-- The prompt's vectors by its own product. -/
abbrev promptVec (a : FVec Ideal S1x4096 .f32) (w : FVec Ideal S4096x24576 .f32) (d : FVec Ideal S24576 .f32) : FVec Ideal S1x24576 .f32 :=
  addf (Host.dotGeneral Cert.Reference4Ideal.dot_S1x4096_S4096x24576_S1x24576_1_0_0_1_n_n none (silu Cert.Reference4Ideal.Facts₀.bcast_S_S1x4096 a) w) (biasRow d)
/-- The samples' vectors by their own product. -/
abbrev sampleVecs (b : FVec Ideal S128x4096 .f32) (w : FVec Ideal S4096x24576 .f32) (d : FVec Ideal S24576 .f32) : FVec Ideal S128x24576 .f32 :=
  addf (Host.dotGeneral Cert.Reference4Ideal.dot_S128x4096_S4096x24576_S128x24576_1_0_0_1_n_n none (silu Cert.Reference4Ideal.Facts₀.bcast_S_S128x4096 b) w)
    (broadcastInDim S128x24576 ![0, 1] Cert.Reference4Ideal.Facts₀.bcast_S1x24576_S128x24576_0_1 (biasRow d))

/-- A row of the left operand before the padding is the activation of the stacked conditions' row. -/
theorem padded_inside (a : FVec Ideal S1x4096 .f32) (b : FVec Ideal S128x4096 .f32) (r : Fin 144) (q : Fin 129) (h : r.val = q.val) (k : Fin 4096) :
    padded a b (ValueIdx.ix2 r k) = silu bcast_S_S129x4096 (stacked a b) (ValueIdx.ix2 q k) :=
  pad_apply_of_inside _ _ _ _ _ _ _ _ (ValueIdx.ix2 q k : S129x4096.Idx) fun e => by
    fin_cases e
    · show r.val = 0 + q.val * (0 + 1); omega
    · show k.val = 0 + k.val * (0 + 1); omega

/-- The first stacked row is the prompt's condition. -/
theorem stacked_first (a : FVec Ideal S1x4096 .f32) (b : FVec Ideal S128x4096 .f32) (k : Fin 4096) :
    stacked a b (ValueIdx.ix2 (0 : Fin 129) k) = a (ValueIdx.ix2 (0 : Fin 1) k) :=
  concatenate_pair_apply_left (t := S129x4096) 0 a b concatenates_S1x4096_S128x4096_S129x4096_d0 (ValueIdx.ix2 (0 : Fin 129) k) rfl (ValueIdx.ix2 (0 : Fin 1) k : S1x4096.Idx) fun e => by
    fin_cases e <;> rfl

/-- The later ones are the samples'. -/
theorem stacked_later (a : FVec Ideal S1x4096 .f32) (b : FVec Ideal S128x4096 .f32) (j : Fin 128) (q : Fin 129) (h : q.val = j.val + 1) (k : Fin 4096) :
    stacked a b (ValueIdx.ix2 q k) = b (ValueIdx.ix2 j k) :=
  concatenate_pair_apply_right (t := S129x4096) 0 a b concatenates_S1x4096_S128x4096_S129x4096_d0 (ValueIdx.ix2 q k) rfl rfl (ValueIdx.ix2 j k : S128x4096.Idx)
    (fun e he => by
      fin_cases e
      · exact absurd rfl he
      · rfl)
    h.symm

/-- The activation of one value. -/
def act (x : EReal) : EReal := x * Ideal.div 1 (1 + Ideal.exp (-x))

/-- An activation, at an index. -/
theorem silu_apply (X : FVec Ideal S129x4096 .f32) (q : Fin 129) (k : Fin 4096) :
    silu bcast_S_S129x4096 X (ValueIdx.ix2 q k) = act (X (ValueIdx.ix2 q k)) := by
  pointwise [act]

/-- The prompt's row of the stacked product is its own product's. -/
theorem prompt_eq (a : FVec Ideal S1x4096 .f32) (b : FVec Ideal S128x4096 .f32) (w : FVec Ideal S4096x24576 .f32) (d : FVec Ideal S24576 .f32) :
    promptRow (mul (padded a b) (truncf .bf16 w bitsLt_bf16_f32)) d = promptVec a w d := by
  funext i; idx_vars i
  obtain rfl : i0 = 0 := Subsingleton.elim _ _
  pointwise [mul]
  refine congrArg (· + d (ix1 i1)) (Finset.sum_congr rfl fun k _ => congrArg (· * w (ix2 k i1)) ?_)
  exact (padded_inside a b 0 0 rfl k).trans ((silu_apply _ 0 k).trans (congrArg act (stacked_first a b k)))

/-- The samples' rows are theirs. -/
theorem sample_eq (a : FVec Ideal S1x4096 .f32) (b : FVec Ideal S128x4096 .f32) (w : FVec Ideal S4096x24576 .f32) (d : FVec Ideal S24576 .f32) :
    sampleRows (mul (padded a b) (truncf .bf16 w bitsLt_bf16_f32)) d = sampleVecs b w d := by
  funext i; idx_vars i
  pointwise [mul]
  refine congrArg (· + d (ix1 i1)) (Finset.sum_congr rfl fun k _ => congrArg (· * w (ix2 k i1)) ?_)
  exact (padded_inside a b _ ⟨1 + i0.val, by omega⟩ rfl k).trans ((silu_apply _ _ k).trans (congrArg act (stacked_later a b i0 _ (Nat.add_comm _ _) k)))

set_option maxHeartbeats 1000000 in
/-- The left operand, of the launch's arguments. -/
theorem lhs_eq (c : Dev nD) : V m c main_v6 = padded (m ((c.tc : Thread nD τ).loc main_arg0)) (m ((c.tc : Thread nD τ).loc main_arg1)) := by
  show StableHlo.after (List.flatten [hostOps0, hostOps0_1, hostOps0_2, hostOps0_3]) _ _ = _
  simp only [List.flatten_cons, List.flatten_nil, List.append_nil]
  simp only [hostOps0, hostOps0_1, hostOps0_2, hostOps0_3, StableHlo.TRef.binary, StableHlo.TRef.nullary, StableHlo.TRef.unary, StableHlo.TRef.toBuf, StableHlo.TRef.ofBuf, cast_eq, List.cons_append, List.nil_append]
  after_results_simp <;> rfl

/-- The right operand: the weights, rounded. -/
theorem rhs_eq (c : Dev nD) : V m c main_v5 = (truncf .bf16 (weights (m ((c.tc : Thread nD τ).loc main_arg2))) bitsLt_bf16_f32 : FVec Ideal S4096x24576 .bf16) := by
  show StableHlo.after (List.flatten [hostOps0, hostOps0_1, hostOps0_2, hostOps0_3]) _ _ = _
  simp only [List.flatten_cons, List.flatten_nil, List.append_nil]
  simp only [hostOps0, hostOps0_1, hostOps0_2, hostOps0_3, StableHlo.TRef.binary, StableHlo.TRef.nullary, StableHlo.TRef.unary, StableHlo.TRef.toBuf, StableHlo.TRef.ofBuf, cast_eq, List.cons_append, List.nil_append]
  after_results_simp <;> rfl

/-- The bias. -/
theorem bias_eq (c : Dev nD) : V m c main_v1 = bias (m ((c.tc : Thread nD τ).loc main_arg3)) := by
  show StableHlo.after (List.flatten [hostOps0, hostOps0_1, hostOps0_2, hostOps0_3]) _ _ = _
  simp only [List.flatten_cons, List.flatten_nil, List.append_nil]
  simp only [hostOps0, hostOps0_1, hostOps0_2, hostOps0_3, StableHlo.TRef.binary, StableHlo.TRef.nullary, StableHlo.TRef.unary, StableHlo.TRef.toBuf, StableHlo.TRef.ofBuf, cast_eq, List.cons_append, List.nil_append]
  after_results_simp <;> rfl

/-- The host's lines after the product read the twelve vectors off it. -/
theorem suffix_eq (W : Valuation τ sig (Elt Ideal)) (X : FVec Ideal S144x24576 .f32) (d : FVec Ideal S24576 .f32)
    (hX : W (Proc.devRef .tc main_v7) = X) (hd : W (Proc.devRef .tc main_v1) = d) :
    StableHlo.after (List.flatten [hostOps1]) W (Proc.devRef .tc main_v14) = promptPart 0 slices_S1x1x24576_S1x1x4096_0_0_0 (promptRow X d)
    ∧ StableHlo.after (List.flatten [hostOps1]) W (Proc.devRef .tc main_v15) = promptPart 4096 slices_S1x1x24576_S1x1x4096_0_0_4096 (promptRow X d)
    ∧ StableHlo.after (List.flatten [hostOps1]) W (Proc.devRef .tc main_v16) = promptPart 8192 slices_S1x1x24576_S1x1x4096_0_0_8192 (promptRow X d)
    ∧ StableHlo.after (List.flatten [hostOps1]) W (Proc.devRef .tc main_v17) = promptPart 12288 slices_S1x1x24576_S1x1x4096_0_0_12288 (promptRow X d)
    ∧ StableHlo.after (List.flatten [hostOps1]) W (Proc.devRef .tc main_v18) = promptPart 16384 slices_S1x1x24576_S1x1x4096_0_0_16384 (promptRow X d)
    ∧ StableHlo.after (List.flatten [hostOps1]) W (Proc.devRef .tc main_v19) = promptPart 20480 slices_S1x1x24576_S1x1x4096_0_0_20480 (promptRow X d)
    ∧ StableHlo.after (List.flatten [hostOps1]) W (Proc.devRef .tc main_v22) = samplePart 0 slices_S128x1x24576_S128x1x4096_0_0_0 (sampleRows X d)
    ∧ StableHlo.after (List.flatten [hostOps1]) W (Proc.devRef .tc main_v23) = samplePart 4096 slices_S128x1x24576_S128x1x4096_0_0_4096 (sampleRows X d)
    ∧ StableHlo.after (List.flatten [hostOps1]) W (Proc.devRef .tc main_v24) = samplePart 8192 slices_S128x1x24576_S128x1x4096_0_0_8192 (sampleRows X d)
    ∧ StableHlo.after (List.flatten [hostOps1]) W (Proc.devRef .tc main_v25) = samplePart 12288 slices_S128x1x24576_S128x1x4096_0_0_12288 (sampleRows X d)
    ∧ StableHlo.after (List.flatten [hostOps1]) W (Proc.devRef .tc main_v26) = samplePart 16384 slices_S128x1x24576_S128x1x4096_0_0_16384 (sampleRows X d)
    ∧ StableHlo.after (List.flatten [hostOps1]) W (Proc.devRef .tc main_v27) = samplePart 20480 slices_S128x1x24576_S128x1x4096_0_0_20480 (sampleRows X d) := by
  subst hX hd
  simp only [List.flatten_cons, List.flatten_nil, List.append_nil]
  refine ⟨?_, ?_, ?_, ?_, ?_, ?_, ?_, ?_, ?_, ?_, ?_, ?_⟩
  all_goals after_results
  all_goals rfl

/-- The prompt's vectors of a core's arguments, -/
abbrev promptOf (c : Dev nD) : FVec Ideal S1x24576 .f32 :=
  promptVec (m ((c.tc : Thread nD τ).loc main_arg0)) (weights (m ((c.tc : Thread nD τ).loc main_arg2))) (bias (m ((c.tc : Thread nD τ).loc main_arg3)))
/-- and the samples'. -/
abbrev sampleOf (c : Dev nD) : FVec Ideal S128x24576 .f32 :=
  sampleVecs (m ((c.tc : Thread nD τ).loc main_arg1)) (weights (m ((c.tc : Thread nD τ).loc main_arg2))) (bias (m ((c.tc : Thread nD τ).loc main_arg3)))

/-- The kernel's run: its twelve results, its arguments unchanged, its counters at zero. -/
theorem run : θ_run defs (onTc (τ := τ) (main (F := Ideal))) ⟨m, fun _ => 0, ρ⟩ (fun s => (∀ c : Dev nD,
      s.2.mem ((c.tc : Thread nD τ).loc main_v14) = promptPart 0 slices_S1x1x24576_S1x1x4096_0_0_0 (promptOf m c)
      ∧ s.2.mem ((c.tc : Thread nD τ).loc main_v15) = promptPart 4096 slices_S1x1x24576_S1x1x4096_0_0_4096 (promptOf m c)
      ∧ s.2.mem ((c.tc : Thread nD τ).loc main_v16) = promptPart 8192 slices_S1x1x24576_S1x1x4096_0_0_8192 (promptOf m c)
      ∧ s.2.mem ((c.tc : Thread nD τ).loc main_v17) = promptPart 12288 slices_S1x1x24576_S1x1x4096_0_0_12288 (promptOf m c)
      ∧ s.2.mem ((c.tc : Thread nD τ).loc main_v18) = promptPart 16384 slices_S1x1x24576_S1x1x4096_0_0_16384 (promptOf m c)
      ∧ s.2.mem ((c.tc : Thread nD τ).loc main_v19) = promptPart 20480 slices_S1x1x24576_S1x1x4096_0_0_20480 (promptOf m c)
      ∧ s.2.mem ((c.tc : Thread nD τ).loc main_v22) = samplePart 0 slices_S128x1x24576_S128x1x4096_0_0_0 (sampleOf m c)
      ∧ s.2.mem ((c.tc : Thread nD τ).loc main_v23) = samplePart 4096 slices_S128x1x24576_S128x1x4096_0_0_4096 (sampleOf m c)
      ∧ s.2.mem ((c.tc : Thread nD τ).loc main_v24) = samplePart 8192 slices_S128x1x24576_S128x1x4096_0_0_8192 (sampleOf m c)
      ∧ s.2.mem ((c.tc : Thread nD τ).loc main_v25) = samplePart 12288 slices_S128x1x24576_S128x1x4096_0_0_12288 (sampleOf m c)
      ∧ s.2.mem ((c.tc : Thread nD τ).loc main_v26) = samplePart 16384 slices_S128x1x24576_S128x1x4096_0_0_16384 (sampleOf m c)
      ∧ s.2.mem ((c.tc : Thread nD τ).loc main_v27) = samplePart 20480 slices_S128x1x24576_S128x1x4096_0_0_20480 (sampleOf m c)
      ∧ s.2.mem ((c.tc : Thread nD τ).loc main_arg0) = m ((c.tc : Thread nD τ).loc main_arg0)
      ∧ s.2.mem ((c.tc : Thread nD τ).loc main_arg1) = m ((c.tc : Thread nD τ).loc main_arg1)
      ∧ s.2.mem ((c.tc : Thread nD τ).loc main_arg2) = m ((c.tc : Thread nD τ).loc main_arg2)
      ∧ s.2.mem ((c.tc : Thread nD τ).loc main_arg3) = m ((c.tc : Thread nD τ).loc main_arg3)) ∧ s.2.sem = fun _ => 0) :=
  (θ_run defs _ _).mono (fun s hs => ⟨fun c => by
    have e := suffix_eq (Pipeline.withArrays (cfgs 0).spec c (V0 m c) fun w => (dats m 0 c).arrAt w (cfgs 0).N)
      (mul (V m c main_v6 : FVec Ideal S144x4096 .bf16) (V m c main_v5 : FVec Ideal S4096x24576 .bf16)) (V m c main_v1)
      ((Pipeline.withArrays_arr (cfgs 0).spec launch0.win.arr_inj c (V0 m c) _ 2).trans (arr_prod m c))
      (Pipeline.withArrays_of_ne _ c (V0 m c) _ main_v1 (by exact (by decide : ∀ w, Pipeline.arrRef spec0 w ≠ main_v1)))
    rw [lhs_eq, rhs_eq, bias_eq, prompt_eq, sample_eq] at e
    have k := fun r h h' => (hs.1.1 c).2 r (Pipeline.mem_restRefs_of r h h')
    obtain ⟨e0, e1, e2, e3, e4, e5, e6, e7, e8, e9, e10, e11⟩ := e
    exact ⟨(k main_v14 (by decide) (by decide)).trans e0, (k main_v15 (by decide) (by decide)).trans e1, (k main_v16 (by decide) (by decide)).trans e2, (k main_v17 (by decide) (by decide)).trans e3, (k main_v18 (by decide) (by decide)).trans e4, (k main_v19 (by decide) (by decide)).trans e5, (k main_v22 (by decide) (by decide)).trans e6, (k main_v23 (by decide) (by decide)).trans e7, (k main_v24 (by decide) (by decide)).trans e8, (k main_v25 (by decide) (by decide)).trans e9, (k main_v26 (by decide) (by decide)).trans e10, (k main_v27 (by decide) (by decide)).trans e11, hs.2 c⟩, hs.1.2⟩)
    (θ_run_and (run_main_quiescent m ρ) (unchanged m ρ))

end Cert.AdaValue
end
end
-- ==== Proof.StepFrame.lean ====
/-
  The sample group's projection and one step of its recurrent state, over any float values: the run ends, its arguments are
  unchanged, every counter is zero. The product's last column block is cut at the array's end, so its array is left unnamed.
-/
module

public import proofs.«01_k».proof.Proof.StepLoop
public import proofs.«01_k».proof.Proof.Gen.Kernel6.Skeleton
public import proofs.«01_k».proof.Proof.Gen.Kernel6.Points
public import Idealize.ShloMosaic.Lib.Pipeline.FrameBody
public import Idealize.ShloMosaic.Lib.Pipeline.RegionArraysF
public import Idealize.ShloMosaic.Lib.Pipeline.RegionsForgetR
public import Idealize.ShloMosaic.Lib.Ring
public import Idealize.ShloMosaic.Lib.Tactic

@[expose] public section
set_option maxRecDepth 16384
noncomputable section
namespace Cert.StepFrame
open Cert.Kernel6 Cert.Kernel6.Gen Cert.Kernel6.Gen.Cond Cert.StepLoop
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose CSeg)

variable {F : FTy → Type} [FloatOps F]

local notation "𝕄" => MT nD τ sig Unit (Elt F) ℕ U6 ℕ

variable (m : (ℓ : Loc nD τ sig) → Buf (Elt F) ℓ) (ρ : Dev nD → PrngReg)

/-- A window's block at a point, of its array as the region finds it. -/
def iblk (c : Dev nD) (w : Fin cfg0.W) (t : Fin cfg0.N) : ((cfg0.win w).xblock (cfg0.grid.coords t)).Idx → Elt F (cfg0.win w).elt :=
  ((cfg0.win w).blk t).view.read (Elt F) (V1 m c (Pipeline.arrRef spec0 w))

set_option maxHeartbeats 1000000 in
/-- The body reads its two blocks, and leaves them as they were and the third buffer at something. -/
theorem body_runs (c : Dev nD) (E : Set ℕ) (i : grid0.Coords) (a : Memref sig .tc .vmem S128x4096 .bf16) (ha : a.IsWhole)
    (b : Memref sig .tc .vmem S4096x1024 .bf16) (hb : b.IsWhole) (o : Memref sig .tc .vmem S128x1024 .f32) (ho : o.IsWhole)
    (x : Vec F S128x4096 .bf16) (y : Vec F S4096x1024 .bf16) (K : PUnit → sProp 𝕄) :
    iprop(owns (c : Thread nD τ) a fullShare x ∗ owns (c : Thread nD τ) b fullShare y ∗ (∃ d, owns (c : Thread nD τ) o fullShare d)
        ∗ (iprop(owns (c : Thread nD τ) a fullShare x ∗ owns (c : Thread nD τ) b fullShare y ∗ (∃ d, owns (c : Thread nD τ) o fullShare d)) -∗ K ⟨⟩))
      ⊢ wp frame (wpE (defs₀ (F := F)) Variants.none c none) E (cc0_matmul i a ha b hb o ho) K := by
  simp only [cc0_matmul_eq_skeleton]; unfold cc0_matmul_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; iexists _; isplitr
  swap; · iexact H2
  ipureintro; rfl

/-- Something to fill a block out with past its array's end. -/
def zeros : S4096x1024.Idx → Elt F .bf16 := fun _ => Scalar.ofBits .bf16 0#16

/-- The proof data: each operand's buffer keeps its block; nothing is said of the product's. -/
def dat (c : Dev nD) : Dat τ (Elt F) Unit ℕ U6 ℕ cfg0 c where
  A w := V1 m c (Pipeline.arrRef spec0 w)
  after w t := match w with
    | ⟨0, _⟩ => iblk m c 0 t
    | ⟨1, _⟩ => win0_1.fill (grid0.coords t) zeros (iblk m c 1 t)
    | ⟨2, _⟩ => fun _ => Scalar.ofBits .f32 0#32
  Φ _ := Pipeline.ΦA spec0 c
  q _ := fullShare
  owed _ := 0

/-- The arrays at the region's entry. -/
theorem A_eq (c : Dev nD) (w : Fin cfg0.W) : (dat m c).A w = V1 m c (Pipeline.arrRef spec0 w) := by
  dsimp only [dat]

/-- The first operand's buffer holds its block at every point. -/
theorem before_a (c : Dev nD) (t : Fin cfg0.N) (d) : (dat m c).before 0 t d = iblk m c 0 t :=
  ((dat m c).before_in_eq_fetched 0 rfl (fun _ => rfl) (fun _ _ _ => rfl) (fun t => rfl) t d).trans rfl

/-- The second operand's buffer, just fetched: its block inside the array, anything past it. -/
theorem before_b (c : Dev nD) (t : Fin cfg0.N) (d) :
    (dat m c).before 1 t d = win0_1.fill (grid0.coords t) d (iblk m c 1 t) := by
  unfold Dat.before; rw [if_pos (fetch0_1 t)]; rfl

/-- The window whose buffer is left unnamed. -/
def fgt : Fin cfg0.W → Bool := fun w => match w with | ⟨0, _⟩ => false | ⟨1, _⟩ => false | ⟨2, _⟩ => true

/-- What the body leaves of the second operand's block is that block. -/
theorem cut_b (c : Dev nD) (t : Fin cfg0.N) :
    win0_1.cut (grid0.coords t) ((dat m c).after 1 t) = iblk m c 1 t := by
  have e : (dat m c).after 1 t = win0_1.fill (grid0.coords t) zeros (iblk m c 1 t) := by dsimp only [dat]
  rw [e]
  exact win0_1.cut_fill (grid0.coords t) zeros (iblk m c 1 t)

/-- The body table's row at a point. -/
theorem row (t : Fin cfg0.N) : defs₀ (F := F) .tc cfg0.body (cfg0.bodyArgs t (cfg0.slots t)) = bodyAt0 t := by
  unfold defs₀; rw [Defs.onTc_tc]

/-- The body at every point. -/
theorem obligation (c : Dev nD) : BodyObligationLoose (dat (F := F) m c) (defs₀ (F := F)) Variants.none () Set.univ fgt := fun t => by
  rw [bigSep_W0, bigSep_W0, row]
  simp only [fgt]
  rw [show (dat m c).Φ t.succ = (dat m c).Φ t.castSucc from rfl,
    show (dat m c).owesAt () t.succ = (dat m c).owesAt () t.castSucc from rfl]
  iintro ⟨HΦ, Ho, ⟨%d0, H0⟩, ⟨%d1, H1⟩, ⟨%d2, H2⟩⟩
  rw [before_a m c t d0, before_b m c t d1]
  iapply (body_runs c Set.univ (grid0.coords t) _ _ _ _ _ _ (iblk m c 0 t) (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]
  · iexists d1
    change _ ⊢ owns (c : Thread nD τ) (st0_1 t) fullShare (win0_1.fill (grid0.coords t) d1 (win0_1.cut (grid0.coords t) ((dat m c).after 1 t)))
    rw [cut_b]
  iexact H2

/-- Nothing is known of the product over any float values. -/
def Known (_ : (ℓ : Loc nD τ sig) → Buf (Elt F) ℓ) (_ : Outs (F := F)) (_ : Dev nD) : Prop := True

/-- The region's proof data by pipeline. -/
def pdats : PD (F := F)
  | ⟨0, _⟩ => fun c => dat m c

/-- What is forgotten, by pipeline. -/
def fg : (q : Fin 1) → Fin (Pipeline.pin (pcfgs (F := F)) adm q).W → Bool
  | ⟨0, _⟩ => fgt

/-- The facts kept between the items: after the product, `Known`; after the loop, also the state that its one step leaves. -/
def I : Fin 3 → Outs (F := F) → Dev nD → Prop
  | ⟨0, _⟩ => fun _ _ => True
  | ⟨1, _⟩ => fun outs c => Known m outs c
  | ⟨2, _⟩ => fun outs c => Known m outs c ∧ outs 8 (Proc.devRef .tc main_v102_7) c = Xend (V7 m outs c) main_v102_7

/-- The unknowns that say: the product's array holds `A`. -/
def named (A : S128x25184.Idx → Elt F .f32) : Outs (F := F) := fun _ b c => Function.update (V1 m c) (Proc.devRef .tc main_v8) A b

theorem named_at (A : S128x25184.Idx → Elt F .f32) (c : Dev nD) : named m A 2 (Proc.devRef .tc main_v8) c = A := Function.update_self ..
theorem V2_at (A : S128x25184.Idx → Elt F .f32) (c : Dev nD) : V2 m (named m A) c (Proc.devRef .tc main_v8) = A :=
  (Function.update_self ..).trans (named_at m A c)

/-- So there is nothing to show of it. -/
theorem known (c : Dev nD) (A : (w : Fin cfg0.W) → Buf (Elt F) ((cfg0.win w).arr.view.loc (c.tc : Thread nD τ)))
    (_ : ∀ w, fgt w = false → A w = (dat m c).arrAt w cfg0.N) : I m 1 (named m (A 2)) c := trivial

set_option backward.isDefEq.respectTransparency.types false in
set_option maxHeartbeats 1000000 in
/-- The product's region between the thread states: it takes its arrays out of the buffers and puts them back. -/
def reg : Pipeline.RDat.RegionSeg (pcfgs (F := F)) adm (fun q c => (pdats m q c).toRForget (fg q)) () defs₀ Variants.none L lv 0 where
  win := launch0.win.to₀
  block_pos := launch0.block_pos
  stage_whole := launch0.stage_whole
  K := PEmpty
  osem k := k.elim
  ho := Pipeline.OwnSemFacts.none _
  hbody c := (obligation m c).toRForget
  hwaits := Pipeline.RDat.hwaits_of_owed_zero _ _ _ _ L lv 0 fun _ _ => rfl
  pre c := iprop(StableHlo.held (c : Thread nD τ) (Pipeline.ucRefs τ sig) (V1 m c) ∗ R c)
  post c := iprop(∃ outs, StableHlo.held (c : Thread nD τ) (Pipeline.ucRefs τ sig) (V2 m outs c) ∗ ⌜I m 1 outs c⌝ ∗ R c)
  X c := iprop(∃ r, prngReg c r)
  Y c := iprop(∃ r, prngReg c r)
  Z c := Pipeline.unscopedRest (Ix := Unit) (Name := ℕ) (U := U6) (Lvl := ℕ) spec0 c (fun b => V1 m c b)
  hentry c := by
    show _ ⊢ |={Set.univ}=> iprop((pdats m 0 c).arrays ((pdats m 0 c).arrAt · 0) ∗ Pipeline.prefHeld (pcfgs (F := F) 0).pre c (fun _ => fullShare) ((adm (F := F)) 0).1
        ∗ (pdats m 0 c).owesAt () 0 ∗ _ ∗ _)
    rw [Pipeline.ownSems0_none]
    have hsplit := Pipeline.arrays_of_unscopedBufs (p := 0) (pcfgs (F := F)) adm (pdats m) launch0.win launch0.arr_whole c
      ((pdats m 0 c).share_full fun _ => rfl) (fun b => V1 m c b) (A_eq m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    change _ ⊢ Pipeline.ΦA spec0 c
    unfold Pipeline.ΦA
    iintro ⟨Hp, -, Hr⟩
    isplitl [Hr]; · iexact Hr
    iexact Hp
  hout c := by
    rw [Pipeline.ownSems0_none]
    change Pipeline.ΦA spec0 c ⊢ _
    unfold Pipeline.ΦA
    iintro ⟨Hr, Hp⟩
    isplitl [Hp]; · iexact Hp
    isplitr; · iempintro
    iexact Hr
  hexit c := by
    show iprop(((pdats m 0 c).toRForget (fg 0)).arraysAt cfg0.N ∗ (pdats m 0 c).owesAt () (Fin.last cfg0.N) ∗ _ ∗ _) ⊢ _
    iintro ⟨Ha, HO, HY, Hrest⟩
    ihave Ha := ((pdats m 0 c).arraysAt_forget (fg 0) cfg0.N) $$ Ha
    icases Ha with ⟨%A, %hA, Ha⟩
    have hF : ∀ w, A w = V2 m (named m (A 2)) c (Pipeline.arrRef spec0 w) := fun w => by
      fin_cases w
      · refine (hA 0 rfl).trans (((pdats m 0 c).arrAt_in 0 rfl _).trans ((A_eq m c 0).trans ?_))
        exact (V2_of m _ c main_v6 (by decide)).symm
      · refine (hA 1 rfl).trans (((pdats m 0 c).arrAt_in 1 rfl _).trans ((A_eq m c 1).trans ?_))
        exact (V2_of m _ c main_v7 (by decide)).symm
      · exact (V2_at m (A 2) c).symm
    have hrest : ∀ b, b ∉ Finset.univ.image (Pipeline.arrRef spec0) → V2 m (named m (A 2)) c b = V1 m c b := fun b hb =>
      V2_of m _ c b fun h => hb (Finset.mem_image.mpr ⟨2, Finset.mem_univ _, (List.mem_singleton.mp h).symm⟩)
    have hjoin := Pipeline.unscopedBufs_of_arrays (p := 0) (pcfgs (F := F)) adm (Ix := Unit) (Name := ℕ) (U := U6) (Lvl := ℕ)
      launch0.win launch0.arr_whole c (pdats m) ((pdats m 0 c).share_full fun _ => rfl)
      (fun b => V1 m c b) (fun b => V2 m (named m (A 2)) c b) A hF hrest
    rw [Pipeline.unscopedBufs_held] at hjoin
    imodintro
    iexists (named m (A 2))
    isplitl [Ha Hrest]
    · iapply hjoin; isplitl [Ha] <;> iassumption
    isplitr
    · ipureintro
      exact known m c A hA
    isplitl [HY]; · iexact HY
    unfold Pipeline.Dat.owesAt Pipeline.owesWithin
    icases HO with ⟨%W, -, HO⟩; iexists W; iexact HO

/-- The counter is zero where the loop begins. -/
theorem start_ctr (outs : Outs (F := F)) (c : Dev nD) : V7 m outs c main_v102_6 = fun _ => (0#32 : BitVec 32) := by
  show StableHlo.after hostOps1_4 (V6 m outs c) main_v102_6 = _
  generalize V6 m outs c = V
  after_results; rfl

/-- The product as one segment of the run. -/
def C0 : CSeg (pcfgs (F := F)) adm defs₀ Variants.none L lv loops (tk (fun _ => pdats m) EP) :=
  CSeg.regionAtR (pcfgs (F := F)) adm () cellOf_inj defs₀ Variants.none L lv loops (tk (fun _ => pdats m) EP) 0
    (fun q c => (pdats m q c).toRForget (fg q)) (reg m)

/-- The loop as one segment, from whatever the product left. -/
def LS0 : CSeg (pcfgs (F := F)) adm defs₀ Variants.none L lv loops (tk (fun _ => pdats m) EP) :=
  CSeg.exSel (I m 1) (fun o => loop (fun c => V7 m o c) (fun _ => pdats m) (start_ctr m o)) (HostLoop.enter 0) (fun _ => rfl)
    2 (fun _ => le_rfl) ∅ (fun _ => rfl)

/-- The unknowns after the loop: those before it, and what it leaves. -/
def stepped (o : Outs (F := F)) : Outs (F := F) := fun j b c => if j = 8 then Xend (V7 m o c) b else o j b c

theorem V7_stepped (o : Outs (F := F)) (c : Dev nD) : V7 m (stepped m o) c = V7 m o c := by
  have h : V2 m (stepped m o) c = V2 m o c := rfl
  simp only [V7, V6, V5, V4, V3, h]

/-- What the loop may not change it leaves. -/
theorem V8_stepped (o : Outs (F := F)) (c : Dev nD) : ∀ b ∈ Pipeline.ucRefs τ sig, V8 m (stepped m o) c b = Xend (V7 m o c) b := by
  refine Pipeline.eqOn_ucRefs fun r => ?_
  by_cases hr : r ∈ W8
  · show (if _ then _ else _) = _
    rw [if_pos (List.mem_map.mpr ⟨r, hr, rfl⟩)]
    rfl
  · rw [V8_of m _ c r hr, V7_stepped]
    exact ((kept_cond _ r hr).trans (kept _ r hr)).symm

/-- Nor after the loop. -/
theorem known_stepped (o : Outs (F := F)) (c : Dev nD) (_ : I m 1 o c) : Known m (stepped m o) c := trivial

/-- What holds of the buffers at the end of the run. -/
theorem run : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ (r.2.sem = fun _ => 0)
      ∧ ∀ c : Dev nD, ∃ outs : Outs (F := F), I m 2 outs c ∧ ∀ b ∈ (Pipeline.ucRefs τ sig), r.2.mem ((c : Thread nD τ).1, b) = V9 m outs c b) :=
  frame_condFQR m EP Variants.none L lv (fun _ _ => rfl) ρ (fun _ => pdats m) 0 (fun _ => iprop(emp))
    (initOf (Pipeline.cells cfgs cellOf_inj) (Pipeline.launchToks cfgs cellOf_inj))
    (hu₀ := by
      iintro Hu; imodintro
      isplitl [Hu]
      · rw [BI.bigSep_univ_of_subsingleton (0 : Fin 1)]
        iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (I m) (fun _ b c => V1 m c b) (fun _ => trivial) (fun _ => R)
    (hE0 := by
      refine Pipeline.initEach L lv fun c => ?_
      iintro ⟨⟨-, HO, -, Hp, -⟩, -⟩
      imodintro
      isplitl [Hp]; · iexists _; iexact Hp
      iexists ∅; iexact HO)
    (fun _ => iprop(emp))
    (hE2 := fun c => by
      iintro ⟨-, HO⟩
      isplitr; · iempintro
      iexact HO)
    (hEQ := fun c s' => by
      iintro ⟨-, HSI⟩
      imodintro
      isplitr; · ipureintro; exact fun sm h => absurd ((regions_no_unscoped sm).symm.trans h) (by decide)
      iexact HSI)
    (C0 m) rfl rfl
    (hC0_pre := fun c => by
      change _ ⊢ iprop(StableHlo.held (c : Thread nD τ) (Pipeline.ucRefs τ sig) (V1 m c) ∗ R c)
      iintro ⟨%o, Hh, -, HR⟩
      isplitl [Hh]; · iexact Hh
      iexact HR)
    (hC0_post := fun c => .rfl)
    (LS0 m) rfl rfl
    (hLS0_pre := fun c => CSeg.exSel_pre c fun o _ => .rfl)
    (hLS0_post := fun c => CSeg.exSel_post c fun o ho =>
      Pipeline.held_ex_intro (c : Thread nD τ) (Pipeline.ucRefs τ sig) (fun o => V8 m o c) (fun o => I m 2 o c) (R c) (stepped m o)
        (Xend (V7 m o c)) (V8_stepped m o c) ⟨known_stepped m o c ho, by rw [V7_stepped]; rfl⟩)

/-- The frame: the arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  (θ_run defs _ _).mono (fun _ h => ⟨h.1, h.2.1⟩) (run m ρ)

end Cert.StepFrame
end
end
-- ==== Proof.StepLoopIdeal.lean ====
/-
  At the ideal values: the scan over the time axis, which has one step, as one segment: its condition, its body's stretches, and what
  every buffer holds after it, from any contents at which the counter is zero.
-/
module

public import proofs.«01_k».proof.Proof.Gen.Kernel6Ideal.RegionsFQR
public import Idealize.ShloMosaic.Lib.Pipeline.RegionsForgetLinks
public import Idealize.ShloMosaic.Lib.Pipeline.Kit
public import Idealize.ShloMosaic.Lib.HostLoop.Rules

@[expose] public section
set_option maxRecDepth 16384
noncomputable section
namespace Cert.StepLoopIdeal
open Cert.Kernel6Ideal Cert.Kernel6Ideal.Gen Cert.Kernel6Ideal.Gen.Cond
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.StableHlo (after held)
open Idealize.ShloMosaic.Pipeline (Dat CSeg LoopSeg Ticket)

variable {F : FTy → Type} [FloatOps F]

/-- The algebra of the pipeline's rounds. -/
abbrev U6 : Type := URounds (GSem nD τ sig) Unit

local notation "𝕄" => MT nD τ sig Unit (Elt F) ℕ U6 ℕ

/-- No cell has a level: nothing is owed at any. -/
abbrev L : GSem nD τ sig → Finset Unit := fun _ => ∅
abbrev lv : GSem nD τ sig → Unit → ℕ := fun _ _ => 0
/-- The ticket's algebra is the whole one. -/
abbrev EP : Fin 1 → Emb (URounds (GSem nD τ sig) Unit) 𝕄 := fun _ => emb₁
instance EP_lands : ∀ j, (EP (F := F) j).LandsIn (upEmb : UEmb _ 𝕄) := fun _ => emb₁_landsIn

/-- Proof data by pipeline and core. -/
abbrev PD : Type := (p : Fin 1) → (c : Dev nD) → Dat τ (Elt F) Unit ℕ U6 ℕ (Pipeline.pin (pcfgs (F := F)) adm p) c

/-- Beside the buffers: the generator's register at some state, and nothing owed. -/
abbrev R (c : Dev nD) : sProp 𝕄 := iprop((∃ r, prngReg c r) ∗ ∃ W, owes (c : Thread nD τ) (0 : CellTallies nD τ sig Unit) W)

/-- The condition's two operations. -/
abbrev condOps : List (HloOp τ sig (Elt F)) :=
  [ StableHlo.nullary main_while0c_c_15 (constantI S_ 32 1#32),
    StableHlo.binary main_v102_6 main_while0c_c_15 main_while0c_v105 (cmpi .slt : (⟨S_, .i32⟩ : BufTy).Contents (Elt F) → (⟨S_, .i32⟩ : BufTy).Contents (Elt F) → (⟨S_, .i1⟩ : BufTy).Contents (Elt F)) ]

/-- What each of the body's nine stretches leaves, from what the condition found. -/
abbrev X0 (V : Valuation τ sig (Elt F)) : Valuation τ sig (Elt F) := after condOps V
abbrev X1 (V : Valuation τ sig (Elt F)) : Valuation τ sig (Elt F) := after while0Ops0 (X0 V)
abbrev X2 (V : Valuation τ sig (Elt F)) : Valuation τ sig (Elt F) := after while0Ops0_1 (X1 V)
abbrev X3 (V : Valuation τ sig (Elt F)) : Valuation τ sig (Elt F) := after while0Ops0_2 (X2 V)
abbrev X4 (V : Valuation τ sig (Elt F)) : Valuation τ sig (Elt F) := after while0Ops0_3 (X3 V)
abbrev X5 (V : Valuation τ sig (Elt F)) : Valuation τ sig (Elt F) := after while0Ops0_4 (X4 V)
abbrev X6 (V : Valuation τ sig (Elt F)) : Valuation τ sig (Elt F) := after while0Ops0_5 (X5 V)
abbrev X7 (V : Valuation τ sig (Elt F)) : Valuation τ sig (Elt F) := after while0Ops0_6 (X6 V)
abbrev X8 (V : Valuation τ sig (Elt F)) : Valuation τ sig (Elt F) := after while0Ops0_7 (X7 V)
abbrev X9 (V : Valuation τ sig (Elt F)) : Valuation τ sig (Elt F) := after while0Ops0_8 (X8 V)

/-- The references a stretch writes, in the loop's list. -/
theorem writes_of {ops : List (HloOp τ sig (Elt F))} {W : List (Ref sig .tc)}
    (h : ops.Forall fun op => op.writes ⊆ (W.map (Proc.devRef (τ := τ) .tc)).toFinset) (V : Valuation τ sig (Elt F)) (r : Ref sig .tc)
    (hr : r ∉ W) : after ops V r = V r := StableHlo.after_of_writes_sub ops V h hr

theorem cond_writes : (condOps (F := F)).Forall fun op => op.writes ⊆ (([main_while0c_c_15, main_while0c_v105] : List (Ref sig .tc)).map (Proc.devRef (τ := τ) .tc)).toFinset :=
  StableHlo.forall_writes_sub_of_map rfl
theorem writes0 : (while0Ops0 (F := F)).Forall fun op => op.writes ⊆ (([main_while0b_call2_c, main_while0b_call2_c_0, main_while0b_call2_c_1, main_while0b_call2_v0, main_while0b_v105] : List (Ref sig .tc)).map (Proc.devRef (τ := τ) .tc)).toFinset :=
  StableHlo.forall_writes_sub_of_map rfl
theorem writes1 : (while0Ops0_1 (F := F)).Forall fun op => op.writes ⊆ (([main_while0b_call3_c, main_while0b_call3_c_0, main_while0b_call3_c_1, main_while0b_call3_v0, main_while0b_v106] : List (Ref sig .tc)).map (Proc.devRef (τ := τ) .tc)).toFinset :=
  StableHlo.forall_writes_sub_of_map rfl
theorem writes2 : (while0Ops0_2 (F := F)).Forall fun op => op.writes ⊆ (([main_while0b_call4_c, main_while0b_call4_c_0, main_while0b_call4_c_1, main_while0b_call4_v0, main_while0b_v107] : List (Ref sig .tc)).map (Proc.devRef (τ := τ) .tc)).toFinset :=
  StableHlo.forall_writes_sub_of_map rfl
theorem writes3 : (while0Ops0_3 (F := F)).Forall fun op => op.writes ⊆ (([main_while0b_call5_c, main_while0b_call5_c_0, main_while0b_call5_c_1, main_while0b_call5_v0, main_while0b_v108] : List (Ref sig .tc)).map (Proc.devRef (τ := τ) .tc)).toFinset :=
  StableHlo.forall_writes_sub_of_map rfl
theorem writes4 : (while0Ops0_4 (F := F)).Forall fun op => op.writes ⊆ (([main_while0b_call6_c, main_while0b_call6_c_0, main_while0b_call6_c_1, main_while0b_call6_v0, main_while0b_v109] : List (Ref sig .tc)).map (Proc.devRef (τ := τ) .tc)).toFinset :=
  StableHlo.forall_writes_sub_of_map rfl
theorem writes5 : (while0Ops0_5 (F := F)).Forall fun op => op.writes ⊆ (([main_while0b_call7_c, main_while0b_call7_c_0, main_while0b_call7_c_1, main_while0b_call7_v0, main_while0b_v110] : List (Ref sig .tc)).map (Proc.devRef (τ := τ) .tc)).toFinset :=
  StableHlo.forall_writes_sub_of_map rfl
/-- What the step's own seventeen operations write. -/
abbrev W6 : List (Ref sig .tc) := [main_while0b_v111, main_while0b_v112, main_while0b_v113, main_while0b_v114, main_while0b_v115, main_while0b_v116, main_while0b_v117, main_while0b_v118, main_while0b_v119, main_while0b_v120, main_while0b_v121, main_while0b_v122, main_while0b_v123, main_while0b_v124, main_while0b_v125, main_while0b_v126, main_while0b_v127]
theorem writes6 : (while0Ops0_6 (F := F)).Forall fun op => op.writes ⊆ (W6.map (Proc.devRef (τ := τ) .tc)).toFinset :=
  StableHlo.forall_writes_sub_of_map rfl
theorem writes7 : (while0Ops0_7 (F := F)).Forall fun op => op.writes ⊆ (([main_while0b_call8_v0, main_while0b_call8_c, main_while0b_call8_c_0, main_while0b_call8_c_1, main_while0b_v128] : List (Ref sig .tc)).map (Proc.devRef (τ := τ) .tc)).toFinset :=
  StableHlo.forall_writes_sub_of_map rfl
theorem writes8 : (while0Ops0_8 (F := F)).Forall fun op => op.writes ⊆ (([main_while0b_c_15, main_while0b_v129, main_v102_6, main_v102_7, main_v102_8] : List (Ref sig .tc)).map (Proc.devRef (τ := τ) .tc)).toFinset :=
  StableHlo.forall_writes_sub_of_map rfl

/-- No stretch before the last writes the counter. -/
theorem ctr8 (V : Valuation τ sig (Elt F)) : X8 V main_v102_6 = V main_v102_6 :=
  (writes_of writes7 _ _ (by decide)).trans <| (writes_of writes6 _ _ (by decide)).trans <| (writes_of writes5 _ _ (by decide)).trans <|
  (writes_of writes4 _ _ (by decide)).trans <| (writes_of writes3 _ _ (by decide)).trans <| (writes_of writes2 _ _ (by decide)).trans <|
  (writes_of writes1 _ _ (by decide)).trans <| (writes_of writes0 _ _ (by decide)).trans (writes_of cond_writes _ _ (by decide))

/-- The last stretch adds one to the counter and copies the new state and output back. -/
theorem last_ctr (V : Valuation τ sig (Elt F)) : after while0Ops0_8 V main_v102_6 = addi (V main_v102_6) (constantI S_ 32 1#32) := by
  after_results; rfl
theorem last_state (V : Valuation τ sig (Elt F)) : after while0Ops0_8 V main_v102_7 = V main_while0b_v126 := by
  after_results; rfl

/-- A buffer that nothing of the loop writes. -/
theorem kept (V : Valuation τ sig (Elt F)) (r : Ref sig .tc) (h : r ∉ W8) : X9 V r = V r := by
  have hs : ∀ W : List (Ref sig .tc), (∀ x ∈ W, x ∈ W8) → r ∉ W := fun W hW hr => h (hW r hr)
  exact (writes_of writes8 _ _ (hs _ (by decide))).trans <| (writes_of writes7 _ _ (hs _ (by decide))).trans <|
    (writes_of writes6 _ _ (hs _ (by decide))).trans <| (writes_of writes5 _ _ (hs _ (by decide))).trans <|
    (writes_of writes4 _ _ (hs _ (by decide))).trans <| (writes_of writes3 _ _ (hs _ (by decide))).trans <|
    (writes_of writes2 _ _ (hs _ (by decide))).trans <| (writes_of writes1 _ _ (hs _ (by decide))).trans <|
    (writes_of writes0 _ _ (hs _ (by decide))).trans (writes_of cond_writes _ _ (hs _ (by decide)))
theorem kept_cond (V : Valuation τ sig (Elt F)) (r : Ref sig .tc) (h : r ∉ W8) : X0 V r = V r :=
  writes_of cond_writes _ _ fun hr => h ((by decide : ∀ x ∈ ([main_while0c_c_15, main_while0c_v105] : List (Ref sig .tc)), x ∈ W8) r hr)

/-- The buffers before each run of the condition. -/
def Wk (V : Valuation τ sig (Elt F)) : ℕ → Valuation τ sig (Elt F)
  | 0 => V
  | k + 1 => X9 (Wk V k)

/-- The counter before the `k`-th run. -/
theorem Wk_ctr {V : Valuation τ sig (Elt F)} (h : V main_v102_6 = fun _ => (0#32 : BitVec 32)) :
    ∀ k, Wk V k main_v102_6 = fun _ => (BitVec.ofNat 32 k : BitVec 32)
  | 0 => h
  | k + 1 => by
    refine (last_ctr (X8 (Wk V k))).trans ?_
    rw [ctr8, Wk_ctr h k]
    funext i
    change BitVec.ofNat 32 k + 1#32 = BitVec.ofNat 32 (k + 1)
    rw [BitVec.ofNat_add]

/-- The comparison is true before the first step only. -/
theorem pred_iff : ∀ k : ℕ, k ≤ 1 → (IntOp.cmpi .slt (BitVec.ofNat 32 k) 1#32 = 1#1 ↔ k < 1)
  | 0, _ => by decide
  | 1, _ => by decide
  | _ + 2, h => absurd h (by omega)

/-- The loop's end from its start. -/
abbrev Xend (V : Valuation τ sig (Elt F)) : Valuation τ sig (Elt F) := X0 (X9 V)

/-- An operation on the core's references touches unscoped ones only. -/
theorem sub_uc (op : HloOp τ sig (Elt F)) (h : op.bufs ⊆ StableHlo.tcRefs τ sig) : op.bufs ⊆ Pipeline.ucRefs τ sig :=
  Pipeline.sub_ucRefs op h

section Loop

variable (V : Dev nD → Valuation τ sig (Elt F))

/-- The state before and after the `k`-th run of the condition. -/
abbrev inv (k : ℕ) (c : Dev nD) : sProp 𝕄 := iprop(held (c : Thread nD τ) (Pipeline.ucRefs τ sig) (Wk (V c) k) ∗ R c)
abbrev mid (k : ℕ) (c : Dev nD) : sProp 𝕄 := iprop(held (c : Thread nD τ) (Pipeline.ucRefs τ sig) (X0 (Wk (V c) k)) ∗ R c)

set_option backward.isDefEq.respectTransparency.types false in
/-- The condition. -/
theorem cond_spec (hV : ∀ c, V c main_v102_6 = fun _ => (0#32 : BitVec 32)) (k : ℕ) (hk : k ≤ 1) (c : Dev nD) (bd : Option (Variants.lift Variants.none).V) :
    iprop(boundary (c : Thread nD τ) ∗ inv V k c)
      ⊢ wp frame (wpE (HostLoop.defs loops (Pipeline.defs (pcfgs (F := F)) defs₀)) (Variants.lift Variants.none) (c : Thread nD τ) bd) Set.univ (main_while0_cond (F := F))
          (fun v => iprop(⌜v = 1#1 ↔ k < 1⌝ ∗ boundary (c : Thread nD τ) ∗ mid V k c)) := by
  have hctr := Wk_ctr (hV c) k
  unfold main_while0_cond
  rw [wp_bind]
  iintro ⟨Hb, Hh, HR⟩
  iapply (StableHlo.wp_hlo_within (Variants.lift Variants.none) (c : Thread nD τ) bd Set.univ (sub_uc _ (StableHlo.nullary_bufs_sub ..))) $$ [Hb Hh]
  · isplitl [Hb]; · iexact Hb
    iexact Hh
  iintro ⟨Hb, Hh⟩
  rw [wp_ret]; imodintro
  iapply (StableHlo.wp_hlo_within (Variants.lift Variants.none) (c : Thread nD τ) bd Set.univ (sub_uc _ (StableHlo.binary_bufs_sub ..))) $$ [Hb Hh]
  · isplitl [Hb]; · iexact Hb
    iexact Hh
  iintro ⟨Hb, Hh⟩
  rw [HostLoop.elt_apply, wp_ret]; imodintro
  isplitr
  · ipureintro
    change (IntOp.cmpi .slt (HloOp.result (StableHlo.nullary main_while0c_c_15 (constantI S_ 32 1#32)) (Wk (V c) k) main_v102_6 HostLoop.idx0)
      (HloOp.result (StableHlo.nullary main_while0c_c_15 (constantI S_ 32 1#32)) (Wk (V c) k) main_while0c_c_15 HostLoop.idx0) = 1#1) ↔ k < 1
    rw [StableHlo.nullary_result_ne _ _ _ _ (by decide), StableHlo.nullary_result, hctr]
    exact pred_iff k hk
  isplitl [Hb]; · iexact Hb
  isplitl [Hh]
  · change _ ⊢ held (c : Thread nD τ) (Pipeline.ucRefs τ sig) (after condOps (Wk (V c) k))
    rw [StableHlo.after_cons, StableHlo.after_cons, StableHlo.after_nil]
  iexact HR

variable (pdats : Fin 1 → PD (F := F))

/-- A stretch of the body as a segment. -/
abbrev ops (o : List (HloOp τ sig (Elt F))) (hs : o.Forall fun op => op.bufs ⊆ StableHlo.tcRefs τ sig) (hf : o.Forall fun op => op.fresh = ∅)
    (W : Dev nD → Valuation τ sig (Elt F)) : CSeg (pcfgs (F := F)) adm defs₀ Variants.none L lv loops (tk pdats EP) :=
  CSeg.ofOps _ _ _ _ _ _ _ _ (Pipeline.ucRefs τ sig) o (fun op h => sub_uc op ((List.forall_iff_forall_mem.mp hs) op h))
    (fun op h => (List.forall_iff_forall_mem.mp hf) op h) W R

theorem fresh0 : (while0Ops0 (F := F)).Forall fun op => op.fresh = ∅ := by simp only [List.Forall]; repeat' constructor
theorem fresh1 : (while0Ops0_1 (F := F)).Forall fun op => op.fresh = ∅ := by simp only [List.Forall]; repeat' constructor
theorem fresh2 : (while0Ops0_2 (F := F)).Forall fun op => op.fresh = ∅ := by simp only [List.Forall]; repeat' constructor
theorem fresh3 : (while0Ops0_3 (F := F)).Forall fun op => op.fresh = ∅ := by simp only [List.Forall]; repeat' constructor
theorem fresh4 : (while0Ops0_4 (F := F)).Forall fun op => op.fresh = ∅ := by simp only [List.Forall]; repeat' constructor
theorem fresh5 : (while0Ops0_5 (F := F)).Forall fun op => op.fresh = ∅ := by simp only [List.Forall]; repeat' constructor
theorem fresh6 : (while0Ops0_6 (F := F)).Forall fun op => op.fresh = ∅ := by simp only [List.Forall]; repeat' constructor
theorem fresh7 : (while0Ops0_7 (F := F)).Forall fun op => op.fresh = ∅ := by simp only [List.Forall]; repeat' constructor
theorem fresh8 : (while0Ops0_8 (F := F)).Forall fun op => op.fresh = ∅ := by simp only [List.Forall]; repeat' constructor

/-- The body's segments at step `k`. -/
def segs (k : ℕ) : List (CSeg (pcfgs (F := F)) adm defs₀ Variants.none L lv loops (tk pdats EP)) :=
  [ ops pdats while0Ops0 while0Ops0_sub fresh0 (fun c => X0 (Wk (V c) k)),
    ops pdats while0Ops0_1 while0Ops0_1_sub fresh1 (fun c => X1 (Wk (V c) k)),
    ops pdats while0Ops0_2 while0Ops0_2_sub fresh2 (fun c => X2 (Wk (V c) k)),
    ops pdats while0Ops0_3 while0Ops0_3_sub fresh3 (fun c => X3 (Wk (V c) k)),
    ops pdats while0Ops0_4 while0Ops0_4_sub fresh4 (fun c => X4 (Wk (V c) k)),
    ops pdats while0Ops0_5 while0Ops0_5_sub fresh5 (fun c => X5 (Wk (V c) k)),
    ops pdats while0Ops0_6 while0Ops0_6_sub fresh6 (fun c => X6 (Wk (V c) k)),
    ops pdats while0Ops0_7 while0Ops0_7_sub fresh7 (fun c => X7 (Wk (V c) k)),
    ops pdats while0Ops0_8 while0Ops0_8_sub fresh8 (fun c => X8 (Wk (V c) k)) ]

/-- No stretch takes a ticket or a trip. -/
theorem segs_plain (k : ℕ) : ∀ s ∈ segs V pdats k, s.M = 0 ∧ s.T = ∅ := by
  intro s hs
  simp only [segs, List.mem_cons, List.mem_nil_iff, _root_.or_false] at hs
  rcases hs with rfl | rfl | rfl | rfl | rfl | rfl | rfl | rfl | rfl <;> exact ⟨rfl, rfl⟩

set_option backward.isDefEq.respectTransparency.types false in
/-- The loop as one segment. -/
def loop (hV : ∀ c, V c main_v102_6 = fun _ => (0#32 : BitVec 32)) : CSeg (pcfgs (F := F)) adm defs₀ Variants.none L lv loops (tk pdats EP) :=
  CSeg.loop _ _ _ _ _ _ _ _
  { l := 0
    cond := main_while0_cond
    body := main_while0_body
    hloops := rfl
    n := 1
    inv := inv V
    mid := mid V
    hcond := fun k hk c bd => cond_spec V hV k hk c bd
    segs := segs V pdats
    hch := fun k _ => ⟨fun _ => .rfl, fun _ => .rfl, fun _ => .rfl, fun _ => .rfl, fun _ => .rfl, fun _ => .rfl, fun _ => .rfl, fun _ => .rfl, fun _ => .rfl, fun _ => .rfl⟩
    hbody := fun k _ c bd Q => by rw [while0_body_chain]; exact .rfl
    B := 0
    hM := fun k _ s hs => le_of_eq (segs_plain V pdats k s hs).1
    Tk := fun _ => ∅
    hT := fun k _ s hs => by rw [(segs_plain V pdats k s hs).2]
    hdisT := fun k _ => List.pairwise_iff_getElem.mpr fun i j hi _ _ => by
      rw [(segs_plain V pdats k _ (List.getElem_mem hi)).2]; exact Finset.disjoint_empty_left _
    hTk := fun _ _ _ _ => Finset.disjoint_empty_left _ }

end Loop

end Cert.StepLoopIdeal
end
end
-- ==== Proof.StepRun.lean ====
/-
  The sample group's projection and one step of its recurrent state at the ideal values: the product's array ends at the
  matrix product, its last column block cut at the array's end, and the loop's step is taken from there.
-/
module

public import proofs.«01_k».proof.Proof.StepLoopIdeal
public import proofs.«01_k».proof.Proof.Gen.Kernel6Ideal.Skeleton
public import proofs.«01_k».proof.Proof.Gen.Kernel6Ideal.Points
public import Idealize.ShloMosaic.Lib.Pipeline.FrameBody
public import Idealize.ShloMosaic.Lib.Pipeline.RegionArraysF
public import Idealize.ShloMosaic.Lib.Pipeline.RegionsForgetR
public import Idealize.ShloMosaic.Lib.Ring
public import Idealize.ShloMosaic.Lib.Tactic
public import Idealize.ShloMosaic.Lib.Pointwise
public import Idealize.ShloMosaic.Lib.Pipeline.Covers
public import Idealize.ShloMosaic.Lib.Pipeline.ValueKit

@[expose] public section
set_option maxRecDepth 16384
noncomputable section
namespace Cert.StepRun
open Cert.Kernel6Ideal Cert.Kernel6Ideal.Gen Cert.Kernel6Ideal.Gen.Cond Cert.StepLoopIdeal
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose CSeg)

local notation "𝕄" => MT nD τ sig Unit (Elt Ideal) ℕ U6 ℕ

variable (m : (ℓ : Loc nD τ sig) → Buf (Elt Ideal) ℓ) (ρ : Dev nD → PrngReg)

/-- A window's block at a point, of its array as the region finds it. -/
def iblk (c : Dev nD) (w : Fin cfg0.W) (t : Fin cfg0.N) : ((cfg0.win w).xblock (cfg0.grid.coords t)).Idx → Elt Ideal (cfg0.win w).elt :=
  ((cfg0.win w).blk t).view.read (Elt Ideal) (V1 m c (Pipeline.arrRef spec0 w))

/-- Offsets zero. -/
theorem zero2 : (![0, 0] : Fin 2 → Nat) = fun _ => 0 := funext fun a => by fin_cases a <;> rfl

set_option maxHeartbeats 1000000 in
/-- The body reads its two blocks, leaves them as they were, and the third buffer at their product. -/
theorem body_runs (c : Dev nD) (E : Set ℕ) (i : grid0.Coords) (a : Memref sig .tc .vmem S128x4096 .bf16) (ha : a.IsWhole)
    (b : Memref sig .tc .vmem S4096x1024 .bf16) (hb : b.IsWhole) (o : Memref sig .tc .vmem S128x1024 .f32) (ho : o.IsWhole)
    (x : Vec Ideal S128x4096 .bf16) (y : Vec Ideal S4096x1024 .bf16) (K : PUnit → sProp 𝕄) :
    iprop(owns (c : Thread nD τ) a fullShare x ∗ owns (c : Thread nD τ) b fullShare y ∗ (∃ d, owns (c : Thread nD τ) o fullShare d)
        ∗ (iprop(owns (c : Thread nD τ) a fullShare x ∗ owns (c : Thread nD τ) b fullShare y ∗ owns (c : Thread nD τ) o fullShare (k0_pay1 x y)) -∗ K ⟨⟩))
      ⊢ wp frame (wpE (defs₀ (F := Ideal)) Variants.none c none) E (cc0_matmul i a ha b hb o ho) K := by
  simp only [cc0_matmul_eq_skeleton]; unfold cc0_matmul_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (fun y => View.cover_of_tiled [⟨Rect.unit (s := S128x1024) ![0, 0] S128x1024.size inb_S128x1024_S128x1024_0_0, _⟩] S128x1024.size (by rfl) y)).trans ?_
  refine (View.canon_unit_zero (zero2) _ _).trans ?_
  refine congrArg₂ k0_pay1 ?_ ?_
  · exact View.ld_unit_zero zero2 _ _
  · exact View.ld_unit_zero zero2 _ _

/-- The left operand's array. -/
def lhs (c : Dev nD) : FVec Ideal S128x4096 .bf16 := V1 m c main_v6
/-- The right operand's array. -/
def rhs (c : Dev nD) : FVec Ideal S4096x25184 .bf16 := V1 m c main_v7
/-- Their product. -/
def prod (A : FVec Ideal S128x4096 .bf16) (B : FVec Ideal S4096x25184 .bf16) : FVec Ideal S128x25184 .f32 :=
  fun i => ∑ k : Fin 4096, A (ValueIdx.ix2 (i 0) k) * B (ValueIdx.ix2 k (i 1))

/-- No row of the right operand's block is cut. -/
theorem rows_whole (t : Fin cfg0.N) : win0_1.xsize (grid0.coords t) 0 = 4096 := by rfl

/-- An index of the right operand's moved block from an index of the product's. -/
def col (t : Fin cfg0.N) (k : Fin 4096) (y : (win0_2.xblock (grid0.coords t)).Idx) : (win0_1.xblock (grid0.coords t)).Idx :=
  fun a => match a with
    | ⟨0, _⟩ => ⟨k.val, lt_of_lt_of_eq k.isLt (rows_whole t).symm⟩
    | ⟨1, _⟩ => ⟨(y 1).val, by
        have h1 : (y 1).val < win0_2.xsize (grid0.coords t) 1 := (y 1).isLt
        exact h1⟩

/-- Where an element of the left operand's block lies. -/
theorem place_a (t : Fin cfg0.N) (y : (win0_2.xblock (grid0.coords t)).Idx) (k : Fin 4096) :
    (win0_0.blk t).view.emb (ix2 (win0_2.xinj (grid0.coords t) y 0) k : S128x4096.Idx) = ix2 ((win0_2.blk t).view.emb y 0) k := by
  funext a
  refine Fin.ext ?_
  fin_cases a
  · refine (win0_0.rect_emb_val t _ 0).trans ?_
    exact (win0_2.rect_emb_val t y 0).symm
  · exact win0_0.rect_emb_val_of_index_zero t 1 (by rfl) _

/-- Where an element of the right operand's block lies. -/
theorem place_b (t : Fin cfg0.N) (y : (win0_2.xblock (grid0.coords t)).Idx) (k : Fin 4096) :
    (win0_1.blk t).view.emb (col t k y) = ix2 k ((win0_2.blk t).view.emb y 1) := by
  funext a
  refine Fin.ext ?_
  fin_cases a
  · exact win0_1.rect_emb_val_of_index_zero t 0 (by rfl) _
  · refine (win0_1.rect_emb_val t _ 1).trans ?_
    exact (win0_2.rect_emb_val t y 1).symm

/-- A block of the product, inside the array: the product of the operands' blocks. -/
theorem block_prod (c : Dev nD) (t : Fin cfg0.N) (d : S4096x1024.Idx → Elt Ideal .bf16) (y : (win0_2.xblock (grid0.coords t)).Idx) :
    k0_pay1 (iblk m c 0 t) (win0_1.fill (grid0.coords t) d (iblk m c 1 t)) (win0_2.xinj (grid0.coords t) y)
      = prod (lhs m c) (rhs m c) ((win0_2.blk t).view.emb y) := by
  unfold k0_pay1 prod
  pointwise
  refine Finset.sum_congr rfl fun k _ => ?_
  refine congrArg₂ (· * ·) (congrArg (lhs m c) (place_a t y k)) ?_
  have hj : (ix2 k (win0_2.xinj (grid0.coords t) y 1) : S4096x1024.Idx) = win0_1.xinj (grid0.coords t) (col t k y) := by
    funext a
    fin_cases a <;> rfl
  refine (congrArg (win0_1.fill (grid0.coords t) d (iblk m c 1 t)) hj).trans ?_
  refine (win0_1.fill_xinj (grid0.coords t) d (iblk m c 1 t) (col t k y)).trans ?_
  exact congrArg (rhs m c) (place_b t y k)

/-- Past the array's end a block may hold anything. -/
def zerosB : S4096x1024.Idx → Elt Ideal .bf16 := fun _ => (0 : EReal)
def zerosO : S128x1024.Idx → Elt Ideal .f32 := fun _ => (0 : EReal)

/-- A block of the product at a point, as far as it lies inside the array. -/
def oblk (c : Dev nD) (t : Fin cfg0.N) : (win0_2.xblock (grid0.coords t)).Idx → Elt Ideal .f32 :=
  fun y => prod (lhs m c) (rhs m c) ((win0_2.blk t).view.emb y)

/-- The body's product, cut at the array's end. -/
theorem cut_prod (c : Dev nD) (t : Fin cfg0.N) (d : S4096x1024.Idx → Elt Ideal .bf16) :
    win0_2.cut (grid0.coords t) (k0_pay1 (iblk m c 0 t) (win0_1.fill (grid0.coords t) d (iblk m c 1 t))) = oblk m c t :=
  funext fun y => block_prod m c t d y

/-- The run's data: the operands' blocks where they are, the product's block where the body has written it. -/
def dat (c : Dev nD) : Dat τ (Elt Ideal) Unit ℕ U6 ℕ cfg0 c where
  A w := V1 m c (Pipeline.arrRef spec0 w)
  after w t := match w with
    | ⟨0, _⟩ => iblk m c 0 t
    | ⟨1, _⟩ => win0_1.fill (grid0.coords t) zerosB (iblk m c 1 t)
    | ⟨2, _⟩ => win0_2.fill (grid0.coords t) zerosO (oblk m c t)
  Φ _ := Pipeline.ΦA spec0 c
  q _ := fullShare
  owed _ := 0

/-- The arrays at the region's entry. -/
theorem A_eq (c : Dev nD) (w : Fin cfg0.W) : (dat m c).A w = V1 m c (Pipeline.arrRef spec0 w) := by
  dsimp only [dat]

/-- The first operand's buffer holds its block at every point. -/
theorem before_a (c : Dev nD) (t : Fin cfg0.N) (d) : (dat m c).before 0 t d = iblk m c 0 t :=
  ((dat m c).before_in_eq_fetched 0 rfl (fun _ => rfl) (fun _ _ _ => rfl) (fun t => rfl) t d).trans rfl

/-- The second operand's buffer, just fetched: its block inside the array, anything past it. -/
theorem before_b (c : Dev nD) (t : Fin cfg0.N) (d) :
    (dat m c).before 1 t d = win0_1.fill (grid0.coords t) d (iblk m c 1 t) := by
  unfold Dat.before; rw [if_pos (fetch0_1 t)]; rfl

/-- What the body leaves of the second operand's block is that block. -/
theorem cut_b (c : Dev nD) (t : Fin cfg0.N) :
    win0_1.cut (grid0.coords t) ((dat m c).after 1 t) = iblk m c 1 t := by
  have e : (dat m c).after 1 t = win0_1.fill (grid0.coords t) zerosB (iblk m c 1 t) := by dsimp only [dat]
  rw [e]
  exact win0_1.cut_fill (grid0.coords t) zerosB (iblk m c 1 t)

/-- What it leaves of the product's block is the product's. -/
theorem cut_o (c : Dev nD) (t : Fin cfg0.N) :
    win0_2.cut (grid0.coords t) ((dat m c).after 2 t) = oblk m c t := by
  have e : (dat m c).after 2 t = win0_2.fill (grid0.coords t) zerosO (oblk m c t) := by dsimp only [dat]
  rw [e]
  exact win0_2.cut_fill (grid0.coords t) zerosO (oblk m c t)

/-- The body table's row at a point. -/
theorem row (t : Fin cfg0.N) : defs₀ (F := Ideal) .tc cfg0.body (cfg0.bodyArgs t (cfg0.slots t)) = bodyAt0 t := by
  unfold defs₀; rw [Defs.onTc_tc]

/-- The body at every point. -/
theorem obligation (c : Dev nD) : BodyObligationLoose (dat m c) (defs₀ (F := Ideal)) Variants.none () Set.univ := fun t => by
  rw [bigSep_W0, bigSep_W0, row]
  rw [show (dat m c).Φ t.succ = (dat m c).Φ t.castSucc from rfl,
    show (dat m c).owesAt () t.succ = (dat m c).owesAt () t.castSucc from rfl]
  iintro ⟨HΦ, Ho, ⟨%d0, H0⟩, ⟨%d1, H1⟩, ⟨%d2, H2⟩⟩
  rw [before_a m c t d0, before_b m c t d1]
  iapply (body_runs c Set.univ (grid0.coords t) _ _ _ _ _ _ (iblk m c 0 t) (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]
  · iexists d1
    change _ ⊢ owns (c : Thread nD τ) (st0_1 t) fullShare (win0_1.fill (grid0.coords t) d1 (win0_1.cut (grid0.coords t) ((dat m c).after 1 t)))
    rw [cut_b]
  iexists (k0_pay1 (iblk m c 0 t) (win0_1.fill (grid0.coords t) d1 (iblk m c 1 t)))
  change _ ⊢ owns (c : Thread nD τ) (st0_2 t) fullShare (win0_2.fill (grid0.coords t)
    (k0_pay1 (iblk m c 0 t) (win0_1.fill (grid0.coords t) d1 (iblk m c 1 t))) (win0_2.cut (grid0.coords t) ((dat m c).after 2 t)))
  rw [cut_o, ← cut_prod m c t d1, win0_2.fill_cut]

/-- The product's blocks cover its array. -/
theorem covers : (cfg0.win 2).Covers := by decide +kernel

/-- The product's array after the grid is the matrix product. -/
theorem arr_prod (c : Dev nD) : (dat m c).arrAt 2 cfg0.N = prod (lhs m c) (rhs m c) :=
  Dat.arrAt_eq_of_covers (dat m c) 2 (prod (lhs m c) (rhs m c)) covers fun t _ y => congrFun (cut_o m c t) y

/-- Nothing is forgotten. -/
def fgt : Fin cfg0.W → Bool := fun _ => false

/-- The product's array is known. -/
def Known (m : (ℓ : Loc nD τ sig) → Buf (Elt Ideal) ℓ) (outs : Outs (F := Ideal)) (c : Dev nD) : Prop :=
  outs 2 (Proc.devRef .tc main_v8) c = prod (lhs m c) (rhs m c)

/-- The region's proof data by pipeline. -/
def pdats : PD (F := Ideal)
  | ⟨0, _⟩ => fun c => dat m c

/-- What is forgotten, by pipeline. -/
def fg : (q : Fin 1) → Fin (Pipeline.pin (pcfgs (F := Ideal)) adm q).W → Bool
  | ⟨0, _⟩ => fgt

/-- The facts kept between the items: after the product, `Known`; after the loop, also the state that its one step leaves. -/
def I : Fin 3 → Outs (F := Ideal) → Dev nD → Prop
  | ⟨0, _⟩ => fun _ _ => True
  | ⟨1, _⟩ => fun outs c => Known m outs c
  | ⟨2, _⟩ => fun outs c => Known m outs c ∧ outs 8 (Proc.devRef .tc main_v102_7) c = Xend (V7 m outs c) main_v102_7

/-- The unknowns that say: the product's array holds `A`. -/
def named (A : S128x25184.Idx → Elt Ideal .f32) : Outs (F := Ideal) := fun _ b c => Function.update (V1 m c) (Proc.devRef .tc main_v8) A b

theorem named_at (A : S128x25184.Idx → Elt Ideal .f32) (c : Dev nD) : named m A 2 (Proc.devRef .tc main_v8) c = A := Function.update_self ..
theorem V2_at (A : S128x25184.Idx → Elt Ideal .f32) (c : Dev nD) : V2 m (named m A) c (Proc.devRef .tc main_v8) = A :=
  (Function.update_self ..).trans (named_at m A c)

/-- The region leaves it so. -/
theorem known (c : Dev nD) (A : (w : Fin cfg0.W) → Buf (Elt Ideal) ((cfg0.win w).arr.view.loc (c.tc : Thread nD τ)))
    (hA : ∀ w, fgt w = false → A w = (dat m c).arrAt w cfg0.N) : I m 1 (named m (A 2)) c :=
  (named_at m (A 2) c).trans ((hA 2 rfl).trans (arr_prod m c))

set_option backward.isDefEq.respectTransparency.types false in
set_option maxHeartbeats 1000000 in
/-- The product's region between the thread states: it takes its arrays out of the buffers and puts them back. -/
def reg : Pipeline.RDat.RegionSeg (pcfgs (F := Ideal)) adm (fun q c => (pdats m q c).toRForget (fg q)) () defs₀ Variants.none L lv 0 where
  win := launch0.win.to₀
  block_pos := launch0.block_pos
  stage_whole := launch0.stage_whole
  K := PEmpty
  osem k := k.elim
  ho := Pipeline.OwnSemFacts.none _
  hbody c := (obligation m c).toRForget
  hwaits := Pipeline.RDat.hwaits_of_owed_zero _ _ _ _ L lv 0 fun _ _ => rfl
  pre c := iprop(StableHlo.held (c : Thread nD τ) (Pipeline.ucRefs τ sig) (V1 m c) ∗ R c)
  post c := iprop(∃ outs, StableHlo.held (c : Thread nD τ) (Pipeline.ucRefs τ sig) (V2 m outs c) ∗ ⌜I m 1 outs c⌝ ∗ R c)
  X c := iprop(∃ r, prngReg c r)
  Y c := iprop(∃ r, prngReg c r)
  Z c := Pipeline.unscopedRest (Ix := Unit) (Name := ℕ) (U := U6) (Lvl := ℕ) spec0 c (fun b => V1 m c b)
  hentry c := by
    show _ ⊢ |={Set.univ}=> iprop((pdats m 0 c).arrays ((pdats m 0 c).arrAt · 0) ∗ Pipeline.prefHeld (pcfgs (F := Ideal) 0).pre c (fun _ => fullShare) ((adm (F := Ideal)) 0).1
        ∗ (pdats m 0 c).owesAt () 0 ∗ _ ∗ _)
    rw [Pipeline.ownSems0_none]
    have hsplit := Pipeline.arrays_of_unscopedBufs (p := 0) (pcfgs (F := Ideal)) adm (pdats m) launch0.win launch0.arr_whole c
      ((pdats m 0 c).share_full fun _ => rfl) (fun b => V1 m c b) (A_eq m c)
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    change _ ⊢ Pipeline.ΦA spec0 c
    unfold Pipeline.ΦA
    iintro ⟨Hp, -, Hr⟩
    isplitl [Hr]; · iexact Hr
    iexact Hp
  hout c := by
    rw [Pipeline.ownSems0_none]
    change Pipeline.ΦA spec0 c ⊢ _
    unfold Pipeline.ΦA
    iintro ⟨Hr, Hp⟩
    isplitl [Hp]; · iexact Hp
    isplitr; · iempintro
    iexact Hr
  hexit c := by
    show iprop(((pdats m 0 c).toRForget (fg 0)).arraysAt cfg0.N ∗ (pdats m 0 c).owesAt () (Fin.last cfg0.N) ∗ _ ∗ _) ⊢ _
    iintro ⟨Ha, HO, HY, Hrest⟩
    ihave Ha := ((pdats m 0 c).arraysAt_forget (fg 0) cfg0.N) $$ Ha
    icases Ha with ⟨%A, %hA, Ha⟩
    have hF : ∀ w, A w = V2 m (named m (A 2)) c (Pipeline.arrRef spec0 w) := fun w => by
      fin_cases w
      · refine (hA 0 rfl).trans (((pdats m 0 c).arrAt_in 0 rfl _).trans ((A_eq m c 0).trans ?_))
        exact (V2_of m _ c main_v6 (by decide)).symm
      · refine (hA 1 rfl).trans (((pdats m 0 c).arrAt_in 1 rfl _).trans ((A_eq m c 1).trans ?_))
        exact (V2_of m _ c main_v7 (by decide)).symm
      · exact (V2_at m (A 2) c).symm
    have hrest : ∀ b, b ∉ Finset.univ.image (Pipeline.arrRef spec0) → V2 m (named m (A 2)) c b = V1 m c b := fun b hb =>
      V2_of m _ c b fun h => hb (Finset.mem_image.mpr ⟨2, Finset.mem_univ _, (List.mem_singleton.mp h).symm⟩)
    have hjoin := Pipeline.unscopedBufs_of_arrays (p := 0) (pcfgs (F := Ideal)) adm (Ix := Unit) (Name := ℕ) (U := U6) (Lvl := ℕ)
      launch0.win launch0.arr_whole c (pdats m) ((pdats m 0 c).share_full fun _ => rfl)
      (fun b => V1 m c b) (fun b => V2 m (named m (A 2)) c b) A hF hrest
    rw [Pipeline.unscopedBufs_held] at hjoin
    imodintro
    iexists (named m (A 2))
    isplitl [Ha Hrest]
    · iapply hjoin; isplitl [Ha] <;> iassumption
    isplitr
    · ipureintro
      exact known m c A hA
    isplitl [HY]; · iexact HY
    unfold Pipeline.Dat.owesAt Pipeline.owesWithin
    icases HO with ⟨%W, -, HO⟩; iexists W; iexact HO

/-- The counter is zero where the loop begins. -/
theorem start_ctr (outs : Outs (F := Ideal)) (c : Dev nD) : V7 m outs c main_v102_6 = fun _ => (0#32 : BitVec 32) := by
  show StableHlo.after hostOps1_4 (V6 m outs c) main_v102_6 = _
  generalize V6 m outs c = V
  after_results; rfl

/-- The product as one segment of the run. -/
def C0 : CSeg (pcfgs (F := Ideal)) adm defs₀ Variants.none L lv loops (tk (fun _ => pdats m) EP) :=
  CSeg.regionAtR (pcfgs (F := Ideal)) adm () cellOf_inj defs₀ Variants.none L lv loops (tk (fun _ => pdats m) EP) 0
    (fun q c => (pdats m q c).toRForget (fg q)) (reg m)

/-- The loop as one segment, from whatever the product left. -/
def LS0 : CSeg (pcfgs (F := Ideal)) adm defs₀ Variants.none L lv loops (tk (fun _ => pdats m) EP) :=
  CSeg.exSel (I m 1) (fun o => loop (fun c => V7 m o c) (fun _ => pdats m) (start_ctr m o)) (HostLoop.enter 0) (fun _ => rfl)
    2 (fun _ => le_rfl) ∅ (fun _ => rfl)

/-- The unknowns after the loop: those before it, and what it leaves. -/
def stepped (o : Outs (F := Ideal)) : Outs (F := Ideal) := fun j b c => if j = 8 then Xend (V7 m o c) b else o j b c

theorem V7_stepped (o : Outs (F := Ideal)) (c : Dev nD) : V7 m (stepped m o) c = V7 m o c := by
  have h : V2 m (stepped m o) c = V2 m o c := rfl
  simp only [V7, V6, V5, V4, V3, h]

/-- What the loop may not change it leaves. -/
theorem V8_stepped (o : Outs (F := Ideal)) (c : Dev nD) : ∀ b ∈ Pipeline.ucRefs τ sig, V8 m (stepped m o) c b = Xend (V7 m o c) b := by
  refine Pipeline.eqOn_ucRefs fun r => ?_
  by_cases hr : r ∈ W8
  · show (if _ then _ else _) = _
    rw [if_pos (List.mem_map.mpr ⟨r, hr, rfl⟩)]
    rfl
  · rw [V8_of m _ c r hr, V7_stepped]
    exact ((kept_cond _ r hr).trans (kept _ r hr)).symm

/-- The loop keeps it so. -/
theorem known_stepped (o : Outs (F := Ideal)) (c : Dev nD) (h : I m 1 o c) : Known m (stepped m o) c := h

/-- What holds of the buffers at the end of the run. -/
theorem run : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ (r.2.sem = fun _ => 0)
      ∧ ∀ c : Dev nD, ∃ outs : Outs (F := Ideal), I m 2 outs c ∧ ∀ b ∈ (Pipeline.ucRefs τ sig), r.2.mem ((c : Thread nD τ).1, b) = V9 m outs c b) :=
  frame_condFQR m EP Variants.none L lv (fun _ _ => rfl) ρ (fun _ => pdats m) 0 (fun _ => iprop(emp))
    (initOf (Pipeline.cells cfgs cellOf_inj) (Pipeline.launchToks cfgs cellOf_inj))
    (hu₀ := by
      iintro Hu; imodintro
      isplitl [Hu]
      · rw [BI.bigSep_univ_of_subsingleton (0 : Fin 1)]
        iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (I m) (fun _ b c => V1 m c b) (fun _ => trivial) (fun _ => R)
    (hE0 := by
      refine Pipeline.initEach L lv fun c => ?_
      iintro ⟨⟨-, HO, -, Hp, -⟩, -⟩
      imodintro
      isplitl [Hp]; · iexists _; iexact Hp
      iexists ∅; iexact HO)
    (fun _ => iprop(emp))
    (hE2 := fun c => by
      iintro ⟨-, HO⟩
      isplitr; · iempintro
      iexact HO)
    (hEQ := fun c s' => by
      iintro ⟨-, HSI⟩
      imodintro
      isplitr; · ipureintro; exact fun sm h => absurd ((regions_no_unscoped sm).symm.trans h) (by decide)
      iexact HSI)
    (C0 m) rfl rfl
    (hC0_pre := fun c => by
      change _ ⊢ iprop(StableHlo.held (c : Thread nD τ) (Pipeline.ucRefs τ sig) (V1 m c) ∗ R c)
      iintro ⟨%o, Hh, -, HR⟩
      isplitl [Hh]; · iexact Hh
      iexact HR)
    (hC0_post := fun c => .rfl)
    (LS0 m) rfl rfl
    (hLS0_pre := fun c => CSeg.exSel_pre c fun o _ => .rfl)
    (hLS0_post := fun c => CSeg.exSel_post c fun o ho =>
      Pipeline.held_ex_intro (c : Thread nD τ) (Pipeline.ucRefs τ sig) (fun o => V8 m o c) (fun o => I m 2 o c) (R c) (stepped m o)
        (Xend (V7 m o c)) (V8_stepped m o c) ⟨known_stepped m o c ho, by rw [V7_stepped]; rfl⟩)

/-- The frame: the arguments end unchanged and every counter ends at zero. -/
theorem frame : θ_run defs (onTc (τ := τ) (main (F := Ideal))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13))
      ∧ r.2.sem = fun _ => 0) :=
  (θ_run defs _ _).mono (fun _ h => ⟨h.1, h.2.1⟩) (run m ρ)

end Cert.StepRun
end
end
-- ==== Proof.StepValue.lean ====
/-
  The state after one step, as a function of the arguments: the kernel's and the reference's.
-/
module

public import proofs.«01_k».proof.Proof.StepRun
public import proofs.«01_k».proof.Proof.Gen.Reference6Ideal.Run
public import Idealize.ShloMosaic.Lib.DynamicIndex

@[expose] public section
set_option maxRecDepth 16384
noncomputable section
namespace Cert.StepValue
open Cert.Kernel6Ideal Cert.Kernel6Ideal.Gen Cert.Kernel6Ideal.Gen.Cond Cert.StepLoopIdeal Cert.StepRun
open Idealize.ShloMosaic Idealize.ShloMosaic.TcCoe Idealize.SL.Sem
open Idealize.ShloMosaic.StableHlo (after)

variable (m : (ℓ : Loc nD τ sig) → Buf (Elt Ideal) ℓ) (ρ : Dev nD → PrngReg)

/-- The tokens, modulated. -/
def modulated (x shift scale : FVec Ideal S128x1x4096 .f32) : FVec Ideal S128x1x4096 .f32 :=
  addf (mulf x (addf (broadcastInDim S128x1x4096 ![] bcast_S_S128x1x4096 (constant S_ .f32 0x3F800000#32)) scale)) shift
/-- The weights, without their leading axis. -/
def weights (w : FVec Ideal S1x4096x25184 .f32) : FVec Ideal S4096x25184 .f32 :=
  shapeCast S4096x25184 w shapeCasts_S1x4096x25184_S4096x25184
/-- The projected tokens: the kernel's product, by tokens. -/
def projected (h : FVec Ideal S128x1x4096 .f32) (w : FVec Ideal S4096x25184 .f32) : FVec Ideal S128x1x25184 .f32 :=
  shapeCast S128x1x25184 (prod (truncf .bf16 (shapeCast S128x4096 h shapeCasts_S128x1x4096_S128x4096 : FVec Ideal S128x4096 .f32) bitsLt_bf16_f32)
    (truncf .bf16 w bitsLt_bf16_f32)) shapeCasts_S128x25184_S128x1x25184

/-- The reference's product is the kernel's. -/
theorem dot_eq (h : FVec Ideal S128x1x4096 .f32) (w : FVec Ideal S4096x25184 .f32) :
    Host.dotGeneral Cert.Reference6Ideal.dot_S128x1x4096_S4096x25184_S128x1x25184_2_0_01_1_n_n none h w = projected h w := by
  funext i; idx_vars i
  pointwise [projected, prod]
  obtain rfl : i1 = 0 := Subsingleton.elim _ _
  rfl

/-- A row of numbers, at every token. -/
abbrev row (v : FVec Ideal S1x2048 .f32) : FVec Ideal S128x1x2048 .f32 :=
  broadcastInDim S128x1x2048 ![0, 1, 2] bcast_S1x1x2048_S128x1x2048_0_1_2
    (broadcastInDim S1x1x2048 ![2] bcast_S2048_S1x1x2048_2 (shapeCast S2048 v shapeCasts_S1x2048_S2048))
/-- One number everywhere. -/
abbrev all (b : BitVec 32) : FVec Ideal S128x1x2048 .f32 := broadcastInDim S128x1x2048 ![] bcast_S_S128x1x2048 (constant S_ .f32 b)
/-- Two columns' products. -/
abbrev lora (z : FVec Ideal S128x1x96 .f32) (w : FVec Ideal S1x96x2048 .f32) : FVec Ideal S128x1x2048 .f32 :=
  Host.dotGeneral dot_S128x1x96_S96x2048_S128x1x2048_2_0_01_1_n_n none z (shapeCast S96x2048 w shapeCasts_S1x96x2048_S96x2048)
/-- A token's columns by heads. -/
abbrev heads (t : FVec Ideal S128x1x2048 .f32) : FVec Ideal S128x1x32x64 .f32 := shapeCast S128x1x32x64 t shapeCasts_S128x1x2048_S128x1x32x64

/-- The recurrence's columns of the projected tokens, each mixed with the token before it. -/
def mixed (P : FVec Ideal S128x1x25184 .f32) (prev : FVec Ideal S1x128x6592 .f32) (mu : FVec Ideal S1x6592 .f32) : FVec Ideal S128x1x6592 .f32 :=
  addf (extractStridedSlice S128x1x6592 ![0, 0, 0] P slices_S128x1x25184_S128x1x6592_0_0_0)
    (mulf (subf (concatenate S128x1x6592 1
          [⟨S128x1x6592, broadcastInDim S128x1x6592 ![0, 2] bcast_S128x6592_S128x1x6592_0_2 (shapeCast S128x6592 prev shapeCasts_S1x128x6592_S128x6592)⟩,
            ⟨S128x0x6592, extractStridedSlice S128x0x6592 ![0, 0, 0] (extractStridedSlice S128x1x6592 ![0, 0, 0] P slices_S128x1x25184_S128x1x6592_0_0_0)
              slices_S128x1x6592_S128x0x6592_0_0_0⟩] concatenates_S128x1x6592_S128x0x6592_S128x1x6592_d1)
        (extractStridedSlice S128x1x6592 ![0, 0, 0] P slices_S128x1x25184_S128x1x6592_0_0_0))
      (broadcastInDim S128x1x6592 ![0, 1, 2] bcast_S1x1x6592_S128x1x6592_0_1_2
        (broadcastInDim S1x1x6592 ![2] bcast_S6592_S1x1x6592_2 (shapeCast S6592 mu shapeCasts_S1x6592_S6592))))

/-- What the decay is computed from. -/
def logit (z : FVec Ideal S128x1x6592 .f32) (w0 : FVec Ideal S1x2048 .f32) (w2 : FVec Ideal S1x96x2048 .f32) : FVec Ideal S128x1x2048 .f32 :=
  Host.negf (addf (row w0) (lora (Host.tanh (extractStridedSlice S128x1x96 ![0, 0, 6144] z slices_S128x1x6592_S128x1x96_0_0_6144)) w2))
/-- The smooth ramp, as both compute it. -/
def ramp (x : FVec Ideal S128x1x2048 .f32) : FVec Ideal S128x1x2048 .f32 :=
  select (cmpf .une (subf x (all 0x00000000#32)) (subf x (all 0x00000000#32))) (addf x (all 0x00000000#32))
    (addf (maximumf x (all 0x00000000#32)) (Host.log1p (Host.exp (Host.negf (Host.absf (subf x (all 0x00000000#32)))))))
/-- The decay before its last exponential. -/
def rate (s : FVec Ideal S128x1x2048 .f32) : FVec Ideal S128x1x2048 .f32 := Host.negf (Host.exp (subf (Host.negf s) (all 0x3F000000#32)))
/-- How much of the state's own part is replaced. -/
def amount (z : FVec Ideal S128x1x96 .f32) (a0 : FVec Ideal S1x2048 .f32) (a2 : FVec Ideal S1x96x2048 .f32) : FVec Ideal S128x1x2048 .f32 :=
  Host.divf (all 0x3F800000#32) (addf (all 0x3F800000#32) (Host.exp (Host.negf (addf (row a0) (lora z a2)))))
/-- The directions, before they are normed, -/
def dirs (k : FVec Ideal S128x1x2048 .f32) (kk : FVec Ideal S1x2048 .f32) : FVec Ideal S128x1x32x64 .f32 := heads (mulf k (row kk))
/-- their lengths, -/
def lengths (d : FVec Ideal S128x1x32x64 .f32) : FVec Ideal S128x1x32x1 .f32 :=
  Host.sqrt (broadcastInDim S128x1x32x1 ![0, 1, 2] bcast_S128x1x32_S128x1x32x1_0_1_2
    (Host.reduceAdd (mulf d d) (constant S_ .f32 0x00000000#32) reducesTo_S128x1x32x64_S128x1x32_d3 h_S_))
/-- and the directions normed. -/
def normed (d : FVec Ideal S128x1x32x64 .f32) (l : FVec Ideal S128x1x32x1 .f32) : FVec Ideal S128x1x32x64 .f32 :=
  Host.divf d (broadcastInDim S128x1x32x64 ![0, 1, 2, 3] bcast_S128x1x32x1_S128x1x32x64_0_1_2_3
    (maximumf l (broadcastInDim S128x1x32x1 ![] bcast_S_S128x1x32x1 (constant S_ .f32 0x2B8CBCCC#32))))
/-- The keys, rescaled. -/
def key (k a : FVec Ideal S128x1x2048 .f32) (ka : FVec Ideal S1x2048 .f32) : FVec Ideal S128x1x2048 .f32 :=
  mulf k (addf (all 0x3F800000#32) (mulf (subf a (all 0x3F800000#32)) (row ka)))

/-- The one time index of a token's heads. -/
abbrev now (t : FVec Ideal S128x1x32x64 .f32) : FVec Ideal S128x32x64 .f32 := shapeCast S128x32x64 t Cert.Reference6Ideal.Facts₀.shapeCasts_S128x1x32x64_S128x32x64
/-- A vector per head as the state's columns, -/
abbrev across (t : FVec Ideal S128x32x64 .f32) : FVec Ideal S128x32x64x64 .f32 :=
  broadcastInDim S128x32x64x64 ![0, 1, 2, 3] bcast_S128x32x1x64_S128x32x64x64_0_1_2_3 (broadcastInDim S128x32x1x64 ![0, 1, 3] bcast_S128x32x64_S128x32x1x64_0_1_3 t)
/-- and as its rows. -/
abbrev along (t : FVec Ideal S128x32x64 .f32) : FVec Ideal S128x32x64x64 .f32 :=
  broadcastInDim S128x32x64x64 ![0, 1, 2, 3] bcast_S128x32x64x1_S128x32x64x64_0_1_2_3 (broadcastInDim S128x32x64x1 ![0, 1, 2] bcast_S128x32x64_S128x32x64x1_0_1_2 t)
/-- One step of the state. -/
def step (S : FVec Ideal S128x32x64x64 .f32) (w k v a b : FVec Ideal S128x32x64 .f32) : FVec Ideal S128x32x64x64 .f32 :=
  addf (addf (mulf S (across w)) (mulf (along (Host.dotGeneral dot_S128x32x64x64_S128x32x64_S128x32x64_3_2_2_n_01_01 none S a)) (across b)))
    (mulf (along v) (across k))

/-- A part of the mixed columns. -/
abbrev keys (z : FVec Ideal S128x1x6592 .f32) : FVec Ideal S128x1x2048 .f32 := extractStridedSlice S128x1x2048 ![0, 0, 2048] z slices_S128x1x6592_S128x1x2048_0_0_2048
abbrev vals (z : FVec Ideal S128x1x6592 .f32) : FVec Ideal S128x1x2048 .f32 := extractStridedSlice S128x1x2048 ![0, 0, 4096] z slices_S128x1x6592_S128x1x2048_0_0_4096
abbrev amts (z : FVec Ideal S128x1x6592 .f32) : FVec Ideal S128x1x96 .f32 := extractStridedSlice S128x1x96 ![0, 0, 6240] z slices_S128x1x6592_S128x1x96_0_0_6240

/-- The state after the step, of the mixed columns and the state before it. -/
def stepped (z : FVec Ideal S128x1x6592 .f32) (S : FVec Ideal S1x128x32x64x64 .f32) (w0 : FVec Ideal S1x2048 .f32) (w2 : FVec Ideal S1x96x2048 .f32)
    (a0 : FVec Ideal S1x2048 .f32) (a2 : FVec Ideal S1x96x2048 .f32) (kk ka : FVec Ideal S1x2048 .f32) : FVec Ideal S1x128x32x64x64 .f32 :=
  broadcastInDim S1x128x32x64x64 ![1, 2, 3, 4] bcast_S128x32x64x64_S1x128x32x64x64_1_2_3_4
    (step (shapeCast S128x32x64x64 S shapeCasts_S1x128x32x64x64_S128x32x64x64)
      (now (heads (Host.exp (rate (ramp (logit z w0 w2))))))
      (now (heads (key (keys z) (amount (amts z) a0 a2) ka)))
      (now (heads (vals z)))
      (now (Host.negf (normed (dirs (keys z) kk) (lengths (dirs (keys z) kk)))))
      (now (mulf (normed (dirs (keys z) kk) (lengths (dirs (keys z) kk))) (heads (amount (amts z) a0 a2)))))

section Reference
variable (n : (ℓ : Loc Cert.Reference6Ideal.nD Cert.Reference6Ideal.τ Cert.Reference6Ideal.sig) → Buf (Elt Ideal) ℓ) (c : Dev Cert.Reference6Ideal.nD)

/-- The reference's state after the step. -/
theorem reference_state : Cert.Reference6Ideal.Value.res_out0 n c
    = stepped (mixed (projected (modulated (n ((c.tc : Thread Cert.Reference6Ideal.nD Cert.Reference6Ideal.τ).loc Cert.Reference6Ideal.main_arg0)) (n ((c.tc : Thread Cert.Reference6Ideal.nD Cert.Reference6Ideal.τ).loc Cert.Reference6Ideal.main_arg1))
        (n ((c.tc : Thread Cert.Reference6Ideal.nD Cert.Reference6Ideal.τ).loc Cert.Reference6Ideal.main_arg2))) (weights (n ((c.tc : Thread Cert.Reference6Ideal.nD Cert.Reference6Ideal.τ).loc Cert.Reference6Ideal.main_arg5))))
        (n ((c.tc : Thread Cert.Reference6Ideal.nD Cert.Reference6Ideal.τ).loc Cert.Reference6Ideal.main_arg3)) (n ((c.tc : Thread Cert.Reference6Ideal.nD Cert.Reference6Ideal.τ).loc Cert.Reference6Ideal.main_arg6)))
      (n ((c.tc : Thread Cert.Reference6Ideal.nD Cert.Reference6Ideal.τ).loc Cert.Reference6Ideal.main_arg4)) (n ((c.tc : Thread Cert.Reference6Ideal.nD Cert.Reference6Ideal.τ).loc Cert.Reference6Ideal.main_arg7))
      (n ((c.tc : Thread Cert.Reference6Ideal.nD Cert.Reference6Ideal.τ).loc Cert.Reference6Ideal.main_arg8)) (n ((c.tc : Thread Cert.Reference6Ideal.nD Cert.Reference6Ideal.τ).loc Cert.Reference6Ideal.main_arg9))
      (n ((c.tc : Thread Cert.Reference6Ideal.nD Cert.Reference6Ideal.τ).loc Cert.Reference6Ideal.main_arg10)) (n ((c.tc : Thread Cert.Reference6Ideal.nD Cert.Reference6Ideal.τ).loc Cert.Reference6Ideal.main_arg11))
      (n ((c.tc : Thread Cert.Reference6Ideal.nD Cert.Reference6Ideal.τ).loc Cert.Reference6Ideal.main_arg12)) := by
  rw [← dot_eq]
  show Cert.Reference6Ideal.Value.res_main_v111 n c = _
  unfold Cert.Reference6Ideal.Value.res_main_v111
  rfl

end Reference

/-- A step's part of an array with one step is the whole of it. -/
theorem slice_whole (x : FVec Ideal S1x128x32x64 .f32) (start : Fin 4 → Int) :
    Host.dynamicSlice S1x128x32x64 x start sliceFits_S1x128x32x64_S1x128x32x64 = x := by
  refine (Host.dynamicSlice_eq_extractStridedSlice_of_clamp S1x128x32x64 x start _ (fun _ => 0) (fun a => ?_) sliceFits_S1x128x32x64_S1x128x32x64).trans ?_
  · rw [show S1x128x32x64.size a - S1x128x32x64.size (a.cast rfl) = 0 from Nat.sub_self _, Nat.cast_zero, min_eq_right (le_max_right _ _)]
    rfl
  · funext i; idx_vars i
    pointwise
    obtain rfl : i0 = 0 := Subsingleton.elim _ _
    rfl

/-- Time first or second, one time index. -/
theorem now_eq (t : FVec Ideal S128x1x32x64 .f32) :
    shapeCast S128x32x64 (transpose S1x128x32x64 [1, 0, 2, 3] t transposes_S128x1x32x64_S1x128x32x64_1_0_2_3) shapeCasts_S1x128x32x64_S128x32x64 = now t := by
  funext i; idx_vars i
  pointwise

variable (V : Valuation τ sig (Elt Ideal))

/-- The lines after the product. -/
theorem lines1 (P : FVec Ideal S128x25184 .f32) (hP : V main_v8 = P) (prev : FVec Ideal S1x128x6592 .f32) (hp : V main_arg3 = prev) (mu : FVec Ideal S1x6592 .f32) (hm : V main_arg6 = mu) :
    after hostOps1 V main_v53 = logit (mixed (shapeCast S128x1x25184 P shapeCasts_S128x25184_S128x1x25184) prev mu) (V main_arg7) (V main_arg8)
    ∧ after hostOps1 V main_v43 = keys (mixed (shapeCast S128x1x25184 P shapeCasts_S128x25184_S128x1x25184) prev mu)
    ∧ after hostOps1 V main_v44 = vals (mixed (shapeCast S128x1x25184 P shapeCasts_S128x25184_S128x1x25184) prev mu)
    ∧ after hostOps1 V main_v46 = amts (mixed (shapeCast S128x1x25184 P shapeCasts_S128x25184_S128x1x25184) prev mu)
    ∧ after hostOps1 V main_v25 = shapeCast S128x32x64x64 (V main_arg4 : FVec Ideal S1x128x32x64x64 .f32) shapeCasts_S1x128x32x64x64_S128x32x64x64
    ∧ after hostOps1 V main_v29 = shapeCast S2048 (V main_arg9 : FVec Ideal S1x2048 .f32) shapeCasts_S1x2048_S2048
    ∧ after hostOps1 V main_v30 = shapeCast S96x2048 (V main_arg10 : FVec Ideal S1x96x2048 .f32) shapeCasts_S1x96x2048_S96x2048
    ∧ after hostOps1 V main_v31 = shapeCast S2048 (V main_arg11 : FVec Ideal S1x2048 .f32) shapeCasts_S1x2048_S2048
    ∧ after hostOps1 V main_v32 = shapeCast S2048 (V main_arg12 : FVec Ideal S1x2048 .f32) shapeCasts_S1x2048_S2048 := by
  subst hP hp hm
  refine ⟨?_, ?_, ?_, ?_, ?_, ?_, ?_, ?_, ?_⟩
  all_goals after_results; rfl

/-- The ramp's lines. -/
theorem lines2 (x : FVec Ideal S128x1x2048 .f32) (hx : V main_v53 = x) : after hostOps1_1 V main_v54 = ramp x := by
  subst hx
  simp only [hostOps1_1, StableHlo.TRef.binary, StableHlo.TRef.nullary, StableHlo.TRef.unary, StableHlo.TRef.ternary, StableHlo.TRef.reshape, StableHlo.TRef.unaryIndexed, StableHlo.TRef.toBuf, StableHlo.TRef.ofBuf, cast_eq, List.cons_append, List.nil_append]
  after_results_simp <;> rfl

/-- The lines after the ramp. -/
theorem lines3 (z : FVec Ideal S128x1x96 .f32) (hz : V main_v46 = z) (k : FVec Ideal S128x1x2048 .f32) (hk : V main_v43 = k)
    (a0 : FVec Ideal S1x2048 .f32) (h0 : V main_v29 = shapeCast S2048 a0 shapeCasts_S1x2048_S2048)
    (a2 : FVec Ideal S1x96x2048 .f32) (h2 : V main_v30 = shapeCast S96x2048 a2 shapeCasts_S1x96x2048_S96x2048)
    (kk : FVec Ideal S1x2048 .f32) (h3 : V main_v31 = shapeCast S2048 kk shapeCasts_S1x2048_S2048) :
    after hostOps1_2 V main_v59 = rate (V main_v54) ∧ after hostOps1_2 V main_v69 = amount z a0 a2 ∧ after hostOps1_2 V main_v73 = dirs k kk := by
  subst hz hk
  refine ⟨?_, ?_, ?_⟩
  · after_results; rfl
  · after_results; rw [h0, h2]; rfl
  · after_results; rw [h3]; rfl

/-- The lengths' lines. -/
theorem lines4 : after hostOps1_3 V main_v74 = lengths (V main_v73) := by
  simp only [hostOps1_3, StableHlo.TRef.binary, StableHlo.TRef.nullary, StableHlo.TRef.unary, StableHlo.TRef.ternary, StableHlo.TRef.reshape, StableHlo.TRef.unaryIndexed, StableHlo.TRef.toBuf, StableHlo.TRef.ofBuf, cast_eq, List.cons_append, List.nil_append]
  after_results_simp <;> rfl

/-- A copy of a value by time and token. -/
abbrev timed (t : FVec Ideal S128x1x32x64 .f32) : FVec Ideal S1x128x32x64 .f32 :=
  transpose S1x128x32x64 [1, 0, 2, 3] t transposes_S128x1x32x64_S1x128x32x64_1_0_2_3

/-- The lines before the loop. -/
theorem lines5 (ka : FVec Ideal S1x2048 .f32) (h : V main_v32 = shapeCast S2048 ka shapeCasts_S1x2048_S2048) :
    after hostOps1_4 V main_v102_1 = timed (heads (Host.exp (V main_v59)))
    ∧ after hostOps1_4 V main_v102_2 = timed (heads (key (V main_v43) (V main_v69) ka))
    ∧ after hostOps1_4 V main_v102_3 = timed (heads (V main_v44))
    ∧ after hostOps1_4 V main_v102_4 = timed (Host.negf (normed (V main_v73) (V main_v74)))
    ∧ after hostOps1_4 V main_v102_5 = timed (mulf (normed (V main_v73) (V main_v74)) (heads (V main_v69)))
    ∧ after hostOps1_4 V main_v102_7 = V main_v25 := by
  refine ⟨?_, ?_, ?_, ?_, ?_, ?_⟩
  · after_results; rfl
  · after_results; rw [h]; rfl
  all_goals after_results; rfl

/-- What each of the step's operands is read as. -/
theorem read1 : after while0Ops0_1 V main_while0b_v106 = shapeCast S128x32x64 (V main_v102_1 : FVec Ideal S1x128x32x64 .f32) shapeCasts_S1x128x32x64_S128x32x64 := by
  simp only [while0Ops0_1, StableHlo.TRef.binary, StableHlo.TRef.nullary, StableHlo.TRef.unary, StableHlo.TRef.ternary, StableHlo.TRef.reshape, StableHlo.TRef.unaryIndexed, StableHlo.TRef.toBuf, StableHlo.TRef.ofBuf, cast_eq, List.cons_append, List.nil_append]
  after_results_simp
  exact congrArg (fun x : FVec Ideal S1x128x32x64 .f32 => shapeCast S128x32x64 x shapeCasts_S1x128x32x64_S128x32x64) (slice_whole _ _)
theorem read2 : after while0Ops0_2 V main_while0b_v107 = shapeCast S128x32x64 (V main_v102_2 : FVec Ideal S1x128x32x64 .f32) shapeCasts_S1x128x32x64_S128x32x64 := by
  simp only [while0Ops0_2, StableHlo.TRef.binary, StableHlo.TRef.nullary, StableHlo.TRef.unary, StableHlo.TRef.ternary, StableHlo.TRef.reshape, StableHlo.TRef.unaryIndexed, StableHlo.TRef.toBuf, StableHlo.TRef.ofBuf, cast_eq, List.cons_append, List.nil_append]
  after_results_simp
  exact congrArg (fun x : FVec Ideal S1x128x32x64 .f32 => shapeCast S128x32x64 x shapeCasts_S1x128x32x64_S128x32x64) (slice_whole _ _)
theorem read3 : after while0Ops0_3 V main_while0b_v108 = shapeCast S128x32x64 (V main_v102_3 : FVec Ideal S1x128x32x64 .f32) shapeCasts_S1x128x32x64_S128x32x64 := by
  simp only [while0Ops0_3, StableHlo.TRef.binary, StableHlo.TRef.nullary, StableHlo.TRef.unary, StableHlo.TRef.ternary, StableHlo.TRef.reshape, StableHlo.TRef.unaryIndexed, StableHlo.TRef.toBuf, StableHlo.TRef.ofBuf, cast_eq, List.cons_append, List.nil_append]
  after_results_simp
  exact congrArg (fun x : FVec Ideal S1x128x32x64 .f32 => shapeCast S128x32x64 x shapeCasts_S1x128x32x64_S128x32x64) (slice_whole _ _)
theorem read4 : after while0Ops0_4 V main_while0b_v109 = shapeCast S128x32x64 (V main_v102_4 : FVec Ideal S1x128x32x64 .f32) shapeCasts_S1x128x32x64_S128x32x64 := by
  simp only [while0Ops0_4, StableHlo.TRef.binary, StableHlo.TRef.nullary, StableHlo.TRef.unary, StableHlo.TRef.ternary, StableHlo.TRef.reshape, StableHlo.TRef.unaryIndexed, StableHlo.TRef.toBuf, StableHlo.TRef.ofBuf, cast_eq, List.cons_append, List.nil_append]
  after_results_simp
  exact congrArg (fun x : FVec Ideal S1x128x32x64 .f32 => shapeCast S128x32x64 x shapeCasts_S1x128x32x64_S128x32x64) (slice_whole _ _)
theorem read5 : after while0Ops0_5 V main_while0b_v110 = shapeCast S128x32x64 (V main_v102_5 : FVec Ideal S1x128x32x64 .f32) shapeCasts_S1x128x32x64_S128x32x64 := by
  simp only [while0Ops0_5, StableHlo.TRef.binary, StableHlo.TRef.nullary, StableHlo.TRef.unary, StableHlo.TRef.ternary, StableHlo.TRef.reshape, StableHlo.TRef.unaryIndexed, StableHlo.TRef.toBuf, StableHlo.TRef.ofBuf, cast_eq, List.cons_append, List.nil_append]
  after_results_simp
  exact congrArg (fun x : FVec Ideal S1x128x32x64 .f32 => shapeCast S128x32x64 x shapeCasts_S1x128x32x64_S128x32x64) (slice_whole _ _)

/-- The step's own lines. -/
theorem own : after while0Ops0_6 V main_while0b_v126
    = step (V main_v102_7) (V main_while0b_v106) (V main_while0b_v107) (V main_while0b_v108) (V main_while0b_v109) (V main_while0b_v110) := by
  after_results; rfl

/-- The state after the loop: one step from the operands it was given. -/
theorem loop_state : Xend V main_v102_7 = step (V main_v102_7)
    (shapeCast S128x32x64 (V main_v102_1 : FVec Ideal S1x128x32x64 .f32) shapeCasts_S1x128x32x64_S128x32x64)
    (shapeCast S128x32x64 (V main_v102_2 : FVec Ideal S1x128x32x64 .f32) shapeCasts_S1x128x32x64_S128x32x64)
    (shapeCast S128x32x64 (V main_v102_3 : FVec Ideal S1x128x32x64 .f32) shapeCasts_S1x128x32x64_S128x32x64)
    (shapeCast S128x32x64 (V main_v102_4 : FVec Ideal S1x128x32x64 .f32) shapeCasts_S1x128x32x64_S128x32x64)
    (shapeCast S128x32x64 (V main_v102_5 : FVec Ideal S1x128x32x64 .f32) shapeCasts_S1x128x32x64_S128x32x64) := by
  have c0 : ∀ r : Ref sig .tc, r ∉ ([main_while0c_c_15, main_while0c_v105] : List (Ref sig .tc)) → X0 V r = V r := fun r h => writes_of cond_writes V r h
  have c1 : ∀ r : Ref sig .tc, r ∉ _ → X1 V r = X0 V r := fun r h => writes_of writes0 (X0 V) r h
  have c2 : ∀ r : Ref sig .tc, r ∉ _ → X2 V r = X1 V r := fun r h => writes_of writes1 (X1 V) r h
  have c3 : ∀ r : Ref sig .tc, r ∉ _ → X3 V r = X2 V r := fun r h => writes_of writes2 (X2 V) r h
  have c4 : ∀ r : Ref sig .tc, r ∉ _ → X4 V r = X3 V r := fun r h => writes_of writes3 (X3 V) r h
  have c5 : ∀ r : Ref sig .tc, r ∉ _ → X5 V r = X4 V r := fun r h => writes_of writes4 (X4 V) r h
  have c6 : ∀ r : Ref sig .tc, r ∉ _ → X6 V r = X5 V r := fun r h => writes_of writes5 (X5 V) r h
  have e7 : X6 V main_v102_7 = V main_v102_7 :=
    (c6 _ (by decide)).trans ((c5 _ (by decide)).trans ((c4 _ (by decide)).trans ((c3 _ (by decide)).trans ((c2 _ (by decide)).trans ((c1 _ (by decide)).trans (c0 _ (by decide)))))))
  have e1 : X1 V main_v102_1 = V main_v102_1 := (c1 _ (by decide)).trans (c0 _ (by decide))
  have e2 : X2 V main_v102_2 = V main_v102_2 := (c2 _ (by decide)).trans ((c1 _ (by decide)).trans (c0 _ (by decide)))
  have e3 : X3 V main_v102_3 = V main_v102_3 := (c3 _ (by decide)).trans ((c2 _ (by decide)).trans ((c1 _ (by decide)).trans (c0 _ (by decide))))
  have e4 : X4 V main_v102_4 = V main_v102_4 := (c4 _ (by decide)).trans ((c3 _ (by decide)).trans ((c2 _ (by decide)).trans ((c1 _ (by decide)).trans (c0 _ (by decide)))))
  have e5 : X5 V main_v102_5 = V main_v102_5 :=
    (c5 _ (by decide)).trans ((c4 _ (by decide)).trans ((c3 _ (by decide)).trans ((c2 _ (by decide)).trans ((c1 _ (by decide)).trans (c0 _ (by decide))))))
  have r1 := ((c6 main_while0b_v106 (by decide)).trans ((c5 _ (by decide)).trans ((c4 _ (by decide)).trans ((c3 _ (by decide)).trans (read1 (X1 V))))))
  have r2 := ((c6 main_while0b_v107 (by decide)).trans ((c5 _ (by decide)).trans ((c4 _ (by decide)).trans (read2 (X2 V)))))
  have r3 := ((c6 main_while0b_v108 (by decide)).trans ((c5 _ (by decide)).trans (read3 (X3 V))))
  have r4 := ((c6 main_while0b_v109 (by decide)).trans (read4 (X4 V)))
  have r5 : X6 V main_while0b_v110 = _ := read5 (X5 V)
  rw [e1] at r1; rw [e2] at r2; rw [e3] at r3; rw [e4] at r4; rw [e5] at r5
  refine (writes_of cond_writes (X9 V) main_v102_7 (by decide)).trans ((last_state (X8 V)).trans
    ((writes_of writes7 (X7 V) main_while0b_v126 (by decide)).trans ((own (X6 V)).trans ?_)))
  rw [e7, r1, r2, r3, r4, r5]

/-- The mixed columns of a core's arguments. -/
abbrev input (c : Dev nD) : FVec Ideal S128x1x6592 .f32 :=
  mixed (projected (modulated (m ((c.tc : Thread nD τ).loc main_arg0)) (m ((c.tc : Thread nD τ).loc main_arg1)) (m ((c.tc : Thread nD τ).loc main_arg2)))
    (weights (m ((c.tc : Thread nD τ).loc main_arg5)))) (m ((c.tc : Thread nD τ).loc main_arg3)) (m ((c.tc : Thread nD τ).loc main_arg6))
/-- The state after the step, of a core's arguments. -/
abbrev result (c : Dev nD) : FVec Ideal S1x128x32x64x64 .f32 :=
  stepped (input m c) (m ((c.tc : Thread nD τ).loc main_arg4)) (m ((c.tc : Thread nD τ).loc main_arg7)) (m ((c.tc : Thread nD τ).loc main_arg8))
    (m ((c.tc : Thread nD τ).loc main_arg9)) (m ((c.tc : Thread nD τ).loc main_arg10)) (m ((c.tc : Thread nD τ).loc main_arg11)) (m ((c.tc : Thread nD τ).loc main_arg12))

/-- The left operand: the modulated tokens, rounded. -/
theorem lhs_eq (c : Dev nD) : lhs m c = truncf .bf16 (shapeCast S128x4096 (modulated (m ((c.tc : Thread nD τ).loc main_arg0))
    (m ((c.tc : Thread nD τ).loc main_arg1)) (m ((c.tc : Thread nD τ).loc main_arg2))) shapeCasts_S128x1x4096_S128x4096 : FVec Ideal S128x4096 .f32) bitsLt_bf16_f32 := by
  show after hostOps0 _ _ = _
  after_results; rfl
/-- The right operand: the weights, rounded. -/
theorem rhs_eq (c : Dev nD) : rhs m c = truncf .bf16 (weights (m ((c.tc : Thread nD τ).loc main_arg5))) bitsLt_bf16_f32 := by
  show after hostOps0 _ _ = _
  after_results; rfl

/-- The kernel's state at the end, of its arguments. -/
theorem state_end (c : Dev nD) (outs : Outs (F := Ideal)) (h : I m 2 outs c) : V9 m outs c main_v104 = result m c := by
  have hP : V2 m outs c main_v8 = prod (lhs m c) (rhs m c) := (Function.update_self ..).trans h.1
  rw [lhs_eq, rhs_eq] at hP
  have a := V2_args m outs c
  obtain ⟨l53, l43, l44, l46, l25, l29, l30, l31, l32⟩ := lines1 (V2 m outs c) _ hP _ (a main_arg3 (by decide)) _ (a main_arg6 (by decide))
  rw [a main_arg7 (by decide), a main_arg8 (by decide)] at l53
  rw [a main_arg4 (by decide)] at l25
  rw [a main_arg9 (by decide)] at l29
  rw [a main_arg10 (by decide)] at l30
  rw [a main_arg11 (by decide)] at l31
  rw [a main_arg12 (by decide)] at l32
  have k4 := V4_of m outs c
  have k5 := V5_of m outs c
  have k6 := V6_of m outs c
  have l54 : V4 m outs c main_v54 = _ := lines2 (V3 m outs c) _ l53
  obtain ⟨l59, l69, l73⟩ := lines3 (V4 m outs c) _ ((k4 main_v46 (by decide)).trans l46) _ ((k4 main_v43 (by decide)).trans l43)
    _ ((k4 main_v29 (by decide)).trans l29) _ ((k4 main_v30 (by decide)).trans l30) _ ((k4 main_v31 (by decide)).trans l31)
  rw [l54] at l59
  have l74 : V6 m outs c main_v74 = lengths _ := lines4 (V5 m outs c)
  rw [show V5 m outs c main_v73 = _ from l73] at l74
  have m43 : V6 m outs c main_v43 = _ := (k6 main_v43 (by decide)).trans ((k5 main_v43 (by decide)).trans ((k4 main_v43 (by decide)).trans l43))
  have m44 : V6 m outs c main_v44 = _ := (k6 main_v44 (by decide)).trans ((k5 main_v44 (by decide)).trans ((k4 main_v44 (by decide)).trans l44))
  have m25 : V6 m outs c main_v25 = _ := (k6 main_v25 (by decide)).trans ((k5 main_v25 (by decide)).trans ((k4 main_v25 (by decide)).trans l25))
  have m32 : V6 m outs c main_v32 = _ := (k6 main_v32 (by decide)).trans ((k5 main_v32 (by decide)).trans ((k4 main_v32 (by decide)).trans l32))
  have m59 : V6 m outs c main_v59 = _ := (k6 main_v59 (by decide)).trans l59
  have m69 : V6 m outs c main_v69 = _ := (k6 main_v69 (by decide)).trans l69
  have m73 : V6 m outs c main_v73 = _ := (k6 main_v73 (by decide)).trans l73
  obtain ⟨n1, n2, n3, n4, n5, n7⟩ := lines5 (V6 m outs c) _ m32
  rw [m59] at n1
  rw [m43, m69] at n2
  rw [m44] at n3
  rw [m73, l74] at n4
  rw [m73, l74, m69] at n5
  rw [m25] at n7
  have e := loop_state (V7 m outs c)
  rw [show V7 m outs c main_v102_1 = _ from n1, show V7 m outs c main_v102_2 = _ from n2, show V7 m outs c main_v102_3 = _ from n3,
    show V7 m outs c main_v102_4 = _ from n4, show V7 m outs c main_v102_5 = _ from n5, show V7 m outs c main_v102_7 = _ from n7,
    now_eq, now_eq, now_eq, now_eq, now_eq] at e
  have e8 : V8 m outs c main_v102_7 = outs 8 (Proc.devRef .tc main_v102_7) c := if_pos (by decide)
  have e9 : V9 m outs c main_v104 = broadcastInDim S1x128x32x64x64 ![1, 2, 3, 4] bcast_S128x32x64x64_S1x128x32x64x64_1_2_3_4
      (V8 m outs c main_v102_7 : FVec Ideal S128x32x64x64 .f32) := by
    show after hostOps1_5 _ _ = _
    generalize V8 m outs c = V
    after_results
  rw [e9, e8, h.2, e]
  rfl

/-- The kernel's run: its result, its arguments unchanged, its counters at zero. -/
theorem run_value : θ_run defs (onTc (τ := τ) (main (F := Ideal))) ⟨m, fun _ => 0, ρ⟩ (fun s => (∀ c : Dev nD,
      s.2.mem ((c.tc : Thread nD τ).loc main_v104) = result m c
      ∧ s.2.mem ((c.tc : Thread nD τ).loc main_arg0) = m ((c.tc : Thread nD τ).loc main_arg0)
      ∧ s.2.mem ((c.tc : Thread nD τ).loc main_arg1) = m ((c.tc : Thread nD τ).loc main_arg1)
      ∧ s.2.mem ((c.tc : Thread nD τ).loc main_arg2) = m ((c.tc : Thread nD τ).loc main_arg2)
      ∧ s.2.mem ((c.tc : Thread nD τ).loc main_arg3) = m ((c.tc : Thread nD τ).loc main_arg3)
      ∧ s.2.mem ((c.tc : Thread nD τ).loc main_arg4) = m ((c.tc : Thread nD τ).loc main_arg4)
      ∧ s.2.mem ((c.tc : Thread nD τ).loc main_arg5) = m ((c.tc : Thread nD τ).loc main_arg5)
      ∧ s.2.mem ((c.tc : Thread nD τ).loc main_arg6) = m ((c.tc : Thread nD τ).loc main_arg6)
      ∧ s.2.mem ((c.tc : Thread nD τ).loc main_arg7) = m ((c.tc : Thread nD τ).loc main_arg7)
      ∧ s.2.mem ((c.tc : Thread nD τ).loc main_arg8) = m ((c.tc : Thread nD τ).loc main_arg8)
      ∧ s.2.mem ((c.tc : Thread nD τ).loc main_arg9) = m ((c.tc : Thread nD τ).loc main_arg9)
      ∧ s.2.mem ((c.tc : Thread nD τ).loc main_arg10) = m ((c.tc : Thread nD τ).loc main_arg10)
      ∧ s.2.mem ((c.tc : Thread nD τ).loc main_arg11) = m ((c.tc : Thread nD τ).loc main_arg11)
      ∧ s.2.mem ((c.tc : Thread nD τ).loc main_arg12) = m ((c.tc : Thread nD τ).loc main_arg12)
      ∧ s.2.mem ((c.tc : Thread nD τ).loc main_arg13) = m ((c.tc : Thread nD τ).loc main_arg13)) ∧ s.2.sem = fun _ => 0) :=
  (θ_run defs _ _).mono (fun s hs => ⟨fun c => by
    obtain ⟨outs, h, hm⟩ := hs.2.2 c
    exact ⟨(hm _ (Pipeline.devRef_mem_ucRefs (b := main_v104) rfl)).trans (state_end m c outs h), hs.1 c⟩, hs.2.1⟩) (StepRun.run m ρ)

end Cert.StepValue
end
end
-- ==== Proof.SampleFrame.lean ====
/-
  The sample group's input projection over any float values: it ends, its arguments are unchanged, every counter is zero.
  The product's last column block is cut at the array's end, and what the body finds past that end is unknown; so the
  product's array is left unnamed here.
-/
module

public import proofs.«01_k».proof.Proof.Gen.Kernel5.Frame
public import proofs.«01_k».proof.Proof.Gen.Kernel5.Skeleton

@[expose] public section
set_option maxRecDepth 16384
noncomputable section
namespace Cert.SampleFrame
open Cert.Kernel5 Cert.Kernel5.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option maxHeartbeats 1000000 in
/-- The body reads its two blocks, and leaves them as they were and the third buffer at something. -/
theorem body_runs (c : Dev nD) (E : Set ℕ) (i : grid0.Coords) (a : Memref sig .tc .vmem S128x4096 .bf16) (ha : a.IsWhole)
    (b : Memref sig .tc .vmem S4096x1024 .bf16) (hb : b.IsWhole) (o : Memref sig .tc .vmem S128x1024 .f32) (ho : o.IsWhole)
    (x : Vec F S128x4096 .bf16) (y : Vec F S4096x1024 .bf16) (K : PUnit → sProp 𝕄) :
    iprop(owns (c : Thread nD τ) a fullShare x ∗ owns (c : Thread nD τ) b fullShare y ∗ (∃ d, owns (c : Thread nD τ) o fullShare d)
        ∗ (iprop(owns (c : Thread nD τ) a fullShare x ∗ owns (c : Thread nD τ) b fullShare y ∗ (∃ d, owns (c : Thread nD τ) o fullShare d)) -∗ K ⟨⟩))
      ⊢ wp frame (wpE (defs₀ (F := F)) Variants.none c none) E (cc0_matmul i a ha b hb o ho) K := by
  simp only [cc0_matmul_eq_skeleton]; unfold cc0_matmul_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; iexists _; isplitr
  swap; · iexact H2
  ipureintro; rfl

/-- Something to fill a block out with past its array's end. -/
def zeros : S4096x1024.Idx → Elt F .bf16 := fun _ => Scalar.ofBits .bf16 0#16

/-- The proof data: each operand's buffer keeps its block; nothing is said of the product's. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => win0_1.fill (grid0.coords t) zeros (iblk m c 1 t)
    | ⟨2, _⟩ => fun _ => Scalar.ofBits .f32 0#32
  Φ _ := Pipeline.ΦA spec0 c
  q _ := fullShare
  owed _ := 0

/-- The arrays at the region's entry. -/
theorem A_eq (c : Dev nD) (w : Fin cfg0.W) : (dats m 0 c).A w = V m c (Pipeline.arrRef spec0 w) := by
  dsimp only [dats]

/-- The first operand's buffer holds its block at every point. -/
theorem before_a (c : Dev nD) (t : Fin cfg0.N) (d) : (dats m 0 c).before 0 t d = iblk m c 0 t :=
  before0_0_of m (dats m 0 c) (A_eq m c 0) (fun t => by dsimp only [dats]) t d

/-- The second operand's buffer, just fetched: its block inside the array, anything past it. -/
theorem before_b (c : Dev nD) (t : Fin cfg0.N) (d) :
    (dats m 0 c).before 1 t d = win0_1.fill (grid0.coords t) d (iblk m c 1 t) := by
  unfold Dat.before; rw [if_pos (fetch0_1 t)]; rfl

/-- The window whose buffer is left unnamed. -/
def fgt : Fin cfg0.W → Bool := fun w => match w with | ⟨0, _⟩ => false | ⟨1, _⟩ => false | ⟨2, _⟩ => true

/-- What the body leaves of the second operand's block is that block. -/
theorem cut_b (c : Dev nD) (t : Fin cfg0.N) :
    win0_1.cut (grid0.coords t) ((dats m 0 c).after 1 t) = iblk m c 1 t := by
  have e : (dats m 0 c).after 1 t = win0_1.fill (grid0.coords t) zeros (iblk m c 1 t) := by dsimp only [dats]
  rw [e]
  exact win0_1.cut_fill (grid0.coords t) zeros (iblk m c 1 t)

/-- The body table's row at a point. -/
theorem row (t : Fin cfg0.N) : defs₀ (F := F) .tc cfg0.body (cfg0.bodyArgs t (cfg0.slots t)) = bodyAt0 t := by
  unfold defs₀; rw [Defs.onTc_tc]

/-- The body at every point. -/
theorem obligation (c : Dev nD) : BodyObligationLoose (dats (F := F) m 0 c) (defs₀ (F := F)) Variants.none () Set.univ fgt := fun t => by
  rw [bigSep_W0, bigSep_W0, row]
  simp only [fgt]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_a m c t d0, before_b m c t d1]
  iapply (body_runs c Set.univ (grid0.coords t) _ _ _ _ _ _ (iblk m c 0 t) (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]
  · iexists d1
    change _ ⊢ owns (c : Thread nD τ) (st0_1 t) fullShare (win0_1.fill (grid0.coords t) d1 (win0_1.cut (grid0.coords t) ((dats m 0 c).after 1 t)))
    rw [cut_b]
  iexact H2

/-- The buffers the host lines after the product write. -/
def T : Finset (Ref sig .tc) := {main_v9, main_v10, main_v11, main_v12, main_v13, main_v14, main_v15, main_v16, main_v17, main_v18,
  main_v19, main_v20, main_v21, main_v22, main_v23, main_v24, main_v25, main_v26, main_v27}

/-- They write no other. -/
theorem writes_T : ∀ ops ∈ ([hostOps1] : List (List (HloOp τ sig (Elt F)))), ∀ op ∈ ops,
    ∀ b : Ref sig .tc, Proc.devRef .tc b ∈ op.writes → b ∈ T := by
  intro ops hops op hop
  simp only [List.mem_cons, List.mem_nil_iff, or_false] at hops
  rcases hops with rfl
  simp only [hostOps1, List.mem_cons, List.mem_nil_iff, or_false] at hop
  rcases hop with rfl | rfl | rfl | rfl | rfl | rfl | rfl | rfl | rfl | rfl | rfl | rfl | rfl | rfl | rfl | rfl | rfl | rfl | rfl
  all_goals
    intro b hb
    simp only [StableHlo.unary_writes, StableHlo.reshape_writes, Finset.mem_singleton] at hb
    have := Proc.devRef_injective _ hb
    subst this
    decide

set_option backward.isDefEq.respectTransparency.types false in
set_option maxHeartbeats 800000 in
/-- The run: every buffer that no window stages and no later line writes is as the region found it. -/
theorem run_main : θ_run defs (onTc (τ := τ) (main (F := F))) (s₀ m ρ)
    (fun r => Pipeline.RDat.FramePostR cfg0 (fun c => (dats m 0 c).toRForget fgt) T (V m) r ∧ r.2.sem = fun _ => 0) :=
  Pipeline.θ_run_frame_around_T_forget (Q' := _) cfgs (dats m) (0 : Fin 1) launch0 defs₀ Variants.none fgt T m ρ main
    (hbody := obligation m) (hshare := fun c => (dats m 0 c).share_full fun _ => rfl)
    (howed := fun _ _ => rfl) (V₀ := V0 m) (opss := [hostOps1]) (hsub := sfx_sub) (hfresh := sfx_fresh) (hkeep := sfx_keeps)
    (hT := writes_T) (hmain := hmain m Variants.none) (hA := A_eq m) (hΦ := fun _ _ => rfl)

/-- The frame: the arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) ∧ r.2.sem = fun _ => 0) :=
  (θ_run defs _ _).mono (fun _ h => ⟨fun c => by
    have k : ∀ b : Ref sig .tc, b ∈ Pipeline.restRefs sig spec0 → b ∉ T → _ := fun b h1 h2 =>
      (h.1 c).2 b (Finset.mem_sdiff.mpr ⟨h1, h2⟩)
    exact ⟨(k main_arg0 (Pipeline.mem_restRefs_of main_arg0 (by decide) (by decide)) (by decide)).trans (V_main_arg0 m c),
      (k main_arg1 (Pipeline.mem_restRefs_of main_arg1 (by decide) (by decide)) (by decide)).trans (V_main_arg1 m c),
      (k main_arg2 (Pipeline.mem_restRefs_of main_arg2 (by decide) (by decide)) (by decide)).trans (V_main_arg2 m c),
      (k main_arg3 (Pipeline.mem_restRefs_of main_arg3 (by decide) (by decide)) (by decide)).trans (V_main_arg3 m c)⟩, h.2⟩) (run_main m ρ)

end Cert.SampleFrame
end
end
-- ==== Proof.SampleRun.lean ====
/-
  The sample group's input projection at the ideal values: the product's array ends at the matrix product, its last column
  block cut at the array's end.
-/
module

public import proofs.«01_k».proof.Proof.Gen.Kernel5Ideal.Frame
public import proofs.«01_k».proof.Proof.Gen.Kernel5Ideal.Skeleton
public import Idealize.ShloMosaic.Lib.Pointwise
public import Idealize.ShloMosaic.Lib.Pipeline.Covers
public import Idealize.ShloMosaic.Lib.Pipeline.ValueKit

@[expose] public section
set_option maxRecDepth 16384
noncomputable section
namespace Cert.SampleRun
open Cert.Kernel5Ideal Cert.Kernel5Ideal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligationLoose)

local notation "𝕄" => MT nD τ sig Unit (Elt Ideal) ℕ (UR sig nD τ) ℕ

variable (m : (ℓ : Loc nD τ sig) → Buf (Elt Ideal) ℓ) (ρ : Dev nD → PrngReg)

/-- Offsets zero. -/
theorem zero2 : (![0, 0] : Fin 2 → Nat) = fun _ => 0 := funext fun a => by fin_cases a <;> rfl

set_option maxHeartbeats 1000000 in
/-- The body reads its two blocks, leaves them as they were, and the third buffer at their product. -/
theorem body_runs (c : Dev nD) (E : Set ℕ) (i : grid0.Coords) (a : Memref sig .tc .vmem S128x4096 .bf16) (ha : a.IsWhole)
    (b : Memref sig .tc .vmem S4096x1024 .bf16) (hb : b.IsWhole) (o : Memref sig .tc .vmem S128x1024 .f32) (ho : o.IsWhole)
    (x : Vec Ideal S128x4096 .bf16) (y : Vec Ideal S4096x1024 .bf16) (K : PUnit → sProp 𝕄) :
    iprop(owns (c : Thread nD τ) a fullShare x ∗ owns (c : Thread nD τ) b fullShare y ∗ (∃ d, owns (c : Thread nD τ) o fullShare d)
        ∗ (iprop(owns (c : Thread nD τ) a fullShare x ∗ owns (c : Thread nD τ) b fullShare y ∗ owns (c : Thread nD τ) o fullShare (k0_pay1 x y)) -∗ K ⟨⟩))
      ⊢ wp frame (wpE (defs₀ (F := Ideal)) Variants.none c none) E (cc0_matmul i a ha b hb o ho) K := by
  simp only [cc0_matmul_eq_skeleton]; unfold cc0_matmul_skel
  unfold owns
  iintro ⟨⟨%f0, %hf0, H0⟩, ⟨%f1, %hf1, H1⟩, ⟨%d2, %f2, -, H2⟩, Hk⟩
  subst hf0 hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  refine (View.read_writes_eq_canon _ _ _ (fun y => View.cover_of_tiled [⟨Rect.unit (s := S128x1024) ![0, 0] S128x1024.size inb_S128x1024_S128x1024_0_0, _⟩] S128x1024.size (by rfl) y)).trans ?_
  refine (View.canon_unit_zero (zero2) _ _).trans ?_
  refine congrArg₂ k0_pay1 ?_ ?_
  · exact View.ld_unit_zero zero2 _ _
  · exact View.ld_unit_zero zero2 _ _

/-- The left operand's array. -/
def lhs (c : Dev nD) : FVec Ideal S128x4096 .bf16 := V m c main_v6
/-- The right operand's array. -/
def rhs (c : Dev nD) : FVec Ideal S4096x25184 .bf16 := V m c main_v7
/-- Their product. -/
def prod (A : FVec Ideal S128x4096 .bf16) (B : FVec Ideal S4096x25184 .bf16) : FVec Ideal S128x25184 .f32 :=
  fun i => ∑ k : Fin 4096, A (ValueIdx.ix2 (i 0) k) * B (ValueIdx.ix2 k (i 1))

/-- No row of the right operand's block is cut. -/
theorem rows_whole (t : Fin cfg0.N) : win0_1.xsize (grid0.coords t) 0 = 4096 := by rfl

/-- An index of the right operand's moved block from an index of the product's. -/
def col (t : Fin cfg0.N) (k : Fin 4096) (y : (win0_2.xblock (grid0.coords t)).Idx) : (win0_1.xblock (grid0.coords t)).Idx :=
  fun a => match a with
    | ⟨0, _⟩ => ⟨k.val, lt_of_lt_of_eq k.isLt (rows_whole t).symm⟩
    | ⟨1, _⟩ => ⟨(y 1).val, by
        have h1 : (y 1).val < win0_2.xsize (grid0.coords t) 1 := (y 1).isLt
        exact h1⟩

/-- Where an element of the left operand's block lies. -/
theorem place_a (t : Fin cfg0.N) (y : (win0_2.xblock (grid0.coords t)).Idx) (k : Fin 4096) :
    (win0_0.blk t).view.emb (ix2 (win0_2.xinj (grid0.coords t) y 0) k : S128x4096.Idx) = ix2 ((win0_2.blk t).view.emb y 0) k := by
  funext a
  refine Fin.ext ?_
  fin_cases a
  · refine (win0_0.rect_emb_val t _ 0).trans ?_
    exact (win0_2.rect_emb_val t y 0).symm
  · exact win0_0.rect_emb_val_of_index_zero t 1 (by rfl) _

/-- Where an element of the right operand's block lies. -/
theorem place_b (t : Fin cfg0.N) (y : (win0_2.xblock (grid0.coords t)).Idx) (k : Fin 4096) :
    (win0_1.blk t).view.emb (col t k y) = ix2 k ((win0_2.blk t).view.emb y 1) := by
  funext a
  refine Fin.ext ?_
  fin_cases a
  · exact win0_1.rect_emb_val_of_index_zero t 0 (by rfl) _
  · refine (win0_1.rect_emb_val t _ 1).trans ?_
    exact (win0_2.rect_emb_val t y 1).symm

/-- A block of the product, inside the array: the product of the operands' blocks. -/
theorem block_prod (c : Dev nD) (t : Fin cfg0.N) (d : S4096x1024.Idx → Elt Ideal .bf16) (y : (win0_2.xblock (grid0.coords t)).Idx) :
    k0_pay1 (iblk m c 0 t) (win0_1.fill (grid0.coords t) d (iblk m c 1 t)) (win0_2.xinj (grid0.coords t) y)
      = prod (lhs m c) (rhs m c) ((win0_2.blk t).view.emb y) := by
  unfold k0_pay1 prod
  pointwise
  refine Finset.sum_congr rfl fun k _ => ?_
  refine congrArg₂ (· * ·) (congrArg (lhs m c) (place_a t y k)) ?_
  have hj : (ix2 k (win0_2.xinj (grid0.coords t) y 1) : S4096x1024.Idx) = win0_1.xinj (grid0.coords t) (col t k y) := by
    funext a
    fin_cases a <;> rfl
  refine (congrArg (win0_1.fill (grid0.coords t) d (iblk m c 1 t)) hj).trans ?_
  refine (win0_1.fill_xinj (grid0.coords t) d (iblk m c 1 t) (col t k y)).trans ?_
  exact congrArg (rhs m c) (place_b t y k)

/-- Past the array's end a block may hold anything. -/
def zerosB : S4096x1024.Idx → Elt Ideal .bf16 := fun _ => (0 : EReal)
def zerosO : S128x1024.Idx → Elt Ideal .f32 := fun _ => (0 : EReal)

/-- A block of the product at a point, as far as it lies inside the array. -/
def oblk (c : Dev nD) (t : Fin cfg0.N) : (win0_2.xblock (grid0.coords t)).Idx → Elt Ideal .f32 :=
  fun y => prod (lhs m c) (rhs m c) ((win0_2.blk t).view.emb y)

/-- The body's product, cut at the array's end. -/
theorem cut_prod (c : Dev nD) (t : Fin cfg0.N) (d : S4096x1024.Idx → Elt Ideal .bf16) :
    win0_2.cut (grid0.coords t) (k0_pay1 (iblk m c 0 t) (win0_1.fill (grid0.coords t) d (iblk m c 1 t))) = oblk m c t :=
  funext fun y => block_prod m c t d y

/-- The run's data: the operands' blocks where they are, the product's block where the body has written it. -/
def dats (_ : Fin 1) (c : Dev nD) : Dat τ (Elt Ideal) Unit ℕ (UR sig nD τ) ℕ cfg0 c where
  A w := V m c (Pipeline.arrRef spec0 w)
  after w t := match w with
    | ⟨0, _⟩ => iblk m c 0 t
    | ⟨1, _⟩ => win0_1.fill (grid0.coords t) zerosB (iblk m c 1 t)
    | ⟨2, _⟩ => win0_2.fill (grid0.coords t) zerosO (oblk m c t)
  Φ _ := Pipeline.ΦA spec0 c
  q _ := fullShare
  owed _ := 0

/-- The arrays at the region's entry. -/
theorem A_eq (c : Dev nD) (w : Fin cfg0.W) : (dats m 0 c).A w = V m c (Pipeline.arrRef spec0 w) := by
  dsimp only [dats]

/-- The first operand's buffer holds its block at every point. -/
theorem before_a (c : Dev nD) (t : Fin cfg0.N) (d) : (dats m 0 c).before 0 t d = iblk m c 0 t :=
  before0_0_of m (dats m 0 c) (A_eq m c 0) (fun t => by dsimp only [dats]) t d

/-- The second operand's buffer, just fetched: its block inside the array, anything past it. -/
theorem before_b (c : Dev nD) (t : Fin cfg0.N) (d) :
    (dats m 0 c).before 1 t d = win0_1.fill (grid0.coords t) d (iblk m c 1 t) := by
  unfold Dat.before; rw [if_pos (fetch0_1 t)]; rfl

/-- What the body leaves of the second operand's block is that block. -/
theorem cut_b (c : Dev nD) (t : Fin cfg0.N) :
    win0_1.cut (grid0.coords t) ((dats m 0 c).after 1 t) = iblk m c 1 t := by
  have e : (dats m 0 c).after 1 t = win0_1.fill (grid0.coords t) zerosB (iblk m c 1 t) := by dsimp only [dats]
  rw [e]
  exact win0_1.cut_fill (grid0.coords t) zerosB (iblk m c 1 t)

/-- What it leaves of the product's block is the product's. -/
theorem cut_o (c : Dev nD) (t : Fin cfg0.N) :
    win0_2.cut (grid0.coords t) ((dats m 0 c).after 2 t) = oblk m c t := by
  have e : (dats m 0 c).after 2 t = win0_2.fill (grid0.coords t) zerosO (oblk m c t) := by dsimp only [dats]
  rw [e]
  exact win0_2.cut_fill (grid0.coords t) zerosO (oblk m c t)

/-- The body table's row at a point. -/
theorem row (t : Fin cfg0.N) : defs₀ (F := Ideal) .tc cfg0.body (cfg0.bodyArgs t (cfg0.slots t)) = bodyAt0 t := by
  unfold defs₀; rw [Defs.onTc_tc]

/-- The body at every point. -/
theorem obligation (c : Dev nD) : BodyObligationLoose (dats m 0 c) (defs₀ (F := Ideal)) Variants.none () Set.univ := fun t => by
  rw [bigSep_W0, bigSep_W0, row]
  rw [show (dats m 0 c).Φ t.succ = (dats m 0 c).Φ t.castSucc from rfl,
    show (dats m 0 c).owesAt () t.succ = (dats m 0 c).owesAt () t.castSucc from rfl]
  iintro ⟨HΦ, Ho, ⟨%d0, H0⟩, ⟨%d1, H1⟩, ⟨%d2, H2⟩⟩
  rw [before_a m c t d0, before_b m c t d1]
  iapply (body_runs c Set.univ (grid0.coords t) _ _ _ _ _ _ (iblk m c 0 t) (win0_1.fill (grid0.coords t) d1 (iblk m c 1 t)) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]
  · iexists d1
    change _ ⊢ owns (c : Thread nD τ) (st0_1 t) fullShare (win0_1.fill (grid0.coords t) d1 (win0_1.cut (grid0.coords t) ((dats m 0 c).after 1 t)))
    rw [cut_b]
  iexists (k0_pay1 (iblk m c 0 t) (win0_1.fill (grid0.coords t) d1 (iblk m c 1 t)))
  change _ ⊢ owns (c : Thread nD τ) (st0_2 t) fullShare (win0_2.fill (grid0.coords t)
    (k0_pay1 (iblk m c 0 t) (win0_1.fill (grid0.coords t) d1 (iblk m c 1 t))) (win0_2.cut (grid0.coords t) ((dats m 0 c).after 2 t)))
  rw [cut_o, ← cut_prod m c t d1, win0_2.fill_cut]

set_option backward.isDefEq.respectTransparency.types false in
set_option maxHeartbeats 800000 in
/-- The run: the windows' arrays as the grid leaves them, then the host's lines. -/
theorem run_main : θ_run defs (onTc (τ := τ) (main (F := Ideal))) (s₀ m ρ)
    (fun r => Pipeline.FramePost cfgs (dats m) 0 (Pipeline.afterTail₀ cfgs (dats m) 0 (V0 m) [hostOps1]) r ∧ r.2.sem = fun _ => 0) :=
  Pipeline.θ_run_frame_around (Q' := _) cfgs (dats m) (0 : Fin 1) launch0 defs₀ Variants.none m ρ main
    (hbody := obligation m) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hΦ := fun _ _ => rfl)

/-- The product's blocks cover its array. -/
theorem covers : (cfg0.win 2).Covers := by decide +kernel

/-- The product's array after the grid is the matrix product. -/
theorem arr_prod (c : Dev nD) : (dats m 0 c).arrAt 2 cfg0.N = prod (lhs m c) (rhs m c) :=
  Dat.arrAt_eq_of_covers (dats m 0 c) 2 (prod (lhs m c) (rhs m c)) covers fun t _ y => congrFun (cut_o m c t) y

end Cert.SampleRun
end
end
-- ==== Proof.SampleValue.lean ====
/-
  The sample group's input projection's results: the kernel's and the reference's, as functions of one product.
-/
module

public import proofs.«01_k».proof.Proof.SampleRun
public import proofs.«01_k».proof.Proof.Gen.Reference5Ideal.Run

@[expose] public section
set_option maxRecDepth 16384
noncomputable section
namespace Cert.SampleValue
open Cert.Kernel5Ideal Cert.Kernel5Ideal.Gen Cert.SampleRun
open Idealize.ShloMosaic Idealize.ShloMosaic.TcCoe Idealize.SL.Sem

variable (m : (ℓ : Loc nD τ sig) → Buf (Elt Ideal) ℓ) (ρ : Dev nD → PrngReg)

/-- The tokens, modulated. -/
abbrev modulated (x shift scale : FVec Ideal S128x1x4096 .f32) : FVec Ideal S128x1x4096 .f32 :=
  addf (mulf x (addf (broadcastInDim S128x1x4096 ![] bcast_S_S128x1x4096 (constant S_ .f32 0x3F800000#32)) scale)) shift

/-- The weights, without their leading axis. -/
abbrev weights (w : FVec Ideal S1x4096x25184 .f32) : FVec Ideal S4096x25184 .f32 :=
  shapeCast S4096x25184 w shapeCasts_S1x4096x25184_S4096x25184

/-- The projected tokens: the kernel's product, by tokens. -/
def projected (h : FVec Ideal S128x1x4096 .f32) (w : FVec Ideal S4096x25184 .f32) : FVec Ideal S128x1x25184 .f32 :=
  shapeCast S128x1x25184 (prod (truncf .bf16 (shapeCast S128x4096 h shapeCasts_S128x1x4096_S128x4096 : FVec Ideal S128x4096 .f32) bitsLt_bf16_f32)
    (truncf .bf16 w bitsLt_bf16_f32)) shapeCasts_S128x25184_S128x1x25184

/-- The reference's product is the kernel's. -/
theorem dot_eq (h : FVec Ideal S128x1x4096 .f32) (w : FVec Ideal S4096x25184 .f32) :
    Host.dotGeneral Cert.Reference5Ideal.dot_S128x1x4096_S4096x25184_S128x1x25184_2_0_01_1_n_n none h w = projected h w := by
  funext i; idx_vars i
  pointwise [projected, prod]
  obtain rfl : i1 = 0 := Subsingleton.elim _ _
  rfl

/-- The keys of the projected tokens, -/
abbrev keys (P : FVec Ideal S128x1x25184 .f32) : FVec Ideal S1x128x1x16x128 .f32 :=
  broadcastInDim S1x128x1x16x128 ![1, 2, 3, 4] bcast_S128x1x16x128_S1x128x1x16x128_1_2_3_4
    (shapeCast S128x1x16x128 (extractStridedSlice S128x1x2048 ![0, 0, 2048] (extractStridedSlice S128x1x10400 ![0, 0, 6592] P
      slices_S128x1x25184_S128x1x10400_0_0_6592) slices_S128x1x10400_S128x1x2048_0_0_2048) shapeCasts_S128x1x2048_S128x1x16x128)
/-- their values, -/
abbrev values (P : FVec Ideal S128x1x25184 .f32) : FVec Ideal S1x128x1x16x128 .f32 :=
  broadcastInDim S1x128x1x16x128 ![1, 2, 3, 4] bcast_S128x1x16x128_S1x128x1x16x128_1_2_3_4
    (shapeCast S128x1x16x128 (extractStridedSlice S128x1x2048 ![0, 0, 4096] (extractStridedSlice S128x1x10400 ![0, 0, 6592] P
      slices_S128x1x25184_S128x1x10400_0_0_6592) slices_S128x1x10400_S128x1x2048_0_0_4096) shapeCasts_S128x1x2048_S128x1x16x128)
/-- their index keys, -/
abbrev indexKeys (P : FVec Ideal S128x1x25184 .f32) : FVec Ideal S1x128x1x128 .f32 :=
  broadcastInDim S1x128x1x128 ![1, 2, 3] bcast_S128x1x128_S1x128x1x128_1_2_3
    (extractStridedSlice S128x1x128 ![0, 0, 10240] (extractStridedSlice S128x1x10400 ![0, 0, 6592] P
      slices_S128x1x25184_S128x1x10400_0_0_6592) slices_S128x1x10400_S128x1x128_0_0_10240)
/-- and the tokens' part for the token shift. -/
abbrev lastToken (P : FVec Ideal S128x1x25184 .f32) : FVec Ideal S1x128x6592 .f32 :=
  broadcastInDim S1x128x6592 ![1, 2] bcast_S128x6592_S1x128x6592_1_2
    (shapeCast S128x6592 (extractStridedSlice S128x1x6592 ![0, 0, 0] P slices_S128x1x25184_S128x1x6592_0_0_0) shapeCasts_S128x1x6592_S128x6592)

/-- Their queries, -/
abbrev queries (P : FVec Ideal S128x1x25184 .f32) : FVec Ideal S128x1x16x128 .f32 :=
  shapeCast S128x1x16x128 (extractStridedSlice S128x1x2048 ![0, 0, 0] (extractStridedSlice S128x1x10400 ![0, 0, 6592] P
    slices_S128x1x25184_S128x1x10400_0_0_6592) slices_S128x1x10400_S128x1x2048_0_0_0) shapeCasts_S128x1x2048_S128x1x16x128
/-- their index queries, -/
abbrev indexQueries (P : FVec Ideal S128x1x25184 .f32) : FVec Ideal S128x1x32x128 .f32 :=
  shapeCast S128x1x32x128 (extractStridedSlice S128x1x4096 ![0, 0, 6144] (extractStridedSlice S128x1x10400 ![0, 0, 6592] P
    slices_S128x1x25184_S128x1x10400_0_0_6592) slices_S128x1x10400_S128x1x4096_0_0_6144) shapeCasts_S128x1x4096_S128x1x32x128
/-- the index heads' weights, -/
abbrev indexWeights (P : FVec Ideal S128x1x25184 .f32) : FVec Ideal S128x1x32 .f32 :=
  extractStridedSlice S128x1x32 ![0, 0, 10368] (extractStridedSlice S128x1x10400 ![0, 0, 6592] P
    slices_S128x1x25184_S128x1x10400_0_0_6592) slices_S128x1x10400_S128x1x32_0_0_10368
/-- the recurrence's columns, -/
abbrev recurrence (P : FVec Ideal S128x1x25184 .f32) : FVec Ideal S128x1x6592 .f32 :=
  extractStridedSlice S128x1x6592 ![0, 0, 0] P slices_S128x1x25184_S128x1x6592_0_0_0
/-- and the branches' gates. -/
abbrev gates (P : FVec Ideal S128x1x25184 .f32) : FVec Ideal S128x1x8192 .f32 :=
  extractStridedSlice S128x1x8192 ![0, 0, 16992] P slices_S128x1x25184_S128x1x8192_0_0_16992

/-- The left operand: the modulated tokens, rounded. -/
theorem lhs_eq (c : Dev nD) : lhs m c = truncf .bf16 (shapeCast S128x4096 (modulated (m ((c.tc : Thread nD τ).loc main_arg0))
    (m ((c.tc : Thread nD τ).loc main_arg1)) (m ((c.tc : Thread nD τ).loc main_arg2))) shapeCasts_S128x1x4096_S128x4096 : FVec Ideal S128x4096 .f32) bitsLt_bf16_f32 := by
  show StableHlo.after (List.flatten [hostOps0]) _ _ = _
  simp only [List.flatten_cons, List.flatten_nil, List.append_nil]
  after_results
  rfl

/-- The right operand: the weights, rounded. -/
theorem rhs_eq (c : Dev nD) : rhs m c = truncf .bf16 (weights (m ((c.tc : Thread nD τ).loc main_arg3))) bitsLt_bf16_f32 := by
  show StableHlo.after (List.flatten [hostOps0]) _ _ = _
  simp only [List.flatten_cons, List.flatten_nil, List.append_nil]
  after_results
  rfl

/-- The host's lines after the product read their results off it. -/
theorem suffix_eq (W : Valuation τ sig (Elt Ideal)) (X : FVec Ideal S128x25184 .f32) (hW : W (Proc.devRef .tc main_v8) = X) :
    StableHlo.after (List.flatten [hostOps1]) W (Proc.devRef .tc main_v24) = keys (shapeCast S128x1x25184 X shapeCasts_S128x25184_S128x1x25184)
    ∧ StableHlo.after (List.flatten [hostOps1]) W (Proc.devRef .tc main_v25) = values (shapeCast S128x1x25184 X shapeCasts_S128x25184_S128x1x25184)
    ∧ StableHlo.after (List.flatten [hostOps1]) W (Proc.devRef .tc main_v26) = indexKeys (shapeCast S128x1x25184 X shapeCasts_S128x25184_S128x1x25184)
    ∧ StableHlo.after (List.flatten [hostOps1]) W (Proc.devRef .tc main_v27) = lastToken (shapeCast S128x1x25184 X shapeCasts_S128x25184_S128x1x25184)
    ∧ StableHlo.after (List.flatten [hostOps1]) W (Proc.devRef .tc main_v19) = queries (shapeCast S128x1x25184 X shapeCasts_S128x25184_S128x1x25184)
    ∧ StableHlo.after (List.flatten [hostOps1]) W (Proc.devRef .tc main_v22) = indexQueries (shapeCast S128x1x25184 X shapeCasts_S128x25184_S128x1x25184)
    ∧ StableHlo.after (List.flatten [hostOps1]) W (Proc.devRef .tc main_v18) = indexWeights (shapeCast S128x1x25184 X shapeCasts_S128x25184_S128x1x25184)
    ∧ StableHlo.after (List.flatten [hostOps1]) W (Proc.devRef .tc main_v10) = recurrence (shapeCast S128x1x25184 X shapeCasts_S128x25184_S128x1x25184)
    ∧ StableHlo.after (List.flatten [hostOps1]) W (Proc.devRef .tc main_v12) = gates (shapeCast S128x1x25184 X shapeCasts_S128x25184_S128x1x25184) := by
  simp only [List.flatten_cons, List.flatten_nil, List.append_nil]
  refine ⟨?_, ?_, ?_, ?_, ?_, ?_, ?_, ?_, ?_⟩
  all_goals after_results
  · exact congrArg (fun Y => keys (shapeCast S128x1x25184 Y shapeCasts_S128x25184_S128x1x25184)) hW
  · exact congrArg (fun Y => values (shapeCast S128x1x25184 Y shapeCasts_S128x25184_S128x1x25184)) hW
  · exact congrArg (fun Y => indexKeys (shapeCast S128x1x25184 Y shapeCasts_S128x25184_S128x1x25184)) hW
  · exact congrArg (fun Y => lastToken (shapeCast S128x1x25184 Y shapeCasts_S128x25184_S128x1x25184)) hW
  · exact congrArg (fun Y => queries (shapeCast S128x1x25184 Y shapeCasts_S128x25184_S128x1x25184)) hW
  · exact congrArg (fun Y => indexQueries (shapeCast S128x1x25184 Y shapeCasts_S128x25184_S128x1x25184)) hW
  · exact congrArg (fun Y => indexWeights (shapeCast S128x1x25184 Y shapeCasts_S128x25184_S128x1x25184)) hW
  · exact congrArg (fun Y => recurrence (shapeCast S128x1x25184 Y shapeCasts_S128x25184_S128x1x25184)) hW
  · exact congrArg (fun Y => gates (shapeCast S128x1x25184 Y shapeCasts_S128x25184_S128x1x25184)) hW

/-- The product a core's arguments give. -/
abbrev product (c : Dev nD) : FVec Ideal S128x1x25184 .f32 :=
  projected (modulated (m ((c.tc : Thread nD τ).loc main_arg0)) (m ((c.tc : Thread nD τ).loc main_arg1)) (m ((c.tc : Thread nD τ).loc main_arg2)))
    (weights (m ((c.tc : Thread nD τ).loc main_arg3)))

/-- The kernel's run: its four results, its arguments unchanged, its counters at zero. -/
theorem run : θ_run defs (onTc (τ := τ) (main (F := Ideal))) ⟨m, fun _ => 0, ρ⟩ (fun s => (∀ c : Dev nD,
      s.2.mem ((c.tc : Thread nD τ).loc main_v24) = keys (product m c)
      ∧ s.2.mem ((c.tc : Thread nD τ).loc main_v25) = values (product m c)
      ∧ s.2.mem ((c.tc : Thread nD τ).loc main_v26) = indexKeys (product m c)
      ∧ s.2.mem ((c.tc : Thread nD τ).loc main_v27) = lastToken (product m c)
      ∧ s.2.mem ((c.tc : Thread nD τ).loc main_v19) = queries (product m c)
      ∧ s.2.mem ((c.tc : Thread nD τ).loc main_v22) = indexQueries (product m c)
      ∧ s.2.mem ((c.tc : Thread nD τ).loc main_v18) = indexWeights (product m c)
      ∧ s.2.mem ((c.tc : Thread nD τ).loc main_v10) = recurrence (product m c)
      ∧ s.2.mem ((c.tc : Thread nD τ).loc main_v12) = gates (product m c)
      ∧ s.2.mem ((c.tc : Thread nD τ).loc main_arg0) = m ((c.tc : Thread nD τ).loc main_arg0)
      ∧ s.2.mem ((c.tc : Thread nD τ).loc main_arg1) = m ((c.tc : Thread nD τ).loc main_arg1)
      ∧ s.2.mem ((c.tc : Thread nD τ).loc main_arg2) = m ((c.tc : Thread nD τ).loc main_arg2)
      ∧ s.2.mem ((c.tc : Thread nD τ).loc main_arg3) = m ((c.tc : Thread nD τ).loc main_arg3)) ∧ s.2.sem = fun _ => 0) :=
  (θ_run defs _ _).mono (fun s hs => ⟨fun c => by
    have e := suffix_eq (Pipeline.withArrays (cfgs 0).spec c (V0 m c) fun w => (dats m 0 c).arrAt w (cfgs 0).N) (prod (lhs m c) (rhs m c))
      ((Pipeline.withArrays_arr (cfgs 0).spec launch0.win.arr_inj c (V0 m c) _ 2).trans (arr_prod m c))
    rw [lhs_eq, rhs_eq] at e
    have k := (hs.1.1 c).2
    exact ⟨(k main_v24 (Pipeline.mem_restRefs_of main_v24 (by decide) (by decide))).trans e.1,
      (k main_v25 (Pipeline.mem_restRefs_of main_v25 (by decide) (by decide))).trans e.2.1,
      (k main_v26 (Pipeline.mem_restRefs_of main_v26 (by decide) (by decide))).trans e.2.2.1,
      (k main_v27 (Pipeline.mem_restRefs_of main_v27 (by decide) (by decide))).trans e.2.2.2.1,
      (k main_v19 (Pipeline.mem_restRefs_of main_v19 (by decide) (by decide))).trans e.2.2.2.2.1,
      (k main_v22 (Pipeline.mem_restRefs_of main_v22 (by decide) (by decide))).trans e.2.2.2.2.2.1,
      (k main_v18 (Pipeline.mem_restRefs_of main_v18 (by decide) (by decide))).trans e.2.2.2.2.2.2.1,
      (k main_v10 (Pipeline.mem_restRefs_of main_v10 (by decide) (by decide))).trans e.2.2.2.2.2.2.2.1,
      (k main_v12 (Pipeline.mem_restRefs_of main_v12 (by decide) (by decide))).trans e.2.2.2.2.2.2.2.2, hs.2 c⟩, hs.1.2⟩)
    (θ_run_and (run_main m ρ) (frame_of m ρ (dats m) (A_eq m) ((θ_run defs _ _).mono (fun _ h => h.1) (run_main m ρ))))

end Cert.SampleValue
end
end
-- ==== Proof.lean ====
/-
  The proof of the claims: the kernel's run and the reference's run at the same real arrays, set side by side.
-/
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.ReferenceIdeal
public import proofs.«01_k».proof.Proof.Gen.ReferenceIdeal.Run
public import proofs.«01_k».proof.Proof.Reals
public import proofs.«01_k».proof.Proof.KernelRun
public import proofs.«01_k».proof.Proof.ReferenceRun
public import proofs.«01_k».proof.Proof.ProjFrame
public import proofs.«01_k».proof.Proof.ProjValue
public import proofs.«01_k».proof.Proof.Gen.Kernel2
public import proofs.«01_k».proof.Proof.Gen.Kernel2Ideal
public import proofs.«01_k».proof.Proof.Gen.Reference2Ideal
public import proofs.«01_k».proof.Proof.Gen.Reference2Ideal.Run
public import proofs.«01_k».proof.Proof.MixValue
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Reference3Ideal
public import proofs.«01_k».proof.Proof.Gen.Reference3Ideal.Run
public import proofs.«01_k».proof.Proof.AdaValue
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Reference4Ideal
public import proofs.«01_k».proof.Proof.Gen.Reference4Ideal.Run
public import proofs.«01_k».proof.Proof.StepFrame
public import proofs.«01_k».proof.Proof.StepValue
public import proofs.«01_k».proof.Proof.SampleFrame
public import proofs.«01_k».proof.Proof.SampleValue
public import proofs.«01_k».proof.Proof.Gen.Kernel5
public import proofs.«01_k».proof.Proof.Gen.Kernel5Ideal
public import proofs.«01_k».proof.Proof.Gen.Reference5Ideal
public import proofs.«01_k».proof.Proof.Gen.Kernel6
public import proofs.«01_k».proof.Proof.Gen.Kernel6.RegionsFQR
public import proofs.«01_k».proof.Proof.Gen.Kernel6Ideal
public import proofs.«01_k».proof.Proof.Gen.Kernel6Ideal.RegionsFQR
public import proofs.«01_k».proof.Proof.Gen.Kernel6.Skeleton
public import proofs.«01_k».proof.Proof.Gen.Kernel6.Points
public import proofs.«01_k».proof.Proof.Gen.Kernel6Ideal.Skeleton
public import proofs.«01_k».proof.Proof.Gen.Kernel6Ideal.Points
public import proofs.«01_k».proof.Proof.Gen.Reference6Ideal
public import proofs.«01_k».proof.Proof.Gen.Reference6Ideal.Run
public import Idealize.ShloMosaic.Lib.Quiescent

@[expose] public section

noncomputable section

namespace Cert.Proof

open Idealize.ShloMosaic Idealize.ShloMosaic.TcCoe Idealize.SL.Sem

/-- The reference leaves its arguments as they were; it has no semaphore. -/
theorem reference_frame : quiescent_ReferenceIdeal (hReferenceIdeal := Cert.ReferenceIdeal.Gen.facts) := fun m ρ _ =>
  (θ_run Cert.ReferenceIdeal.defs _ _).mono (fun s h =>
    ⟨fun c => (h c).2.2, sem_eq_zero_of_no_sems rfl s.2⟩) (Cert.ReferenceIdeal.Value.run m ρ)

/-- The arguments that pass the precondition's test are real arrays, in the kernel's memory. -/
theorem args_of_pre (m : (ℓ : Loc Cert.KernelIdeal.nD Cert.KernelIdeal.τ Cert.KernelIdeal.sig) → Buf (Elt Ideal) ℓ)
    (h : Pre_KernelIdeal_finite (hPre_finite := Reals.preFacts) m) (c : Dev Cert.KernelIdeal.nD) :
    ∃ r lw k v kk a, KernelRun.Args m c r lw k v kk a :=
  ⟨_, _, _, _, _, _,
    Reals.cols_of_test _ (fun i => congrFun (h c).1 i), Reals.cols_of_test _ (fun i => congrFun (h c).2.1 i),
    Reals.cols_of_test _ (fun i => congrFun (h c).2.2.1 i), Reals.cols_of_test _ (fun i => congrFun (h c).2.2.2.1 i),
    Reals.cols_of_test _ (fun i => congrFun (h c).2.2.2.2.1 i), Reals.cols_of_test _ (fun i => congrFun (h c).2.2.2.2.2 i)⟩

/-- The kernel and the reference end with equal results at finite arguments. -/
theorem wkv_value : algebraic_KernelIdeal_ReferenceIdeal_pre_finite (hKernelIdeal := Cert.KernelIdeal.Gen.facts)
    (hReferenceIdeal := Cert.ReferenceIdeal.Gen.facts) (hPre_finite := Reals.preFacts) := fun m ρ m' ρ' hpre hargs => by
  choose r lw k v kk a hA using args_of_pre m hpre
  refine ⟨fun c => Chunks.outArr (r c) (KernelRun.decay (lw c)) (k c) (v c) (fun t q => -kk c t q) (fun t q => kk c t q * a c t q),
    fun c => KernelRun.final (KernelRun.decay (lw c)) (k c) (v c) (fun t q => -kk c t q) (fun t q => kk c t q * a c t q), ?_, ?_⟩
  · refine (θ_run Cert.KernelIdeal.defs _ _).mono (fun s h c => ?_)
      (θ_run_and (KernelRun.run m ρ) (Cert.KernelIdeal.Gen.unchanged m ρ))
    have e := h.1 c _ _ _ _ _ _ (hA c)
    exact ⟨e.1, e.2, h.2 c⟩
  · refine (θ_run Cert.ReferenceIdeal.defs _ _).mono (fun s h c => ?_)
      (θ_run_and (ReferenceRun.run' m' ρ') (Cert.ReferenceIdeal.Value.run m' ρ'))
    have e := h.1 c _ _ _ _ _ _ ⟨(hargs c).1.trans (hA c).h0, (hargs c).2.1.trans (hA c).h1, (hargs c).2.2.1.trans (hA c).h2,
      (hargs c).2.2.2.1.trans (hA c).h3, (hargs c).2.2.2.2.1.trans (hA c).h4, (hargs c).2.2.2.2.2.trans (hA c).h5⟩
    exact ⟨e.1, e.2, (h.2 c).2.2⟩

/-- The projection at the ideal values leaves its arguments as they were, its counters at zero. -/
theorem proj_frame : quiescent_Kernel2Ideal (hKernel2Ideal := Cert.Kernel2Ideal.Gen.facts) := fun m ρ _ =>
  (θ_run Cert.Kernel2Ideal.defs _ _).mono (fun _ h => ⟨fun c => (h.1 c).2.2.2.2.2.2.2.2.2, h.2⟩) (ProjValue.run m ρ)

/-- The projection's reference leaves its arguments as they were; it has no semaphore. -/
theorem reference2_frame : quiescent_Reference2Ideal (hReference2Ideal := Cert.Reference2Ideal.Gen.facts) := fun m ρ _ =>
  (θ_run Cert.Reference2Ideal.defs _ _).mono (fun s h =>
    ⟨fun c => (h c).2.2.2.2.2.2.2.2.2, sem_eq_zero_of_no_sems rfl s.2⟩) (Cert.Reference2Ideal.Value.run m ρ)

/-- The projection and its reference end with equal results at all arguments. -/
theorem proj_value : algebraic_Kernel2Ideal_Reference2Ideal (hKernel2Ideal := Cert.Kernel2Ideal.Gen.facts)
    (hReference2Ideal := Cert.Reference2Ideal.Gen.facts) := fun m ρ m' ρ' _ hargs => by
  refine ⟨fun c => ProjValue.keys (ProjValue.product m c),
    fun c => ProjValue.values (ProjValue.product m c),
    fun c => ProjValue.indexKeys (ProjValue.product m c),
    fun c => ProjValue.lastToken (ProjValue.product m c),
    fun c => ProjValue.queries (ProjValue.product m c),
    fun c => ProjValue.indexQueries (ProjValue.product m c),
    fun c => ProjValue.indexWeights (ProjValue.product m c),
    fun c => ProjValue.recurrence (ProjValue.product m c),
    fun c => ProjValue.gates (ProjValue.product m c), ?_, ?_⟩
  · exact (θ_run Cert.Kernel2Ideal.defs _ _).mono (fun s h => h.1) (ProjValue.run m ρ)
  · refine (θ_run Cert.Reference2Ideal.defs _ _).mono (fun s h c => ?_) (Cert.Reference2Ideal.Value.run m' ρ')
    obtain ⟨h0, h1, h2, h3, h4, h5, h6, h7, h8, hrest⟩ := h c
    have e : Host.dotGeneral Cert.Reference2Ideal.dot_S1x8192x4096_S4096x25184_S1x8192x25184_2_0_01_1_n_n none
        (ProjValue.modulated (m' ((c.tc : Thread Cert.Reference2Ideal.nD Cert.Reference2Ideal.τ).loc Cert.Reference2Ideal.main_arg0))
          (m' ((c.tc : Thread Cert.Reference2Ideal.nD Cert.Reference2Ideal.τ).loc Cert.Reference2Ideal.main_arg1))
          (m' ((c.tc : Thread Cert.Reference2Ideal.nD Cert.Reference2Ideal.τ).loc Cert.Reference2Ideal.main_arg2)))
        (ProjValue.weights (m' ((c.tc : Thread Cert.Reference2Ideal.nD Cert.Reference2Ideal.τ).loc Cert.Reference2Ideal.main_arg3)))
        = ProjValue.product m c := by
      rw [(hargs c).1, (hargs c).2.1, (hargs c).2.2.1, (hargs c).2.2.2]
      exact ProjValue.dot_eq _ _
    exact ⟨h0.trans (congrArg ProjValue.keys e),
      h1.trans (congrArg ProjValue.values e),
      h2.trans (congrArg ProjValue.indexKeys e),
      h3.trans (congrArg ProjValue.lastToken e),
      h4.trans (congrArg ProjValue.queries e),
      h5.trans (congrArg ProjValue.indexQueries e),
      h6.trans (congrArg ProjValue.indexWeights e),
      h7.trans (congrArg ProjValue.recurrence e),
      h8.trans (congrArg ProjValue.gates e), hrest⟩

/-- The merge's reference leaves its arguments as they were; it has no semaphore. -/
theorem reference3_frame : quiescent_Reference3Ideal (hReference3Ideal := Cert.Reference3Ideal.Gen.facts) := fun m ρ _ =>
  (θ_run Cert.Reference3Ideal.defs _ _).mono (fun s h =>
    ⟨fun c => (h c).2.2, sem_eq_zero_of_no_sems rfl s.2⟩) (Cert.Reference3Ideal.Value.run m ρ)

/-- The merge of the branches, its layer norm and the query projection end as their reference's do, at all arguments. -/
theorem mix_value : algebraic_Kernel3Ideal_Reference3Ideal (hKernel3Ideal := Cert.Kernel3Ideal.Gen.facts)
    (hReference3Ideal := Cert.Reference3Ideal.Gen.facts) := fun m ρ m' ρ' _ hargs => by
  refine ⟨fun c => MixValue.tokens m c, fun c => MixValue.queries m c, ?_, ?_⟩
  · refine (θ_run Cert.Kernel3Ideal.defs _ _).mono (fun s h c => ?_)
      (θ_run_and (MixRun.run_main m ρ) (Cert.Kernel3Ideal.Gen.unchanged m ρ))
    have e := MixValue.results m ρ c
    exact ⟨(h.1.1 c _ (Cert.Kernel3Ideal.Gen.mem_uc _ (by decide))).trans e.1,
      (h.1.1 c _ (Cert.Kernel3Ideal.Gen.mem_uc _ (by decide))).trans e.2, h.2 c⟩
  · refine (θ_run Cert.Reference3Ideal.defs _ _).mono (fun s h c => ?_) (Cert.Reference3Ideal.Value.run m' ρ')
    obtain ⟨h0, h1, h2, h3, h4, h5, h6, h7, h8, h9, h10, h11, h12⟩ := hargs c
    have e : Cert.Reference3Ideal.Value.res_main_v47 m' c = MixValue.tokens m c := by
      rw [MixValue.reference_tokens, h0, h1, h4, h5, h6, h7, h8, h9, h10, h11]
    have e' : Cert.Reference3Ideal.Value.res_main_v56 m' c = MixValue.queries m c := by
      rw [MixValue.reference_queries, e, h2, h3, h12]
    exact ⟨(h c).1.trans e, (h c).2.1.trans e', (h c).2.2⟩

/-- The adaptive modulation's reference leaves its arguments as they were; it has no semaphore. -/
theorem reference4_frame : quiescent_Reference4Ideal (hReference4Ideal := Cert.Reference4Ideal.Gen.facts) := fun m ρ _ =>
  (θ_run Cert.Reference4Ideal.defs _ _).mono (fun s h =>
    ⟨fun c => (h c).2.2.2.2.2.2.2.2.2.2.2.2, sem_eq_zero_of_no_sems rfl s.2⟩) (Cert.Reference4Ideal.Value.run m ρ)

/-- The adaptive modulation and its reference end with equal vectors at all arguments. -/
theorem ada_value : algebraic_Kernel4Ideal_Reference4Ideal (hKernel4Ideal := Cert.Kernel4Ideal.Gen.facts)
    (hReference4Ideal := Cert.Reference4Ideal.Gen.facts) := fun m ρ m' ρ' _ hargs => by
  refine ⟨fun c => AdaValue.promptPart 0 Cert.Kernel4Ideal.Facts₀.slices_S1x1x24576_S1x1x4096_0_0_0 (AdaValue.promptOf m c),
    fun c => AdaValue.promptPart 4096 Cert.Kernel4Ideal.Facts₀.slices_S1x1x24576_S1x1x4096_0_0_4096 (AdaValue.promptOf m c),
    fun c => AdaValue.promptPart 8192 Cert.Kernel4Ideal.Facts₀.slices_S1x1x24576_S1x1x4096_0_0_8192 (AdaValue.promptOf m c),
    fun c => AdaValue.promptPart 12288 Cert.Kernel4Ideal.Facts₀.slices_S1x1x24576_S1x1x4096_0_0_12288 (AdaValue.promptOf m c),
    fun c => AdaValue.promptPart 16384 Cert.Kernel4Ideal.Facts₀.slices_S1x1x24576_S1x1x4096_0_0_16384 (AdaValue.promptOf m c),
    fun c => AdaValue.promptPart 20480 Cert.Kernel4Ideal.Facts₀.slices_S1x1x24576_S1x1x4096_0_0_20480 (AdaValue.promptOf m c),
    fun c => AdaValue.samplePart 0 Cert.Kernel4Ideal.Facts₀.slices_S128x1x24576_S128x1x4096_0_0_0 (AdaValue.sampleOf m c),
    fun c => AdaValue.samplePart 4096 Cert.Kernel4Ideal.Facts₀.slices_S128x1x24576_S128x1x4096_0_0_4096 (AdaValue.sampleOf m c),
    fun c => AdaValue.samplePart 8192 Cert.Kernel4Ideal.Facts₀.slices_S128x1x24576_S128x1x4096_0_0_8192 (AdaValue.sampleOf m c),
    fun c => AdaValue.samplePart 12288 Cert.Kernel4Ideal.Facts₀.slices_S128x1x24576_S128x1x4096_0_0_12288 (AdaValue.sampleOf m c),
    fun c => AdaValue.samplePart 16384 Cert.Kernel4Ideal.Facts₀.slices_S128x1x24576_S128x1x4096_0_0_16384 (AdaValue.sampleOf m c),
    fun c => AdaValue.samplePart 20480 Cert.Kernel4Ideal.Facts₀.slices_S128x1x24576_S128x1x4096_0_0_20480 (AdaValue.sampleOf m c), ?_, ?_⟩
  · exact (θ_run Cert.Kernel4Ideal.defs _ _).mono (fun s h => h.1) (AdaValue.run m ρ)
  · refine (θ_run Cert.Reference4Ideal.defs _ _).mono (fun s h c => ?_) (Cert.Reference4Ideal.Value.run m' ρ')
    obtain ⟨h0, h1, h2, h3, h4, h5, h6, h7, h8, h9, h10, h11, hrest⟩ := h c
    have e : AdaValue.promptVec (m' ((c.tc : Thread Cert.Reference4Ideal.nD Cert.Reference4Ideal.τ).loc Cert.Reference4Ideal.main_arg0)) (AdaValue.weights (m' ((c.tc : Thread Cert.Reference4Ideal.nD Cert.Reference4Ideal.τ).loc Cert.Reference4Ideal.main_arg2))) (AdaValue.bias (m' ((c.tc : Thread Cert.Reference4Ideal.nD Cert.Reference4Ideal.τ).loc Cert.Reference4Ideal.main_arg3))) = AdaValue.promptOf m c := by
      rw [(hargs c).1, (hargs c).2.2.1, (hargs c).2.2.2]
    have e_ : AdaValue.sampleVecs (m' ((c.tc : Thread Cert.Reference4Ideal.nD Cert.Reference4Ideal.τ).loc Cert.Reference4Ideal.main_arg1)) (AdaValue.weights (m' ((c.tc : Thread Cert.Reference4Ideal.nD Cert.Reference4Ideal.τ).loc Cert.Reference4Ideal.main_arg2))) (AdaValue.bias (m' ((c.tc : Thread Cert.Reference4Ideal.nD Cert.Reference4Ideal.τ).loc Cert.Reference4Ideal.main_arg3))) = AdaValue.sampleOf m c := by
      rw [(hargs c).2.1, (hargs c).2.2.1, (hargs c).2.2.2]
    exact ⟨h0.trans (congrArg (AdaValue.promptPart 0 Cert.Kernel4Ideal.Facts₀.slices_S1x1x24576_S1x1x4096_0_0_0) e),
      h1.trans (congrArg (AdaValue.promptPart 4096 Cert.Kernel4Ideal.Facts₀.slices_S1x1x24576_S1x1x4096_0_0_4096) e),
      h2.trans (congrArg (AdaValue.promptPart 8192 Cert.Kernel4Ideal.Facts₀.slices_S1x1x24576_S1x1x4096_0_0_8192) e),
      h3.trans (congrArg (AdaValue.promptPart 12288 Cert.Kernel4Ideal.Facts₀.slices_S1x1x24576_S1x1x4096_0_0_12288) e),
      h4.trans (congrArg (AdaValue.promptPart 16384 Cert.Kernel4Ideal.Facts₀.slices_S1x1x24576_S1x1x4096_0_0_16384) e),
      h5.trans (congrArg (AdaValue.promptPart 20480 Cert.Kernel4Ideal.Facts₀.slices_S1x1x24576_S1x1x4096_0_0_20480) e),
      h6.trans (congrArg (AdaValue.samplePart 0 Cert.Kernel4Ideal.Facts₀.slices_S128x1x24576_S128x1x4096_0_0_0) e_),
      h7.trans (congrArg (AdaValue.samplePart 4096 Cert.Kernel4Ideal.Facts₀.slices_S128x1x24576_S128x1x4096_0_0_4096) e_),
      h8.trans (congrArg (AdaValue.samplePart 8192 Cert.Kernel4Ideal.Facts₀.slices_S128x1x24576_S128x1x4096_0_0_8192) e_),
      h9.trans (congrArg (AdaValue.samplePart 12288 Cert.Kernel4Ideal.Facts₀.slices_S128x1x24576_S128x1x4096_0_0_12288) e_),
      h10.trans (congrArg (AdaValue.samplePart 16384 Cert.Kernel4Ideal.Facts₀.slices_S128x1x24576_S128x1x4096_0_0_16384) e_),
      h11.trans (congrArg (AdaValue.samplePart 20480 Cert.Kernel4Ideal.Facts₀.slices_S128x1x24576_S128x1x4096_0_0_20480) e_), hrest⟩

/-- The sample group's projection at the ideal values leaves its arguments as they were, its counters at zero. -/
theorem sample_frame : quiescent_Kernel5Ideal (hKernel5Ideal := Cert.Kernel5Ideal.Gen.facts) := fun m ρ _ =>
  (θ_run Cert.Kernel5Ideal.defs _ _).mono (fun _ h => ⟨fun c => (h.1 c).2.2.2.2.2.2.2.2.2, h.2⟩) (SampleValue.run m ρ)

/-- The sample group's projection's reference leaves its arguments as they were; it has no semaphore. -/
theorem reference5_frame : quiescent_Reference5Ideal (hReference5Ideal := Cert.Reference5Ideal.Gen.facts) := fun m ρ _ =>
  (θ_run Cert.Reference5Ideal.defs _ _).mono (fun s h =>
    ⟨fun c => (h c).2.2.2.2.2.2.2.2.2, sem_eq_zero_of_no_sems rfl s.2⟩) (Cert.Reference5Ideal.Value.run m ρ)

/-- The sample group's projection and its reference end with equal results at all arguments. -/
theorem sample_value : algebraic_Kernel5Ideal_Reference5Ideal (hKernel5Ideal := Cert.Kernel5Ideal.Gen.facts)
    (hReference5Ideal := Cert.Reference5Ideal.Gen.facts) := fun m ρ m' ρ' _ hargs => by
  refine ⟨fun c => SampleValue.keys (SampleValue.product m c),
    fun c => SampleValue.values (SampleValue.product m c),
    fun c => SampleValue.indexKeys (SampleValue.product m c),
    fun c => SampleValue.lastToken (SampleValue.product m c),
    fun c => SampleValue.queries (SampleValue.product m c),
    fun c => SampleValue.indexQueries (SampleValue.product m c),
    fun c => SampleValue.indexWeights (SampleValue.product m c),
    fun c => SampleValue.recurrence (SampleValue.product m c),
    fun c => SampleValue.gates (SampleValue.product m c), ?_, ?_⟩
  · exact (θ_run Cert.Kernel5Ideal.defs _ _).mono (fun s h => h.1) (SampleValue.run m ρ)
  · refine (θ_run Cert.Reference5Ideal.defs _ _).mono (fun s h c => ?_) (Cert.Reference5Ideal.Value.run m' ρ')
    obtain ⟨h0, h1, h2, h3, h4, h5, h6, h7, h8, hrest⟩ := h c
    have e : Host.dotGeneral Cert.Reference5Ideal.dot_S128x1x4096_S4096x25184_S128x1x25184_2_0_01_1_n_n none
        (SampleValue.modulated (m' ((c.tc : Thread Cert.Reference5Ideal.nD Cert.Reference5Ideal.τ).loc Cert.Reference5Ideal.main_arg0))
          (m' ((c.tc : Thread Cert.Reference5Ideal.nD Cert.Reference5Ideal.τ).loc Cert.Reference5Ideal.main_arg1))
          (m' ((c.tc : Thread Cert.Reference5Ideal.nD Cert.Reference5Ideal.τ).loc Cert.Reference5Ideal.main_arg2)))
        (SampleValue.weights (m' ((c.tc : Thread Cert.Reference5Ideal.nD Cert.Reference5Ideal.τ).loc Cert.Reference5Ideal.main_arg3)))
        = SampleValue.product m c := by
      rw [(hargs c).1, (hargs c).2.1, (hargs c).2.2.1, (hargs c).2.2.2]
      exact SampleValue.dot_eq _ _
    exact ⟨h0.trans (congrArg SampleValue.keys e),
      h1.trans (congrArg SampleValue.values e),
      h2.trans (congrArg SampleValue.indexKeys e),
      h3.trans (congrArg SampleValue.lastToken e),
      h4.trans (congrArg SampleValue.queries e),
      h5.trans (congrArg SampleValue.indexQueries e),
      h6.trans (congrArg SampleValue.indexWeights e),
      h7.trans (congrArg SampleValue.recurrence e),
      h8.trans (congrArg SampleValue.gates e), hrest⟩

/-- The state's step at the ideal values: its arguments end unchanged and every counter ends at zero. -/
theorem step_frame : quiescent_Kernel6Ideal (hKernel6Ideal := Cert.Kernel6Ideal.Gen.facts) := fun m ρ _ =>
  StepRun.frame m ρ

/-- Its reference leaves its arguments as they were; it has no semaphore. -/
theorem reference6_frame : quiescent_Reference6Ideal (hReference6Ideal := Cert.Reference6Ideal.Gen.facts) := fun m ρ _ =>
  (θ_run Cert.Reference6Ideal.defs _ _).mono (fun s h =>
    ⟨fun c => (h c).2, sem_eq_zero_of_no_sems rfl s.2⟩) (Cert.Reference6Ideal.Value.run m ρ)

/-- The sample group's recurrent state after its one step ends as the reference's does, at all arguments. -/
theorem step_value : algebraic_Kernel6Ideal_Reference6Ideal (hKernel6Ideal := Cert.Kernel6Ideal.Gen.facts)
    (hReference6Ideal := Cert.Reference6Ideal.Gen.facts) := fun m ρ m' ρ' _ hargs => by
  refine ⟨fun c => StepValue.result m c, ?_, ?_⟩
  · exact (θ_run Cert.Kernel6Ideal.defs _ _).mono (fun s h => h.1) (StepValue.run_value m ρ)
  · refine (θ_run Cert.Reference6Ideal.defs _ _).mono (fun s h c => ?_) (Cert.Reference6Ideal.Value.run m' ρ')
    obtain ⟨h0, h1, h2, h3, h4, h5, h6, h7, h8, h9, h10, h11, h12, h13⟩ := hargs c
    have e : Cert.Reference6Ideal.Value.res_out0 m' c = StepValue.result m c := by
      rw [StepValue.reference_state, h0, h1, h2, h3, h4, h5, h6, h7, h8, h9, h10, h11, h12]
    exact ⟨(h c).1.trans e, (h c).2⟩

end Cert.Proof

/-- The claims. -/
theorem Cert.Proof.claim : Cert.Claim :=
  ⟨Cert.Kernel.Gen.facts, Cert.KernelIdeal.Gen.facts, Cert.ReferenceIdeal.Gen.facts, Cert.Kernel2.Gen.facts,
    Cert.Kernel2Ideal.Gen.facts, Cert.Reference2Ideal.Gen.facts, Cert.Kernel3.Gen.facts, Cert.Kernel3Ideal.Gen.facts,
    Cert.Reference3Ideal.Gen.facts, Cert.Kernel4.Gen.facts, Cert.Kernel4Ideal.Gen.facts,
    Cert.Reference4Ideal.Gen.facts, Cert.Kernel5.Gen.facts, Cert.Kernel5Ideal.Gen.facts,
    Cert.Reference5Ideal.Gen.facts, Cert.Kernel6.Gen.facts, Cert.Kernel6Ideal.Gen.facts,
    Cert.Reference6Ideal.Gen.facts, Cert.Reals.preFacts,
    fun m ρ _ => Cert.Kernel.Gen.frame m ρ,
    fun m ρ _ => Cert.KernelIdeal.Gen.frame m ρ,
    fun m ρ _ => Cert.KernelIdeal.Gen.frame m ρ,
    Cert.Proof.reference_frame,
    fun m ρ _ => Cert.Proof.reference_frame m ρ trivial,
    fun m ρ _ => Cert.ProjFrame.frame m ρ,
    Cert.Proof.proj_frame,
    Cert.Proof.reference2_frame,
    fun m ρ _ => Cert.Kernel3.Gen.frame m ρ,
    fun m ρ _ => Cert.Kernel3Ideal.Gen.frame m ρ,
    Cert.Proof.reference3_frame,
    fun m ρ _ => Cert.Kernel4.Gen.frame m ρ,
    fun m ρ _ => Cert.Kernel4Ideal.Gen.frame m ρ,
    Cert.Proof.reference4_frame,
    fun m ρ _ => Cert.SampleFrame.frame m ρ,
    Cert.Proof.sample_frame,
    Cert.Proof.reference5_frame,
    fun m ρ _ => Cert.StepFrame.frame m ρ,
    Cert.Proof.step_frame,
    Cert.Proof.reference6_frame,
    trivial,
    Cert.Proof.wkv_value,
    trivial,
    Cert.Proof.proj_value,
    trivial,
    Cert.Proof.mix_value,
    trivial,
    Cert.Proof.ada_value,
    trivial,
    Cert.Proof.sample_value,
    trivial,
    Cert.Proof.step_value⟩

end
